-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_v31) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)) (v1 : (c : Dev Cert.Kernel3Ideal.nD) → Buf (Elt Ideal) ((c.tc : Thread Cert.Kernel3Ideal.nD Cert.Kernel3Ideal.τ).loc Cert.Kernel3Ideal.main_v3_2)) (v2 : (c : Dev Cert.Kernel3Ideal.nD) → Buf (Elt Ideal) ((c.tc : Thread Cert.Kernel3Ideal.nD Cert.Kernel3Ideal.τ).loc Cert.Kernel3Ideal.main_v3_3)) (v3 : (c : Dev Cert.Kernel3Ideal.nD) → Buf (Elt Ideal) ((c.tc : Thread Cert.Kernel3Ideal.nD Cert.Kernel3Ideal.τ).loc Cert.Kernel3Ideal.main_v5)) (v4 : (c : Dev Cert.Kernel3Ideal.nD) → Buf (Elt Ideal) ((c.tc : Thread Cert.Kernel3Ideal.nD Cert.Kernel3Ideal.τ).loc Cert.Kernel3Ideal.main_v6)) (v5 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_v3_2) = v1 c
          ∧ r.2.mem ((c.tc : Thread Cert.Kernel3Ideal.nD Cert.Kernel3Ideal.τ).loc Cert.Kernel3Ideal.main_v3_3) = v2 c
          ∧ r.2.mem ((c.tc : Thread Cert.Kernel3Ideal.nD Cert.Kernel3Ideal.τ).loc Cert.Kernel3Ideal.main_v5) = v3 c
          ∧ r.2.mem ((c.tc : Thread Cert.Kernel3Ideal.nD Cert.Kernel3Ideal.τ).loc Cert.Kernel3Ideal.main_v6) = v4 c
          ∧ r.2.mem ((c.tc : Thread Cert.Kernel3Ideal.nD Cert.Kernel3Ideal.τ).loc Cert.Kernel3Ideal.main_v4) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_v83) = v3 c
          ∧ r.2.mem ((c.tc : Thread Cert.Reference3Ideal.nD Cert.Reference3Ideal.τ).loc Cert.Reference3Ideal.main_v84) = v4 c
          ∧ r.2.mem ((c.tc : Thread Cert.Reference3Ideal.nD Cert.Reference3Ideal.τ).loc Cert.Reference3Ideal.main_v85) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v69) = v2 c
          ∧ r.2.mem ((c.tc : Thread Cert.Reference6Ideal.nD Cert.Reference6Ideal.τ).loc Cert.Reference6Ideal.main_v62) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v49) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v27) = v2 c
          ∧ r.2.mem ((c.tc : Thread Cert.Reference9Ideal.nD Cert.Reference9Ideal.τ).loc Cert.Reference9Ideal.main_v32) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v51) = v0 c
          ∧ r.2.mem ((c.tc : Thread Cert.Reference10Ideal.nD Cert.Reference10Ideal.τ).loc Cert.Reference10Ideal.main_v64) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_v34) = v4 c
          ∧ r.2.mem ((c.tc : Thread Cert.Reference10Ideal.nD Cert.Reference10Ideal.τ).loc Cert.Reference10Ideal.main_v63) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_v58) = v1 c
          ∧ r.2.mem ((c.tc : Thread Cert.Reference11Ideal.nD Cert.Reference11Ideal.τ).loc Cert.Reference11Ideal.main_v59) = v2 c
          ∧ r.2.mem ((c.tc : Thread Cert.Reference11Ideal.nD Cert.Reference11Ideal.τ).loc Cert.Reference11Ideal.main_v36) = v3 c
          ∧ r.2.mem ((c.tc : Thread Cert.Reference11Ideal.nD Cert.Reference11Ideal.τ).loc Cert.Reference11Ideal.main_v57) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_v28) = v1 c
          ∧ r.2.mem ((c.tc : Thread Cert.Reference22Ideal.nD Cert.Reference22Ideal.τ).loc Cert.Reference22Ideal.main_v9) = v2 c
          ∧ r.2.mem ((c.tc : Thread Cert.Reference22Ideal.nD Cert.Reference22Ideal.τ).loc Cert.Reference22Ideal.main_v15) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)) (v3 : (c : Dev Cert.Kernel23Ideal.nD) → Buf (Elt Ideal) ((c.tc : Thread Cert.Kernel23Ideal.nD Cert.Kernel23Ideal.τ).loc Cert.Kernel23Ideal.main_v1_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_v1_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)) (v3 : (c : Dev Cert.Kernel24Ideal.nD) → Buf (Elt Ideal) ((c.tc : Thread Cert.Kernel24Ideal.nD Cert.Kernel24Ideal.τ).loc Cert.Kernel24Ideal.main_v1_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_v1_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_v28) = v1 c
          ∧ r.2.mem ((c.tc : Thread Cert.Reference25Ideal.nD Cert.Reference25Ideal.τ).loc Cert.Reference25Ideal.main_v9) = v2 c
          ∧ r.2.mem ((c.tc : Thread Cert.Reference25Ideal.nD Cert.Reference25Ideal.τ).loc Cert.Reference25Ideal.main_v15) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4096x2048 : Shape := ⟨2, ![4096, 2048]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S4096x2048 .bf16) (main_v4 : IVec S_ 1) (main_v9 : IVec S_ 1) (main_v14 : IVec S_ 1) (main_v16 : FVec F S5632x2048 .f32) (main_cst_4 : FVec F S_ .f32) : IVec S_ 1 :=
  let main_v17 : FVec F S5632x2048 .f32 := broadcastInDim S5632x2048 ![] bcast_S_S5632x2048 main_cst_4
  let main_v18 : IVec S5632x2048 1 := cmpf .olt main_v16 main_v17
  let main_c_5 : IVec S_ 1 := constantI S_ 1 1#1
  let main_v19 : IVec S_ 1 := (fun x v => Host.reduce IntOp.andi x v reducesTo_S5632x2048_S_d0_1 h_S_) main_v18 main_c_5
  let main_v20 : FVec F S4096x2048 .f32 := (extf .f32 · bitsLt_bf16_f32) main_arg4
  let main_v21 : FVec F S4096x2048 .f32 := Host.absf main_v20
  let main_cst_6 : FVec F S_ .f32 := constant S_ .f32 0x7F800000#32
  let main_v22 : FVec F S4096x2048 .f32 := broadcastInDim S4096x2048 ![] bcast_S_S4096x2048 main_cst_6
  let main_v23 : IVec S4096x2048 1 := cmpf .olt main_v21 main_v22
  let main_c_7 : IVec S_ 1 := constantI S_ 1 1#1
  let main_v24 : IVec S_ 1 := (fun x v => Host.reduce IntOp.andi x v reducesTo_S4096x2048_S_d0_1 h_S_) main_v23 main_c_7
  let main_v25 : IVec S_ 1 := andi main_v4 main_v9
  let main_v26 : IVec S_ 1 := andi main_v25 main_v14
  let main_v27 : IVec S_ 1 := andi main_v26 main_v19
  let main_v28 : IVec S_ 1 := andi main_v27 main_v24
  main_v28

def fn {F : FTy → Type} [FloatOps F] (main_arg0 : FVec F S4096x2048 .bf16) (main_arg1 : FVec F S5632x2048 .bf16) (main_arg2 : FVec F S5632x2048 .bf16) (main_arg3 : FVec F S5632x2048 .bf16) (main_arg4 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : FVec F S5632x2048 .f32 := (extf .f32 · bitsLt_bf16_f32) main_arg2
  let main_v11 : FVec F S5632x2048 .f32 := Host.absf main_v10
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_c_3 : IVec S_ 1 := constantI S_ 1 1#1
  let main_v14 : IVec S_ 1 := (fun x v => Host.reduce IntOp.andi x v reducesTo_S5632x2048_S_d0_1 h_S_) main_v13 main_c_3
  let main_v15 : FVec F S5632x2048 .f32 := (extf .f32 · bitsLt_bf16_f32) main_arg3
  let main_v16 : FVec F S5632x2048 .f32 := Host.absf main_v15
  let main_cst_4 : FVec F S_ .f32 := constant S_ .f32 0x7F800000#32
  fn_part1 (F := F) main_arg4 main_v4 main_v9 main_v14 main_v16 main_cst_4
-- ==== Kernel.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩
abbrev S512x5632 : Shape := ⟨2, ![512, 5632]⟩
abbrev S5632x1024 : Shape := ⟨2, ![5632, 1024]⟩
abbrev S512x1024 : Shape := ⟨2, ![512, 1024]⟩
abbrev S1408x2048 : Shape := ⟨2, ![1408, 2048]⟩
abbrev S512x1408 : Shape := ⟨2, ![512, 1408]⟩
abbrev S4096x512 : Shape := ⟨2, ![4096, 512]⟩
abbrev S4096x1024 : Shape := ⟨2, ![4096, 1024]⟩

abbrev nBuf : Space → Nat
  | .hbm => 16
  | .vmem => 60
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x2048, .bf16⟩
  | .hbm, ⟨9, _⟩ => ⟨S4096x5632, .bf16⟩
  | .hbm, ⟨10, _⟩ => ⟨S4096x5632, .bf16⟩
  | .hbm, ⟨11, _⟩ => ⟨S5632x2048, .bf16⟩
  | .hbm, ⟨12, _⟩ => ⟨S4096x2048, .bf16⟩
  | .hbm, ⟨13, _⟩ => ⟨S5632x2048, .bf16⟩
  | .hbm, ⟨14, _⟩ => ⟨S5632x2048, .bf16⟩
  | .hbm, ⟨15, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x5632, .bf16⟩
  | .local _ .vmem, ⟨13, _⟩ => ⟨S512x5632, .bf16⟩
  | .local _ .vmem, ⟨14, _⟩ => ⟨S5632x1024, .bf16⟩
  | .local _ .vmem, ⟨15, _⟩ => ⟨S5632x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S1408x2048, .bf16⟩
  | .local _ .vmem, ⟨21, _⟩ => ⟨S1408x2048, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1408, .bf16⟩
  | .local _ .vmem, ⟨30, _⟩ => ⟨S4096x512, .bf16⟩
  | .local _ .vmem, ⟨31, _⟩ => ⟨S4096x512, .bf16⟩
  | .local _ .vmem, ⟨32, _⟩ => ⟨S4096x1024, .bf16⟩
  | .local _ .vmem, ⟨33, _⟩ => ⟨S4096x1024, .bf16⟩
  | .local _ .vmem, ⟨34, _⟩ => ⟨S512x1024, .bf16⟩
  | .local _ .vmem, ⟨35, _⟩ => ⟨S512x1024, .bf16⟩
  | .local _ .vmem, ⟨36, _⟩ => ⟨S512x5632, .bf16⟩
  | .local _ .vmem, ⟨37, _⟩ => ⟨S512x5632, .bf16⟩
  | .local _ .vmem, ⟨38, _⟩ => ⟨S5632x1024, .bf16⟩
  | .local _ .vmem, ⟨39, _⟩ => ⟨S5632x1024, .bf16⟩
  | .local _ .vmem, ⟨40, _⟩ => ⟨S512x1024, .bf16⟩
  | .local _ .vmem, ⟨41, _⟩ => ⟨S512x1024, .bf16⟩
  | .local _ .vmem, ⟨42, _⟩ => ⟨S4096x512, .bf16⟩
  | .local _ .vmem, ⟨43, _⟩ => ⟨S4096x512, .bf16⟩
  | .local _ .vmem, ⟨44, _⟩ => ⟨S4096x1024, .bf16⟩
  | .local _ .vmem, ⟨45, _⟩ => ⟨S4096x1024, .bf16⟩
  | .local _ .vmem, ⟨46, _⟩ => ⟨S512x1024, .bf16⟩
  | .local _ .vmem, ⟨47, _⟩ => ⟨S512x1024, .bf16⟩
  | .local _ .vmem, ⟨48, _⟩ => ⟨S4096x512, .bf16⟩
  | .local _ .vmem, ⟨49, _⟩ => ⟨S4096x512, .bf16⟩
  | .local _ .vmem, ⟨50, _⟩ => ⟨S4096x1024, .bf16⟩
  | .local _ .vmem, ⟨51, _⟩ => ⟨S4096x1024, .bf16⟩
  | .local _ .vmem, ⟨52, _⟩ => ⟨S512x1024, .bf16⟩
  | .local _ .vmem, ⟨53, _⟩ => ⟨S512x1024, .bf16⟩
  | .local _ .vmem, ⟨54, _⟩ => ⟨S512x5632, .bf16⟩
  | .local _ .vmem, ⟨55, _⟩ => ⟨S512x5632, .bf16⟩
  | .local _ .vmem, ⟨56, _⟩ => ⟨S5632x1024, .bf16⟩
  | .local _ .vmem, ⟨57, _⟩ => ⟨S5632x1024, .bf16⟩
  | .local _ .vmem, ⟨58, _⟩ => ⟨S512x1024, .bf16⟩
  | .local _ .vmem, ⟨59, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S5632x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![11, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S512x5632 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false]

abbrev stage4_1 : Fin 2 → Memref sig .tc .vmem S5632x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![11, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![11, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4096x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage7_0 : Fin 2 → Memref sig .tc .vmem S512x5632 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, false]

abbrev stage7_1 : Fin 2 → Memref sig .tc .vmem S5632x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, false]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== ReferenceIdeal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S4096x2048, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S2048x5632, .f32⟩
  | .hbm, ⟨26, _⟩ => ⟨S4096x5632, .f32⟩
  | .hbm, ⟨27, _⟩ => ⟨S4096x5632, .f32⟩
  | .hbm, ⟨28, _⟩ => ⟨S4096x2048, .f32⟩
  | .hbm, ⟨29, _⟩ => ⟨S2048x5632, .f32⟩
  | .hbm, ⟨30, _⟩ => ⟨S5632x2048, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S5632x2048, .f32⟩
  | .hbm, ⟨35, _⟩ => ⟨S2048x5632, .f32⟩
  | .hbm, ⟨36, _⟩ => ⟨S4096x2048, .f32⟩
  | .hbm, ⟨37, _⟩ => ⟨S5632x2048, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S5632x2048, .f32⟩
  | .hbm, ⟨43, _⟩ => ⟨S2048x5632, .f32⟩
  | .hbm, ⟨44, _⟩ => ⟨S4096x2048, .f32⟩
  | .hbm, ⟨45, _⟩ => ⟨S5632x2048, .f32⟩
  | .hbm, ⟨46, _⟩ => ⟨S4096x2048, .bf16⟩
  | .hbm, ⟨47, _⟩ => ⟨S4096x2048, .bf16⟩
  | .hbm, ⟨48, _⟩ => ⟨S4096x2048, .bf16⟩
  | .hbm, ⟨49, _⟩ => ⟨S5632x2048, .bf16⟩
  | .hbm, ⟨50, _⟩ => ⟨S5632x2048, .bf16⟩
  | .hbm, ⟨51, _⟩ => ⟨S5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel2.lean ====
abbrev S4096x11264 : Shape := ⟨2, ![4096, 11264]⟩
abbrev S8x2048x1408 : Shape := ⟨3, ![8, 2048, 1408]⟩
abbrev S4096x2048 : Shape := ⟨2, ![4096, 2048]⟩
abbrev S512x2816 : Shape := ⟨2, ![512, 2816]⟩
abbrev S2x2048x1408 : Shape := ⟨3, ![2, 2048, 1408]⟩
abbrev S512x2048 : Shape := ⟨2, ![512, 2048]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S8x2048x1408, .bf16⟩
  | .hbm, ⟨2, _⟩ => ⟨S4096x2048, .bf16⟩
  | .local _ .vmem, ⟨0, _⟩ => ⟨S512x2816, .bf16⟩
  | .local _ .vmem, ⟨1, _⟩ => ⟨S512x2816, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x11264 : Shape := ⟨2, ![4096, 11264]⟩
abbrev S8x2048x1408 : Shape := ⟨3, ![8, 2048, 1408]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩

abbrev nBuf : Space → Nat
  | .hbm => 11
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x2048x1408, .bf16⟩
  | .hbm, ⟨2, _⟩ => ⟨S_, .f32⟩
  | .hbm, ⟨3, _⟩ => ⟨S4096x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S4096x2048, .f32⟩
  | .hbm, ⟨10, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x11264 : Shape := ⟨2, ![4096, 11264]⟩
abbrev S3x1024 : Shape := ⟨2, ![3, 1024]⟩
abbrev S4096x1024 : Shape := ⟨2, ![4096, 1024]⟩
abbrev S8x1024x256 : Shape := ⟨3, ![8, 1024, 256]⟩
abbrev S2048x2048 : Shape := ⟨2, ![2048, 2048]⟩
abbrev S4096x2048 : Shape := ⟨2, ![4096, 2048]⟩
abbrev S4096x128 : Shape := ⟨2, ![4096, 128]⟩
abbrev S3x128 : Shape := ⟨2, ![3, 128]⟩
abbrev S1x128 : Shape := ⟨2, ![1, 128]⟩
abbrev S1024x1024 : Shape := ⟨2, ![1024, 1024]⟩
abbrev S1x1024x256 : Shape := ⟨3, ![1, 1024, 256]⟩
abbrev S1024x256 : Shape := ⟨2, ![1024, 256]⟩
abbrev S1024x2048 : Shape := ⟨2, ![1024, 2048]⟩
abbrev S2048x1024 : Shape := ⟨2, ![2048, 1024]⟩
abbrev S512x2048 : Shape := ⟨2, ![512, 2048]⟩
abbrev S512x1024 : Shape := ⟨2, ![512, 1024]⟩
abbrev S4096x512 : Shape := ⟨2, ![4096, 512]⟩
abbrev S4096x256 : Shape := ⟨2, ![4096, 256]⟩

abbrev nBuf : Space → Nat
  | .hbm => 21
  | .vmem => 74
  | .smem => 0
  | _ => 0

abbrev bufTy : (tb : Table) → Fin (tcTables nBuf tb) → BufTy
  | .hbm, ⟨0, _⟩ => ⟨S4096x11264, .f32⟩
  | .hbm, ⟨1, _⟩ => ⟨S3x1024, .f32⟩
  | .hbm, ⟨2, _⟩ => ⟨S4096x1024, .bf16⟩
  | .hbm, ⟨3, _⟩ => ⟨S8x1024x256, .bf16⟩
  | .hbm, ⟨4, _⟩ => ⟨S8x1024x256, .bf16⟩
  | .hbm, ⟨5, _⟩ => ⟨S2048x2048, .bf16⟩
  | .hbm, ⟨6, _⟩ => ⟨S4096x2048, .bf16⟩
  | .hbm, ⟨7, _⟩ => ⟨S4096x1024, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S4096x2048, .bf16⟩
  | .hbm, ⟨12, _⟩ => ⟨S4096x2048, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .hbm, ⟨18, _⟩ => ⟨S2048x2048, .bf16⟩
  | .hbm, ⟨19, _⟩ => ⟨S8x1024x256, .bf16⟩
  | .hbm, ⟨20, _⟩ => ⟨S8x1024x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x2048, .bf16⟩
  | .local _ .vmem, ⟨33, _⟩ => ⟨S1024x2048, .bf16⟩
  | .local _ .vmem, ⟨34, _⟩ => ⟨S2048x1024, .bf16⟩
  | .local _ .vmem, ⟨35, _⟩ => ⟨S2048x1024, .bf16⟩
  | .local _ .vmem, ⟨36, _⟩ => ⟨S1024x1024, .bf16⟩
  | .local _ .vmem, ⟨37, _⟩ => ⟨S1024x1024, .bf16⟩
  | .local _ .vmem, ⟨38, _⟩ => ⟨S512x2048, .bf16⟩
  | .local _ .vmem, ⟨39, _⟩ => ⟨S512x2048, .bf16⟩
  | .local _ .vmem, ⟨40, _⟩ => ⟨S1024x2048, .bf16⟩
  | .local _ .vmem, ⟨41, _⟩ => ⟨S1024x2048, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x1024, .bf16⟩
  | .local _ .vmem, ⟨55, _⟩ => ⟨S512x1024, .bf16⟩
  | .local _ .vmem, ⟨56, _⟩ => ⟨S512x1024, .bf16⟩
  | .local _ .vmem, ⟨57, _⟩ => ⟨S512x1024, .bf16⟩
  | .local _ .vmem, ⟨58, _⟩ => ⟨S4096x512, .bf16⟩
  | .local _ .vmem, ⟨59, _⟩ => ⟨S4096x512, .bf16⟩
  | .local _ .vmem, ⟨60, _⟩ => ⟨S4096x1024, .bf16⟩
  | .local _ .vmem, ⟨61, _⟩ => ⟨S4096x1024, .bf16⟩
  | .local _ .vmem, ⟨62, _⟩ => ⟨S512x1024, .bf16⟩
  | .local _ .vmem, ⟨63, _⟩ => ⟨S512x1024, .bf16⟩
  | .local _ .vmem, ⟨64, _⟩ => ⟨S4096x1024, .bf16⟩
  | .local _ .vmem, ⟨65, _⟩ => ⟨S4096x256, .bf16⟩
  | .local _ .vmem, ⟨66, _⟩ => ⟨S4096x256, .bf16⟩
  | .local _ .vmem, ⟨67, _⟩ => ⟨S1x1024x256, .bf16⟩
  | .local _ .vmem, ⟨68, _⟩ => ⟨S1x1024x256, .bf16⟩
  | .local _ .vmem, ⟨69, _⟩ => ⟨S4096x1024, .bf16⟩
  | .local _ .vmem, ⟨70, _⟩ => ⟨S4096x256, .bf16⟩
  | .local _ .vmem, ⟨71, _⟩ => ⟨S4096x256, .bf16⟩
  | .local _ .vmem, ⟨72, _⟩ => ⟨S1x1024x256, .bf16⟩
  | .local _ .vmem, ⟨73, _⟩ => ⟨S1x1024x256, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg8_1 : Ref sig .tc := ⟨.vmem, 55, rfl⟩
abbrev cc3_stg9_0 : Ref sig .tc := ⟨.vmem, 56, rfl⟩
abbrev cc3_stg9_1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg1_1 : Ref sig .tc := ⟨.vmem, 61, rfl⟩
abbrev cc4_stg2_0 : Ref sig .tc := ⟨.vmem, 62, rfl⟩
abbrev cc4_stg2_1 : Ref sig .tc := ⟨.vmem, 63, rfl⟩
abbrev cc5_stg0_0 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc6_stg0_0 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc3_sem5_0 : DmaSem sig := 48
abbrev cc3_sem5_1 : DmaSem sig := 49
abbrev cc3_sem6_0 : DmaSem sig := 50
abbrev cc3_sem6_1 : DmaSem sig := 51
abbrev cc3_sem7_0 : DmaSem sig := 52
abbrev cc3_sem7_1 : DmaSem sig := 53
abbrev cc3_sem8_0 : DmaSem sig := 54
abbrev cc3_sem8_1 : DmaSem sig := 55
abbrev cc3_sem9_0 : DmaSem sig := 56
abbrev cc3_sem9_1 : DmaSem sig := 57
abbrev cc4_sem0_0 : DmaSem sig := 58
abbrev cc4_sem0_1 : DmaSem sig := 59
abbrev cc4_sem1_0 : DmaSem sig := 60
abbrev cc4_sem1_1 : DmaSem sig := 61
abbrev cc4_sem2_0 : DmaSem sig := 62
abbrev cc4_sem2_1 : DmaSem sig := 63
abbrev cc5_sem0_0 : DmaSem sig := 64
abbrev cc5_sem1_0 : DmaSem sig := 65
abbrev cc5_sem1_1 : DmaSem sig := 66
abbrev cc5_sem2_0 : DmaSem sig := 67
abbrev cc5_sem2_1 : DmaSem sig := 68
abbrev cc6_sem0_0 : DmaSem sig := 69
abbrev cc6_sem1_0 : DmaSem sig := 70
abbrev cc6_sem1_1 : DmaSem sig := 71
abbrev cc6_sem2_0 : DmaSem sig := 72
abbrev cc6_sem2_1 : DmaSem sig := 73

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1024x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S512x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S512x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S512x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false, false]

abbrev stage5_1 : Fin 2 → Memref sig .tc .vmem S4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 2 → Memref sig .tc .vmem S1x1024x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]

abbrev grid6 : Pipeline.Grid := ⟨3, ![1, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false, false]

abbrev stage6_1 : Fin 2 → Memref sig .tc .vmem S4096x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S1x1024x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]
-- ==== Reference3Ideal.lean ====
abbrev S4096x11264 : Shape := ⟨2, ![4096, 11264]⟩
abbrev S3x1024 : Shape := ⟨2, ![3, 1024]⟩
abbrev S4096x1024 : Shape := ⟨2, ![4096, 1024]⟩
abbrev S8x1024x256 : Shape := ⟨3, ![8, 1024, 256]⟩
abbrev S2048x2048 : Shape := ⟨2, ![2048, 2048]⟩
abbrev S4096x2048 : Shape := ⟨2, ![4096, 2048]⟩
abbrev S4096x4096 : Shape := ⟨2, ![4096, 4096]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S1024x8x256 : Shape := ⟨3, ![1024, 8, 256]⟩
abbrev S1024x2048 : Shape := ⟨2, ![1024, 2048]⟩
abbrev S2048x1024 : Shape := ⟨2, ![2048, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x1024, .f32⟩
  | .hbm, ⟨2, _⟩ => ⟨S4096x1024, .bf16⟩
  | .hbm, ⟨3, _⟩ => ⟨S8x1024x256, .bf16⟩
  | .hbm, ⟨4, _⟩ => ⟨S8x1024x256, .bf16⟩
  | .hbm, ⟨5, _⟩ => ⟨S2048x2048, .bf16⟩
  | .hbm, ⟨6, _⟩ => ⟨S4096x2048, .bf16⟩
  | .hbm, ⟨7, _⟩ => ⟨S4096x1024, .f32⟩
  | .hbm, ⟨8, _⟩ => ⟨S8x1024x256, .f32⟩
  | .hbm, ⟨9, _⟩ => ⟨S8x1024x256, .f32⟩
  | .hbm, ⟨10, _⟩ => ⟨S2048x2048, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x4096, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S_, .f32⟩
  | .hbm, ⟨20, _⟩ => ⟨S2x1024, .f32⟩
  | .hbm, ⟨21, _⟩ => ⟨S4098x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1024x8x256, .f32⟩
  | .hbm, ⟨44, _⟩ => ⟨S1024x2048, .f32⟩
  | .hbm, ⟨45, _⟩ => ⟨S4096x2048, .f32⟩
  | .hbm, ⟨46, _⟩ => ⟨S1024x8x256, .f32⟩
  | .hbm, ⟨47, _⟩ => ⟨S1024x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S2048x2048, .f32⟩
  | .hbm, ⟨78, _⟩ => ⟨S2048x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S2048x1024, .f32⟩
  | .hbm, ⟨87, _⟩ => ⟨S1024x2048, .f32⟩
  | .hbm, ⟨88, _⟩ => ⟨S1024x8x256, .f32⟩
  | .hbm, ⟨89, _⟩ => ⟨S8x1024x256, .f32⟩
  | .hbm, ⟨90, _⟩ => ⟨S2048x1024, .f32⟩
  | .hbm, ⟨91, _⟩ => ⟨S1024x2048, .f32⟩
  | .hbm, ⟨92, _⟩ => ⟨S1024x8x256, .f32⟩
  | .hbm, ⟨93, _⟩ => ⟨S8x1024x256, .f32⟩
  | .hbm, ⟨94, _⟩ => ⟨S4096x2048, .bf16⟩
  | .hbm, ⟨95, _⟩ => ⟨S4096x2048, .bf16⟩
  | .hbm, ⟨96, _⟩ => ⟨S4096x2048, .bf16⟩
  | .hbm, ⟨97, _⟩ => ⟨S8x1024x256, .bf16⟩
  | .hbm, ⟨98, _⟩ => ⟨S8x1024x256, .bf16⟩
  | .hbm, ⟨99, _⟩ => ⟨S2048x2048, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_0 : Ref sig .tc := ⟨.hbm, 51, rfl⟩
abbrev main_v43 : Ref sig .tc := ⟨.hbm, 52, rfl⟩
abbrev main_v44 : Ref sig .tc := ⟨.hbm, 53, rfl⟩
abbrev main_cst_1 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩

abbrev nD : Nat := 1
abbrev τ : Topo := Topo.v7x

variable {F : FTy → Type} [FloatOps F]
-- ==== Kernel4.lean ====
abbrev S4096x2048 : Shape := ⟨2, ![4096, 2048]⟩
abbrev S8x1024x256 : Shape := ⟨3, ![8, 1024, 256]⟩
abbrev S4096x1024 : Shape := ⟨2, ![4096, 1024]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S4096x2048 : Shape := ⟨2, ![4096, 2048]⟩
abbrev S8x1024x256 : Shape := ⟨3, ![8, 1024, 256]⟩
abbrev S_ : Shape := ⟨0, ![]⟩
abbrev S4096x1024 : Shape := ⟨2, ![4096, 1024]⟩
abbrev S1024x8x256 : Shape := ⟨3, ![1024, 8, 256]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S_, .f32⟩
  | .hbm, ⟨3, _⟩ => ⟨S4096x1024, .f32⟩
  | .hbm, ⟨4, _⟩ => ⟨S8x1024x256, .f32⟩
  | .hbm, ⟨5, _⟩ => ⟨S1024x8x256, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x1024, .f32⟩
  | .hbm, ⟨10, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x11264 : Shape := ⟨2, ![4096, 11264]⟩
abbrev S3x1024 : Shape := ⟨2, ![3, 1024]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x11264, .f32⟩
  | .hbm, ⟨1, _⟩ => ⟨S3x1024, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S3x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x11264 : Shape := ⟨2, ![4096, 11264]⟩
abbrev S3x1024 : Shape := ⟨2, ![3, 1024]⟩
abbrev S4096x1024 : Shape := ⟨2, ![4096, 1024]⟩
abbrev S4096x8192 : Shape := ⟨2, ![4096, 8192]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8192, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S_, .f32⟩
  | .hbm, ⟨46, _⟩ => ⟨S4098x1024, .f32⟩
  | .hbm, ⟨47, _⟩ => ⟨S1x1024, .f32⟩
  | .hbm, ⟨48, _⟩ => ⟨S_, .f32⟩
  | .hbm, ⟨49, _⟩ => ⟨S3x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S4098x1024, .f32⟩
  | .hbm, ⟨60, _⟩ => ⟨S4098x1024, .f32⟩
  | .hbm, ⟨61, _⟩ => ⟨S1x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S_, .f32⟩
  | .hbm, ⟨74, _⟩ => ⟨S4098x1024, .f32⟩
  | .hbm, ⟨75, _⟩ => ⟨S4098x1024, .f32⟩
  | .hbm, ⟨76, _⟩ => ⟨S1x1024, .f32⟩
  | .hbm, ⟨77, _⟩ => ⟨S_, .f32⟩
  | .hbm, ⟨78, _⟩ => ⟨S3x1024, .f32⟩
  | .hbm, ⟨79, _⟩ => ⟨S3x1024, .f32⟩
  | .hbm, ⟨80, _⟩ => ⟨S2x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .bf16⟩
  | .hbm, ⟨85, _⟩ => ⟨S4096x1024, .bf16⟩
  | .hbm, ⟨86, _⟩ => ⟨S4096x1024, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel7.lean ====
abbrev S4096x2048 : Shape := ⟨2, ![4096, 2048]⟩
abbrev S4096x11264 : Shape := ⟨2, ![4096, 11264]⟩
abbrev S4 : Shape := ⟨1, ![4]⟩
abbrev S8x2048x1408 : Shape := ⟨3, ![8, 2048, 1408]⟩
abbrev S4096x512 : Shape := ⟨2, ![4096, 512]⟩
abbrev S4096x1408 : Shape := ⟨2, ![4096, 1408]⟩
abbrev S1 : Shape := ⟨1, ![1]⟩
abbrev S1x512x1408 : Shape := ⟨3, ![1, 512, 1408]⟩
abbrev S512x1408 : Shape := ⟨2, ![512, 1408]⟩

abbrev nBuf : Space → Nat
  | .hbm => 4
  | .vmem => 12
  | .smem => 2
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x2048x1408, .bf16⟩
  | .hbm, ⟨3, _⟩ => ⟨S8x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S4096x512, .bf16⟩
  | .local _ .vmem, ⟨7, _⟩ => ⟨S4096x512, .bf16⟩
  | .local _ .vmem, ⟨8, _⟩ => ⟨S4096x1408, .bf16⟩
  | .local _ .vmem, ⟨9, _⟩ => ⟨S4096x1408, .bf16⟩
  | .local _ .vmem, ⟨10, _⟩ => ⟨S1x512x1408, .bf16⟩
  | .local _ .vmem, ⟨11, _⟩ => ⟨S1x512x1408, .bf16⟩
  | .local _ .smem, ⟨0, _⟩ => ⟨S4, .i32⟩
  | .local _ .smem, ⟨1, _⟩ => ⟨S4, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

abbrev pre1 : Pipeline.Prefetch sig := ⟨1, ![main_c_0.idx], fun | 0 => main_c_0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (k1_off1_inb : ∀ i : grid1.Coords, ∀ a, (k1_off1 i) a + S1.size a ≤ S4.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k1_off1_inb i)) numel1_S1
  let c0_i32 : BitVec 32 := 0#32
  let c0_i32_0 : BitVec 32 := 0#32
  ![c0_i32.toNat, v1.toNat]

def cc1_transform_3 (k1_off1_inb : ∀ i : grid1.Coords, ∀ a, (k1_off1 i) a + S1.size a ≤ S4.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k1_off1_inb i)) numel1_S1
  let c0_i32 : BitVec 32 := 0#32
  let c0_i32_0 : BitVec 32 := 0#32
  ![v1.toNat, arg1.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference7Ideal.lean ====
abbrev S4096x2048 : Shape := ⟨2, ![4096, 2048]⟩
abbrev S4096x11264 : Shape := ⟨2, ![4096, 11264]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S8x2048x1408, .f32⟩
  | .hbm, ⟨4, _⟩ => ⟨S4096x2048, .f32⟩
  | .hbm, ⟨5, _⟩ => ⟨S2048x8x1408, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S4096x2048 : Shape := ⟨2, ![4096, 2048]⟩
abbrev S8x2048x1408 : Shape := ⟨3, ![8, 2048, 1408]⟩
abbrev S2 : Shape := ⟨1, ![2]⟩
abbrev S1 : Shape := ⟨1, ![1]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 28
  | .smem => 5
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x11264, .f32⟩
  | .hbm, ⟨3, _⟩ => ⟨S4096x11264, .f32⟩
  | .hbm, ⟨4, _⟩ => ⟨S4096x11264, .f32⟩
  | .hbm, ⟨5, _⟩ => ⟨S4096x11264, .f32⟩
  | .hbm, ⟨6, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x2048, .bf16⟩
  | .local _ .vmem, ⟨7, _⟩ => ⟨S1024x2048, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S1024x1408, .f32⟩
  | .local _ .vmem, ⟨11, _⟩ => ⟨S1024x1408, .f32⟩
  | .local _ .vmem, ⟨12, _⟩ => ⟨S1024x2048, .bf16⟩
  | .local _ .vmem, ⟨13, _⟩ => ⟨S1024x2048, .bf16⟩
  | .local _ .vmem, ⟨14, _⟩ => ⟨S1x2048x1408, .bf16⟩
  | .local _ .vmem, ⟨15, _⟩ => ⟨S1x2048x1408, .bf16⟩
  | .local _ .vmem, ⟨16, _⟩ => ⟨S1024x1408, .f32⟩
  | .local _ .vmem, ⟨17, _⟩ => ⟨S1024x1408, .f32⟩
  | .local _ .vmem, ⟨18, _⟩ => ⟨S1024x2048, .bf16⟩
  | .local _ .vmem, ⟨19, _⟩ => ⟨S1024x2048, .bf16⟩
  | .local _ .vmem, ⟨20, _⟩ => ⟨S1x2048x1408, .bf16⟩
  | .local _ .vmem, ⟨21, _⟩ => ⟨S1024x1408, .f32⟩
  | .local _ .vmem, ⟨22, _⟩ => ⟨S1024x1408, .f32⟩
  | .local _ .vmem, ⟨23, _⟩ => ⟨S1024x2048, .bf16⟩
  | .local _ .vmem, ⟨24, _⟩ => ⟨S1024x2048, .bf16⟩
  | .local _ .vmem, ⟨25, _⟩ => ⟨S1x2048x1408, .bf16⟩
  | .local _ .vmem, ⟨26, _⟩ => ⟨S1024x1408, .f32⟩
  | .local _ .vmem, ⟨27, _⟩ => ⟨S1024x1408, .f32⟩
  | .local _ .smem, ⟨0, _⟩ => ⟨S2, .i32⟩
  | .local _ .smem, ⟨1, _⟩ => ⟨S2, .i32⟩
  | .local _ .smem, ⟨2, _⟩ => ⟨S2, .i32⟩
  | .local _ .smem, ⟨3, _⟩ => ⟨S1, .i32⟩
  | .local _ .smem, ⟨4, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

abbrev pre1 : Pipeline.Prefetch sig := ⟨1, ![main_c_0.idx], fun | 0 => main_c_0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (k1_off1_inb : ∀ i : grid1.Coords, ∀ a, (k1_off1 i) a + S1.size a ≤ S2.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S2.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k1_off1_inb i)) numel1_S1
  let c0_i32 : BitVec 32 := 0#32
  ![arg1.toNat, v1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

abbrev pre2 : Pipeline.Prefetch sig := ⟨1, ![main_c_1.idx], fun | 0 => main_c_1.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (k2_off1_inb : ∀ i : grid2.Coords, ∀ a, (k2_off1 i) a + S1.size a ≤ S2.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (k2_off1_inb : ∀ i : grid2.Coords, ∀ a, (k2_off1 i) a + S1.size a ≤ S2.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k2_off1_inb i)) numel1_S1
  let c0_i32 : BitVec 32 := 0#32
  ![arg1.toNat, v1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

abbrev pre3 : Pipeline.Prefetch sig := ⟨1, ![main_c_2.idx], fun | 0 => main_c_2.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (k3_off1_inb : ∀ i : grid3.Coords, ∀ a, (k3_off1 i) a + S1.size a ≤ S1.size a) (numel1_S1 : S1.numel = 1) (pf : pre3.Contents (Elt F)) (i : grid3.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (k3_off1_inb : ∀ i : grid3.Coords, ∀ a, (k3_off1 i) a + S1.size a ≤ S1.size a) (numel1_S1 : S1.numel = 1) (pf : pre3.Contents (Elt F)) (i : grid3.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k3_off1_inb i)) numel1_S1
  let c0_i32 : BitVec 32 := 0#32
  ![arg1.toNat, v1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1x2048x1408 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

abbrev pre4 : Pipeline.Prefetch sig := ⟨1, ![main_c_3.idx], fun | 0 => main_c_3.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (k4_off1_inb : ∀ i : grid4.Coords, ∀ a, (k4_off1 i) a + S1.size a ≤ S1.size a) (numel1_S1 : S1.numel = 1) (pf : pre4.Contents (Elt F)) (i : grid4.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_3 (k4_off1_inb : ∀ i : grid4.Coords, ∀ a, (k4_off1 i) a + S1.size a ≤ S1.size a) (numel1_S1 : S1.numel = 1) (pf : pre4.Contents (Elt F)) (i : grid4.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k4_off1_inb i)) numel1_S1
  let c0_i32 : BitVec 32 := 0#32
  ![arg1.toNat, v1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1x2048x1408 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference8Ideal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference9Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference10Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel11.lean ====
abbrev S4096x2048 : Shape := ⟨2, ![4096, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x128, .f32⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x128, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference11Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S4096x2048, .bf16⟩
  | .hbm, ⟨81, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel12.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel14.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩

abbrev nBuf : Space → Nat
  | .hbm => 4
  | .vmem => 4
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x1536, .f32⟩
  | .local _ .vmem, ⟨2, _⟩ => ⟨S1x1536, .f32⟩
  | .local _ .vmem, ⟨3, _⟩ => ⟨S8x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference14Ideal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel15.lean ====
abbrev S8x2048 : Shape := ⟨2, ![8, 2048]⟩
abbrev S8x1536 : Shape := ⟨2, ![8, 1536]⟩
abbrev S2048x1536 : Shape := ⟨2, ![2048, 1536]⟩

abbrev nBuf : Space → Nat
  | .hbm => 3
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .local _ .vmem, ⟨0, _⟩ => ⟨S8x2048, .f32⟩
  | .local _ .vmem, ⟨1, _⟩ => ⟨S8x1536, .f32⟩
  | .local _ .vmem, ⟨2, _⟩ => ⟨S2048x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference15Ideal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1x1536 : Shape := ⟨2, ![1, 1536]⟩
abbrev S1536x2048 : Shape := ⟨2, ![1536, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S_, .f32⟩
  | .hbm, ⟨5, _⟩ => ⟨S1x1536, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x1536, .f32⟩
  | .hbm, ⟨16, _⟩ => ⟨S8x1536, .f32⟩
  | .hbm, ⟨17, _⟩ => ⟨S8x1536, .f32⟩
  | .hbm, ⟨18, _⟩ => ⟨S1536x2048, .f32⟩
  | .hbm, ⟨19, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel16.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S1x12288 : Shape := ⟨2, ![1, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S_, .f32⟩
  | .hbm, ⟨5, _⟩ => ⟨S1x12288, .f32⟩
  | .hbm, ⟨6, _⟩ => ⟨S1x12288, .f32⟩
  | .hbm, ⟨7, _⟩ => ⟨S_, .f32⟩
  | .hbm, ⟨8, _⟩ => ⟨S1x12288, .f32⟩
  | .hbm, ⟨9, _⟩ => ⟨S1x12288, .f32⟩
  | .hbm, ⟨10, _⟩ => ⟨S1x12288, .f32⟩
  | .hbm, ⟨11, _⟩ => ⟨S_, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S_, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S_, .f32⟩
  | .hbm, ⟨20, _⟩ => ⟨S1x12288, .f32⟩
  | .hbm, ⟨21, _⟩ => ⟨S1x12288, .f32⟩
  | .hbm, ⟨22, _⟩ => ⟨S_, .f32⟩
  | .hbm, ⟨23, _⟩ => ⟨S1x12288, .f32⟩
  | .hbm, ⟨24, _⟩ => ⟨S1x12288, .f32⟩
  | .hbm, ⟨25, _⟩ => ⟨S1x12288, .f32⟩
  | .hbm, ⟨26, _⟩ => ⟨S_, .f32⟩
  | .hbm, ⟨27, _⟩ => ⟨S1x12288, .f32⟩
  | .hbm, ⟨28, _⟩ => ⟨S1x12288, .f32⟩
  | .hbm, ⟨29, _⟩ => ⟨S1x12288, .f32⟩
  | .hbm, ⟨30, _⟩ => ⟨S_, .f32⟩
  | .hbm, ⟨31, _⟩ => ⟨S1x12288, .f32⟩
  | .hbm, ⟨32, _⟩ => ⟨S1x12288, .f32⟩
  | .hbm, ⟨33, _⟩ => ⟨S1x12288, .f32⟩
  | .hbm, ⟨34, _⟩ => ⟨S_, .f32⟩
  | .hbm, ⟨35, _⟩ => ⟨S1x12288, .f32⟩
  | .hbm, ⟨36, _⟩ => ⟨S1x12288, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x2048x1408 : Shape := ⟨3, ![4, 2048, 1408]⟩
abbrev S2048x1408 : Shape := ⟨2, ![2048, 1408]⟩
abbrev S_ : Shape := ⟨0, ![]⟩
abbrev S1 : Shape := ⟨1, ![1]⟩
abbrev S1x256x1408 : Shape := ⟨3, ![1, 256, 1408]⟩
abbrev S4x256x1408 : Shape := ⟨3, ![4, 256, 1408]⟩
abbrev S256x1408 : Shape := ⟨2, ![256, 1408]⟩

abbrev nBuf : Space → Nat
  | .hbm => 10
  | .vmem => 18
  | .smem => 1
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S_, .i32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S4x256x1408, .bf16⟩
  | .local _ .vmem, ⟨3, _⟩ => ⟨S4x256x1408, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S1, .i32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S4x2048x1408 : Shape := ⟨3, ![4, 2048, 1408]⟩
abbrev S2048x1408 : Shape := ⟨2, ![2048, 1408]⟩
abbrev S1x2048x1408 : Shape := ⟨3, ![1, 2048, 1408]⟩
abbrev S3x2048x1408 : Shape := ⟨3, ![3, 2048, 1408]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S1x2048x1408, .bf16⟩
  | .hbm, ⟨6, _⟩ => ⟨S3x2048x1408, .bf16⟩
  | .hbm, ⟨7, _⟩ => ⟨S4x2048x1408, .bf16⟩
  | .hbm, ⟨8, _⟩ => ⟨S4x2048x1408, .f32⟩
  | .hbm, ⟨9, _⟩ => ⟨S_, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | .hbm, ⟨40, _⟩ => ⟨S2048x1408, .f32⟩
  | .hbm, ⟨41, _⟩ => ⟨S_, .f32⟩
  | .hbm, ⟨42, _⟩ => ⟨S2048x1408, .f32⟩
  | .hbm, ⟨43, _⟩ => ⟨S2048x1408, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel23.lean ====
abbrev S4x1024x256 : Shape := ⟨3, ![4, 1024, 256]⟩
abbrev S1024x256 : Shape := ⟨2, ![1024, 256]⟩
abbrev S_ : Shape := ⟨0, ![]⟩
abbrev S1 : Shape := ⟨1, ![1]⟩
abbrev S1x256x256 : Shape := ⟨3, ![1, 256, 256]⟩
abbrev S4x256x256 : Shape := ⟨3, ![4, 256, 256]⟩
abbrev S256x256 : Shape := ⟨2, ![256, 256]⟩

abbrev nBuf : Space → Nat
  | .hbm => 10
  | .vmem => 18
  | .smem => 1
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S_, .i32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .local _ .vmem, ⟨0, _⟩ => ⟨S1x256x256, .bf16⟩
  | .local _ .vmem, ⟨1, _⟩ => ⟨S1x256x256, .bf16⟩
  | .local _ .vmem, ⟨2, _⟩ => ⟨S4x256x256, .bf16⟩
  | .local _ .vmem, ⟨3, _⟩ => ⟨S4x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S4x1024x256 : Shape := ⟨3, ![4, 1024, 256]⟩
abbrev S1024x256 : Shape := ⟨2, ![1024, 256]⟩
abbrev S1x1024x256 : Shape := ⟨3, ![1, 1024, 256]⟩
abbrev S3x1024x256 : Shape := ⟨3, ![3, 1024, 256]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1x1024x256, .bf16⟩
  | .hbm, ⟨6, _⟩ => ⟨S3x1024x256, .bf16⟩
  | .hbm, ⟨7, _⟩ => ⟨S4x1024x256, .bf16⟩
  | .hbm, ⟨8, _⟩ => ⟨S4x1024x256, .f32⟩
  | .hbm, ⟨9, _⟩ => ⟨S_, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S1024x256, .f32⟩
  | .hbm, ⟨41, _⟩ => ⟨S_, .f32⟩
  | .hbm, ⟨42, _⟩ => ⟨S1024x256, .f32⟩
  | .hbm, ⟨43, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel24.lean ====
abbrev S4x256x2048 : Shape := ⟨3, ![4, 256, 2048]⟩
abbrev S256x2048 : Shape := ⟨2, ![256, 2048]⟩
abbrev S_ : Shape := ⟨0, ![]⟩
abbrev S1 : Shape := ⟨1, ![1]⟩
abbrev S1x256x2048 : Shape := ⟨3, ![1, 256, 2048]⟩

abbrev nBuf : Space → Nat
  | .hbm => 10
  | .vmem => 9
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S1x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference24Ideal.lean ====
abbrev S4x256x2048 : Shape := ⟨3, ![4, 256, 2048]⟩
abbrev S256x2048 : Shape := ⟨2, ![256, 2048]⟩
abbrev S1x256x2048 : Shape := ⟨3, ![1, 256, 2048]⟩
abbrev S3x256x2048 : Shape := ⟨3, ![3, 256, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S3x256x2048, .bf16⟩
  | .hbm, ⟨7, _⟩ => ⟨S4x256x2048, .bf16⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel25.lean ====
abbrev S4x704x2048 : Shape := ⟨3, ![4, 704, 2048]⟩
abbrev S704x2048 : Shape := ⟨2, ![704, 2048]⟩
abbrev S_ : Shape := ⟨0, ![]⟩
abbrev S1 : Shape := ⟨1, ![1]⟩
abbrev S1x176x2048 : Shape := ⟨3, ![1, 176, 2048]⟩
abbrev S4x176x2048 : Shape := ⟨3, ![4, 176, 2048]⟩
abbrev S176x2048 : Shape := ⟨2, ![176, 2048]⟩

abbrev nBuf : Space → Nat
  | .hbm => 10
  | .vmem => 18
  | .smem => 1
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S_, .i32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S4x176x2048, .bf16⟩
  | .local _ .vmem, ⟨3, _⟩ => ⟨S4x176x2048, .bf16⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S1, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S4x704x2048 : Shape := ⟨3, ![4, 704, 2048]⟩
abbrev S704x2048 : Shape := ⟨2, ![704, 2048]⟩
abbrev S1x704x2048 : Shape := ⟨3, ![1, 704, 2048]⟩
abbrev S3x704x2048 : Shape := ⟨3, ![3, 704, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S1x704x2048, .bf16⟩
  | .hbm, ⟨6, _⟩ => ⟨S3x704x2048, .bf16⟩
  | .hbm, ⟨7, _⟩ => ⟨S4x704x2048, .bf16⟩
  | .hbm, ⟨8, _⟩ => ⟨S4x704x2048, .f32⟩
  | .hbm, ⟨9, _⟩ => ⟨S_, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | .hbm, ⟨40, _⟩ => ⟨S704x2048, .f32⟩
  | .hbm, ⟨41, _⟩ => ⟨S_, .f32⟩
  | .hbm, ⟨42, _⟩ => ⟨S704x2048, .f32⟩
  | .hbm, ⟨43, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.FfnRegions.lean ====
module

public import proofs.«01_k».proof.Proof.Gen.KernelIdeal.Frame
public import Idealize.ShloMosaic.Lib.Pipeline.ValueKit
public import Idealize.ShloMosaic.Lib.Pointwise

/-! # What each of the eight calls of the feed-forward layer leaves in its result arrays

Each theorem is stated at arbitrary contents `V` of the buffers when the call starts, and names the result array as a
function of the call's operand arrays, entry by entry. -/

@[expose] public section

set_option maxRecDepth 16384

noncomputable section

namespace Cert.KernelIdeal.Ffn

open Idealize.ShloMosaic Idealize.ShloMosaic.TcCoe Idealize.SL.Sem
open Idealize.ShloMosaic.Pipeline (Dat)
open Cert.KernelIdeal Cert.KernelIdeal.Gen

/-- A token array of model width, one of inner width, and a weight. -/
abbrev Tok := FVec Ideal S4096x2048 .bf16
abbrev Inner := FVec Ideal S4096x5632 .bf16
abbrev Wt := FVec Ideal S5632x2048 .bf16

/-- `h @ w.T`: a token array times a transposed weight. -/
def up (h : Tok) (w : Wt) (i : Fin 4096) (j : Fin 5632) : EReal := ∑ k : Fin 2048, h (ix2 i k) * w (ix2 j k)

/-- `a @ w`: back from the inner width to the model width. -/
def down (a : Inner) (w : Wt) : Tok := fun i => ∑ k : Fin 5632, a (ix2 (i 0) k) * w (ix2 k (i 1))

/-- `a.T @ h`: the gradient of a weight. -/
def outer (a : Inner) (h : Tok) : Wt := fun i => ∑ k : Fin 4096, a (ix2 k (i 0)) * h (ix2 k (i 1))

/-- The derivative of the gated product by the gate's pre-activation, as the forward call saves it. -/
def savedGate (h : Tok) (wg wu : Wt) : Inner := fun i =>
  up h wu (i 0) (i 1) * (Ideal.logistic (up h wg (i 0) (i 1)) * (1 + up h wg (i 0) (i 1) * (1 - Ideal.logistic (up h wg (i 0) (i 1)))))

/-- The activated gate, as the forward call saves it. -/
def savedUp (h : Tok) (wg : Wt) : Inner := fun i => up h wg (i 0) (i 1) * Ideal.logistic (up h wg (i 0) (i 1))

/-- The gated product. -/
def gated (h : Tok) (wg wu : Wt) : Inner := fun i => up h wg (i 0) (i 1) * Ideal.logistic (up h wg (i 0) (i 1)) * up h wu (i 0) (i 1)

/-- The gradient that reaches the gated product, times a saved factor. -/
def through (ct : Tok) (wd : Wt) (f : Inner) : Inner := fun i => up ct wd (i 0) (i 1) * f i

variable (V : (c : Dev nD) → (b : Ref sig .tc) → Buf (Elt Ideal) ((c : Thread nD τ).loc b))

/-- Which block of each array the call's windows take at a grid point. -/
theorem idx0 : ∀ t : Fin cfg0.N, win0_0.index t = ![t.val % 4, 0] ∧ win0_1.index t = ![t.val / 4, 0] ∧ win0_2.index t = ![t.val / 4, 0] ∧ win0_3.index t = ![t.val % 4, t.val / 4] ∧ win0_4.index t = ![t.val % 4, t.val / 4] ∧ win0_5.index t = ![t.val % 4, t.val / 4] :=
  (by decide +kernel : ∀ t : Fin grid0.N, _)

/-- The forward call's first result. -/
theorem final0_3 (c : Dev nD) : (dat0 V c).arrAt 3 cfg0.N = savedGate (V c (Pipeline.arrRef spec0 0)) (V c (Pipeline.arrRef spec0 1)) (V c (Pipeline.arrRef spec0 2)) := by
  refine (dat0 V c).arrAt_eq_of_covers 3 _ (by decide +kernel) fun t _ y => ?_
  blk_simp
  rw [after0_3]
  frame_out
  pointwise [k0_pay5, k0_pay3, k0_pay2, k0_pay1, savedGate, up]
  blk_point [iblk0, idx0 t]

/-- The forward call's second result. -/
theorem final0_4 (c : Dev nD) : (dat0 V c).arrAt 4 cfg0.N = savedUp (V c (Pipeline.arrRef spec0 0)) (V c (Pipeline.arrRef spec0 1)) := by
  refine (dat0 V c).arrAt_eq_of_covers 4 _ (by decide +kernel) fun t _ y => ?_
  blk_simp
  rw [after0_4]
  frame_out
  pointwise [k0_pay6, k0_pay4, k0_pay3, k0_pay1, savedUp, up]
  blk_point [iblk0, idx0 t]

/-- The forward call's third result. -/
theorem final0_5 (c : Dev nD) : (dat0 V c).arrAt 5 cfg0.N = gated (V c (Pipeline.arrRef spec0 0)) (V c (Pipeline.arrRef spec0 1)) (V c (Pipeline.arrRef spec0 2)) := by
  refine (dat0 V c).arrAt_eq_of_covers 5 _ (by decide +kernel) fun t _ y => ?_
  blk_simp
  rw [after0_5]
  frame_out
  pointwise [k0_pay7, k0_pay4, k0_pay3, k0_pay2, k0_pay1, gated, up]
  blk_point [iblk0, idx0 t]

/-- Which block of each array the call's windows take at a grid point. -/
theorem idx1 : ∀ t : Fin cfg1.N, win1_0.index t = ![t.val % 8, 0] ∧ win1_1.index t = ![0, t.val / 8] ∧ win1_2.index t = ![t.val % 8, t.val / 8] :=
  (by decide +kernel : ∀ t : Fin grid1.N, _)

/-- The down projection. -/
theorem final1_2 (c : Dev nD) : (dat1 V c).arrAt 2 cfg1.N = down (V c (Pipeline.arrRef spec1 0)) (V c (Pipeline.arrRef spec1 1)) := by
  refine (dat1 V c).arrAt_eq_of_covers 2 _ (by decide +kernel) fun t _ y => ?_
  blk_simp
  rw [after1_2]
  frame_out
  pointwise [k1_pay1, down]
  blk_point [iblk1, idx1 t]

/-- Which block of each array the call's windows take at a grid point. -/
theorem idx2 : ∀ t : Fin cfg2.N, win2_0.index t = ![t.val % 8, 0] ∧ win2_1.index t = ![t.val / 8, 0] ∧ win2_2.index t = ![t.val % 8, t.val / 8] ∧ win2_3.index t = ![t.val % 8, t.val / 8] ∧ win2_4.index t = ![t.val % 8, t.val / 8] ∧ win2_5.index t = ![t.val % 8, t.val / 8] :=
  (by decide +kernel : ∀ t : Fin grid2.N, _)

/-- The gradient at the gate's pre-activation. -/
theorem final2_4 (c : Dev nD) : (dat2 V c).arrAt 4 cfg2.N = through (V c (Pipeline.arrRef spec2 0)) (V c (Pipeline.arrRef spec2 1)) (V c (Pipeline.arrRef spec2 2)) := by
  refine (dat2 V c).arrAt_eq_of_covers 4 _ (by decide +kernel) fun t _ y => ?_
  blk_simp
  rw [after2_4]
  frame_out
  pointwise [k2_pay2, k2_pay1, through, up]
  blk_point [iblk2, idx2 t]

/-- The gradient at the up projection. -/
theorem final2_5 (c : Dev nD) : (dat2 V c).arrAt 5 cfg2.N = through (V c (Pipeline.arrRef spec2 0)) (V c (Pipeline.arrRef spec2 1)) (V c (Pipeline.arrRef spec2 3)) := by
  refine (dat2 V c).arrAt_eq_of_covers 5 _ (by decide +kernel) fun t _ y => ?_
  blk_simp
  rw [after2_5]
  frame_out
  pointwise [k2_pay3, k2_pay1, through, up]
  blk_point [iblk2, idx2 t]

/-- Which block of each array the call's windows take at a grid point. -/
theorem idx3 : ∀ t : Fin cfg3.N, win3_0.index t = ![0, t.val / 2] ∧ win3_1.index t = ![0, t.val % 2] ∧ win3_2.index t = ![t.val / 2, t.val % 2] :=
  (by decide +kernel : ∀ t : Fin grid3.N, _)

/-- The gradient of the down projection's weight. -/
theorem final3_2 (c : Dev nD) : (dat3 V c).arrAt 2 cfg3.N = outer (V c (Pipeline.arrRef spec3 0)) (V c (Pipeline.arrRef spec3 1)) := by
  refine (dat3 V c).arrAt_eq_of_covers 2 _ (by decide +kernel) fun t _ y => ?_
  blk_simp
  rw [after3_2]
  frame_out
  pointwise [k3_pay1, outer]
  blk_point [iblk3, idx3 t]

/-- Which block of each array the call's windows take at a grid point. -/
theorem idx5 : ∀ t : Fin cfg5.N, win5_0.index t = ![0, t.val / 2] ∧ win5_1.index t = ![0, t.val % 2] ∧ win5_2.index t = ![t.val / 2, t.val % 2] :=
  (by decide +kernel : ∀ t : Fin grid5.N, _)

/-- The gradient of the up projection's weight. -/
theorem final5_2 (c : Dev nD) : (dat5 V c).arrAt 2 cfg5.N = outer (V c (Pipeline.arrRef spec5 0)) (V c (Pipeline.arrRef spec5 1)) := by
  refine (dat5 V c).arrAt_eq_of_covers 2 _ (by decide +kernel) fun t _ y => ?_
  blk_simp
  rw [after5_2]
  frame_out
  pointwise [k5_pay1, outer]
  blk_point [iblk5, idx5 t]

/-- Which block of each array the call's windows take at a grid point. -/
theorem idx6 : ∀ t : Fin cfg6.N, win6_0.index t = ![0, t.val / 2] ∧ win6_1.index t = ![0, t.val % 2] ∧ win6_2.index t = ![t.val / 2, t.val % 2] :=
  (by decide +kernel : ∀ t : Fin grid6.N, _)

/-- The gradient of the gate's weight. -/
theorem final6_2 (c : Dev nD) : (dat6 V c).arrAt 2 cfg6.N = outer (V c (Pipeline.arrRef spec6 0)) (V c (Pipeline.arrRef spec6 1)) := by
  refine (dat6 V c).arrAt_eq_of_covers 2 _ (by decide +kernel) fun t _ y => ?_
  blk_simp
  rw [after6_2]
  frame_out
  pointwise [k6_pay1, outer]
  blk_point [iblk6, idx6 t]

/-- Which block of each array the call's windows take at a grid point. -/
theorem idx4 : ∀ t : Fin cfg4.N, win4_0.index t = ![t.val % 8, 0] ∧ win4_1.index t = ![0, t.val / 8] ∧ win4_2.index t = ![t.val % 8, t.val / 8] :=
  (by decide +kernel : ∀ t : Fin grid4.N, _)

/-- The gradient of the layer's input through the up projection. -/
theorem final4_2 (c : Dev nD) : (dat4 V c).arrAt 2 cfg4.N = down (V c (Pipeline.arrRef spec4 0)) (V c (Pipeline.arrRef spec4 1)) := by
  refine (dat4 V c).arrAt_eq_of_covers 2 _ (by decide +kernel) fun t _ y => ?_
  blk_simp
  rw [after4_2]
  frame_out
  pointwise [k4_pay1, down]
  blk_point [iblk4, idx4 t]

/-- Which block of each array the call's windows take at a grid point. -/
theorem idx7 : ∀ t : Fin cfg7.N, win7_0.index t = ![t.val % 8, 0] ∧ win7_1.index t = ![0, t.val / 8] ∧ win7_2.index t = ![t.val % 8, t.val / 8] :=
  (by decide +kernel : ∀ t : Fin grid7.N, _)

/-- The gradient of the layer's input through the gate. -/
theorem final7_2 (c : Dev nD) : (dat7 V c).arrAt 2 cfg7.N = down (V c (Pipeline.arrRef spec7 0)) (V c (Pipeline.arrRef spec7 1)) := by
  refine (dat7 V c).arrAt_eq_of_covers 2 _ (by decide +kernel) fun t _ y => ?_
  blk_simp
  rw [after7_2]
  frame_out
  pointwise [k7_pay1, down]
  blk_point [iblk7, idx7 t]

end Cert.KernelIdeal.Ffn
-- ==== Proof.FfnRun.lean ====
module

public import proofs.«01_k».proof.Proof.FfnRegions

/-! # The whole feed-forward program: forward, down projection, and every gradient

The contents of the buffers at each boundary between two calls are followed from the launch to the end; the run then
names the six results as functions of the five arguments. -/

@[expose] public section

set_option maxRecDepth 16384

noncomputable section

namespace Cert.KernelIdeal.Ffn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)
open Cert.KernelIdeal Cert.KernelIdeal.Gen

variable (m : (ℓ : Loc nD τ sig) → Buf (Elt Ideal) ℓ) (ρ : Dev nD → PrngReg)

/-- The arguments as launched: tokens, gate, up and down weights, cotangent. -/
abbrev aH (c : Dev nD) : Tok := m ((c : Thread nD τ).loc main_arg0)
abbrev aG (c : Dev nD) : Wt := m ((c : Thread nD τ).loc main_arg1)
abbrev aU (c : Dev nD) : Wt := m ((c : Thread nD τ).loc main_arg2)
abbrev aD (c : Dev nD) : Wt := m ((c : Thread nD τ).loc main_arg3)
abbrev aCt (c : Dev nD) : Tok := m ((c : Thread nD τ).loc main_arg4)

/-! ## What each boundary holds -/
theorem w1_main_v0_0 (c : Dev nD) : W1 m ρ c (Proc.devRef .tc main_v0_0) = (savedGate (aH m c) (aG m c) (aU m c)) :=
  (W1_arr m ρ c 3).trans ((final0_3 (V0 m ρ) c).trans
    (congr (congr (congrArg savedGate (W0_args m ρ c main_arg0 (by decide))) (W0_args m ρ c main_arg1 (by decide))) (W0_args m ρ c main_arg2 (by decide))))

theorem w1_main_v0_1 (c : Dev nD) : W1 m ρ c (Proc.devRef .tc main_v0_1) = (savedUp (aH m c) (aG m c)) :=
  (W1_arr m ρ c 4).trans ((final0_4 (V0 m ρ) c).trans
    (congr (congrArg savedUp (W0_args m ρ c main_arg0 (by decide))) (W0_args m ρ c main_arg1 (by decide))))

theorem w1_main_v0_2 (c : Dev nD) : W1 m ρ c (Proc.devRef .tc main_v0_2) = (gated (aH m c) (aG m c) (aU m c)) :=
  (W1_arr m ρ c 5).trans ((final0_5 (V0 m ρ) c).trans
    (congr (congr (congrArg gated (W0_args m ρ c main_arg0 (by decide))) (W0_args m ρ c main_arg1 (by decide))) (W0_args m ρ c main_arg2 (by decide))))

theorem w2_main_v1 (c : Dev nD) : W2 m ρ c (Proc.devRef .tc main_v1) = down (gated (aH m c) (aG m c) (aU m c)) (aD m c) :=
  (W2_arr m ρ c 2).trans ((final1_2 (V1 m ρ) c).trans
    (congr (congrArg down (w1_main_v0_2 m ρ c)) (W1_args m ρ c main_arg3 (by decide))))

theorem w2_main_v0_0 (c : Dev nD) : W2 m ρ c (Proc.devRef .tc main_v0_0) = (savedGate (aH m c) (aG m c) (aU m c)) :=
  (W2_of m ρ c main_v0_0 (by decide)).trans (w1_main_v0_0 m ρ c)

theorem w2_main_v0_1 (c : Dev nD) : W2 m ρ c (Proc.devRef .tc main_v0_1) = (savedUp (aH m c) (aG m c)) :=
  (W2_of m ρ c main_v0_1 (by decide)).trans (w1_main_v0_1 m ρ c)

theorem w2_main_v0_2 (c : Dev nD) : W2 m ρ c (Proc.devRef .tc main_v0_2) = (gated (aH m c) (aG m c) (aU m c)) :=
  (W2_of m ρ c main_v0_2 (by decide)).trans (w1_main_v0_2 m ρ c)

theorem w3_main_v2_0 (c : Dev nD) : W3 m ρ c (Proc.devRef .tc main_v2_0) = (through (aCt m c) (aD m c) (savedGate (aH m c) (aG m c) (aU m c))) :=
  (W3_arr m ρ c 4).trans ((final2_4 (V2 m ρ) c).trans
    (congr (congr (congrArg through (W2_args m ρ c main_arg4 (by decide))) (W2_args m ρ c main_arg3 (by decide))) (w2_main_v0_0 m ρ c)))

theorem w3_main_v2_1 (c : Dev nD) : W3 m ρ c (Proc.devRef .tc main_v2_1) = (through (aCt m c) (aD m c) (savedUp (aH m c) (aG m c))) :=
  (W3_arr m ρ c 5).trans ((final2_5 (V2 m ρ) c).trans
    (congr (congr (congrArg through (W2_args m ρ c main_arg4 (by decide))) (W2_args m ρ c main_arg3 (by decide))) (w2_main_v0_1 m ρ c)))

theorem w3_main_v0_0 (c : Dev nD) : W3 m ρ c (Proc.devRef .tc main_v0_0) = (savedGate (aH m c) (aG m c) (aU m c)) :=
  (W3_of m ρ c main_v0_0 (by decide)).trans (w2_main_v0_0 m ρ c)

theorem w3_main_v0_1 (c : Dev nD) : W3 m ρ c (Proc.devRef .tc main_v0_1) = (savedUp (aH m c) (aG m c)) :=
  (W3_of m ρ c main_v0_1 (by decide)).trans (w2_main_v0_1 m ρ c)

theorem w3_main_v0_2 (c : Dev nD) : W3 m ρ c (Proc.devRef .tc main_v0_2) = (gated (aH m c) (aG m c) (aU m c)) :=
  (W3_of m ρ c main_v0_2 (by decide)).trans (w2_main_v0_2 m ρ c)

theorem w3_main_v1 (c : Dev nD) : W3 m ρ c (Proc.devRef .tc main_v1) = down (gated (aH m c) (aG m c) (aU m c)) (aD m c) :=
  (W3_of m ρ c main_v1 (by decide)).trans (w2_main_v1 m ρ c)

theorem w4_main_v3 (c : Dev nD) : W4 m ρ c (Proc.devRef .tc main_v3) = outer (gated (aH m c) (aG m c) (aU m c)) (aCt m c) :=
  (W4_arr m ρ c 2).trans ((final3_2 (V3 m ρ) c).trans
    (congr (congrArg outer (w3_main_v0_2 m ρ c)) (W3_args m ρ c main_arg4 (by decide))))

theorem w4_main_v0_0 (c : Dev nD) : W4 m ρ c (Proc.devRef .tc main_v0_0) = (savedGate (aH m c) (aG m c) (aU m c)) :=
  (W4_of m ρ c main_v0_0 (by decide)).trans (w3_main_v0_0 m ρ c)

theorem w4_main_v0_1 (c : Dev nD) : W4 m ρ c (Proc.devRef .tc main_v0_1) = (savedUp (aH m c) (aG m c)) :=
  (W4_of m ρ c main_v0_1 (by decide)).trans (w3_main_v0_1 m ρ c)

theorem w4_main_v0_2 (c : Dev nD) : W4 m ρ c (Proc.devRef .tc main_v0_2) = (gated (aH m c) (aG m c) (aU m c)) :=
  (W4_of m ρ c main_v0_2 (by decide)).trans (w3_main_v0_2 m ρ c)

theorem w4_main_v1 (c : Dev nD) : W4 m ρ c (Proc.devRef .tc main_v1) = down (gated (aH m c) (aG m c) (aU m c)) (aD m c) :=
  (W4_of m ρ c main_v1 (by decide)).trans (w3_main_v1 m ρ c)

theorem w4_main_v2_0 (c : Dev nD) : W4 m ρ c (Proc.devRef .tc main_v2_0) = (through (aCt m c) (aD m c) (savedGate (aH m c) (aG m c) (aU m c))) :=
  (W4_of m ρ c main_v2_0 (by decide)).trans (w3_main_v2_0 m ρ c)

theorem w4_main_v2_1 (c : Dev nD) : W4 m ρ c (Proc.devRef .tc main_v2_1) = (through (aCt m c) (aD m c) (savedUp (aH m c) (aG m c))) :=
  (W4_of m ρ c main_v2_1 (by decide)).trans (w3_main_v2_1 m ρ c)

theorem w5_main_v4 (c : Dev nD) : W5 m ρ c (Proc.devRef .tc main_v4) = down (through (aCt m c) (aD m c) (savedUp (aH m c) (aG m c))) (aU m c) :=
  (W5_arr m ρ c 2).trans ((final4_2 (V4 m ρ) c).trans
    (congr (congrArg down (w4_main_v2_1 m ρ c)) (W4_args m ρ c main_arg2 (by decide))))

theorem w5_main_v0_0 (c : Dev nD) : W5 m ρ c (Proc.devRef .tc main_v0_0) = (savedGate (aH m c) (aG m c) (aU m c)) :=
  (W5_of m ρ c main_v0_0 (by decide)).trans (w4_main_v0_0 m ρ c)

theorem w5_main_v0_1 (c : Dev nD) : W5 m ρ c (Proc.devRef .tc main_v0_1) = (savedUp (aH m c) (aG m c)) :=
  (W5_of m ρ c main_v0_1 (by decide)).trans (w4_main_v0_1 m ρ c)

theorem w5_main_v0_2 (c : Dev nD) : W5 m ρ c (Proc.devRef .tc main_v0_2) = (gated (aH m c) (aG m c) (aU m c)) :=
  (W5_of m ρ c main_v0_2 (by decide)).trans (w4_main_v0_2 m ρ c)

theorem w5_main_v1 (c : Dev nD) : W5 m ρ c (Proc.devRef .tc main_v1) = down (gated (aH m c) (aG m c) (aU m c)) (aD m c) :=
  (W5_of m ρ c main_v1 (by decide)).trans (w4_main_v1 m ρ c)

theorem w5_main_v2_0 (c : Dev nD) : W5 m ρ c (Proc.devRef .tc main_v2_0) = (through (aCt m c) (aD m c) (savedGate (aH m c) (aG m c) (aU m c))) :=
  (W5_of m ρ c main_v2_0 (by decide)).trans (w4_main_v2_0 m ρ c)

theorem w5_main_v2_1 (c : Dev nD) : W5 m ρ c (Proc.devRef .tc main_v2_1) = (through (aCt m c) (aD m c) (savedUp (aH m c) (aG m c))) :=
  (W5_of m ρ c main_v2_1 (by decide)).trans (w4_main_v2_1 m ρ c)

theorem w5_main_v3 (c : Dev nD) : W5 m ρ c (Proc.devRef .tc main_v3) = outer (gated (aH m c) (aG m c) (aU m c)) (aCt m c) :=
  (W5_of m ρ c main_v3 (by decide)).trans (w4_main_v3 m ρ c)

theorem w6_main_v5 (c : Dev nD) : W6 m ρ c (Proc.devRef .tc main_v5) = outer (through (aCt m c) (aD m c) (savedUp (aH m c) (aG m c))) (aH m c) :=
  (W6_arr m ρ c 2).trans ((final5_2 (V5 m ρ) c).trans
    (congr (congrArg outer (w5_main_v2_1 m ρ c)) (W5_args m ρ c main_arg0 (by decide))))

theorem w6_main_v0_0 (c : Dev nD) : W6 m ρ c (Proc.devRef .tc main_v0_0) = (savedGate (aH m c) (aG m c) (aU m c)) :=
  (W6_of m ρ c main_v0_0 (by decide)).trans (w5_main_v0_0 m ρ c)

theorem w6_main_v0_1 (c : Dev nD) : W6 m ρ c (Proc.devRef .tc main_v0_1) = (savedUp (aH m c) (aG m c)) :=
  (W6_of m ρ c main_v0_1 (by decide)).trans (w5_main_v0_1 m ρ c)

theorem w6_main_v0_2 (c : Dev nD) : W6 m ρ c (Proc.devRef .tc main_v0_2) = (gated (aH m c) (aG m c) (aU m c)) :=
  (W6_of m ρ c main_v0_2 (by decide)).trans (w5_main_v0_2 m ρ c)

theorem w6_main_v1 (c : Dev nD) : W6 m ρ c (Proc.devRef .tc main_v1) = down (gated (aH m c) (aG m c) (aU m c)) (aD m c) :=
  (W6_of m ρ c main_v1 (by decide)).trans (w5_main_v1 m ρ c)

theorem w6_main_v2_0 (c : Dev nD) : W6 m ρ c (Proc.devRef .tc main_v2_0) = (through (aCt m c) (aD m c) (savedGate (aH m c) (aG m c) (aU m c))) :=
  (W6_of m ρ c main_v2_0 (by decide)).trans (w5_main_v2_0 m ρ c)

theorem w6_main_v2_1 (c : Dev nD) : W6 m ρ c (Proc.devRef .tc main_v2_1) = (through (aCt m c) (aD m c) (savedUp (aH m c) (aG m c))) :=
  (W6_of m ρ c main_v2_1 (by decide)).trans (w5_main_v2_1 m ρ c)

theorem w6_main_v3 (c : Dev nD) : W6 m ρ c (Proc.devRef .tc main_v3) = outer (gated (aH m c) (aG m c) (aU m c)) (aCt m c) :=
  (W6_of m ρ c main_v3 (by decide)).trans (w5_main_v3 m ρ c)

theorem w6_main_v4 (c : Dev nD) : W6 m ρ c (Proc.devRef .tc main_v4) = down (through (aCt m c) (aD m c) (savedUp (aH m c) (aG m c))) (aU m c) :=
  (W6_of m ρ c main_v4 (by decide)).trans (w5_main_v4 m ρ c)

theorem w7_main_v6 (c : Dev nD) : W7 m ρ c (Proc.devRef .tc main_v6) = outer (through (aCt m c) (aD m c) (savedGate (aH m c) (aG m c) (aU m c))) (aH m c) :=
  (W7_arr m ρ c 2).trans ((final6_2 (V6 m ρ) c).trans
    (congr (congrArg outer (w6_main_v2_0 m ρ c)) (W6_args m ρ c main_arg0 (by decide))))

theorem w7_main_v0_0 (c : Dev nD) : W7 m ρ c (Proc.devRef .tc main_v0_0) = (savedGate (aH m c) (aG m c) (aU m c)) :=
  (W7_of m ρ c main_v0_0 (by decide)).trans (w6_main_v0_0 m ρ c)

theorem w7_main_v0_1 (c : Dev nD) : W7 m ρ c (Proc.devRef .tc main_v0_1) = (savedUp (aH m c) (aG m c)) :=
  (W7_of m ρ c main_v0_1 (by decide)).trans (w6_main_v0_1 m ρ c)

theorem w7_main_v0_2 (c : Dev nD) : W7 m ρ c (Proc.devRef .tc main_v0_2) = (gated (aH m c) (aG m c) (aU m c)) :=
  (W7_of m ρ c main_v0_2 (by decide)).trans (w6_main_v0_2 m ρ c)

theorem w7_main_v1 (c : Dev nD) : W7 m ρ c (Proc.devRef .tc main_v1) = down (gated (aH m c) (aG m c) (aU m c)) (aD m c) :=
  (W7_of m ρ c main_v1 (by decide)).trans (w6_main_v1 m ρ c)

theorem w7_main_v2_0 (c : Dev nD) : W7 m ρ c (Proc.devRef .tc main_v2_0) = (through (aCt m c) (aD m c) (savedGate (aH m c) (aG m c) (aU m c))) :=
  (W7_of m ρ c main_v2_0 (by decide)).trans (w6_main_v2_0 m ρ c)

theorem w7_main_v2_1 (c : Dev nD) : W7 m ρ c (Proc.devRef .tc main_v2_1) = (through (aCt m c) (aD m c) (savedUp (aH m c) (aG m c))) :=
  (W7_of m ρ c main_v2_1 (by decide)).trans (w6_main_v2_1 m ρ c)

theorem w7_main_v3 (c : Dev nD) : W7 m ρ c (Proc.devRef .tc main_v3) = outer (gated (aH m c) (aG m c) (aU m c)) (aCt m c) :=
  (W7_of m ρ c main_v3 (by decide)).trans (w6_main_v3 m ρ c)

theorem w7_main_v4 (c : Dev nD) : W7 m ρ c (Proc.devRef .tc main_v4) = down (through (aCt m c) (aD m c) (savedUp (aH m c) (aG m c))) (aU m c) :=
  (W7_of m ρ c main_v4 (by decide)).trans (w6_main_v4 m ρ c)

theorem w7_main_v5 (c : Dev nD) : W7 m ρ c (Proc.devRef .tc main_v5) = outer (through (aCt m c) (aD m c) (savedUp (aH m c) (aG m c))) (aH m c) :=
  (W7_of m ρ c main_v5 (by decide)).trans (w6_main_v5 m ρ c)

theorem w8_main_v7 (c : Dev nD) : W8 m ρ c (Proc.devRef .tc main_v7) = down (through (aCt m c) (aD m c) (savedGate (aH m c) (aG m c) (aU m c))) (aG m c) :=
  (W8_arr m ρ c 2).trans ((final7_2 (V7 m ρ) c).trans
    (congr (congrArg down (w7_main_v2_0 m ρ c)) (W7_args m ρ c main_arg1 (by decide))))

theorem w8_main_v0_0 (c : Dev nD) : W8 m ρ c (Proc.devRef .tc main_v0_0) = (savedGate (aH m c) (aG m c) (aU m c)) :=
  (W8_of m ρ c main_v0_0 (by decide)).trans (w7_main_v0_0 m ρ c)

theorem w8_main_v0_1 (c : Dev nD) : W8 m ρ c (Proc.devRef .tc main_v0_1) = (savedUp (aH m c) (aG m c)) :=
  (W8_of m ρ c main_v0_1 (by decide)).trans (w7_main_v0_1 m ρ c)

theorem w8_main_v0_2 (c : Dev nD) : W8 m ρ c (Proc.devRef .tc main_v0_2) = (gated (aH m c) (aG m c) (aU m c)) :=
  (W8_of m ρ c main_v0_2 (by decide)).trans (w7_main_v0_2 m ρ c)

theorem w8_main_v1 (c : Dev nD) : W8 m ρ c (Proc.devRef .tc main_v1) = down (gated (aH m c) (aG m c) (aU m c)) (aD m c) :=
  (W8_of m ρ c main_v1 (by decide)).trans (w7_main_v1 m ρ c)

theorem w8_main_v2_0 (c : Dev nD) : W8 m ρ c (Proc.devRef .tc main_v2_0) = (through (aCt m c) (aD m c) (savedGate (aH m c) (aG m c) (aU m c))) :=
  (W8_of m ρ c main_v2_0 (by decide)).trans (w7_main_v2_0 m ρ c)

theorem w8_main_v2_1 (c : Dev nD) : W8 m ρ c (Proc.devRef .tc main_v2_1) = (through (aCt m c) (aD m c) (savedUp (aH m c) (aG m c))) :=
  (W8_of m ρ c main_v2_1 (by decide)).trans (w7_main_v2_1 m ρ c)

theorem w8_main_v3 (c : Dev nD) : W8 m ρ c (Proc.devRef .tc main_v3) = outer (gated (aH m c) (aG m c) (aU m c)) (aCt m c) :=
  (W8_of m ρ c main_v3 (by decide)).trans (w7_main_v3 m ρ c)

theorem w8_main_v4 (c : Dev nD) : W8 m ρ c (Proc.devRef .tc main_v4) = down (through (aCt m c) (aD m c) (savedUp (aH m c) (aG m c))) (aU m c) :=
  (W8_of m ρ c main_v4 (by decide)).trans (w7_main_v4 m ρ c)

theorem w8_main_v5 (c : Dev nD) : W8 m ρ c (Proc.devRef .tc main_v5) = outer (through (aCt m c) (aD m c) (savedUp (aH m c) (aG m c))) (aH m c) :=
  (W8_of m ρ c main_v5 (by decide)).trans (w7_main_v5 m ρ c)

theorem w8_main_v6 (c : Dev nD) : W8 m ρ c (Proc.devRef .tc main_v6) = outer (through (aCt m c) (aD m c) (savedGate (aH m c) (aG m c) (aU m c))) (aH m c) :=
  (W8_of m ρ c main_v6 (by decide)).trans (w7_main_v6 m ρ c)

-- the launch theorem's implicit arguments are found by unifying its conclusion with this one
set_option backward.isDefEq.respectTransparency.types false in
/-- Every run of the program ends with the six results at these functions of the arguments, and the arguments unchanged. -/
theorem run : θ_run defs (onTc (τ := τ) (main (F := Ideal))) ⟨m, fun _ => 0, ρ⟩ (fun r => ∀ c : Dev nD,
      r.2.mem ((c.tc : Thread nD τ).loc main_v1) = down (gated (aH m c) (aG m c) (aU m c)) (aD m c)
      ∧ r.2.mem ((c.tc : Thread nD τ).loc main_v7) = down (through (aCt m c) (aD m c) (savedGate (aH m c) (aG m c) (aU m c))) (aG m c)
      ∧ r.2.mem ((c.tc : Thread nD τ).loc main_v4) = down (through (aCt m c) (aD m c) (savedUp (aH m c) (aG m c))) (aU m c)
      ∧ r.2.mem ((c.tc : Thread nD τ).loc main_v6) = outer (through (aCt m c) (aD m c) (savedGate (aH m c) (aG m c) (aU m c))) (aH m c)
      ∧ r.2.mem ((c.tc : Thread nD τ).loc main_v5) = outer (through (aCt m c) (aD m c) (savedUp (aH m c) (aG m c))) (aH m c)
      ∧ r.2.mem ((c.tc : Thread nD τ).loc main_v3) = outer (gated (aH m c) (aG m c) (aU m c)) (aCt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v1 (by decide))).trans (w8_main_v1 m ρ c),
       (h c _ (mem_uc main_v7 (by decide))).trans (w8_main_v7 m ρ c),
       (h c _ (mem_uc main_v4 (by decide))).trans (w8_main_v4 m ρ c),
       (h c _ (mem_uc main_v6 (by decide))).trans (w8_main_v6 m ρ c),
       (h c _ (mem_uc main_v5 (by decide))).trans (w8_main_v5 m ρ c),
       (h c _ (mem_uc main_v3 (by decide))).trans (w8_main_v3 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Ffn
-- ==== Proof.FfnAlg.lean ====
module

public import proofs.«01_k».proof.Pre_finite
public import proofs.«01_k».proof.Proof.FfnRegions
public import proofs.«01_k».proof.Proof.Gen.ReferenceIdeal.Read
public import Idealize.ShloMosaic.Lib.ReduceAll

/-! # The reference's gradients are the kernel's

The reference differentiates the feed-forward layer; its silu gradient arrives as `ct*s + (x*ct)*(s*(1-s))` where the
kernel has the factored form. The two agree where every operand is a real number. -/

@[expose] public section

set_option maxRecDepth 16384

noncomputable section

namespace Cert.KernelIdeal.Ffn

open Idealize.ShloMosaic
open Cert.KernelIdeal.Gen

/-- Every entry of an array is a real number. -/
def Real' {s : Shape} {φ : FTy} (x : FVec Ideal s φ) : Prop := ∀ i, ∃ r : ℝ, x i = (r : EReal)

/-- An extended real whose absolute value is below infinity is a real number. -/
theorem real_of_lt (x : EReal) (h : max x (-x) < ⊤) : ∃ r : ℝ, x = (r : EReal) := by
  induction x with
  | bot => simp at h
  | top => simp at h
  | coe r => exact ⟨r, rfl⟩

/-- A finite sum of real numbers is a real number. -/
theorem real_sum {ι : Type} (s : Finset ι) (f : ι → EReal) (hf : ∀ i, ∃ r : ℝ, f i = (r : EReal)) : ∃ r : ℝ, ∑ i ∈ s, f i = (r : EReal) := by
  classical
  induction s using Finset.induction_on with
  | empty => exact ⟨0, by simp⟩
  | insert a s ha ih =>
    obtain ⟨r, hr⟩ := ih
    obtain ⟨q, hq⟩ := hf a
    exact ⟨q + r, by rw [Finset.sum_insert ha, hr, hq, EReal.coe_add]⟩

/-- A sum of products of real numbers is a real number. -/
theorem real_up {h : Tok} {w : Wt} (hh : Real' h) (hw : Real' w) (i : Fin 4096) (j : Fin 5632) :
    ∃ r : ℝ, up h w i j = (r : EReal) :=
  real_sum _ _ fun k => by
    obtain ⟨a, ha⟩ := hh (ix2 i k)
    obtain ⟨b, hb⟩ := hw (ix2 j k)
    exact ⟨a * b, by rw [ha, hb, EReal.coe_mul]⟩

/-- The silu gradient in its two forms, at real numbers. -/
theorem silu_grad (c u x : EReal) (hc : ∃ r : ℝ, c = r) (hu : ∃ r : ℝ, u = r) (hx : ∃ r : ℝ, x = r) :
    c * u * Ideal.logistic x + x * (c * u) * (Ideal.logistic x * (1 - Ideal.logistic x))
      = c * (u * (Ideal.logistic x * (1 + x * (1 - Ideal.logistic x)))) := by
  obtain ⟨c, rfl⟩ := hc
  obtain ⟨u, rfl⟩ := hu
  obtain ⟨x, rfl⟩ := hx
  rw [Ideal.logistic_coe]
  norm_cast
  ring

/-- Both words of a conjunction that is one are one. -/
theorem and_one {a b : BitVec 1} (h : IntOp.andi a b = 1#1) : a = 1#1 ∧ b = 1#1 := by
  revert h; revert a b; decide

/-- Every entry of an array whose absolute values are all below infinity is a real number. -/
theorem real_of_all {s t : Shape} [Subsingleton t.Idx] (x : FVec Ideal s .bf16) {axes : List (Fin s.rank)} (hr : s.ReducesTo axes t)
    (hu : 0 < t.numel) (hb : FTy.bits .bf16 < FTy.bits .f32) (b : FVec Ideal s .f32) (hi : ∀ i, b i = ⊤) (j : t.Idx)
    (e : Host.reduce IntOp.andi (cmpf .olt (Host.absf (extf .f32 x hb)) b) (constantI t 1 1#1) hr hu j = 1#1) : Real' x := by
  intro i
  have h : Ideal.cmp .olt (max (x i : EReal) (-(x i))) (b i) = 1#1 := Host.reduce_andi_all _ _ hr hu j e i
  rw [hi] at h
  refine real_of_lt _ ?_
  by_contra hn
  simp [Ideal.cmp, hn] at h

/-- The word of the number one. -/
theorem one_word : Ideal.ofBits .f32 0x3F800000#32 = 1 := by
  simp [Ideal.ofBits, Ideal.ieee]
  norm_cast
  norm_num

/-- The word that the precondition compares with is infinity. -/
theorem inf_word : Ideal.ofBits .f32 0x7F800000#32 = ⊤ := by simp [Ideal.ofBits, Ideal.ieee]

instance : Subsingleton Cert.Pre_finite.S_.Idx := ⟨fun a b => funext fun d => d.elim0⟩

/-- The precondition says every entry of the five arguments is a real number. -/
theorem real_of_pre [Cert.Pre_finite.Facts] (h : Tok) (wg wu wd : Wt) (ct : Tok)
    (hp : Cert.Pre_finite.fn (F := Ideal) h wg wu wd ct = fun _ => 1#1) :
    Real' h ∧ Real' wg ∧ Real' wu ∧ Real' wd ∧ Real' ct := by
  have hp' := congrFun hp (fun a => a.elim0)
  dsimp only [Cert.Pre_finite.fn, Cert.Pre_finite.fn_part1] at hp'
  obtain ⟨h1, a5⟩ := and_one hp'
  obtain ⟨h2, a4⟩ := and_one h1
  obtain ⟨h3, a3⟩ := and_one h2
  obtain ⟨a1, a2⟩ := and_one h3
  exact ⟨real_of_all h _ _ _ _ (fun _ => inf_word) _ a1, real_of_all wg _ _ _ _ (fun _ => inf_word) _ a2,
    real_of_all wu _ _ _ _ (fun _ => inf_word) _ a3, real_of_all wd _ _ _ _ (fun _ => inf_word) _ a4,
    real_of_all ct _ _ _ _ (fun _ => inf_word) _ a5⟩

open Cert.ReferenceIdeal.Read

/-- The reference's pre-activation of the gate. -/
theorem ref_gate (h : Tok) (wg : Wt) (i : S4096x5632.Idx) : val_main_v6 (F := Ideal) h wg i = up h wg (i 0) (i 1) := by
  rw [val_main_v6_apply]
  refine Finset.sum_congr rfl fun k _ => ?_
  rw [val_main_v5_apply]
  exact congrArg₂ (· * ·) (congrArg h (by funext a; fin_cases a <;> rfl)) (congrArg wg (by funext a; fin_cases a <;> rfl))

/-- The reference's up-projection. -/
theorem ref_up (h : Tok) (wu : Wt) (i : S4096x5632.Idx) : val_main_v9 (F := Ideal) h wu i = up h wu (i 0) (i 1) := by
  rw [val_main_v9_apply]
  refine Finset.sum_congr rfl fun k _ => ?_
  rw [val_main_v8_apply]
  exact congrArg₂ (· * ·) (congrArg h (by funext a; fin_cases a <;> rfl)) (congrArg wu (by funext a; fin_cases a <;> rfl))

/-- The cotangent that reaches the gated product. -/
theorem ref_ct (wd : Wt) (ct : Tok) (i : S4096x5632.Idx) : val_main_v14 (F := Ideal) wd ct i = up ct wd (i 0) (i 1) := by
  rw [val_main_v14_apply]
  refine Finset.sum_congr rfl fun k _ => ?_
  exact congrArg₂ (· * ·) (congrArg ct (by funext a; fin_cases a <;> rfl)) (congrArg wd (by funext a; fin_cases a <;> rfl))

/-- The reference's sigmoid of the gate. -/
theorem ref_sig (h : Tok) (wg : Wt) (i : S4096x5632.Idx) : val_main_v7_2 (F := Ideal) h wg i = Ideal.logistic (up h wg (i 0) (i 1)) := by
  rw [← ref_gate]
  show Ideal.div (Ideal.ofBits .f32 0x3F800000#32) (Ideal.ofBits .f32 0x3F800000#32 + Ideal.exp (-(val_main_v6 (F := Ideal) h wg i))) = _
  rw [one_word, Ideal.logistic]

/-- The reference's gated product is the kernel's. -/
theorem ref_gated (h : Tok) (wg wu : Wt) (i : S4096x5632.Idx) : val_main_v10 (F := Ideal) h wg wu i = gated h wg wu i := by
  show val_main_v6 (F := Ideal) h wg i * val_main_v7_2 (F := Ideal) h wg i * val_main_v9 (F := Ideal) h wu i = _
  rw [ref_gate, ref_sig, ref_up, gated]

/-- The reference's gradient at the up-projection is the kernel's. -/
theorem ref_du (h : Tok) (wg wd : Wt) (ct : Tok) (i : S4096x5632.Idx) :
    val_main_v15 (F := Ideal) h wg wd ct i = through ct wd (savedUp h wg) i := by
  show val_main_v6 (F := Ideal) h wg i * val_main_v7_2 (F := Ideal) h wg i * val_main_v14 (F := Ideal) wd ct i = _
  rw [ref_gate, ref_sig, ref_ct, through, savedUp, mul_comm]

/-- The reference's gradient at the gate's pre-activation is the kernel's, at real arguments. -/
theorem ref_dg {h : Tok} {wg wu wd : Wt} {ct : Tok} (rh : Real' h) (rg : Real' wg) (ru : Real' wu) (rd : Real' wd) (rc : Real' ct)
    (i : S4096x5632.Idx) : val_main_v21 (F := Ideal) h wg wu wd ct i = through ct wd (savedGate h wg wu) i := by
  show (val_main_v14 (F := Ideal) wd ct i * val_main_v9 (F := Ideal) h wu i) * val_main_v7_2 (F := Ideal) h wg i
    + (val_main_v6 (F := Ideal) h wg i * (val_main_v14 (F := Ideal) wd ct i * val_main_v9 (F := Ideal) h wu i))
      * (val_main_v7_2 (F := Ideal) h wg i * (Ideal.ofBits .f32 0x3F800000#32 - val_main_v7_2 (F := Ideal) h wg i)) = _
  rw [one_word, ref_gate, ref_sig, ref_ct, ref_up, through, savedGate]
  exact silu_grad _ _ _ (real_up rc rd _ _) (real_up rh ru _ _) (real_up rh rg _ _)

section
variable (h : Tok) (wg wu wd : Wt) (ct : Tok)

/-- Result 1: the layer's output. -/
theorem res_out : val_main_v26 (F := Ideal) h wg wu wd = down (gated h wg wu) wd := by
  funext i
  show val_main_v11 (F := Ideal) h wg wu wd i = _
  rw [val_main_v11_apply]
  refine Finset.sum_congr rfl fun k _ => ?_
  rw [ref_gated]
  exact congrArg₂ (· * ·) (congrArg (gated h wg wu) (by funext a; fin_cases a <;> rfl)) (congrArg wd (by funext a; fin_cases a <;> rfl))

/-- Result 3: the input's gradient through the up-projection. -/
theorem res_dup : val_main_v28 (F := Ideal) h wg wu wd ct = down (through ct wd (savedUp h wg)) wu := by
  funext i
  show val_main_v19 (F := Ideal) h wg wu wd ct i = _
  rw [val_main_v19_apply]
  refine Finset.sum_congr rfl fun k _ => ?_
  rw [ref_du, val_main_v8_apply]
  exact congrArg₂ (· * ·) (congrArg (through ct wd (savedUp h wg)) (by funext a; fin_cases a <;> rfl)) (congrArg wu (by funext a; fin_cases a <;> rfl))

/-- Result 5: the up weight's gradient. -/
theorem res_gup : val_main_v30 (F := Ideal) h wg wd ct = outer (through ct wd (savedUp h wg)) h := by
  funext i
  show val_main_v20 (F := Ideal) h wg wd ct i = _
  rw [val_main_v20_apply, val_main_v18_apply, val_main_v17_apply]
  refine Finset.sum_congr rfl fun k _ => ?_
  rw [ref_du]
  exact congrArg₂ (· * ·) (congrArg (through ct wd (savedUp h wg)) (by funext a; fin_cases a <;> rfl)) (congrArg h (by funext a; fin_cases a <;> rfl))

/-- Result 6: the down weight's gradient. -/
theorem res_gdown : val_main_v31 (F := Ideal) h wg wu ct = outer (gated h wg wu) ct := by
  funext i
  show val_main_v13 (F := Ideal) h wg wu ct i = _
  rw [val_main_v13_apply, val_main_v12_apply]
  refine Finset.sum_congr rfl fun k _ => ?_
  rw [ref_gated, mul_comm]
  exact congrArg₂ (· * ·) (congrArg (gated h wg wu) (by funext a; fin_cases a <;> rfl)) (congrArg ct (by funext a; fin_cases a <;> rfl))

variable {h wg wu wd ct} (rh : Real' h) (rg : Real' wg) (ru : Real' wu) (rd : Real' wd) (rc : Real' ct)
include rh rg ru rd rc

/-- Result 2: the input's gradient through the gate. -/
theorem res_dgate : val_main_v27 (F := Ideal) h wg wu wd ct = down (through ct wd (savedGate h wg wu)) wg := by
  funext i
  show val_main_v24 (F := Ideal) h wg wu wd ct i = _
  rw [val_main_v24_apply]
  refine Finset.sum_congr rfl fun k _ => ?_
  rw [ref_dg rh rg ru rd rc, val_main_v5_apply]
  exact congrArg₂ (· * ·) (congrArg (through ct wd (savedGate h wg wu)) (by funext a; fin_cases a <;> rfl)) (congrArg wg (by funext a; fin_cases a <;> rfl))

/-- Result 4: the gate weight's gradient. -/
theorem res_ggate : val_main_v29 (F := Ideal) h wg wu wd ct = outer (through ct wd (savedGate h wg wu)) h := by
  funext i
  show val_main_v25 (F := Ideal) h wg wu wd ct i = _
  rw [val_main_v25_apply, val_main_v23_apply, val_main_v22_apply]
  refine Finset.sum_congr rfl fun k _ => ?_
  rw [ref_dg rh rg ru rd rc]
  exact congrArg₂ (· * ·) (congrArg (through ct wd (savedGate h wg wu)) (by funext a; fin_cases a <;> rfl)) (congrArg h (by funext a; fin_cases a <;> rfl))

end

end Cert.KernelIdeal.Ffn
-- ==== Proof.FfnClaim.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.FfnRun
public import proofs.«01_k».proof.Proof.FfnAlg
public import Idealize.ShloMosaic.Lib.Quiescent

/-! # The feed-forward layer: the kernel beside its reference -/

@[expose] public section

noncomputable section

namespace Cert.Proof.Ffn

open Idealize.ShloMosaic Idealize.SL.Sem

/-- The shape facts that the precondition's operations take. -/
theorem facts_pre : Cert.Pre_finite.Facts := ⟨by decide, by decide, by decide, by decide, by decide, by decide⟩

/-- The reference's run: the arguments stay, every counter is zero. -/
theorem frame_ref : Cert.quiescent_ReferenceIdeal (hReferenceIdeal := Cert.ReferenceIdeal.Gen.facts) := fun m ρ _ =>
  (θ_run Cert.ReferenceIdeal.defs _ _).mono
    (fun r h => ⟨fun c => (h c).2.2.2.2.2.2, sem_eq_zero_of_no_sems (by decide) r.2⟩) (Cert.ReferenceIdeal.Value.run (F := Ideal) m ρ)

/-- The feed-forward layer, forward and backward: the kernel's six results are the reference's. -/
theorem value : Cert.algebraic_KernelIdeal_ReferenceIdeal_pre_finite (hKernelIdeal := Cert.KernelIdeal.Gen.facts)
    (hReferenceIdeal := Cert.ReferenceIdeal.Gen.facts) (hPre_finite := facts_pre) := by
  intro m ρ m' ρ' hp hag
  haveI := facts_pre
  refine ⟨_, _, _, _, _, _, (θ_run _ _ _).mono (fun r h c => h c) (Cert.KernelIdeal.Ffn.run m ρ),
    (θ_run _ _ _).mono (fun r h c => ?_) (Cert.ReferenceIdeal.Value.run (F := Ideal) m' ρ')⟩
  obtain ⟨a0, a1, a2, a3, a4⟩ := hag c
  obtain ⟨rh, rg, ru, rd, rc⟩ := Cert.KernelIdeal.Ffn.real_of_pre _ _ _ _ _ (hp c)
  obtain ⟨h1, h2, h3, h4, h5, h6, hargs⟩ := h c
  rw [Cert.ReferenceIdeal.Read.val_main_v26_eq, a0, a1, a2, a3] at h1
  rw [Cert.ReferenceIdeal.Read.val_main_v27_eq, a0, a1, a2, a3, a4] at h2
  rw [Cert.ReferenceIdeal.Read.val_main_v28_eq, a0, a1, a2, a3, a4] at h3
  rw [Cert.ReferenceIdeal.Read.val_main_v29_eq, a0, a1, a2, a3, a4] at h4
  rw [Cert.ReferenceIdeal.Read.val_main_v30_eq, a0, a1, a3, a4] at h5
  rw [Cert.ReferenceIdeal.Read.val_main_v31_eq, a0, a1, a2, a4] at h6
  exact ⟨h1.trans (Cert.KernelIdeal.Ffn.res_out _ _ _ _), h2.trans (Cert.KernelIdeal.Ffn.res_dgate rh rg ru rd rc),
    h3.trans (Cert.KernelIdeal.Ffn.res_dup _ _ _ _ _), h4.trans (Cert.KernelIdeal.Ffn.res_ggate rh rg ru rd rc),
    h5.trans (Cert.KernelIdeal.Ffn.res_gup _ _ _ _), h6.trans (Cert.KernelIdeal.Ffn.res_gdown _ _ _ _), hargs⟩

end Cert.Proof.Ffn
-- ==== Proof.DProjFinal.lean ====
module

public import proofs.«01_k».proof.Proof.Gen.Kernel2Ideal.Value
public import Idealize.ShloMosaic.Lib.Pipeline.ValueKit
public import Idealize.ShloMosaic.Lib.Pointwise

/-! # What the call for the gradient at the input of the projection leaves in its result array -/

@[expose] public section

set_option maxRecDepth 16384

noncomputable section

namespace Cert.Kernel2Ideal.DProj

open Idealize.ShloMosaic Idealize.ShloMosaic.TcCoe Idealize.SL.Sem
open Idealize.ShloMosaic.Pipeline (Dat)
open Cert.Kernel2Ideal Cert.Kernel2Ideal.Gen

/-- `dproj @ w.T`, the weight's columns lying in eight shards of 1408. -/
def back (dp : FVec Ideal S4096x11264 .bf16) (w : FVec Ideal S8x2048x1408 .bf16) : FVec Ideal S4096x2048 .bf16 := fun i =>
  ∑ l : Fin 11264, dp (ix2 (i 0) l) * w (ix3 ⟨l.val / 1408, by omega⟩ (i 1) ⟨l.val % 1408, Nat.mod_lt _ (by decide)⟩)

/-- What one step adds: the products with two shards of the weight. -/
theorem part_apply (x : FVec Ideal S512x2816 .bf16) (a b : FVec Ideal S1x2048x1408 .bf16) (i : Fin 512) (j : Fin 2048) :
    k0_pay1 (F := Ideal) x a b (ix2 i j) = (∑ k : Fin 1408, x (ix2 i ⟨k.val, by omega⟩) * a (ix3 0 j k))
      + ∑ k : Fin 1408, x (ix2 i ⟨1408 + k.val, by omega⟩) * b (ix3 0 j k) := by
  pointwise [k0_pay1]

variable (m : (ℓ : Loc nD τ sig) → Buf (Elt Ideal) ℓ)

theorem idx : ∀ t : Fin cfg0.N, win0_0.index t = ![t.val / 4, t.val % 4] ∧ win0_1.index t = ![t.val % 4, 0, 0]
    ∧ win0_2.index t = ![t.val / 4, 0] := (by decide +kernel : ∀ t : Fin grid0.N, _)

/-- The last step writes out what the carried sum has reached. -/
theorem last (c : Dev nD) (t : Fin cfg0.N) (h : t.val % 4 = 3) (i : S512x2048.Idx) :
    (outsAt0 m c t.val t.isLt).1 i = (outsAt0 m c t.val t.isLt).2 i := by
  rw [outsAt0_C m c t (by omega) (by omega) h]
  frame_out
  pointwise [k0_pay4]

/-- What the step at point `t` adds to the carried sum. -/
def part (c : Dev nD) (t : Fin cfg0.N) : S512x2048.Idx → EReal :=
  k0_pay1 (F := Ideal) (iblk m c 0 t)
    (View.ld (iblk m c 1 t) (Rect.unit ![0, 0, 0] ![1, 2048, 1408] inb_S2x2048x1408_S1x2048x1408_0_0_0))
    (View.ld (iblk m c 1 t) (Rect.unit ![1, 0, 0] ![1, 2048, 1408] inb_S2x2048x1408_S1x2048x1408_1_0_0))

/-- The entry of `dproj` times the entry of the weight that meets it, at column `l`. -/
def entry (dp : FVec Ideal S4096x11264 .bf16) (w : FVec Ideal S8x2048x1408 .bf16) (i : Fin 4096) (j : Fin 2048) (l : Fin 11264) : EReal :=
  dp (ix2 i l) * w (ix3 ⟨l.val / 1408, by omega⟩ j ⟨l.val % 1408, Nat.mod_lt _ (by decide)⟩)

theorem pay2_apply (x : FVec Ideal S512x2816 .bf16) (a b : FVec Ideal S1x2048x1408 .bf16) (j : S512x2048.Idx) :
    k0_pay2 (F := Ideal) x a b j = k0_pay1 (F := Ideal) x a b j := by
  pointwise [k0_pay2]

theorem pay3_apply (x : FVec Ideal S512x2816 .bf16) (a b : FVec Ideal S1x2048x1408 .bf16) (acc : FVec Ideal S512x2048 .f32) (j : S512x2048.Idx) :
    k0_pay3 (F := Ideal) x a b acc j = acc j + k0_pay1 (F := Ideal) x a b j := by
  pointwise [k0_pay3]

/-- The entries of the blocks of a point, in the arrays. -/
theorem blk0 (c : Dev nD) (t : Fin cfg0.N) (a : Fin 512) (k : Fin 2816) (i : Fin 4096) (l : Fin 11264)
    (hi : i.val = t.val / 4 * 512 + a.val) (hl : l.val = t.val % 4 * 2816 + k.val) :
    iblk m c 0 t (ix2 a k) = m ((c : Thread nD τ).loc main_arg0) (ix2 i l) := by
  blk_point [iblk, V, idx t]

theorem blk1 (c : Dev nD) (t : Fin cfg0.N) (b : Fin 2048) (k : Fin 1408) (a : Fin 8) (ha : a.val = t.val % 4 * 2) :
    View.ld (iblk m c 1 t) (Rect.unit ![0, 0, 0] ![1, 2048, 1408] inb_S2x2048x1408_S1x2048x1408_0_0_0) (ix3 (0 : Fin 1) b k)
      = m ((c : Thread nD τ).loc main_arg1) (ix3 a b k) := by
  blk_point [iblk, V, idx t]

theorem blk1' (c : Dev nD) (t : Fin cfg0.N) (b : Fin 2048) (k : Fin 1408) (a : Fin 8) (ha : a.val = t.val % 4 * 2 + 1) :
    View.ld (iblk m c 1 t) (Rect.unit ![1, 0, 0] ![1, 2048, 1408] inb_S2x2048x1408_S1x2048x1408_1_0_0) (ix3 (0 : Fin 1) b k)
      = m ((c : Thread nD τ).loc main_arg1) (ix3 a b k) := by
  blk_point [iblk, V, idx t]

/-- The same as a sum over the step's 2816 columns of the whole product. -/
theorem part_eq (c : Dev nD) (t : Fin cfg0.N) (y : S512x2048.Idx) (i : Fin 4096) (j : Fin 2048)
    (hi : i.val = t.val / 4 * 512 + (y 0).val) (hj : j.val = (y 1).val) (s : Fin 4) (hs : t.val % 4 = s.val) :
    part m c t y = ∑ q : Fin 2816, entry (m ((c : Thread nD τ).loc main_arg0)) (m ((c : Thread nD τ).loc main_arg1)) i j ⟨s.val * 2816 + q.val, by omega⟩ := by
  have hy0 : (y 0).val < 512 := (y 0).isLt
  have hy1 : (y 1).val < 2048 := (y 1).isLt
  rw [← Fin.sum_mul_add_fin 2 1408 (fun q : Fin 2816 => entry (m ((c : Thread nD τ).loc main_arg0)) (m ((c : Thread nD τ).loc main_arg1)) i j ⟨s.val * 2816 + q.val, by omega⟩), Fin.sum_univ_two]
  refine (congrArg (part m c t) (eq_ix2 y)).trans ?_
  refine (part_apply _ _ _ (y 0) (y 1)).trans ?_
  refine congrArg₂ (· + ·) (Fin.sum_fin_congr fun k => ?_) (Fin.sum_fin_congr fun k => ?_)
  · have hs4 := s.isLt
    have hk := k.isLt
    refine congrArg₂ (· * ·) (blk0 m c t _ _ i _ hi ?_) ((blk1 m c t _ k ⟨2 * s.val, by omega⟩ ?_).trans ?_)
    · show s.val * 2816 + (0 * 1408 + k.val) = t.val % 4 * 2816 + k.val
      omega
    · show 2 * s.val = _
      omega
    · exact congrArg _ (congr (congrArg₂ ix3 (Fin.ext (by show 2 * s.val = (s.val * 2816 + (0 * 1408 + k.val)) / 1408; omega)) (Fin.ext hj.symm))
        (Fin.ext (by show k.val = (s.val * 2816 + (0 * 1408 + k.val)) % 1408; omega)))
  · have hs4 := s.isLt
    have hk := k.isLt
    refine congrArg₂ (· * ·) (blk0 m c t _ _ i _ hi ?_) ((blk1' m c t _ k ⟨2 * s.val + 1, by omega⟩ ?_).trans ?_)
    · show s.val * 2816 + (1 * 1408 + k.val) = t.val % 4 * 2816 + (1408 + k.val)
      omega
    · show 2 * s.val + 1 = _
      omega
    · exact congrArg _ (congr (congrArg₂ ix3 (Fin.ext (by show 2 * s.val + 1 = (s.val * 2816 + (1 * 1408 + k.val)) / 1408; omega)) (Fin.ext hj.symm))
        (Fin.ext (by show k.val = (s.val * 2816 + (1 * 1408 + k.val)) % 1408; omega)))

theorem final (c : Dev nD) : (dats m 0 c).arrAt 2 cfg0.N = back (m ((c : Thread nD τ).loc main_arg0)) (m ((c : Thread nD τ).loc main_arg1)) := by
  refine (dats m 0 c).arrAt_eq_of_covers 2 _ (by decide +kernel) fun t hf y => ?_
  have hm := (flush0_2 t).mp hf
  blk_simp
  rw [after0_2, last m c t hm]
  rw [Pipeline.eq_sum_fin_of_reset_step_apply_of_flush (fun n h => (outsAt0 m c n h).2) 4 (fun _ => 0) (part m c)
    (fun t h j => by
      rw [outsAt0_A m c t h (by omega) (by omega)]
      frame_out
      rw [zero_add]
      exact pay2_apply _ _ _ j)
    (fun t h j => by
      by_cases h3 : t.val % 4 = 3
      · rw [outsAt0_C m c t h (by omega) h3]
        frame_out
        refine (pay3_apply _ _ _ _ j).trans ?_
        exact congrArg (fun z : S512x2048.Idx → EReal => z j + part m c t j) (Memref.IsWhole.read_unread (Memref.isWhole_whole _) _)
      · rw [outsAt0_B m c t h (by omega) h3]
        frame_out
        refine (pay3_apply _ _ _ _ j).trans ?_
        exact congrArg (fun z : S512x2048.Idx → EReal => z j + part m c t j) (Memref.IsWhole.read_unread (Memref.isWhole_whole _) _))
    t hm _, zero_add]
  refine Eq.trans ?_ (Fin.sum_mul_add_fin 4 2816 (entry (m ((c : Thread nD τ).loc main_arg0)) (m ((c : Thread nD τ).loc main_arg1)) ((win0_2.blk t).view.emb y 0) ((win0_2.blk t).view.emb y 1)))
  refine Fin.sum_fin_congr fun s => part_eq m c _ y _ _ ?_ ?_ s ?_
  · blk_simp [idx t]
    have := s.isLt
    show _ = (4 * (t.val / 4) + s.val) / 4 * 512 + (y 0).val
    omega
  · blk_simp [idx t]
  · show (4 * (t.val / 4) + s.val) % 4 = s.val
    omega

end Cert.Kernel2Ideal.DProj
-- ==== Proof.DProjClaim.lean ====
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.DProjFinal
public import Idealize.ShloMosaic.Lib.Quiescent

/-! # The gradient at the input of the projection: the kernel beside its reference -/

@[expose] public section

noncomputable section

namespace Cert.Proof.DProj

open Idealize.ShloMosaic Idealize.SL.Sem

/-- The reference's run: the arguments stay, every counter is zero. -/
theorem frame_ref : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

/-- The reference's result is the kernel's: the product with the transposed weight. -/
theorem res (x : FVec Ideal Cert.Kernel2Ideal.S4096x11264 .bf16) (w : FVec Ideal Cert.Kernel2Ideal.S8x2048x1408 .bf16) :
    Cert.Reference2Ideal.Read.val_main_v7 (F := Ideal) x w = Cert.Kernel2Ideal.DProj.back x w := by
  funext i
  refine (Cert.Reference2Ideal.Read.val_main_v6_apply x w i).trans (Finset.sum_congr rfl fun k _ => ?_)
  have h0 : (i 1 : Fin 2048).val < 2048 := (i 1 : Fin 2048).isLt
  have hk := k.isLt
  refine congrArg₂ (· * ·) (congrArg x (by funext a; fin_cases a <;> rfl)) ?_
  rw [Cert.Reference2Ideal.Read.val_main_v3_apply, Cert.Reference2Ideal.Read.val_main_v2_apply]
  refine congrArg w (funext fun a => Fin.ext ?_)
  match a with
  | ⟨0, _⟩ => show ((i 1 : Fin 2048).val * 11264 + k.val) / 1408 % 8 = k.val / 1408; omega
  | ⟨1, _⟩ => show ((i 1 : Fin 2048).val * 11264 + k.val) / 11264 = (i 1 : Fin 2048).val; omega
  | ⟨2, _⟩ => show ((i 1 : Fin 2048).val * 11264 + k.val) % 1408 = k.val % 1408; omega

/-- The kernel's result is the reference's. -/
theorem value : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.DProj.back (m ((c.tc : Thread _ _).loc Cert.Kernel2Ideal.main_arg0)) (m ((c.tc : Thread _ _).loc Cert.Kernel2Ideal.main_arg1)),
    (θ_run _ _ _).mono (fun r h c => ?_) (Cert.Kernel2Ideal.Value.run_blocks m ρ),
    (θ_run _ _ _).mono (fun r h c => ?_) (Cert.Reference2Ideal.Value.run (F := Ideal) m' ρ')⟩
  · obtain ⟨h1, hargs⟩ := h c
    exact ⟨h1.trans (Cert.Kernel2Ideal.DProj.final m c), hargs⟩
  · obtain ⟨a0, a1⟩ := hag c
    obtain ⟨h1, hargs⟩ := h c
    rw [Cert.Reference2Ideal.Read.val_main_v7_eq, a0, a1] at h1
    exact ⟨h1.trans (res _ _), hargs⟩

end Cert.Proof.DProj
-- ==== Proof.MixDefs.lean ====
module

public import proofs.«01_k».proof.Proof.Gen.Kernel3Ideal.Frame
public import Idealize.ShloMosaic.Lib.Pipeline.ValueKit
public import Idealize.ShloMosaic.Lib.Pointwise
public import Idealize.ShloMosaic.Lib.WordCmp

/-! # What each of the seven calls of the two mixers' merge leaves in its result arrays

Each theorem is stated at arbitrary contents `V` of the buffers when the call starts, and names the result array as a
function of the call's operand arrays, entry by entry. -/

@[expose] public section

set_option maxRecDepth 16384

noncomputable section

namespace Cert.Kernel3Ideal.Mixer

open Idealize.ShloMosaic Idealize.ShloMosaic.TcCoe Idealize.SL.Sem
open Idealize.ShloMosaic.Pipeline (Dat)
open Cert.Kernel3Ideal Cert.Kernel3Ideal.Gen

/-- A token array of model width, one of a branch's width, the input projection, and the weights. -/
abbrev Tok := FVec Ideal S4096x2048 .bf16
abbrev Branch := FVec Ideal S4096x1024 .bf16
abbrev Proj := FVec Ideal S4096x11264 .f32
abbrev Taps := FVec Ideal S3x1024 .f32
abbrev OutW := FVec Ideal S8x1024x256 .bf16
abbrev MixW := FVec Ideal S2048x2048 .bf16

/-- The input of the convolution: the product of the second and the third group of 1024 columns. -/
def gatedIn (p : Proj) (i : Fin 4096) (j : Fin 1024) : EReal :=
  p (ix2 i ⟨1024 + j.val, by omega⟩) * p (ix2 i ⟨2048 + j.val, by omega⟩)

/-- `u` moved down by `k` rows, with zeros above. -/
def downBy (k : ℕ) (u : Fin 4096 → EReal) (i : Fin 4096) : EReal :=
  if k ≤ i.val then u ⟨(i.val + 4096 - k) % 4096, Nat.mod_lt _ (by decide)⟩ else 0

/-- The causal convolution of width three over the rows of one column. -/
def conv3 (p : Proj) (w : Taps) (i : Fin 4096) (j : Fin 1024) : EReal :=
  w (ix2 0 j) * downBy 2 (fun r => gatedIn p r j) i + w (ix2 1 j) * downBy 1 (fun r => gatedIn p r j) i
    + w (ix2 2 j) * gatedIn p i j

/-- The convolution branch: the first group of 1024 columns times the convolution. -/
def convAt (p : Proj) (w : Taps) (i : Fin 4096) (j : Fin 1024) : EReal := p (ix2 i ⟨j.val, by omega⟩) * conv3 p w i j
def convBranch (p : Proj) (w : Taps) : Branch := fun i => convAt p w (i 0) (i 1)

/-- A branch times its output weight, which lies in eight shards of 256 columns. -/
def proj8 (z : Branch) (w : OutW) (i : Fin 4096) (j : Fin 2048) : EReal :=
  ∑ k : Fin 1024, z (ix2 i k) * w (ix3 ⟨j.val / 256, by omega⟩ k ⟨j.val % 256, Nat.mod_lt _ (by decide)⟩)

/-- The sigmoid of the gate of the first branch (columns from 7168) and of the second (columns from 9216). -/
def gateA (p : Proj) (i : Fin 4096) (j : Fin 2048) : EReal := Ideal.logistic (p (ix2 i ⟨7168 + j.val, by omega⟩))
def gateB (p : Proj) (i : Fin 4096) (j : Fin 2048) : EReal := Ideal.logistic (p (ix2 i ⟨9216 + j.val, by omega⟩))

/-- The merge of the two branches. -/
def merge (za og : Branch) (wa wb : OutW) (p : Proj) : Tok := fun i =>
  gateA p (i 0) (i 1) * proj8 za wa (i 0) (i 1) + gateB p (i 0) (i 1) * proj8 og wb (i 0) (i 1)

/-- The four factors that the merge saves: the two sigmoids, and the two derivatives by the gates. -/
def saveA (p : Proj) : Tok := fun i => gateA p (i 0) (i 1)
def saveB (p : Proj) : Tok := fun i => gateB p (i 0) (i 1)
def slopeA (za : Branch) (wa : OutW) (p : Proj) : Tok := fun i =>
  proj8 za wa (i 0) (i 1) * gateA p (i 0) (i 1) * (1 - gateA p (i 0) (i 1))
def slopeB (og : Branch) (wb : OutW) (p : Proj) : Tok := fun i =>
  proj8 og wb (i 0) (i 1) * gateB p (i 0) (i 1) * (1 - gateB p (i 0) (i 1))

/-- `a @ w`. -/
def mix (a : Tok) (w : MixW) : Tok := fun i => ∑ k : Fin 2048, a (ix2 (i 0) k) * w (ix2 k (i 1))

/-- `ct @ w.T`, times a saved factor. -/
def through (ct : Tok) (w : MixW) (f : Tok) : Tok := fun i =>
  (∑ k : Fin 2048, ct (ix2 (i 0) k) * w (ix2 (i 1) k)) * f i

/-- `a.T @ h`: the gradient of the last weight. -/
def outer (a h : Tok) : MixW := fun i => ∑ k : Fin 4096, a (ix2 k (i 0)) * h (ix2 k (i 1))

/-- `z.T @ dy`: the gradient of a branch's output weight, in its eight shards of columns. -/
def outer8At (z : Branch) (dy : Tok) (s : Fin 8) (i : Fin 1024) (j : Fin 256) : EReal :=
  ∑ k : Fin 4096, z (ix2 k i) * dy (ix2 k ⟨s.val * 256 + j.val, by omega⟩)
def outer8 (z : Branch) (dy : Tok) : OutW := fun i => outer8At z dy (i 0) (i 1) (i 2)

/-- The row comparison of the kernel, on the row's number as a 32-bit word. -/
theorem sel (r : Fin 4096) (k : ℕ) (hk : k < 4096) (a : EReal) :
    Scalar.select (IntOp.cmpi .sge (BitVec.ofNat 32 r.val) (BitVec.ofNat 32 k)) a 0 = if k ≤ r.val then a else 0 := by
  have h : IntOp.cmpi .sge (BitVec.ofNat 32 r.val) (BitVec.ofNat 32 k) = BitVec.ofBool (decide (k ≤ r.val)) := by
    have hr := r.isLt
    exact WordCmp.cmpi_sge_ofNat (by omega) (by omega)
  rw [h]
  by_cases hkr : k ≤ r.val <;> simp [hkr, Scalar.select]

theorem sel1 (r : Fin 4096) (a : EReal) : Scalar.select (IntOp.cmpi .sge (BitVec.ofNat 32 r.val) 1#32) a 0 = if 1 ≤ r.val then a else 0 :=
  sel r 1 (by decide) a

theorem sel2 (r : Fin 4096) (a : EReal) : Scalar.select (IntOp.cmpi .sge (BitVec.ofNat 32 r.val) 2#32) a 0 = if 2 ≤ r.val then a else 0 :=
  sel r 2 (by decide) a

end Cert.Kernel3Ideal.Mixer
-- ==== Proof.MixConv.lean ====
module

public import proofs.«01_k».proof.Proof.MixDefs

/-! # What the convolution call of the two mixers leaves in its result array -/

@[expose] public section

set_option maxRecDepth 16384

noncomputable section

namespace Cert.Kernel3Ideal.Mixer

open Idealize.ShloMosaic Idealize.ShloMosaic.TcCoe Idealize.SL.Sem
open Idealize.ShloMosaic.Pipeline (Dat)
open Cert.Kernel3Ideal Cert.Kernel3Ideal.Gen

variable (V : (c : Dev nD) → (b : Ref sig .tc) → Buf (Elt Ideal) ((c : Thread nD τ).loc b))

/-- Which block of each array the call's windows take at a grid point. -/
theorem idx0 : ∀ t : Fin cfg0.N, win0_0.index t = ![0, t.val] ∧ win0_1.index t = ![0, 8 + t.val] ∧ win0_2.index t = ![0, 16 + t.val] ∧ win0_3.index t = ![0, t.val] ∧ win0_4.index t = ![0, t.val] :=
  (by decide +kernel : ∀ t : Fin grid0.N, _)

/-- The convolution branch. -/
theorem final0_4 (c : Dev nD) : (dat0 V c).arrAt 4 cfg0.N = convBranch (V c (Pipeline.arrRef spec0 0)) (V c (Pipeline.arrRef spec0 3)) := by
  refine (dat0 V c).arrAt_eq_of_covers 4 _ (by decide +kernel) fun t _ y => ?_
  blk_simp
  rw [after0_4]
  frame_out
  pointwise [k0_pay1, sel1, sel2, convBranch, convAt, conv3, downBy, gatedIn]
  blk_point [iblk0, idx0 t]

end Cert.Kernel3Ideal.Mixer
-- ==== Proof.MixRegions.lean ====
module

public import proofs.«01_k».proof.Proof.MixDefs

/-! # What each of the other six calls leaves in its result arrays -/

@[expose] public section

set_option maxRecDepth 16384

noncomputable section

namespace Cert.Kernel3Ideal.Mixer

open Idealize.ShloMosaic Idealize.ShloMosaic.TcCoe Idealize.SL.Sem
open Idealize.ShloMosaic.Pipeline (Dat)
open Cert.Kernel3Ideal Cert.Kernel3Ideal.Gen

variable (V : (c : Dev nD) → (b : Ref sig .tc) → Buf (Elt Ideal) ((c : Thread nD τ).loc b))

/-- Which block of each array the call's windows take at a grid point. -/
theorem idx1 : ∀ t : Fin cfg1.N, win1_0.index t = ![t.val / 8, 0] ∧ win1_1.index t = ![t.val / 8, 0] ∧ win1_2.index t = ![t.val % 8, 0, 0] ∧ win1_3.index t = ![t.val % 8, 0, 0] ∧ win1_4.index t = ![t.val / 8, 28 + t.val % 8] ∧ win1_5.index t = ![t.val / 8, 36 + t.val % 8] ∧ win1_6.index t = ![t.val / 8, t.val % 8] ∧ win1_7.index t = ![t.val / 8, t.val % 8] ∧ win1_8.index t = ![t.val / 8, t.val % 8] ∧ win1_9.index t = ![t.val / 8, t.val % 8] ∧ win1_10.index t = ![t.val / 8, t.val % 8] :=
  (by decide +kernel : ∀ t : Fin grid1.N, _)

/-- The merge of the two branches. -/
theorem final1_6 (c : Dev nD) : (dat1 V c).arrAt 6 cfg1.N = merge (V c (Pipeline.arrRef spec1 0)) (V c (Pipeline.arrRef spec1 1)) (V c (Pipeline.arrRef spec1 2)) (V c (Pipeline.arrRef spec1 3)) (V c (Pipeline.arrRef spec1 4)) := by
  refine (dat1 V c).arrAt_eq_of_covers 6 _ (by decide +kernel) fun t _ y => ?_
  blk_simp
  rw [after1_6]
  frame_out
  pointwise [k1_pay6, k1_pay5, k1_pay4, k1_pay3, k1_pay2, merge, proj8, gateA, gateB]
  blk_point [iblk1, idx1 t]

/-- The sigmoid of the first gate. -/
theorem final1_7 (c : Dev nD) : (dat1 V c).arrAt 7 cfg1.N = saveA (V c (Pipeline.arrRef spec1 4)) := by
  refine (dat1 V c).arrAt_eq_of_covers 7 _ (by decide +kernel) fun t _ y => ?_
  blk_simp
  rw [after1_7]
  frame_out
  pointwise [k1_pay7, k1_pay4, saveA, gateA]
  blk_point [iblk1, idx1 t]

/-- The sigmoid of the second gate. -/
theorem final1_8 (c : Dev nD) : (dat1 V c).arrAt 8 cfg1.N = saveB (V c (Pipeline.arrRef spec1 5)) := by
  refine (dat1 V c).arrAt_eq_of_covers 8 _ (by decide +kernel) fun t _ y => ?_
  blk_simp
  rw [after1_8]
  frame_out
  pointwise [k1_pay8, k1_pay5, saveB, gateB]
  blk_point [iblk1, idx1 t]

/-- The derivative of the merge by the first gate. -/
theorem final1_9 (c : Dev nD) : (dat1 V c).arrAt 9 cfg1.N = slopeA (V c (Pipeline.arrRef spec1 0)) (V c (Pipeline.arrRef spec1 2)) (V c (Pipeline.arrRef spec1 4)) := by
  refine (dat1 V c).arrAt_eq_of_covers 9 _ (by decide +kernel) fun t _ y => ?_
  blk_simp
  rw [after1_9]
  frame_out
  pointwise [k1_pay9, k1_pay4, k1_pay2, slopeA, proj8, gateA]
  blk_point [iblk1, idx1 t]

/-- The derivative of the merge by the second gate. -/
theorem final1_10 (c : Dev nD) : (dat1 V c).arrAt 10 cfg1.N = slopeB (V c (Pipeline.arrRef spec1 1)) (V c (Pipeline.arrRef spec1 3)) (V c (Pipeline.arrRef spec1 5)) := by
  refine (dat1 V c).arrAt_eq_of_covers 10 _ (by decide +kernel) fun t _ y => ?_
  blk_simp
  rw [after1_10]
  frame_out
  pointwise [k1_pay1, k1_pay10, k1_pay5, k1_pay3, slopeB, proj8, gateB]
  blk_point [iblk1, idx1 t]

/-- Which block of each array the call's windows take at a grid point. -/
theorem idx2 : ∀ t : Fin cfg2.N, win2_0.index t = ![t.val % 4, 0] ∧ win2_1.index t = ![0, t.val / 4] ∧ win2_2.index t = ![t.val % 4, t.val / 4] :=
  (by decide +kernel : ∀ t : Fin grid2.N, _)

/-- The product with the last weight. -/
theorem final2_2 (c : Dev nD) : (dat2 V c).arrAt 2 cfg2.N = mix (V c (Pipeline.arrRef spec2 0)) (V c (Pipeline.arrRef spec2 1)) := by
  refine (dat2 V c).arrAt_eq_of_covers 2 _ (by decide +kernel) fun t _ y => ?_
  blk_simp
  rw [after2_2]
  frame_out
  pointwise [k2_pay1, mix]
  blk_point [iblk2, idx2 t]

/-- Which block of each array the call's windows take at a grid point. -/
theorem idx3 : ∀ t : Fin cfg3.N, win3_0.index t = ![t.val % 8, 0] ∧ win3_1.index t = ![t.val / 8, 0] ∧ win3_2.index t = ![t.val % 8, t.val / 8] ∧ win3_3.index t = ![t.val % 8, t.val / 8] ∧ win3_4.index t = ![t.val % 8, t.val / 8] ∧ win3_5.index t = ![t.val % 8, t.val / 8] ∧ win3_6.index t = ![t.val % 8, t.val / 8] ∧ win3_7.index t = ![t.val % 8, t.val / 8] ∧ win3_8.index t = ![t.val % 8, t.val / 8] ∧ win3_9.index t = ![t.val % 8, t.val / 8] :=
  (by decide +kernel : ∀ t : Fin grid3.N, _)

/-- The gradient at the first branch. -/
theorem final3_6 (c : Dev nD) : (dat3 V c).arrAt 6 cfg3.N = through (V c (Pipeline.arrRef spec3 0)) (V c (Pipeline.arrRef spec3 1)) (V c (Pipeline.arrRef spec3 2)) := by
  refine (dat3 V c).arrAt_eq_of_covers 6 _ (by decide +kernel) fun t _ y => ?_
  blk_simp
  rw [after3_6]
  frame_out
  pointwise [k3_pay2, k3_pay1, through]
  blk_point [iblk3, idx3 t]

/-- The gradient at the second branch. -/
theorem final3_7 (c : Dev nD) : (dat3 V c).arrAt 7 cfg3.N = through (V c (Pipeline.arrRef spec3 0)) (V c (Pipeline.arrRef spec3 1)) (V c (Pipeline.arrRef spec3 3)) := by
  refine (dat3 V c).arrAt_eq_of_covers 7 _ (by decide +kernel) fun t _ y => ?_
  blk_simp
  rw [after3_7]
  frame_out
  pointwise [k3_pay3, k3_pay1, through]
  blk_point [iblk3, idx3 t]

/-- The gradient at the first gate. -/
theorem final3_8 (c : Dev nD) : (dat3 V c).arrAt 8 cfg3.N = through (V c (Pipeline.arrRef spec3 0)) (V c (Pipeline.arrRef spec3 1)) (V c (Pipeline.arrRef spec3 4)) := by
  refine (dat3 V c).arrAt_eq_of_covers 8 _ (by decide +kernel) fun t _ y => ?_
  blk_simp
  rw [after3_8]
  frame_out
  pointwise [k3_pay4, k3_pay1, through]
  blk_point [iblk3, idx3 t]

/-- The gradient at the second gate. -/
theorem final3_9 (c : Dev nD) : (dat3 V c).arrAt 9 cfg3.N = through (V c (Pipeline.arrRef spec3 0)) (V c (Pipeline.arrRef spec3 1)) (V c (Pipeline.arrRef spec3 5)) := by
  refine (dat3 V c).arrAt_eq_of_covers 9 _ (by decide +kernel) fun t _ y => ?_
  blk_simp
  rw [after3_9]
  frame_out
  pointwise [k3_pay5, k3_pay1, through]
  blk_point [iblk3, idx3 t]

/-- Which block of each array the call's windows take at a grid point. -/
theorem idx4 : ∀ t : Fin cfg4.N, win4_0.index t = ![0, t.val / 2] ∧ win4_1.index t = ![0, t.val % 2] ∧ win4_2.index t = ![t.val / 2, t.val % 2] :=
  (by decide +kernel : ∀ t : Fin grid4.N, _)

/-- The gradient of the last weight. -/
theorem final4_2 (c : Dev nD) : (dat4 V c).arrAt 2 cfg4.N = outer (V c (Pipeline.arrRef spec4 0)) (V c (Pipeline.arrRef spec4 1)) := by
  refine (dat4 V c).arrAt_eq_of_covers 2 _ (by decide +kernel) fun t _ y => ?_
  blk_simp
  rw [after4_2]
  frame_out
  pointwise [k4_pay1, outer]
  blk_point [iblk4, idx4 t]

/-- Which block of each array the call's windows take at a grid point. -/
theorem idx5 : ∀ t : Fin cfg5.N, win5_0.index t = ![0, 0] ∧ win5_1.index t = ![0, t.val] ∧ win5_2.index t = ![t.val, 0, 0] :=
  (by decide +kernel : ∀ t : Fin grid5.N, _)

/-- The gradient of the first branch's output weight. -/
theorem final5_2 (c : Dev nD) : (dat5 V c).arrAt 2 cfg5.N = outer8 (V c (Pipeline.arrRef spec5 0)) (V c (Pipeline.arrRef spec5 1)) := by
  refine (dat5 V c).arrAt_eq_of_covers 2 _ (by decide +kernel) fun t _ y => ?_
  blk_simp
  rw [after5_2]
  frame_out
  pointwise [k5_pay1, outer8, outer8At]
  blk_point [iblk5, idx5 t]

/-- Which block of each array the call's windows take at a grid point. -/
theorem idx6 : ∀ t : Fin cfg6.N, win6_0.index t = ![0, 0] ∧ win6_1.index t = ![0, t.val] ∧ win6_2.index t = ![t.val, 0, 0] :=
  (by decide +kernel : ∀ t : Fin grid6.N, _)

/-- The gradient of the second branch's output weight. -/
theorem final6_2 (c : Dev nD) : (dat6 V c).arrAt 2 cfg6.N = outer8 (V c (Pipeline.arrRef spec6 0)) (V c (Pipeline.arrRef spec6 1)) := by
  refine (dat6 V c).arrAt_eq_of_covers 2 _ (by decide +kernel) fun t _ y => ?_
  blk_simp
  rw [after6_2]
  frame_out
  pointwise [k6_pay1, outer8, outer8At]
  blk_point [iblk6, idx6 t]

end Cert.Kernel3Ideal.Mixer
-- ==== Proof.MixRun.lean ====
module

public import proofs.«01_k».proof.Proof.MixConv
public import proofs.«01_k».proof.Proof.MixRegions

/-! # The whole program of the two mixers' merge: forward, and every gradient

The contents of the buffers at each boundary between two calls are followed from the launch to the end; the run then
names the six results as functions of the seven arguments. -/

@[expose] public section

set_option maxRecDepth 16384

noncomputable section

namespace Cert.Kernel3Ideal.Mixer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)
open Cert.Kernel3Ideal Cert.Kernel3Ideal.Gen

variable (m : (ℓ : Loc nD τ sig) → Buf (Elt Ideal) ℓ) (ρ : Dev nD → PrngReg)

/-- The arguments as launched: projection, taps, recurrence branch, the three weights, cotangent. -/
abbrev aP (c : Dev nD) : Proj := m ((c : Thread nD τ).loc main_arg0)
abbrev aT (c : Dev nD) : Taps := m ((c : Thread nD τ).loc main_arg1)
abbrev aG (c : Dev nD) : Branch := m ((c : Thread nD τ).loc main_arg2)
abbrev aA (c : Dev nD) : OutW := m ((c : Thread nD τ).loc main_arg3)
abbrev aB (c : Dev nD) : OutW := m ((c : Thread nD τ).loc main_arg4)
abbrev aO (c : Dev nD) : MixW := m ((c : Thread nD τ).loc main_arg5)
abbrev aCt (c : Dev nD) : Tok := m ((c : Thread nD τ).loc main_arg6)

/-! ## What each boundary holds -/
theorem w1_main_v0 (c : Dev nD) : W1 m ρ c (Proc.devRef .tc main_v0) = (convBranch (aP m c) (aT m c)) :=
  (W1_arr m ρ c 4).trans ((final0_4 (V0 m ρ) c).trans
    (congr (congrArg convBranch (W0_args m ρ c main_arg0 (by decide))) (W0_args m ρ c main_arg1 (by decide))))

theorem w2_main_v1_0 (c : Dev nD) : W2 m ρ c (Proc.devRef .tc main_v1_0) = (merge (convBranch (aP m c) (aT m c)) (aG m c) (aA m c) (aB m c) (aP m c)) :=
  (W2_arr m ρ c 6).trans ((final1_6 (V1 m ρ) c).trans
    (congr (congr (congr (congr (congrArg merge (w1_main_v0 m ρ c)) (W1_args m ρ c main_arg2 (by decide))) (W1_args m ρ c main_arg3 (by decide))) (W1_args m ρ c main_arg4 (by decide))) (W1_args m ρ c main_arg0 (by decide))))

theorem w2_main_v1_1 (c : Dev nD) : W2 m ρ c (Proc.devRef .tc main_v1_1) = (saveA (aP m c)) :=
  (W2_arr m ρ c 7).trans ((final1_7 (V1 m ρ) c).trans
    (congrArg saveA (W1_args m ρ c main_arg0 (by decide))))

theorem w2_main_v1_2 (c : Dev nD) : W2 m ρ c (Proc.devRef .tc main_v1_2) = (saveB (aP m c)) :=
  (W2_arr m ρ c 8).trans ((final1_8 (V1 m ρ) c).trans
    (congrArg saveB (W1_args m ρ c main_arg0 (by decide))))

theorem w2_main_v1_3 (c : Dev nD) : W2 m ρ c (Proc.devRef .tc main_v1_3) = (slopeA (convBranch (aP m c) (aT m c)) (aA m c) (aP m c)) :=
  (W2_arr m ρ c 9).trans ((final1_9 (V1 m ρ) c).trans
    (congr (congr (congrArg slopeA (w1_main_v0 m ρ c)) (W1_args m ρ c main_arg3 (by decide))) (W1_args m ρ c main_arg0 (by decide))))

theorem w2_main_v1_4 (c : Dev nD) : W2 m ρ c (Proc.devRef .tc main_v1_4) = (slopeB (aG m c) (aB m c) (aP m c)) :=
  (W2_arr m ρ c 10).trans ((final1_10 (V1 m ρ) c).trans
    (congr (congr (congrArg slopeB (W1_args m ρ c main_arg2 (by decide))) (W1_args m ρ c main_arg4 (by decide))) (W1_args m ρ c main_arg0 (by decide))))

theorem w2_main_v0 (c : Dev nD) : W2 m ρ c (Proc.devRef .tc main_v0) = (convBranch (aP m c) (aT m c)) :=
  (W2_of m ρ c main_v0 (by decide)).trans (w1_main_v0 m ρ c)

theorem w3_main_v2 (c : Dev nD) : W3 m ρ c (Proc.devRef .tc main_v2) = mix (merge (convBranch (aP m c) (aT m c)) (aG m c) (aA m c) (aB m c) (aP m c)) (aO m c) :=
  (W3_arr m ρ c 2).trans ((final2_2 (V2 m ρ) c).trans
    (congr (congrArg mix (w2_main_v1_0 m ρ c)) (W2_args m ρ c main_arg5 (by decide))))

theorem w3_main_v0 (c : Dev nD) : W3 m ρ c (Proc.devRef .tc main_v0) = (convBranch (aP m c) (aT m c)) :=
  (W3_of m ρ c main_v0 (by decide)).trans (w2_main_v0 m ρ c)

theorem w3_main_v1_0 (c : Dev nD) : W3 m ρ c (Proc.devRef .tc main_v1_0) = (merge (convBranch (aP m c) (aT m c)) (aG m c) (aA m c) (aB m c) (aP m c)) :=
  (W3_of m ρ c main_v1_0 (by decide)).trans (w2_main_v1_0 m ρ c)

theorem w3_main_v1_1 (c : Dev nD) : W3 m ρ c (Proc.devRef .tc main_v1_1) = (saveA (aP m c)) :=
  (W3_of m ρ c main_v1_1 (by decide)).trans (w2_main_v1_1 m ρ c)

theorem w3_main_v1_2 (c : Dev nD) : W3 m ρ c (Proc.devRef .tc main_v1_2) = (saveB (aP m c)) :=
  (W3_of m ρ c main_v1_2 (by decide)).trans (w2_main_v1_2 m ρ c)

theorem w3_main_v1_3 (c : Dev nD) : W3 m ρ c (Proc.devRef .tc main_v1_3) = (slopeA (convBranch (aP m c) (aT m c)) (aA m c) (aP m c)) :=
  (W3_of m ρ c main_v1_3 (by decide)).trans (w2_main_v1_3 m ρ c)

theorem w3_main_v1_4 (c : Dev nD) : W3 m ρ c (Proc.devRef .tc main_v1_4) = (slopeB (aG m c) (aB m c) (aP m c)) :=
  (W3_of m ρ c main_v1_4 (by decide)).trans (w2_main_v1_4 m ρ c)

theorem w4_main_v3_0 (c : Dev nD) : W4 m ρ c (Proc.devRef .tc main_v3_0) = (through (aCt m c) (aO m c) (saveA (aP m c))) :=
  (W4_arr m ρ c 6).trans ((final3_6 (V3 m ρ) c).trans
    (congr (congr (congrArg through (W3_args m ρ c main_arg6 (by decide))) (W3_args m ρ c main_arg5 (by decide))) (w3_main_v1_1 m ρ c)))

theorem w4_main_v3_1 (c : Dev nD) : W4 m ρ c (Proc.devRef .tc main_v3_1) = (through (aCt m c) (aO m c) (saveB (aP m c))) :=
  (W4_arr m ρ c 7).trans ((final3_7 (V3 m ρ) c).trans
    (congr (congr (congrArg through (W3_args m ρ c main_arg6 (by decide))) (W3_args m ρ c main_arg5 (by decide))) (w3_main_v1_2 m ρ c)))

theorem w4_main_v3_2 (c : Dev nD) : W4 m ρ c (Proc.devRef .tc main_v3_2) = (through (aCt m c) (aO m c) (slopeA (convBranch (aP m c) (aT m c)) (aA m c) (aP m c))) :=
  (W4_arr m ρ c 8).trans ((final3_8 (V3 m ρ) c).trans
    (congr (congr (congrArg through (W3_args m ρ c main_arg6 (by decide))) (W3_args m ρ c main_arg5 (by decide))) (w3_main_v1_3 m ρ c)))

theorem w4_main_v3_3 (c : Dev nD) : W4 m ρ c (Proc.devRef .tc main_v3_3) = (through (aCt m c) (aO m c) (slopeB (aG m c) (aB m c) (aP m c))) :=
  (W4_arr m ρ c 9).trans ((final3_9 (V3 m ρ) c).trans
    (congr (congr (congrArg through (W3_args m ρ c main_arg6 (by decide))) (W3_args m ρ c main_arg5 (by decide))) (w3_main_v1_4 m ρ c)))

theorem w4_main_v0 (c : Dev nD) : W4 m ρ c (Proc.devRef .tc main_v0) = (convBranch (aP m c) (aT m c)) :=
  (W4_of m ρ c main_v0 (by decide)).trans (w3_main_v0 m ρ c)

theorem w4_main_v1_0 (c : Dev nD) : W4 m ρ c (Proc.devRef .tc main_v1_0) = (merge (convBranch (aP m c) (aT m c)) (aG m c) (aA m c) (aB m c) (aP m c)) :=
  (W4_of m ρ c main_v1_0 (by decide)).trans (w3_main_v1_0 m ρ c)

theorem w4_main_v1_1 (c : Dev nD) : W4 m ρ c (Proc.devRef .tc main_v1_1) = (saveA (aP m c)) :=
  (W4_of m ρ c main_v1_1 (by decide)).trans (w3_main_v1_1 m ρ c)

theorem w4_main_v1_2 (c : Dev nD) : W4 m ρ c (Proc.devRef .tc main_v1_2) = (saveB (aP m c)) :=
  (W4_of m ρ c main_v1_2 (by decide)).trans (w3_main_v1_2 m ρ c)

theorem w4_main_v1_3 (c : Dev nD) : W4 m ρ c (Proc.devRef .tc main_v1_3) = (slopeA (convBranch (aP m c) (aT m c)) (aA m c) (aP m c)) :=
  (W4_of m ρ c main_v1_3 (by decide)).trans (w3_main_v1_3 m ρ c)

theorem w4_main_v1_4 (c : Dev nD) : W4 m ρ c (Proc.devRef .tc main_v1_4) = (slopeB (aG m c) (aB m c) (aP m c)) :=
  (W4_of m ρ c main_v1_4 (by decide)).trans (w3_main_v1_4 m ρ c)

theorem w4_main_v2 (c : Dev nD) : W4 m ρ c (Proc.devRef .tc main_v2) = mix (merge (convBranch (aP m c) (aT m c)) (aG m c) (aA m c) (aB m c) (aP m c)) (aO m c) :=
  (W4_of m ρ c main_v2 (by decide)).trans (w3_main_v2 m ρ c)

theorem w5_main_v4 (c : Dev nD) : W5 m ρ c (Proc.devRef .tc main_v4) = outer (merge (convBranch (aP m c) (aT m c)) (aG m c) (aA m c) (aB m c) (aP m c)) (aCt m c) :=
  (W5_arr m ρ c 2).trans ((final4_2 (V4 m ρ) c).trans
    (congr (congrArg outer (w4_main_v1_0 m ρ c)) (W4_args m ρ c main_arg6 (by decide))))

theorem w5_main_v0 (c : Dev nD) : W5 m ρ c (Proc.devRef .tc main_v0) = (convBranch (aP m c) (aT m c)) :=
  (W5_of m ρ c main_v0 (by decide)).trans (w4_main_v0 m ρ c)

theorem w5_main_v1_0 (c : Dev nD) : W5 m ρ c (Proc.devRef .tc main_v1_0) = (merge (convBranch (aP m c) (aT m c)) (aG m c) (aA m c) (aB m c) (aP m c)) :=
  (W5_of m ρ c main_v1_0 (by decide)).trans (w4_main_v1_0 m ρ c)

theorem w5_main_v1_1 (c : Dev nD) : W5 m ρ c (Proc.devRef .tc main_v1_1) = (saveA (aP m c)) :=
  (W5_of m ρ c main_v1_1 (by decide)).trans (w4_main_v1_1 m ρ c)

theorem w5_main_v1_2 (c : Dev nD) : W5 m ρ c (Proc.devRef .tc main_v1_2) = (saveB (aP m c)) :=
  (W5_of m ρ c main_v1_2 (by decide)).trans (w4_main_v1_2 m ρ c)

theorem w5_main_v1_3 (c : Dev nD) : W5 m ρ c (Proc.devRef .tc main_v1_3) = (slopeA (convBranch (aP m c) (aT m c)) (aA m c) (aP m c)) :=
  (W5_of m ρ c main_v1_3 (by decide)).trans (w4_main_v1_3 m ρ c)

theorem w5_main_v1_4 (c : Dev nD) : W5 m ρ c (Proc.devRef .tc main_v1_4) = (slopeB (aG m c) (aB m c) (aP m c)) :=
  (W5_of m ρ c main_v1_4 (by decide)).trans (w4_main_v1_4 m ρ c)

theorem w5_main_v2 (c : Dev nD) : W5 m ρ c (Proc.devRef .tc main_v2) = mix (merge (convBranch (aP m c) (aT m c)) (aG m c) (aA m c) (aB m c) (aP m c)) (aO m c) :=
  (W5_of m ρ c main_v2 (by decide)).trans (w4_main_v2 m ρ c)

theorem w5_main_v3_0 (c : Dev nD) : W5 m ρ c (Proc.devRef .tc main_v3_0) = (through (aCt m c) (aO m c) (saveA (aP m c))) :=
  (W5_of m ρ c main_v3_0 (by decide)).trans (w4_main_v3_0 m ρ c)

theorem w5_main_v3_1 (c : Dev nD) : W5 m ρ c (Proc.devRef .tc main_v3_1) = (through (aCt m c) (aO m c) (saveB (aP m c))) :=
  (W5_of m ρ c main_v3_1 (by decide)).trans (w4_main_v3_1 m ρ c)

theorem w5_main_v3_2 (c : Dev nD) : W5 m ρ c (Proc.devRef .tc main_v3_2) = (through (aCt m c) (aO m c) (slopeA (convBranch (aP m c) (aT m c)) (aA m c) (aP m c))) :=
  (W5_of m ρ c main_v3_2 (by decide)).trans (w4_main_v3_2 m ρ c)

theorem w5_main_v3_3 (c : Dev nD) : W5 m ρ c (Proc.devRef .tc main_v3_3) = (through (aCt m c) (aO m c) (slopeB (aG m c) (aB m c) (aP m c))) :=
  (W5_of m ρ c main_v3_3 (by decide)).trans (w4_main_v3_3 m ρ c)

theorem w6_main_v5 (c : Dev nD) : W6 m ρ c (Proc.devRef .tc main_v5) = outer8 (convBranch (aP m c) (aT m c)) (through (aCt m c) (aO m c) (saveA (aP m c))) :=
  (W6_arr m ρ c 2).trans ((final5_2 (V5 m ρ) c).trans
    (congr (congrArg outer8 (w5_main_v0 m ρ c)) (w5_main_v3_0 m ρ c)))

theorem w6_main_v0 (c : Dev nD) : W6 m ρ c (Proc.devRef .tc main_v0) = (convBranch (aP m c) (aT m c)) :=
  (W6_of m ρ c main_v0 (by decide)).trans (w5_main_v0 m ρ c)

theorem w6_main_v1_0 (c : Dev nD) : W6 m ρ c (Proc.devRef .tc main_v1_0) = (merge (convBranch (aP m c) (aT m c)) (aG m c) (aA m c) (aB m c) (aP m c)) :=
  (W6_of m ρ c main_v1_0 (by decide)).trans (w5_main_v1_0 m ρ c)

theorem w6_main_v1_1 (c : Dev nD) : W6 m ρ c (Proc.devRef .tc main_v1_1) = (saveA (aP m c)) :=
  (W6_of m ρ c main_v1_1 (by decide)).trans (w5_main_v1_1 m ρ c)

theorem w6_main_v1_2 (c : Dev nD) : W6 m ρ c (Proc.devRef .tc main_v1_2) = (saveB (aP m c)) :=
  (W6_of m ρ c main_v1_2 (by decide)).trans (w5_main_v1_2 m ρ c)

theorem w6_main_v1_3 (c : Dev nD) : W6 m ρ c (Proc.devRef .tc main_v1_3) = (slopeA (convBranch (aP m c) (aT m c)) (aA m c) (aP m c)) :=
  (W6_of m ρ c main_v1_3 (by decide)).trans (w5_main_v1_3 m ρ c)

theorem w6_main_v1_4 (c : Dev nD) : W6 m ρ c (Proc.devRef .tc main_v1_4) = (slopeB (aG m c) (aB m c) (aP m c)) :=
  (W6_of m ρ c main_v1_4 (by decide)).trans (w5_main_v1_4 m ρ c)

theorem w6_main_v2 (c : Dev nD) : W6 m ρ c (Proc.devRef .tc main_v2) = mix (merge (convBranch (aP m c) (aT m c)) (aG m c) (aA m c) (aB m c) (aP m c)) (aO m c) :=
  (W6_of m ρ c main_v2 (by decide)).trans (w5_main_v2 m ρ c)

theorem w6_main_v3_0 (c : Dev nD) : W6 m ρ c (Proc.devRef .tc main_v3_0) = (through (aCt m c) (aO m c) (saveA (aP m c))) :=
  (W6_of m ρ c main_v3_0 (by decide)).trans (w5_main_v3_0 m ρ c)

theorem w6_main_v3_1 (c : Dev nD) : W6 m ρ c (Proc.devRef .tc main_v3_1) = (through (aCt m c) (aO m c) (saveB (aP m c))) :=
  (W6_of m ρ c main_v3_1 (by decide)).trans (w5_main_v3_1 m ρ c)

theorem w6_main_v3_2 (c : Dev nD) : W6 m ρ c (Proc.devRef .tc main_v3_2) = (through (aCt m c) (aO m c) (slopeA (convBranch (aP m c) (aT m c)) (aA m c) (aP m c))) :=
  (W6_of m ρ c main_v3_2 (by decide)).trans (w5_main_v3_2 m ρ c)

theorem w6_main_v3_3 (c : Dev nD) : W6 m ρ c (Proc.devRef .tc main_v3_3) = (through (aCt m c) (aO m c) (slopeB (aG m c) (aB m c) (aP m c))) :=
  (W6_of m ρ c main_v3_3 (by decide)).trans (w5_main_v3_3 m ρ c)

theorem w6_main_v4 (c : Dev nD) : W6 m ρ c (Proc.devRef .tc main_v4) = outer (merge (convBranch (aP m c) (aT m c)) (aG m c) (aA m c) (aB m c) (aP m c)) (aCt m c) :=
  (W6_of m ρ c main_v4 (by decide)).trans (w5_main_v4 m ρ c)

theorem w7_main_v6 (c : Dev nD) : W7 m ρ c (Proc.devRef .tc main_v6) = outer8 (aG m c) (through (aCt m c) (aO m c) (saveB (aP m c))) :=
  (W7_arr m ρ c 2).trans ((final6_2 (V6 m ρ) c).trans
    (congr (congrArg outer8 (W6_args m ρ c main_arg2 (by decide))) (w6_main_v3_1 m ρ c)))

theorem w7_main_v0 (c : Dev nD) : W7 m ρ c (Proc.devRef .tc main_v0) = (convBranch (aP m c) (aT m c)) :=
  (W7_of m ρ c main_v0 (by decide)).trans (w6_main_v0 m ρ c)

theorem w7_main_v1_0 (c : Dev nD) : W7 m ρ c (Proc.devRef .tc main_v1_0) = (merge (convBranch (aP m c) (aT m c)) (aG m c) (aA m c) (aB m c) (aP m c)) :=
  (W7_of m ρ c main_v1_0 (by decide)).trans (w6_main_v1_0 m ρ c)

theorem w7_main_v1_1 (c : Dev nD) : W7 m ρ c (Proc.devRef .tc main_v1_1) = (saveA (aP m c)) :=
  (W7_of m ρ c main_v1_1 (by decide)).trans (w6_main_v1_1 m ρ c)

theorem w7_main_v1_2 (c : Dev nD) : W7 m ρ c (Proc.devRef .tc main_v1_2) = (saveB (aP m c)) :=
  (W7_of m ρ c main_v1_2 (by decide)).trans (w6_main_v1_2 m ρ c)

theorem w7_main_v1_3 (c : Dev nD) : W7 m ρ c (Proc.devRef .tc main_v1_3) = (slopeA (convBranch (aP m c) (aT m c)) (aA m c) (aP m c)) :=
  (W7_of m ρ c main_v1_3 (by decide)).trans (w6_main_v1_3 m ρ c)

theorem w7_main_v1_4 (c : Dev nD) : W7 m ρ c (Proc.devRef .tc main_v1_4) = (slopeB (aG m c) (aB m c) (aP m c)) :=
  (W7_of m ρ c main_v1_4 (by decide)).trans (w6_main_v1_4 m ρ c)

theorem w7_main_v2 (c : Dev nD) : W7 m ρ c (Proc.devRef .tc main_v2) = mix (merge (convBranch (aP m c) (aT m c)) (aG m c) (aA m c) (aB m c) (aP m c)) (aO m c) :=
  (W7_of m ρ c main_v2 (by decide)).trans (w6_main_v2 m ρ c)

theorem w7_main_v3_0 (c : Dev nD) : W7 m ρ c (Proc.devRef .tc main_v3_0) = (through (aCt m c) (aO m c) (saveA (aP m c))) :=
  (W7_of m ρ c main_v3_0 (by decide)).trans (w6_main_v3_0 m ρ c)

theorem w7_main_v3_1 (c : Dev nD) : W7 m ρ c (Proc.devRef .tc main_v3_1) = (through (aCt m c) (aO m c) (saveB (aP m c))) :=
  (W7_of m ρ c main_v3_1 (by decide)).trans (w6_main_v3_1 m ρ c)

theorem w7_main_v3_2 (c : Dev nD) : W7 m ρ c (Proc.devRef .tc main_v3_2) = (through (aCt m c) (aO m c) (slopeA (convBranch (aP m c) (aT m c)) (aA m c) (aP m c))) :=
  (W7_of m ρ c main_v3_2 (by decide)).trans (w6_main_v3_2 m ρ c)

theorem w7_main_v3_3 (c : Dev nD) : W7 m ρ c (Proc.devRef .tc main_v3_3) = (through (aCt m c) (aO m c) (slopeB (aG m c) (aB m c) (aP m c))) :=
  (W7_of m ρ c main_v3_3 (by decide)).trans (w6_main_v3_3 m ρ c)

theorem w7_main_v4 (c : Dev nD) : W7 m ρ c (Proc.devRef .tc main_v4) = outer (merge (convBranch (aP m c) (aT m c)) (aG m c) (aA m c) (aB m c) (aP m c)) (aCt m c) :=
  (W7_of m ρ c main_v4 (by decide)).trans (w6_main_v4 m ρ c)

theorem w7_main_v5 (c : Dev nD) : W7 m ρ c (Proc.devRef .tc main_v5) = outer8 (convBranch (aP m c) (aT m c)) (through (aCt m c) (aO m c) (saveA (aP m c))) :=
  (W7_of m ρ c main_v5 (by decide)).trans (w6_main_v5 m ρ c)

-- the launch theorem's implicit arguments are found by unifying its conclusion with this one
set_option backward.isDefEq.respectTransparency.types false in
/-- Every run of the program ends with the six results at these functions of the arguments, and the arguments unchanged. -/
theorem run : θ_run defs (onTc (τ := τ) (main (F := Ideal))) ⟨m, fun _ => 0, ρ⟩ (fun r => ∀ c : Dev nD,
      r.2.mem ((c.tc : Thread nD τ).loc main_v2) = mix (merge (convBranch (aP m c) (aT m c)) (aG m c) (aA m c) (aB m c) (aP m c)) (aO m c)
      ∧ r.2.mem ((c.tc : Thread nD τ).loc main_v3_2) = (through (aCt m c) (aO m c) (slopeA (convBranch (aP m c) (aT m c)) (aA m c) (aP m c)))
      ∧ r.2.mem ((c.tc : Thread nD τ).loc main_v3_3) = (through (aCt m c) (aO m c) (slopeB (aG m c) (aB m c) (aP m c)))
      ∧ r.2.mem ((c.tc : Thread nD τ).loc main_v5) = outer8 (convBranch (aP m c) (aT m c)) (through (aCt m c) (aO m c) (saveA (aP m c)))
      ∧ r.2.mem ((c.tc : Thread nD τ).loc main_v6) = outer8 (aG m c) (through (aCt m c) (aO m c) (saveB (aP m c)))
      ∧ r.2.mem ((c.tc : Thread nD τ).loc main_v4) = outer (merge (convBranch (aP m c) (aT m c)) (aG m c) (aA m c) (aB m c) (aP m c)) (aCt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨(h c _ (mem_uc main_v2 (by decide))).trans (w7_main_v2 m ρ c),
       (h c _ (mem_uc main_v3_2 (by decide))).trans (w7_main_v3_2 m ρ c),
       (h c _ (mem_uc main_v3_3 (by decide))).trans (w7_main_v3_3 m ρ c),
       (h c _ (mem_uc main_v5 (by decide))).trans (w7_main_v5 m ρ c),
       (h c _ (mem_uc main_v6 (by decide))).trans (w7_main_v6 m ρ c),
       (h c _ (mem_uc main_v4 (by decide))).trans (w7_main_v4 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.Kernel3Ideal.Mixer
-- ==== Proof.MixAlg.lean ====
module

public import proofs.«01_k».proof.Proof.MixDefs
public import proofs.«01_k».proof.Proof.Gen.Reference3Ideal.Read

/-! # The reference's merge of the two mixers, and its gradients, are the kernel's -/

@[expose] public section

set_option maxRecDepth 16384

noncomputable section

namespace Cert.Kernel3Ideal.Mixer

open Idealize.ShloMosaic
open Cert.Kernel3Ideal.Gen
open Cert.Reference3Ideal Cert.Reference3Ideal.Read

variable (p : Proj) (t : Taps) (og : Branch) (wa wb : OutW) (w : MixW) (ct : Tok)

/-- The word of the float 1, and of the float 0. -/
theorem one_word : Ideal.ofBits .f32 0x3F800000#32 = 1 := Ideal.ofBits_one_f32
theorem zero_word : Ideal.ofBits .f32 0x00000000#32 = 0 := Ideal.ofBits_zero .f32

/-- The convolution's input in the reference. -/
theorem ref_gatedIn (i : S4096x1024.Idx) : val_main_v11 (F := Ideal) p i = gatedIn p (i 0) (i 1) := by
  show val_main_v6 (F := Ideal) p i * val_main_v7 (F := Ideal) p i = _
  rw [val_main_v6_apply, val_main_v7_apply]
  exact congrArg₂ (· * ·) (congrArg p (by funext a; fin_cases a <;> rfl)) (congrArg p (by funext a; fin_cases a <;> rfl))

/-- The reference's input with two rows of zeros above. -/
theorem ref_pad (i : S4098x1024.Idx) : val_main_v13 (F := Ideal) p i
    = if h : 2 ≤ (i 0).val then gatedIn p ⟨(i 0).val - 2, Nat.sub_lt_right_of_lt_add h (i 0).isLt⟩ (i 1) else 0 := by
  unfold val_main_v13
  pointwise
  split
  · rename_i h
    rw [dif_neg (by omega)]
    exact zero_word
  · rename_i h
    rw [dif_pos (by omega), ref_gatedIn]
    rfl

/-- A row of the padded input, `k` rows above the reach of the convolution, is the input moved down by `2 - k` rows. -/
theorem pad_row (k : ℕ) (hk : k ≤ 2) (i : Fin 4096) (j : Fin 1024) (b : S4098x1024.Idx) (h0 : (b 0).val = i.val + k) (h1 : b 1 = j) :
    val_main_v13 (F := Ideal) p b = downBy (2 - k) (fun r => gatedIn p r j) i := by
  rw [ref_pad, downBy]
  have hi := i.isLt
  by_cases h : 2 - k ≤ i.val
  · rw [dif_pos (by omega), if_pos h, h1]
    refine congrArg (fun r => gatedIn p r j) (Fin.ext ?_)
    show (b 0).val - 2 = (i.val + 4096 - (2 - k)) % 4096
    omega
  · rw [dif_neg (by omega), if_neg h]

/-- The three taps in the reference, spread over the rows. -/
theorem ref_tap0 (i : S4096x1024.Idx) : val_main_v18 (F := Ideal) t i = t (ix2 0 (i 1)) := by
  rw [val_main_v18_apply, val_main_v17_apply, val_main_v15_apply, val_main_v14_apply]
  refine congrArg t (funext fun a => Fin.ext ?_)
  have h1 : (i 1).val < 1024 := (i 1).isLt
  match a with
  | ⟨0, _⟩ => rfl
  | ⟨1, _⟩ => show (i 1).val % 1024 = (i 1).val; omega

theorem ref_tap1 (i : S4096x1024.Idx) : val_main_v24 (F := Ideal) t i = t (ix2 1 (i 1)) := by
  rw [val_main_v24_apply, val_main_v23_apply, val_main_v21_apply, val_main_v20_apply]
  refine congrArg t (funext fun a => Fin.ext ?_)
  have h1 : (i 1).val < 1024 := (i 1).isLt
  match a with
  | ⟨0, _⟩ => rfl
  | ⟨1, _⟩ => show (i 1).val % 1024 = (i 1).val; omega

theorem ref_tap2 (i : S4096x1024.Idx) : val_main_v31 (F := Ideal) t i = t (ix2 2 (i 1)) := by
  rw [val_main_v31_apply, val_main_v30_apply, val_main_v28_apply, val_main_v27_apply]
  refine congrArg t (funext fun a => Fin.ext ?_)
  have h1 : (i 1).val < 1024 := (i 1).isLt
  match a with
  | ⟨0, _⟩ => rfl
  | ⟨1, _⟩ => show (i 1).val % 1024 = (i 1).val; omega

/-- The reference's convolution branch is the kernel's. -/
theorem ref_branch : val_main_v34 (F := Ideal) p t = convBranch p t := by
  funext i
  show val_main_v5 (F := Ideal) p i * (val_main_v18 (F := Ideal) t i * val_main_v16 (F := Ideal) p i
    + val_main_v24 (F := Ideal) t i * val_main_v22 (F := Ideal) p i + val_main_v31 (F := Ideal) t i * val_main_v29 (F := Ideal) p i) = _
  rw [ref_tap0, ref_tap1, ref_tap2, val_main_v16_apply, val_main_v22_apply, val_main_v29_apply, val_main_v5_apply,
    pad_row p 0 (by decide) (i 0) (i 1) (idx_main_v16 i) rfl rfl,
    pad_row p 1 (by decide) (i 0) (i 1) (idx_main_v22 i) (Nat.add_comm 1 _) rfl,
    pad_row p 2 (by decide) (i 0) (i 1) (idx_main_v29 i) (Nat.add_comm 2 _) rfl]
  have h0 : downBy (2 - 2) (fun r => gatedIn p r (i 1)) (i 0) = gatedIn p (i 0) (i 1) := by
    unfold downBy
    rw [if_pos (Nat.zero_le _)]
    have hi : (i 0).val < 4096 := (i 0).isLt
    exact congrArg (fun r => gatedIn p r (i 1)) (Fin.ext (by show ((i 0).val + 4096 - 0) % 4096 = (i 0).val; omega))
  rw [h0]
  exact congrArg (· * conv3 p t (i 0) (i 1)) (congrArg p (by funext a; fin_cases a <;> rfl))

/-- A branch through its output weight. -/
theorem ref_proj_a (i : S4096x2048.Idx) : val_main_v37 (F := Ideal) p t wa i = proj8 (convBranch p t) wa (i 0) (i 1) := by
  rw [val_main_v37_apply]
  refine Finset.sum_congr rfl fun k _ => ?_
  rw [ref_branch]
  refine congrArg₂ (· * ·) (congrArg (convBranch p t) (by funext a; fin_cases a <;> rfl)) ?_
  rw [val_main_v36_apply, val_main_v35_apply]
  refine congrArg wa (funext fun a => Fin.ext ?_)
  have h1 : (i 1).val < 2048 := (i 1).isLt
  have hk := k.isLt
  match a with
  | ⟨0, _⟩ => show (k.val * 2048 + (i 1).val) / 256 % 8 = (i 1).val / 256; omega
  | ⟨1, _⟩ => show (k.val * 2048 + (i 1).val) / 2048 = k.val; omega
  | ⟨2, _⟩ => show (k.val * 2048 + (i 1).val) % 256 = (i 1).val % 256; omega

theorem ref_proj_b (i : S4096x2048.Idx) : val_main_v40 (F := Ideal) og wb i = proj8 og wb (i 0) (i 1) := by
  rw [val_main_v40_apply]
  refine Finset.sum_congr rfl fun k _ => ?_
  refine congrArg₂ (· * ·) (congrArg og (by funext a; fin_cases a <;> rfl)) ?_
  rw [val_main_v39_apply, val_main_v38_apply]
  refine congrArg wb (funext fun a => Fin.ext ?_)
  have h1 : (i 1).val < 2048 := (i 1).isLt
  have hk := k.isLt
  match a with
  | ⟨0, _⟩ => show (k.val * 2048 + (i 1).val) / 256 % 8 = (i 1).val / 256; omega
  | ⟨1, _⟩ => show (k.val * 2048 + (i 1).val) / 2048 = k.val; omega
  | ⟨2, _⟩ => show (k.val * 2048 + (i 1).val) % 256 = (i 1).val % 256; omega

/-- The two sigmoids. -/
theorem ref_gate_a (i : S4096x2048.Idx) : val_main_v46 (F := Ideal) p i = gateA p (i 0) (i 1) := by
  show Ideal.div (Ideal.ofBits .f32 0x3F800000#32) (Ideal.ofBits .f32 0x3F800000#32 + Ideal.exp (-(val_main_v9 (F := Ideal) p i))) = _
  rw [one_word, val_main_v9_apply]
  exact congrArg (fun y => Ideal.logistic (p y)) (show idx_main_v9 i = _ from by funext a; fin_cases a <;> rfl)

theorem ref_gate_b (i : S4096x2048.Idx) : val_main_v56 (F := Ideal) p i = gateB p (i 0) (i 1) := by
  show Ideal.div (Ideal.ofBits .f32 0x3F800000#32) (Ideal.ofBits .f32 0x3F800000#32 + Ideal.exp (-(val_main_v10 (F := Ideal) p i))) = _
  rw [one_word, val_main_v10_apply]
  exact congrArg (fun y => Ideal.logistic (p y)) (show idx_main_v10 i = _ from by funext a; fin_cases a <;> rfl)

/-- The merged branches. -/
theorem ref_merge : val_main_v61 (F := Ideal) p t og wa wb = merge (convBranch p t) og wa wb p := by
  funext i
  show val_main_v46 (F := Ideal) p i * val_main_v37 (F := Ideal) p t wa i + val_main_v56 (F := Ideal) p i * val_main_v40 (F := Ideal) og wb i = _
  rw [ref_gate_a, ref_gate_b, ref_proj_a, ref_proj_b, merge]

/-- The cotangent behind the last weight. -/
theorem ref_ct (i : S4096x2048.Idx) : val_main_v65 (F := Ideal) w ct i = ∑ k : Fin 2048, ct (ix2 (i 0) k) * w (ix2 (i 1) k) := by
  rw [val_main_v65_apply]
  exact Finset.sum_congr rfl fun k _ =>
    congrArg₂ (· * ·) (congrArg ct (by funext a; fin_cases a <;> rfl)) (congrArg w (by funext a; fin_cases a <;> rfl))

/-- The cotangents of the two branches' projections. -/
theorem ref_dya : val_main_v69 (F := Ideal) p w ct = through ct w (saveA p) := by
  funext i
  show val_main_v46 (F := Ideal) p i * val_main_v65 (F := Ideal) w ct i = _
  rw [ref_gate_a, ref_ct, mul_comm]; rfl

theorem ref_dyb : val_main_v66 (F := Ideal) p w ct = through ct w (saveB p) := by
  funext i
  show val_main_v56 (F := Ideal) p i * val_main_v65 (F := Ideal) w ct i = _
  rw [ref_gate_b, ref_ct, mul_comm]; rfl

/-- Result 1: the layer's output. -/
theorem res_out : val_main_v80 (F := Ideal) p t og wa wb w = mix (merge (convBranch p t) og wa wb p) w := by
  funext i
  show val_main_v62 (F := Ideal) p t og wa wb w i = _
  rw [val_main_v62_apply, ref_merge]
  exact Finset.sum_congr rfl fun k _ => congrArg₂ (· * ·) (congrArg (merge (convBranch p t) og wa wb p) (by funext a; fin_cases a <;> rfl))
    (congrArg w (by funext a; fin_cases a <;> rfl))

/-- Result 2: the gradient at the first gate. -/
theorem res_gate_a : val_main_v81 (F := Ideal) p t wa w ct = through ct w (slopeA (convBranch p t) wa p) := by
  funext i
  show val_main_v65 (F := Ideal) w ct i * val_main_v37 (F := Ideal) p t wa i
    * (val_main_v46 (F := Ideal) p i * (Ideal.ofBits .f32 0x3F800000#32 - val_main_v46 (F := Ideal) p i)) = _
  rw [one_word, ref_gate_a, ref_proj_a, ref_ct, through, slopeA, mul_assoc, mul_assoc]

/-- Result 3: the gradient at the second gate. -/
theorem res_gate_b : val_main_v82 (F := Ideal) p og wb w ct = through ct w (slopeB og wb p) := by
  funext i
  show val_main_v65 (F := Ideal) w ct i * val_main_v40 (F := Ideal) og wb i
    * (val_main_v56 (F := Ideal) p i * (Ideal.ofBits .f32 0x3F800000#32 - val_main_v56 (F := Ideal) p i)) = _
  rw [one_word, ref_gate_b, ref_proj_b, ref_ct, through, slopeB, mul_assoc, mul_assoc]

/-- Result 4: the gradient of the first branch's output weight. -/
theorem res_wa : val_main_v83 (F := Ideal) p t w ct = outer8 (convBranch p t) (through ct w (saveA p)) := by
  funext i
  show val_main_v79 (F := Ideal) p t w ct i = _
  rw [val_main_v79_apply, val_main_v78_apply, val_main_v77_apply, val_main_v76_apply, ref_dya, ref_branch]
  unfold outer8 outer8At
  refine Finset.sum_congr rfl fun k _ => ?_
  rw [mul_comm]
  have h0 : (i 0).val < 8 := (i 0).isLt
  have h1 : (i 1).val < 1024 := (i 1).isLt
  have h2 : (i 2).val < 256 := (i 2).isLt
  refine congrArg₂ (· * ·) (congrArg (convBranch p t) (funext fun a => Fin.ext ?_)) (congrArg (through ct w (saveA p)) (funext fun a => Fin.ext ?_))
  · match a with
    | ⟨0, _⟩ => rfl
    | ⟨1, _⟩ => show (((i 1).val * 8 + (i 0).val) * 256 + (i 2).val) / 2048 = (i 1).val; omega
  · match a with
    | ⟨0, _⟩ => rfl
    | ⟨1, _⟩ => show (((i 1).val * 8 + (i 0).val) * 256 + (i 2).val) % 2048 = (i 0).val * 256 + (i 2).val; omega

/-- Result 5: the gradient of the second branch's output weight. -/
theorem res_wb : val_main_v84 (F := Ideal) p og w ct = outer8 og (through ct w (saveB p)) := by
  funext i
  show val_main_v75 (F := Ideal) p og w ct i = _
  rw [val_main_v75_apply, val_main_v74_apply, val_main_v73_apply, val_main_v72_apply, ref_dyb]
  unfold outer8 outer8At
  refine Finset.sum_congr rfl fun k _ => ?_
  rw [mul_comm]
  have h0 : (i 0).val < 8 := (i 0).isLt
  have h1 : (i 1).val < 1024 := (i 1).isLt
  have h2 : (i 2).val < 256 := (i 2).isLt
  refine congrArg₂ (· * ·) (congrArg og (funext fun a => Fin.ext ?_)) (congrArg (through ct w (saveB p)) (funext fun a => Fin.ext ?_))
  · match a with
    | ⟨0, _⟩ => rfl
    | ⟨1, _⟩ => show (((i 1).val * 8 + (i 0).val) * 256 + (i 2).val) / 2048 = (i 1).val; omega
  · match a with
    | ⟨0, _⟩ => rfl
    | ⟨1, _⟩ => show (((i 1).val * 8 + (i 0).val) * 256 + (i 2).val) % 2048 = (i 0).val * 256 + (i 2).val; omega

/-- Result 6: the gradient of the last weight. -/
theorem res_w : val_main_v85 (F := Ideal) p t og wa wb ct = outer (merge (convBranch p t) og wa wb p) ct := by
  funext i
  show val_main_v64 (F := Ideal) p t og wa wb ct i = _
  rw [val_main_v64_apply, val_main_v63_apply, ref_merge]
  refine Finset.sum_congr rfl fun k _ => ?_
  rw [mul_comm]
  exact congrArg₂ (· * ·) (congrArg (merge (convBranch p t) og wa wb p) (by funext a; fin_cases a <;> rfl))
    (congrArg ct (by funext a; fin_cases a <;> rfl))

end Cert.Kernel3Ideal.Mixer
-- ==== Proof.MixClaim.lean ====
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.MixRun
public import proofs.«01_k».proof.Proof.MixAlg
public import Idealize.ShloMosaic.Lib.Quiescent

/-! # The merge of the two mixers, forward and backward: the kernel beside its reference -/

@[expose] public section

noncomputable section

namespace Cert.Proof.Mixer

open Idealize.ShloMosaic Idealize.SL.Sem

/-- The reference's run: the arguments stay, every counter is zero. -/
theorem frame_ref : Cert.quiescent_Reference3Ideal (hReference3Ideal := Cert.Reference3Ideal.Gen.facts) := fun m ρ _ =>
  (θ_run Cert.Reference3Ideal.defs _ _).mono
    (fun r h => ⟨fun c => (h c).2.2.2.2.2.2, sem_eq_zero_of_no_sems (by decide) r.2⟩) (Cert.Reference3Ideal.Value.run (F := Ideal) m ρ)

/-- The merge, forward and backward: the kernel's six results are the reference's. -/
theorem value : Cert.algebraic_Kernel3Ideal_Reference3Ideal (hKernel3Ideal := Cert.Kernel3Ideal.Gen.facts)
    (hReference3Ideal := Cert.Reference3Ideal.Gen.facts) := by
  intro m ρ m' ρ' _ hag
  refine ⟨_, _, _, _, _, _, (θ_run _ _ _).mono (fun r h c => h c) (Cert.Kernel3Ideal.Mixer.run m ρ),
    (θ_run _ _ _).mono (fun r h c => ?_) (Cert.Reference3Ideal.Value.run (F := Ideal) m' ρ')⟩
  obtain ⟨a0, a1, a2, a3, a4, a5, a6⟩ := hag c
  obtain ⟨h1, h2, h3, h4, h5, h6, hargs⟩ := h c
  rw [Cert.Reference3Ideal.Read.val_main_v80_eq, a0, a1, a2, a3, a4, a5] at h1
  rw [Cert.Reference3Ideal.Read.val_main_v81_eq, a0, a1, a3, a5, a6] at h2
  rw [Cert.Reference3Ideal.Read.val_main_v82_eq, a0, a2, a4, a5, a6] at h3
  rw [Cert.Reference3Ideal.Read.val_main_v83_eq, a0, a1, a5, a6] at h4
  rw [Cert.Reference3Ideal.Read.val_main_v84_eq, a0, a2, a5, a6] at h5
  rw [Cert.Reference3Ideal.Read.val_main_v85_eq, a0, a1, a2, a3, a4, a6] at h6
  exact ⟨h1.trans (Cert.Kernel3Ideal.Mixer.res_out _ _ _ _ _ _), h2.trans (Cert.Kernel3Ideal.Mixer.res_gate_a _ _ _ _ _),
    h3.trans (Cert.Kernel3Ideal.Mixer.res_gate_b _ _ _ _ _), h4.trans (Cert.Kernel3Ideal.Mixer.res_wa _ _ _ _),
    h5.trans (Cert.Kernel3Ideal.Mixer.res_wb _ _ _ _), h6.trans (Cert.Kernel3Ideal.Mixer.res_w _ _ _ _ _ _), hargs⟩

end Cert.Proof.Mixer
-- ==== Proof.OutBwdFinal.lean ====
module

public import proofs.«01_k».proof.Proof.Gen.Kernel4Ideal.Value
public import Idealize.ShloMosaic.Lib.Pipeline.ValueKit
public import Idealize.ShloMosaic.Lib.Pointwise

/-! # What the call for the gradient at the input of an output projection leaves in its result array -/

@[expose] public section

set_option maxRecDepth 16384

noncomputable section

namespace Cert.Kernel4Ideal.OutBwd

open Idealize.ShloMosaic Idealize.ShloMosaic.TcCoe Idealize.SL.Sem
open Idealize.ShloMosaic.Pipeline (Dat)
open Cert.Kernel4Ideal Cert.Kernel4Ideal.Gen

/-- The entry of `dy` times the entry of the weight that meets it, at column `l`; the weight's columns lie in eight shards of 256. -/
def entry (dy : FVec Ideal S4096x2048 .bf16) (w : FVec Ideal S8x1024x256 .bf16) (i : Fin 4096) (j : Fin 1024) (l : Fin 2048) : EReal :=
  dy (ix2 i l) * w (ix3 ⟨l.val / 256, by omega⟩ j ⟨l.val % 256, Nat.mod_lt _ (by decide)⟩)

/-- `dy @ w.T`. -/
def back (dy : FVec Ideal S4096x2048 .bf16) (w : FVec Ideal S8x1024x256 .bf16) : FVec Ideal S4096x1024 .bf16 := fun i =>
  ∑ l : Fin 2048, entry dy w (i 0) (i 1) l

/-- What one step adds: the product with one shard of the weight. -/
theorem part_apply (x : FVec Ideal S1024x256 .bf16) (a : FVec Ideal S1x1024x256 .bf16) (i : Fin 1024) (j : Fin 1024) :
    k0_pay1 (F := Ideal) x a (ix2 i j) = ∑ k : Fin 256, x (ix2 i k) * a (ix3 0 j k) := by
  pointwise [k0_pay1]

theorem pay2_apply (x : FVec Ideal S1024x256 .bf16) (a : FVec Ideal S1x1024x256 .bf16) (j : S1024x1024.Idx) :
    k0_pay2 (F := Ideal) x a j = k0_pay1 (F := Ideal) x a j := by
  pointwise [k0_pay2]

theorem pay3_apply (x : FVec Ideal S1024x256 .bf16) (a : FVec Ideal S1x1024x256 .bf16) (acc : FVec Ideal S1024x1024 .f32) (j : S1024x1024.Idx) :
    k0_pay3 (F := Ideal) x a acc j = acc j + k0_pay1 (F := Ideal) x a j := by
  pointwise [k0_pay3]

variable (m : (ℓ : Loc nD τ sig) → Buf (Elt Ideal) ℓ)

/-- Which block of each array the call's windows take at a grid point. -/
theorem idx : ∀ t : Fin cfg0.N, win0_0.index t = ![t.val / 8, t.val % 8] ∧ win0_1.index t = ![t.val % 8, 0, 0]
    ∧ win0_2.index t = ![t.val / 8, 0] := (by decide +kernel : ∀ t : Fin grid0.N, _)

/-- The last step writes out what the carried sum has reached. -/
theorem last (c : Dev nD) (t : Fin cfg0.N) (h : t.val % 8 = 7) (i : S1024x1024.Idx) :
    (outsAt0 m c t.val t.isLt).1 i = (outsAt0 m c t.val t.isLt).2 i := by
  rw [outsAt0_C m c t (by omega) (by omega) h]
  frame_out
  pointwise [k0_pay4]

/-- What the step at point `t` adds to the carried sum. -/
def part (c : Dev nD) (t : Fin cfg0.N) : S1024x1024.Idx → EReal := k0_pay1 (F := Ideal) (iblk m c 0 t) (iblk m c 1 t)

/-- The entries of the blocks of a point, in the arrays. -/
theorem blk0 (c : Dev nD) (t : Fin cfg0.N) (a : Fin 1024) (k : Fin 256) (i : Fin 4096) (l : Fin 2048)
    (hi : i.val = t.val / 8 * 1024 + a.val) (hl : l.val = t.val % 8 * 256 + k.val) :
    iblk m c 0 t (ix2 a k) = m ((c : Thread nD τ).loc main_arg0) (ix2 i l) := by
  blk_point [iblk, V, idx t]

theorem blk1 (c : Dev nD) (t : Fin cfg0.N) (b : Fin 1024) (k : Fin 256) (a : Fin 8) (ha : a.val = t.val % 8) :
    iblk m c 1 t (ix3 (0 : Fin 1) b k) = m ((c : Thread nD τ).loc main_arg1) (ix3 a b k) := by
  blk_point [iblk, V, idx t]

/-- The same as a sum over the step's 256 columns of the whole product. -/
theorem part_eq (c : Dev nD) (t : Fin cfg0.N) (y : S1024x1024.Idx) (i : Fin 4096) (j : Fin 1024)
    (hi : i.val = t.val / 8 * 1024 + (y 0).val) (hj : j.val = (y 1).val) (s : Fin 8) (hs : t.val % 8 = s.val) :
    part m c t y = ∑ q : Fin 256, entry (m ((c : Thread nD τ).loc main_arg0)) (m ((c : Thread nD τ).loc main_arg1)) i j ⟨s.val * 256 + q.val, by omega⟩ := by
  have hy0 : (y 0).val < 1024 := (y 0).isLt
  have hy1 : (y 1).val < 1024 := (y 1).isLt
  refine (congrArg (part m c t) (eq_ix2 y)).trans ?_
  refine (part_apply _ _ (y 0) (y 1)).trans ?_
  refine Fin.sum_fin_congr fun k => ?_
  have hs8 := s.isLt
  have hk := k.isLt
  refine congrArg₂ (· * ·) (blk0 m c t _ _ i _ hi ?_) ((blk1 m c t _ k s ?_).trans ?_)
  · show s.val * 256 + k.val = t.val % 8 * 256 + k.val
    omega
  · show s.val = _
    omega
  · exact congrArg _ (congr (congrArg₂ ix3 (Fin.ext (by show s.val = (s.val * 256 + k.val) / 256; omega)) (Fin.ext hj.symm))
      (Fin.ext (by show k.val = (s.val * 256 + k.val) % 256; omega)))

theorem final (c : Dev nD) : (dats m 0 c).arrAt 2 cfg0.N = back (m ((c : Thread nD τ).loc main_arg0)) (m ((c : Thread nD τ).loc main_arg1)) := by
  refine (dats m 0 c).arrAt_eq_of_covers 2 _ (by decide +kernel) fun t hf y => ?_
  have hm := (flush0_2 t).mp hf
  blk_simp
  rw [after0_2, last m c t hm]
  rw [Pipeline.eq_sum_fin_of_reset_step_apply_of_flush (fun n h => (outsAt0 m c n h).2) 8 (fun _ => 0) (part m c)
    (fun t h j => by
      rw [outsAt0_A m c t h (by omega) (by omega)]
      frame_out
      rw [zero_add]
      exact pay2_apply _ _ j)
    (fun t h j => by
      by_cases h3 : t.val % 8 = 7
      · rw [outsAt0_C m c t h (by omega) h3]
        frame_out
        refine (pay3_apply _ _ _ j).trans ?_
        exact congrArg (fun z : S1024x1024.Idx → EReal => z j + part m c t j) (Memref.IsWhole.read_unread (Memref.isWhole_whole _) _)
      · rw [outsAt0_B m c t h (by omega) h3]
        frame_out
        refine (pay3_apply _ _ _ j).trans ?_
        exact congrArg (fun z : S1024x1024.Idx → EReal => z j + part m c t j) (Memref.IsWhole.read_unread (Memref.isWhole_whole _) _))
    t hm _, zero_add]
  refine Eq.trans ?_ (Fin.sum_mul_add_fin 8 256 (entry (m ((c : Thread nD τ).loc main_arg0)) (m ((c : Thread nD τ).loc main_arg1)) ((win0_2.blk t).view.emb y 0) ((win0_2.blk t).view.emb y 1)))
  refine Fin.sum_fin_congr fun s => part_eq m c _ y _ _ ?_ ?_ s ?_
  · blk_simp [idx t]
    have := s.isLt
    show _ = (8 * (t.val / 8) + s.val) / 8 * 1024 + (y 0).val
    omega
  · blk_simp [idx t]
  · show (8 * (t.val / 8) + s.val) % 8 = s.val
    omega

end Cert.Kernel4Ideal.OutBwd
-- ==== Proof.OutBwdClaim.lean ====
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.OutBwdFinal
public import Idealize.ShloMosaic.Lib.Quiescent

/-! # The gradient at the input of an output projection: the kernel beside its reference -/

@[expose] public section

noncomputable section

namespace Cert.Proof.OutBwd

open Idealize.ShloMosaic Idealize.SL.Sem

/-- The reference's run: the arguments stay, every counter is zero. -/
theorem frame_ref : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

/-- The reference's result is the kernel's: the product with the transposed weight. -/
theorem res (x : FVec Ideal Cert.Kernel4Ideal.S4096x2048 .bf16) (w : FVec Ideal Cert.Kernel4Ideal.S8x1024x256 .bf16) :
    Cert.Reference4Ideal.Read.val_main_v7 (F := Ideal) x w = Cert.Kernel4Ideal.OutBwd.back x w := by
  funext i
  refine (Cert.Reference4Ideal.Read.val_main_v6_apply x w i).trans (Finset.sum_congr rfl fun k _ => ?_)
  have h0 : (i 1 : Fin 1024).val < 1024 := (i 1 : Fin 1024).isLt
  have hk := k.isLt
  refine congrArg₂ (· * ·) (congrArg x (by funext a; fin_cases a <;> rfl)) ?_
  rw [Cert.Reference4Ideal.Read.val_main_v3_apply, Cert.Reference4Ideal.Read.val_main_v2_apply]
  refine congrArg w (funext fun a => Fin.ext ?_)
  match a with
  | ⟨0, _⟩ => show ((i 1 : Fin 1024).val * 2048 + k.val) / 256 % 8 = k.val / 256; omega
  | ⟨1, _⟩ => show ((i 1 : Fin 1024).val * 2048 + k.val) / 2048 = (i 1 : Fin 1024).val; omega
  | ⟨2, _⟩ => show ((i 1 : Fin 1024).val * 2048 + k.val) % 256 = k.val % 256; omega

/-- The kernel's result is the reference's. -/
theorem value : Cert.algebraic_Kernel4Ideal_Reference4Ideal (hKernel4Ideal := Cert.Kernel4Ideal.Gen.facts)
    (hReference4Ideal := Cert.Reference4Ideal.Gen.facts) := by
  intro m ρ m' ρ' _ hag
  refine ⟨fun c => Cert.Kernel4Ideal.OutBwd.back (m ((c.tc : Thread _ _).loc Cert.Kernel4Ideal.main_arg0)) (m ((c.tc : Thread _ _).loc Cert.Kernel4Ideal.main_arg1)),
    (θ_run _ _ _).mono (fun r h c => ?_) (Cert.Kernel4Ideal.Value.run_blocks m ρ),
    (θ_run _ _ _).mono (fun r h c => ?_) (Cert.Reference4Ideal.Value.run (F := Ideal) m' ρ')⟩
  · obtain ⟨h1, hargs⟩ := h c
    exact ⟨h1.trans (Cert.Kernel4Ideal.OutBwd.final m c), hargs⟩
  · obtain ⟨a0, a1⟩ := hag c
    obtain ⟨h1, hargs⟩ := h c
    rw [Cert.Reference4Ideal.Read.val_main_v7_eq, a0, a1] at h1
    exact ⟨h1.trans (res _ _), hargs⟩

end Cert.Proof.OutBwd
-- ==== Proof.ConvDefs.lean ====
module

public import proofs.«01_k».proof.Proof.Gen.Kernel6Ideal
public import Idealize.ShloMosaic.Lib.Pipeline.ValueKit

/-! # The gradients of the short convolution -/

@[expose] public section

set_option maxRecDepth 16384

noncomputable section

namespace Cert.Kernel6Ideal.Conv

open Idealize.ShloMosaic Idealize.ShloMosaic.TcCoe Idealize.SL.Sem
open Cert.Kernel6Ideal

/-- The projection, the three taps, and an array of the branch's width. -/
abbrev Proj := FVec Ideal S4096x11264 .f32
abbrev Taps := FVec Ideal S3x1024 .f32
abbrev Branch := FVec Ideal S4096x1024 .bf16

/-- The input of the convolution: the product of the second and the third group of 1024 columns. -/
def input (p : Proj) (j : Fin 1024) (i : Fin 4096) : EReal := p (ix2 i ⟨1024 + j.val, by omega⟩) * p (ix2 i ⟨2048 + j.val, by omega⟩)

/-- The cotangent at the convolution's output: the branch's cotangent times the first group. -/
def seed (p : Proj) (z : Branch) (j : Fin 1024) (i : Fin 4096) : EReal := z (ix2 i j) * p (ix2 i ⟨j.val, by omega⟩)

/-- A column moved down by one and by two rows, and up by one and by two, zeros coming in. -/
def down1 (u : Fin 4096 → EReal) (i : Fin 4096) : EReal := if 1 ≤ i.val then u ⟨(i.val + 4096 - 1) % 4096, Nat.mod_lt _ (by decide)⟩ else 0
def down2 (u : Fin 4096 → EReal) (i : Fin 4096) : EReal := if 2 ≤ i.val then u ⟨(i.val + 4096 - 2) % 4096, Nat.mod_lt _ (by decide)⟩ else 0
def up1 (u : Fin 4096 → EReal) (i : Fin 4096) : EReal := if i.val < 4095 then u ⟨(i.val + 4096 - 4095) % 4096, Nat.mod_lt _ (by decide)⟩ else 0
def up2 (u : Fin 4096 → EReal) (i : Fin 4096) : EReal := if i.val < 4094 then u ⟨(i.val + 4096 - 4094) % 4096, Nat.mod_lt _ (by decide)⟩ else 0

/-- The convolution of one column, and its transpose. -/
def conv (w : Taps) (j : Fin 1024) (u : Fin 4096 → EReal) (i : Fin 4096) : EReal := w (ix2 0 j) * down2 u i + w (ix2 1 j) * down1 u i + w (ix2 2 j) * u i
def back (w : Taps) (j : Fin 1024) (u : Fin 4096 → EReal) (i : Fin 4096) : EReal := w (ix2 2 j) * u i + w (ix2 1 j) * up1 u i + w (ix2 0 j) * up2 u i

/-- The gradients at the three groups of columns, and at the taps. -/
def gradB (p : Proj) (w : Taps) (z : Branch) : Branch := fun i => z (ix2 (i 0) (i 1)) * conv w (i 1) (input p (i 1)) (i 0)
def third (p : Proj) (i : Fin 4096) (j : Fin 1024) : EReal := p (ix2 i ⟨2048 + j.val, by omega⟩)
def second (p : Proj) (i : Fin 4096) (j : Fin 1024) : EReal := p (ix2 i ⟨1024 + j.val, by omega⟩)
def gradC (p : Proj) (w : Taps) (z : Branch) : Branch := fun i => back w (i 1) (seed p z (i 1)) (i 0) * third p (i 0) (i 1)
def gradX (p : Proj) (w : Taps) (z : Branch) : Branch := fun i => back w (i 1) (seed p z (i 1)) (i 0) * second p (i 0) (i 1)
/-- The column that tap `k` is multiplied by. -/
def tapped (k : Fin 3) (u : Fin 4096 → EReal) (i : Fin 4096) : EReal := match k with
  | 0 => down2 u i
  | 1 => down1 u i
  | 2 => u i
def gradW (p : Proj) (z : Branch) : Taps := fun i => ∑ r : Fin 4096, seed p z (i 1) r * tapped (i 0) (input p (i 1)) r

end Cert.Kernel6Ideal.Conv
-- ==== Proof.ConvAlg.lean ====
module

public import proofs.«01_k».proof.Proof.ConvDefs
public import proofs.«01_k».proof.Proof.Gen.Reference6Ideal.Read
public import Idealize.ShloMosaic.Lib.Pointwise

/-! # The reference's gradients of the short convolution are the kernel's -/

@[expose] public section

set_option maxRecDepth 16384

noncomputable section

namespace Cert.Kernel6Ideal.Conv

open Idealize.ShloMosaic
open Cert.Reference6Ideal Cert.Reference6Ideal.Read

variable (p : Proj) (w : Taps) (z : Branch)

theorem zero_word : Ideal.ofBits .f32 0x00000000#32 = 0 := Ideal.ofBits_zero .f32

/-- The convolution's input in the reference, and the cotangent at its output. -/
theorem ref_input (i : S4096x1024.Idx) : val_main_v4 (F := Ideal) p i = input p (i 1) (i 0) := by
  show val_main_v1 (F := Ideal) p i * val_main_v2 (F := Ideal) p i = _
  rw [val_main_v1_apply, val_main_v2_apply]
  exact congrArg₂ (· * ·) (congrArg p (by funext a; fin_cases a <;> rfl)) (congrArg p (by funext a; fin_cases a <;> rfl))
theorem ref_seed (i : S4096x1024.Idx) : val_main_v30 (F := Ideal) p z i = seed p z (i 1) (i 0) := by
  show val_main_v0 (F := Ideal) p i * val_main_v29 (F := Ideal) z i = _
  rw [mul_comm, val_main_v0_apply]
  exact congrArg₂ (· * ·) (congrArg z (by funext a; fin_cases a <;> rfl)) (congrArg p (by funext a; fin_cases a <;> rfl))

/-- The reference's input with two rows of zeros above. -/
theorem ref_pad (i : S4098x1024.Idx) : val_main_v6 (F := Ideal) p i
    = if h : 2 ≤ (i 0).val then input p (i 1) ⟨(i 0).val - 2, Nat.sub_lt_right_of_lt_add h (i 0).isLt⟩ else 0 := by
  unfold val_main_v6
  pointwise
  split
  · rename_i h
    rw [dif_neg (by omega)]
    exact zero_word
  · rename_i h
    rw [dif_pos (by omega), ref_input]
    rfl

/-- The three windows of the padded input are the input moved down by two rows, by one, and the input. -/
theorem ref_rows (k : Fin 3) (i : Fin 4096) (j : Fin 1024) (b : S4098x1024.Idx) (h0 : (b 0).val = k.val + i.val) (h1 : b 1 = j) :
    val_main_v6 (F := Ideal) p b = tapped k (input p j) i := by
  rw [ref_pad, h1]
  have hi := i.isLt
  match k with
  | 0 =>
    show _ = down2 (input p j) i
    unfold down2
    by_cases h : 2 ≤ i.val
    · rw [dif_pos (by rw [h0]; show 2 ≤ 0 + i.val; omega), if_pos h]
      exact congrArg (input p j) (Fin.ext (by show (b 0).val - 2 = (i.val + 4096 - 2) % 4096; rw [h0]; show 0 + i.val - 2 = _; omega))
    · rw [dif_neg (by rw [h0]; show ¬ 2 ≤ 0 + i.val; omega), if_neg h]
  | 1 =>
    show _ = down1 (input p j) i
    unfold down1
    by_cases h : 1 ≤ i.val
    · rw [dif_pos (by rw [h0]; show 2 ≤ 1 + i.val; omega), if_pos h]
      exact congrArg (input p j) (Fin.ext (by show (b 0).val - 2 = (i.val + 4096 - 1) % 4096; rw [h0]; show 1 + i.val - 2 = _; omega))
    · rw [dif_neg (by rw [h0]; show ¬ 2 ≤ 1 + i.val; omega), if_neg h]
  | 2 =>
    rw [dif_pos (by rw [h0]; show 2 ≤ 2 + i.val; omega)]
    exact congrArg (input p j) (Fin.ext (by show (b 0).val - 2 = i.val; rw [h0]; show 2 + i.val - 2 = _; omega))

theorem ref_rows0 (i : S4096x1024.Idx) : val_main_v10 (F := Ideal) p i = down2 (input p (i 1)) (i 0) := by
  rw [val_main_v10_apply]; exact ref_rows p 0 (i 0) (i 1) _ (Nat.zero_add _).symm rfl
theorem ref_rows1 (i : S4096x1024.Idx) : val_main_v16 (F := Ideal) p i = down1 (input p (i 1)) (i 0) := by
  rw [val_main_v16_apply]; exact ref_rows p 1 (i 0) (i 1) _ rfl rfl
theorem ref_rows2 (i : S4096x1024.Idx) : val_main_v23 (F := Ideal) p i = input p (i 1) (i 0) := by
  rw [val_main_v23_apply]; exact ref_rows p 2 (i 0) (i 1) _ rfl rfl

/-- The three taps in the reference, spread over the rows. -/
theorem ref_tap0 (i : S4096x1024.Idx) : val_main_v12 (F := Ideal) w i = w (ix2 0 (i 1)) := by
  rw [val_main_v12_apply, val_main_v11_apply, val_main_v9_apply, val_main_v8_apply]
  refine congrArg w (funext fun a => Fin.ext ?_)
  have h1 : (i 1).val < 1024 := (i 1).isLt
  match a with
  | ⟨0, _⟩ => rfl
  | ⟨1, _⟩ => show (i 1).val % 1024 = (i 1).val; omega
theorem ref_tap1 (i : S4096x1024.Idx) : val_main_v18 (F := Ideal) w i = w (ix2 1 (i 1)) := by
  rw [val_main_v18_apply, val_main_v17_apply, val_main_v15_apply, val_main_v14_apply]
  refine congrArg w (funext fun a => Fin.ext ?_)
  have h1 : (i 1).val < 1024 := (i 1).isLt
  match a with
  | ⟨0, _⟩ => rfl
  | ⟨1, _⟩ => show (i 1).val % 1024 = (i 1).val; omega
theorem ref_tap2 (i : S4096x1024.Idx) : val_main_v25 (F := Ideal) w i = w (ix2 2 (i 1)) := by
  rw [val_main_v25_apply, val_main_v24_apply, val_main_v22_apply, val_main_v21_apply]
  refine congrArg w (funext fun a => Fin.ext ?_)
  have h1 : (i 1).val < 1024 := (i 1).isLt
  match a with
  | ⟨0, _⟩ => rfl
  | ⟨1, _⟩ => show (i 1).val % 1024 = (i 1).val; omega

/-- The gradient at the first group of columns. -/
theorem ref_gradB : val_main_v67 (F := Ideal) p w z = gradB p w z := by
  funext i
  show val_main_v29 (F := Ideal) z i * (val_main_v12 (F := Ideal) w i * val_main_v10 (F := Ideal) p i
    + val_main_v18 (F := Ideal) w i * val_main_v16 (F := Ideal) p i + val_main_v25 (F := Ideal) w i * val_main_v23 (F := Ideal) p i) = _
  rw [ref_tap0, ref_tap1, ref_tap2, ref_rows0, ref_rows1, ref_rows2]
  exact congrArg (· * conv w (i 1) (input p (i 1)) (i 0)) (congrArg z (by funext a; fin_cases a <;> rfl))

/-- The cotangent times a tap, over the rows of a column. -/
theorem ref_scaled (i : S4096x1024.Idx) : val_main_v33 (F := Ideal) p w z i = w (ix2 2 (i 1)) * seed p z (i 1) (i 0)
    ∧ val_main_v42 (F := Ideal) p w z i = w (ix2 1 (i 1)) * seed p z (i 1) (i 0)
    ∧ val_main_v53 (F := Ideal) p w z i = w (ix2 0 (i 1)) * seed p z (i 1) (i 0) :=
  ⟨congrArg₂ (· * ·) (ref_tap2 w i) (ref_seed p z i), congrArg₂ (· * ·) (ref_tap1 w i) (ref_seed p z i),
    congrArg₂ (· * ·) (ref_tap0 w i) (ref_seed p z i)⟩

/-- A column moved up, by the row it reads. -/
theorem up1_at (u : Fin 4096 → EReal) (i r : Fin 4096) (h : r.val = i.val + 1) : up1 u i = u r := by
  have hr := r.isLt
  unfold up1
  rw [if_pos (by omega)]
  refine congrArg u (Fin.ext (Eq.trans ?_ h.symm))
  show (i.val + 4096 - 4095) % 4096 = i.val + 1
  omega
theorem up2_at (u : Fin 4096 → EReal) (i r : Fin 4096) (h : r.val = i.val + 2) : up2 u i = u r := by
  have hr := r.isLt
  unfold up2
  rw [if_pos (by omega)]
  refine congrArg u (Fin.ext (Eq.trans ?_ h.symm))
  show (i.val + 4096 - 4094) % 4096 = i.val + 2
  omega

/-- The three scaled cotangents in an array with two more rows, zeros elsewhere, at the rows the gradient keeps. -/
theorem ref_third (i : Fin 4096) (b : S4098x1024.Idx) (h0 : (b 0).val = 2 + i.val) :
    val_main_v38 (F := Ideal) p w z b = w (ix2 2 (b 1)) * seed p z (b 1) i := by
  unfold val_main_v38
  have hi := i.isLt
  pointwise
  rw [dif_pos (by omega), (ref_scaled p w z _).1]
  exact congrArg (fun r => w (ix2 2 (b 1)) * seed p z (b 1) r) (Fin.ext (by show (b 0).val - 2 = i.val; omega))
theorem ref_second (i : Fin 4096) (b : S4098x1024.Idx) (h0 : (b 0).val = 2 + i.val) :
    val_main_v47 (F := Ideal) p w z b = w (ix2 1 (b 1)) * up1 (seed p z (b 1)) i := by
  unfold val_main_v47
  have hi := i.isLt
  pointwise
  split
  · rename_i h
    rw [(ref_scaled p w z _).2.1]
    exact congrArg (w (ix2 1 (b 1)) * ·) (up1_at (seed p z (b 1)) i _ (by show (b 0).val - 1 = i.val + 1; omega)).symm
  · rename_i h
    unfold up1
    rw [if_neg (by omega), mul_zero]
    exact zero_word
theorem ref_first (i : Fin 4096) (b : S4098x1024.Idx) (h0 : (b 0).val = 2 + i.val) :
    val_main_v58 (F := Ideal) p w z b = w (ix2 0 (b 1)) * up2 (seed p z (b 1)) i := by
  unfold val_main_v58
  have hi := i.isLt
  pointwise
  split
  · rename_i h
    rw [(ref_scaled p w z _).2.2]
    exact congrArg (w (ix2 0 (b 1)) * ·) (up2_at (seed p z (b 1)) i _ (by show (b 0).val = i.val + 2; omega)).symm
  · rename_i h
    unfold up2
    rw [if_neg (by omega), mul_zero]
    exact zero_word

/-- The transposed convolution in the reference. -/
theorem ref_back (i : S4096x1024.Idx) : val_main_v64 (F := Ideal) p w z i = back w (i 1) (seed p z (i 1)) (i 0) := by
  rw [val_main_v64_apply]
  show val_main_v38 (F := Ideal) p w z _ + val_main_v47 (F := Ideal) p w z _ + val_main_v58 (F := Ideal) p w z _ = _
  rw [ref_third p w z (i 0) _ rfl, ref_second p w z (i 0) _ rfl, ref_first p w z (i 0) _ rfl]
  rfl

/-- The gradients at the second and the third group of columns. -/
theorem ref_gradC : val_main_v68 (F := Ideal) p w z = gradC p w z := by
  funext i
  show val_main_v64 (F := Ideal) p w z i * val_main_v2 (F := Ideal) p i = _
  rw [ref_back, val_main_v2_apply]
  exact congrArg (back w (i 1) (seed p z (i 1)) (i 0) * ·) (congrArg p (by funext a; fin_cases a <;> rfl))
theorem ref_gradX : val_main_v69 (F := Ideal) p w z = gradX p w z := by
  funext i
  show val_main_v1 (F := Ideal) p i * val_main_v64 (F := Ideal) p w z i = _
  rw [mul_comm, ref_back, val_main_v1_apply]
  exact congrArg (back w (i 1) (seed p z (i 1)) (i 0) * ·) (congrArg p (by funext a; fin_cases a <;> rfl))

/-- A tap's gradient: the sum over the rows, then over an axis of one. -/
theorem ref_sum2 (i : S1024.Idx) : val_main_v37 (F := Ideal) p z i = ∑ r : Fin 4096, seed p z (i 0) r * tapped 2 (input p (i 0)) r := by
  rw [val_main_v37_apply, Fin.sum_univ_one, val_main_v36_apply, val_main_v35_apply]
  refine (congrArg₂ (· + ·) zero_word (congrArg₂ (· + ·) zero_word rfl)).trans ((zero_add _).trans ((zero_add _).trans ?_))
  have hi : (i 0).val < 1024 := (i 0).isLt
  refine Finset.sum_congr rfl fun r _ => ?_
  refine (congrArg₂ (· * ·) (ref_seed p z _) (ref_rows2 p _)).trans ?_
  have e : (⟨0 * 1024 + (i 0).val, by omega⟩ : Fin 1024) = i 0 := Fin.ext (by show 0 * 1024 + (i 0).val = (i 0).val; omega)
  exact congrArg (fun j => seed p z j r * tapped 2 (input p j) r) e
theorem ref_sum1 (i : S1024.Idx) : val_main_v46 (F := Ideal) p z i = ∑ r : Fin 4096, seed p z (i 0) r * tapped 1 (input p (i 0)) r := by
  rw [val_main_v46_apply, Fin.sum_univ_one, val_main_v45_apply, val_main_v44_apply]
  refine (congrArg₂ (· + ·) zero_word (congrArg₂ (· + ·) zero_word rfl)).trans ((zero_add _).trans ((zero_add _).trans ?_))
  have hi : (i 0).val < 1024 := (i 0).isLt
  refine Finset.sum_congr rfl fun r _ => ?_
  refine (congrArg₂ (· * ·) (ref_seed p z _) (ref_rows1 p _)).trans ?_
  have e : (⟨0 * 1024 + (i 0).val, by omega⟩ : Fin 1024) = i 0 := Fin.ext (by show 0 * 1024 + (i 0).val = (i 0).val; omega)
  exact congrArg (fun j => seed p z j r * tapped 1 (input p j) r) e
theorem ref_sum0 (i : S1024.Idx) : val_main_v57 (F := Ideal) p z i = ∑ r : Fin 4096, seed p z (i 0) r * tapped 0 (input p (i 0)) r := by
  rw [val_main_v57_apply, Fin.sum_univ_one, val_main_v56_apply, val_main_v55_apply]
  refine (congrArg₂ (· + ·) zero_word (congrArg₂ (· + ·) zero_word rfl)).trans ((zero_add _).trans ((zero_add _).trans ?_))
  have hi : (i 0).val < 1024 := (i 0).isLt
  refine Finset.sum_congr rfl fun r _ => ?_
  refine (congrArg₂ (· * ·) (ref_seed p z _) (ref_rows0 p _)).trans ?_
  have e : (⟨0 * 1024 + (i 0).val, by omega⟩ : Fin 1024) = i 0 := Fin.ext (by show 0 * 1024 + (i 0).val = (i 0).val; omega)
  exact congrArg (fun j => seed p z j r * tapped 0 (input p j) r) e

/-- One row of the taps' gradient placed among three, zeros in the others. -/
theorem ref_row2 (i : S3x1024.Idx) : val_main_v40 (F := Ideal) p z i = if (i 0).val = 2 then ∑ r : Fin 4096, seed p z (i 1) r * tapped 2 (input p (i 1)) r else 0 := by
  unfold val_main_v40
  have h3 : (i 0).val < 3 := (i 0).isLt
  pointwise
  split
  · rename_i h
    rw [if_pos (by omega), val_main_v39_apply, ref_sum2]
    rfl
  · rename_i h
    rw [if_neg (by omega)]
    exact zero_word
theorem ref_row1 (i : S3x1024.Idx) : val_main_v50 (F := Ideal) p z i = if (i 0).val = 1 then ∑ r : Fin 4096, seed p z (i 1) r * tapped 1 (input p (i 1)) r else 0 := by
  unfold val_main_v50
  have h3 : (i 0).val < 3 := (i 0).isLt
  pointwise
  split
  · rename_i h
    rw [if_pos (by omega), val_main_v49_apply, ref_sum1]
    rfl
  · rename_i h
    rw [if_neg (by omega)]
    exact zero_word
theorem ref_row0 (i : S3x1024.Idx) : val_main_v61 (F := Ideal) p z i = if (i 0).val = 0 then ∑ r : Fin 4096, seed p z (i 1) r * tapped 0 (input p (i 1)) r else 0 := by
  unfold val_main_v61
  have h3 : (i 0).val < 3 := (i 0).isLt
  pointwise
  split
  · rename_i h
    rw [if_pos (by omega), val_main_v60_apply, ref_sum0]
    rfl
  · rename_i h
    rw [if_neg (by omega)]
    exact zero_word

/-- The gradient at the taps. -/
theorem ref_gradW : val_main_v62 (F := Ideal) p z = gradW p z := by
  funext i
  show val_main_v40 (F := Ideal) p z i + val_main_v50 (F := Ideal) p z i + val_main_v61 (F := Ideal) p z i = _
  rw [ref_row2, ref_row1, ref_row0]
  have h3 : (i 0).val < 3 := (i 0).isLt
  obtain h | h | h : (i 0).val = 0 ∨ (i 0).val = 1 ∨ (i 0).val = 2 := by omega
  · have e : i 0 = (0 : Fin 3) := Fin.ext h
    rw [if_neg (by omega), if_neg (by omega), if_pos h, zero_add, zero_add]
    unfold gradW
    rw [e]
  · have e : i 0 = (1 : Fin 3) := Fin.ext h
    rw [if_neg (by omega), if_pos h, if_neg (by omega), zero_add, add_zero]
    unfold gradW
    rw [e]
  · have e : i 0 = (2 : Fin 3) := Fin.ext h
    rw [if_pos h, if_neg (by omega), if_neg (by omega), add_zero, add_zero]
    unfold gradW
    rw [e]

end Cert.Kernel6Ideal.Conv
-- ==== Proof.ConvFinal.lean ====
module

public import proofs.«01_k».proof.Proof.Gen.Kernel6Ideal.Value
public import proofs.«01_k».proof.Proof.ConvDefs
public import Idealize.ShloMosaic.Lib.Pipeline.ValueKit
public import Idealize.ShloMosaic.Lib.Pointwise
public import Idealize.ShloMosaic.Lib.KernelVsHost
public import Idealize.ShloMosaic.Lib.WordCmp

/-! # What the backward call of the short convolution leaves in its four result arrays -/

@[expose] public section

set_option maxRecDepth 16384

noncomputable section

namespace Cert.Kernel6Ideal.Conv

open Idealize.ShloMosaic Idealize.ShloMosaic.TcCoe Idealize.SL.Sem
open Idealize.ShloMosaic.Pipeline (Dat)
open Cert.Kernel6Ideal Cert.Kernel6Ideal.Gen

/-- A row number compared with a constant, as the selection between an entry and zero reads it. -/
theorem sel_ge (r : Fin 4096) (k : ℕ) (hk : k < 4096) (a : EReal) :
    Scalar.select (IntOp.cmpi .sge (BitVec.ofNat 32 r.val) (BitVec.ofNat 32 k)) a 0 = if k ≤ r.val then a else 0 := by
  have h : IntOp.cmpi .sge (BitVec.ofNat 32 r.val) (BitVec.ofNat 32 k) = BitVec.ofBool (decide (k ≤ r.val)) :=
    WordCmp.cmpi_sge_ofNat (by have := r.isLt; omega) (by omega)
  rw [h]
  by_cases hkr : k ≤ r.val <;> simp [hkr, Scalar.select]
theorem sel_lt (r : Fin 4096) (k : ℕ) (hk : k < 4096) (a : EReal) :
    Scalar.select (IntOp.cmpi .slt (BitVec.ofNat 32 r.val) (BitVec.ofNat 32 k)) a 0 = if r.val < k then a else 0 := by
  have h : IntOp.cmpi .slt (BitVec.ofNat 32 r.val) (BitVec.ofNat 32 k) = BitVec.ofBool (decide (r.val < k)) :=
    WordCmp.cmpi_slt_ofNat (by have := r.isLt; omega) (by omega)
  rw [h]
  by_cases hkr : r.val < k <;> simp [hkr, Scalar.select]
theorem ge1 (r : Fin 4096) (a : EReal) : Scalar.select (IntOp.cmpi .sge (BitVec.ofNat 32 r.val) 1#32) a 0 = if 1 ≤ r.val then a else 0 := sel_ge r 1 (by decide) a
theorem ge2 (r : Fin 4096) (a : EReal) : Scalar.select (IntOp.cmpi .sge (BitVec.ofNat 32 r.val) 2#32) a 0 = if 2 ≤ r.val then a else 0 := sel_ge r 2 (by decide) a
theorem lt1 (r : Fin 4096) (a : EReal) : Scalar.select (IntOp.cmpi .slt (BitVec.ofNat 32 r.val) 4095#32) a 0 = if r.val < 4095 then a else 0 := sel_lt r 4095 (by decide) a
theorem lt2 (r : Fin 4096) (a : EReal) : Scalar.select (IntOp.cmpi .slt (BitVec.ofNat 32 r.val) 4094#32) a 0 = if r.val < 4094 then a else 0 := sel_lt r 4094 (by decide) a

variable (m : (ℓ : Loc nD τ sig) → Buf (Elt Ideal) ℓ)

/-- Which block of each array the call's windows take at a grid point. -/
theorem idx : ∀ t : Fin cfg0.N, win0_0.index t = ![0, t.val] ∧ win0_1.index t = ![0, 8 + t.val] ∧ win0_2.index t = ![0, 16 + t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] := (by decide +kernel : ∀ t : Fin grid0.N, _)

abbrev argP (c : Dev nD) : Proj := m ((c : Thread nD τ).loc main_arg0)
abbrev argW (c : Dev nD) : Taps := m ((c : Thread nD τ).loc main_arg1)
abbrev argZ (c : Dev nD) : Branch := m ((c : Thread nD τ).loc main_arg2)

/-- A block's rows turned down by `n`, the last coming in above. -/
theorem turned (u : FVec Ideal S4096x128 .f32) (sb : BitVec 32) (n : ℕ) (hn : sb.toNat % 4096 = n) (i : Fin 4096) (j : Fin 128) :
    dynamicRotate 0 sb none u rotates_S4096x128_d0 (ix2 i j) = u (ix2 ⟨(i.val + 4096 - n) % 4096, Nat.mod_lt _ (by decide)⟩ j) := by
  subst hn
  exact dynamicRotate_apply 0 _ u _ _ _ fun b => by
    match b with
    | 0 => exact (if_pos rfl).symm
    | 1 => rfl

theorem pay15_apply (i : Fin 4096) (j : Fin 128) : k0_pay15 (ix2 i j) = IntOp.cmpi .slt (BitVec.ofNat 32 i.val) 4095#32 := by
  pointwise [k0_pay15]

/-- The transposed convolution of a block's columns, the middle product's term given. -/
theorem back_apply (u : FVec Ideal S4096x128 .f32) (w : FVec Ideal S3x128 .f32) (a : FVec Ideal S4096x128 .f32) (i : Fin 4096) (j : Fin 128) :
   k0_pay1 (F := Ideal) (iota .tc S4096x128 32 [0] iota_S4096x128_d0_w32) w u a (k0_pay14 w) k0_pay15 (ix2 i j)
    = a (ix2 i j) + w (ix2 1 j) * up1 (fun r => u (ix2 r j)) i + w (ix2 0 j) * up2 (fun r => u (ix2 r j)) i := by
  have h1 := turned u 4095#32 4095 (by decide) i j
  have h2 := turned u 4094#32 4094 (by decide) i j
  unfold k0_pay1
  generalize dynamicRotate 0 4095#32 none u rotates_S4096x128_d0 = r1 at h1 ⊢
  generalize dynamicRotate 0 4094#32 none u rotates_S4096x128_d0 = r2 at h2 ⊢
  pointwise [k0_pay14, pay15_apply, lt1, lt2, up1, up2, h1, h2]

/-- A block of the gradients at the second and at the third group of columns. -/
theorem out6_apply (x0 x1 x2 : Vec Ideal S4096x128 .f32) (x3 : Vec Ideal S3x128 .f32) (x4 : Vec Ideal S4096x128 .bf16) (i : Fin 4096) (j : Fin 128) :
    out0_6 (F := Ideal) x0 x1 x2 x3 x4 (ix2 i j) = ((x3 (ix2 2 j) * (x4 (ix2 i j) * x0 (ix2 i j)) + x3 (ix2 1 j) * up1 (fun r => x4 (ix2 r j) * x0 (ix2 r j)) i
      + x3 (ix2 0 j) * up2 (fun r => x4 (ix2 r j) * x0 (ix2 r j)) i) * x2 (ix2 i j) : EReal) := by
  unfold_out out0_6
  frame_out
  refine (show _ = (k0_pay1 (F := Ideal) (iota .tc S4096x128 32 [0] iota_S4096x128_d0_w32) x3 (k0_pay11 x0 x4) (k0_pay13 x0 x4 x3) (k0_pay14 x3) k0_pay15 (ix2 i j) * x2 (ix2 i j) : EReal) from rfl).trans ?_
  rw [back_apply]
  pointwise [k0_pay13, k0_pay11, k0_pay7]

theorem out7_apply (x0 x1 x2 : Vec Ideal S4096x128 .f32) (x3 : Vec Ideal S3x128 .f32) (x4 : Vec Ideal S4096x128 .bf16) (i : Fin 4096) (j : Fin 128) :
    out0_7 (F := Ideal) x0 x1 x2 x3 x4 (ix2 i j) = ((x3 (ix2 2 j) * (x4 (ix2 i j) * x0 (ix2 i j)) + x3 (ix2 1 j) * up1 (fun r => x4 (ix2 r j) * x0 (ix2 r j)) i
      + x3 (ix2 0 j) * up2 (fun r => x4 (ix2 r j) * x0 (ix2 r j)) i) * x1 (ix2 i j) : EReal) := by
  unfold_out out0_7
  frame_out
  refine (show _ = (k0_pay1 (F := Ideal) (iota .tc S4096x128 32 [0] iota_S4096x128_d0_w32) x3 (k0_pay11 x0 x4) (k0_pay13 x0 x4 x3) (k0_pay14 x3) k0_pay15 (ix2 i j) * x1 (ix2 i j) : EReal) from rfl).trans ?_
  rw [back_apply]
  pointwise [k0_pay13, k0_pay11, k0_pay7]

/-- Reading a whole block gives the block. -/
theorem ld_rows {e : EltTy} (x : Vec Ideal S4096x128 e) : View.ld x r0_0 = x := by
  funext y; pointwise

/-- A block's columns moved down. -/
theorem down1_apply (x1 x2 : Vec Ideal S4096x128 .f32) (i : Fin 4096) (j : Fin 128) :
    k0_pay9 (F := Ideal) x1 x2 (ix2 i j) = down1 (fun r => x1 (ix2 r j) * x2 (ix2 r j)) i := by
  pointwise [k0_pay9, k0_pay8, ge1, down1]
theorem down2_apply (x1 x2 : Vec Ideal S4096x128 .f32) (i : Fin 4096) (j : Fin 128) :
    k0_pay10 (F := Ideal) x1 x2 (ix2 i j) = down2 (fun r => x1 (ix2 r j) * x2 (ix2 r j)) i := by
  pointwise [k0_pay10, k0_pay8, ge2, down2]

/-- A sum over the rows of a block. -/
theorem sum_rows (u : FVec Ideal S4096x128 .f32) (b : S128.Idx) :
    multiReduction (F := Ideal) .add [0] S128 u 0x00000000#32 reduces_S4096x128_S128 (.inl rfl) rfl b = ∑ r : Fin 4096, u (ix2 r (b 0)) := by
  pointwise

/-- A block of the gradient at the taps: one sum over the rows for each tap. -/
theorem out8_apply (x0 x1 x2 : Vec Ideal S4096x128 .f32) (x3 : Vec Ideal S3x128 .f32) (x4 : Vec Ideal S4096x128 .bf16) (i : Fin 3) (j : Fin 128) :
    out0_8 (F := Ideal) x0 x1 x2 x3 x4 (ix2 i j)
      = ∑ r : Fin 4096, ((x4 (ix2 r j) * x0 (ix2 r j)) * tapped i (fun s => x1 (ix2 s j) * x2 (ix2 s j)) r : EReal) := by
  unfold_out out0_8
  refine (Cert.Kernel6Ideal.Value.canon8_eq _ _ _ _ (ix2 i j)).trans ?_
  rw [ld_rows, ld_rows, ld_rows, ld_rows]
  match i with
  | 0 => exact (sum_rows _ _).trans (Finset.sum_congr rfl fun r _ => congrArg (x4 (ix2 r j) * x0 (ix2 r j) * ·) (down2_apply x1 x2 r j))
  | 1 => exact (sum_rows _ _).trans (Finset.sum_congr rfl fun r _ => congrArg (x4 (ix2 r j) * x0 (ix2 r j) * ·) (down1_apply x1 x2 r j))
  | 2 => exact sum_rows _ _

/-- A block's column of a result array. -/
theorem col (t : Fin 8) (k : Fin 128) : t.val * 128 + k.val < 1024 := by omega

section
variable (c : Dev nD) (t : Fin cfg0.N) (k : Fin 128)
abbrev wide : Fin 1024 := ⟨t.val * 128 + k.val, col t k⟩
theorem in0 (i : Fin 4096) : iblk m c 0 t (ix2 i k) = argP m c (ix2 i ⟨(wide t k).val, by omega⟩) := by blk_point [iblk, V, idx t]
theorem in1 (i : Fin 4096) : iblk m c 1 t (ix2 i k) = second (argP m c) i (wide t k) := by unfold second; blk_point [iblk, V, idx t]
theorem in2 (i : Fin 4096) : iblk m c 2 t (ix2 i k) = third (argP m c) i (wide t k) := by unfold third; blk_point [iblk, V, idx t]
theorem in3 (i : Fin 3) : iblk m c 3 t (ix2 i k) = argW m c (ix2 i (wide t k)) := by blk_point [iblk, V, idx t]
theorem in4 (i : Fin 4096) : iblk m c 4 t (ix2 i k) = argZ m c (ix2 i (wide t k)) := by blk_point [iblk, V, idx t]
end

/-- Where a block's entry lies in the result. -/
theorem place (c : Dev nD) (t : Fin cfg0.N) (i : Fin 4096) (k : Fin 128) :
    (win0_6.blk t).view.emb (ix2 i k) = ix2 i (wide t k) ∧ (win0_7.blk t).view.emb (ix2 i k) = ix2 i (wide t k) := by
  constructor <;> (funext a; apply Fin.ext; match a with
    | 0 => blk_point [idx t]
    | 1 => blk_point [idx t])
theorem place8 (c : Dev nD) (t : Fin cfg0.N) (i : Fin 3) (k : Fin 128) : (win0_8.blk t).view.emb (ix2 i k) = ix2 i (wide t k) := by
  funext a; apply Fin.ext; match a with
    | 0 => blk_point [idx t]
    | 1 => blk_point [idx t]

theorem final5 (c : Dev nD) : (dats m 0 c).arrAt 5 cfg0.N = gradB (argP m c) (argW m c) (argZ m c) := by
  refine (dats m 0 c).arrAt_eq_of_covers 5 _ (by decide +kernel) fun t _ y => ?_
  blk_simp
  rw [after0_5]
  frame_out
  pointwise [k0_pay12, k0_pay10, k0_pay9, k0_pay8, k0_pay7, ge1, ge2, gradB, conv, down1, down2, input]
  blk_point [iblk, V, idx t]

theorem final6 (c : Dev nD) : (dats m 0 c).arrAt 6 cfg0.N = gradC (argP m c) (argW m c) (argZ m c) := by
  refine (dats m 0 c).arrAt_eq_of_covers 6 _ (by decide +kernel) fun t _ y => ?_
  obtain ⟨i, k, rfl⟩ : ∃ (i : Fin 4096) (k : Fin 128), y = ix2 i k := ⟨y 0, y 1, eq_ix2 y⟩
  blk_simp
  rw [after0_6]
  refine (out6_apply _ _ _ _ _ i k).trans ?_
  simp only [in0, in2, in3, in4]
  exact (congrArg (gradC (argP m c) (argW m c) (argZ m c)) (place c t i k).1).symm

theorem final7 (c : Dev nD) : (dats m 0 c).arrAt 7 cfg0.N = gradX (argP m c) (argW m c) (argZ m c) := by
  refine (dats m 0 c).arrAt_eq_of_covers 7 _ (by decide +kernel) fun t _ y => ?_
  obtain ⟨i, k, rfl⟩ : ∃ (i : Fin 4096) (k : Fin 128), y = ix2 i k := ⟨y 0, y 1, eq_ix2 y⟩
  blk_simp
  rw [after0_7]
  refine (out7_apply _ _ _ _ _ i k).trans ?_
  simp only [in0, in1, in3, in4]
  exact (congrArg (gradX (argP m c) (argW m c) (argZ m c)) (place c t i k).2).symm

theorem final8 (c : Dev nD) : (dats m 0 c).arrAt 8 cfg0.N = gradW (argP m c) (argZ m c) := by
  refine (dats m 0 c).arrAt_eq_of_covers 8 _ (by decide +kernel) fun t _ y => ?_
  obtain ⟨i, k, rfl⟩ : ∃ (i : Fin 3) (k : Fin 128), y = ix2 i k := ⟨y 0, y 1, eq_ix2 y⟩
  blk_simp
  rw [after0_8]
  refine (out8_apply _ _ _ _ _ i k).trans ?_
  simp only [in0, in1, in2, in4]
  exact (congrArg (gradW (argP m c) (argZ m c)) (place8 c t i k)).symm

end Cert.Kernel6Ideal.Conv
-- ==== Proof.ConvClaim.lean ====
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.ConvAlg
public import proofs.«01_k».proof.Proof.ConvFinal
public import Idealize.ShloMosaic.Lib.Quiescent

/-! # The gradients of the short convolution: the kernel beside its reference -/

@[expose] public section

noncomputable section

namespace Cert.Proof.Conv

open Idealize.ShloMosaic Idealize.ShloMosaic.TcCoe Idealize.SL.Sem
open Cert.Kernel6Ideal.Conv

/-- The reference's run: the arguments stay, every counter is zero. -/
theorem frame_ref : Cert.quiescent_Reference6Ideal (hReference6Ideal := Cert.Reference6Ideal.Gen.facts) := fun m ρ _ =>
  (θ_run Cert.Reference6Ideal.defs _ _).mono
    (fun r h => ⟨fun c => (h c).2.2.2.2, sem_eq_zero_of_no_sems (by decide) r.2⟩) (Cert.Reference6Ideal.Value.run (F := Ideal) m ρ)

/-- The kernel's four results are the reference's. -/
theorem value : Cert.algebraic_Kernel6Ideal_Reference6Ideal (hKernel6Ideal := Cert.Kernel6Ideal.Gen.facts)
    (hReference6Ideal := Cert.Reference6Ideal.Gen.facts) := by
  intro m ρ m' ρ' _ hag
  refine ⟨fun c => gradB (argP m c) (argW m c) (argZ m c), fun c => gradC (argP m c) (argW m c) (argZ m c),
    fun c => gradX (argP m c) (argW m c) (argZ m c), fun c => gradW (argP m c) (argZ m c),
    (θ_run _ _ _).mono (fun r h c => ?_) (Cert.Kernel6Ideal.Value.run_blocks m ρ),
    (θ_run _ _ _).mono (fun r h c => ?_) (Cert.Reference6Ideal.Value.run (F := Ideal) m' ρ')⟩
  · obtain ⟨h5, h6, h7, h8, hargs⟩ := h c
    exact ⟨h5.trans (final5 m c), h6.trans (final6 m c), h7.trans (final7 m c), h8.trans (final8 m c), hargs⟩
  · obtain ⟨a0, a1, a2⟩ := hag c
    obtain ⟨h5, h6, h7, h8, hargs⟩ := h c
    rw [Cert.Reference6Ideal.Read.val_main_v67_eq, a0, a1, a2] at h5
    rw [Cert.Reference6Ideal.Read.val_main_v68_eq, a0, a1, a2] at h6
    rw [Cert.Reference6Ideal.Read.val_main_v69_eq, a0, a1, a2] at h7
    rw [Cert.Reference6Ideal.Read.val_main_v62_eq, a0, a2] at h8
    exact ⟨h5.trans (ref_gradB _ _ _), h6.trans (ref_gradC _ _ _), h7.trans (ref_gradX _ _ _), h8.trans (ref_gradW _ _), hargs⟩

end Cert.Proof.Conv
-- ==== Proof.GradProjCalls.lean ====
module

public import proofs.«01_k».proof.Proof.Gen.Kernel7Ideal.Regions
public import proofs.«01_k».proof.Proof.Gen.Kernel7Ideal.Skeleton
public import Idealize.ShloMosaic.Lib.Pipeline.FrameBody
public import Idealize.ShloMosaic.Lib.Pipeline.RegionArraysTS
public import Idealize.ShloMosaic.Lib.VecWindow
public import Idealize.ShloMosaic.Lib.Tactic
public import Idealize.ShloMosaic.Lib.Claim

/-! # The two calls of the projection weight gradient, one by one -/

@[expose] public section

set_option maxRecDepth 16384

noncomputable section

namespace Cert.Kernel7Ideal.GradProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel7Ideal Cert.Kernel7Ideal.Gen

variable {F : FTy → Type} [FloatOps F]

/-! ## Call 0 -/

/-- The words of call 0's table: which shards it works on. -/
def tbl0 : (pre0).Contents (Elt F) := fun k => match k with
  | ⟨0, _⟩ => fun i => lit0 (S4.rowMajor i)
/-- With these words every block lies inside its array. -/
theorem ok_tbl0 : ok0 (F := F) tbl0 := of_decide_eq_true (by sl_kernel_rfl)
abbrev adm0 : (pcfg0 (F := F)).Adm := ⟨tbl0, ok_tbl0⟩
abbrev pc0 : Cfg sig Λ₀ := cfg0 (F := F) adm0

/-- The block of window `w` at point `t`, read off the array as the call finds it. -/
def blk0 (V : Dev nD → Valuation τ sig (Elt F)) (c : Dev nD) (w : Fin (pc0 (F := F)).W) (t : Fin (pc0 (F := F)).N) :
    (((pc0 (F := F)).win w).xblock ((pc0 (F := F)).grid.coords t)).Idx → Elt F ((pc0 (F := F)).win w).elt :=
  (((pc0 (F := F)).win w).blk t).view.read (Elt F) (V c (Proc.devRef .tc (Pipeline.arrRef spec0 w)))

/-- The body of call 0 on whole staging buffers: the two inputs stay as they are, and the output ends at their product. -/
theorem triple0 (c : Dev nD) (i : grid0.Coords)
    (a0 : Memref sig .tc .vmem S4096x512 .bf16) (h0 : a0.IsWhole) (a1 : Memref sig .tc .vmem S4096x1408 .bf16) (h1 : a1.IsWhole)
    (a2 : Memref sig .tc .vmem S1x512x1408 .bf16) (h2 : a2.IsWhole) (x0 : Vec F S4096x512 .bf16) (x1 : Vec F S4096x1408 .bf16)
    (E : Set ℕ) (K : PUnit → sProp (MT nD τ sig Unit (Elt F) ℕ (UR sig nD τ) ℕ)) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k0_pay1 x0 x1)) -∗ K ⟨⟩))
      ⊢ wp frame (wpE (defs₀ (F := F)) Variants.none c none) E
          (cc0_gw_proj_sibling (F := F) i (Memref.whole main_c) (Memref.isWhole_whole _) a0 h0 a1 h1 a2 h2) K := by
  simp only [cc0_gw_proj_sibling_eq_skeleton]; unfold cc0_gw_proj_sibling_skel
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  refine (View.read_writes_full _ _ _ _ _).trans ?_
  rw [View.readAt_full, View.readAt_full, h0.read_unread, h1.read_unread]

/-- What call 0 does point by point: the inputs' staging buffers keep their blocks, the output's takes the product;
    beside them the buffers of the other calls, the generator's register and the table ride along untouched. -/
def dat0 (V : Dev nD → Valuation τ sig (Elt F)) (c : Dev nD) : Dat τ (Elt F) Unit ℕ (UR sig nD τ) ℕ (pc0 (F := F)) c where
  A w := V c (Proc.devRef .tc (Pipeline.arrRef spec0 w))
  after w t := match w with
    | ⟨0, _⟩ => blk0 V c 0 t
    | ⟨1, _⟩ => blk0 V c 1 t
    | ⟨2, _⟩ => k0_pay1 (blk0 V c 0 t) (blk0 V c 1 t)
  Φ _ := iprop(Pipeline.ΦA spec0 c ∗ Pipeline.prefHeld pre0 c (fun _ => fullShare) tbl0)
  q _ := fullShare
  owed _ := 0

section
variable (V : Dev nD → Valuation τ sig (Elt F))

theorem entry0 (c : Dev nD) (w : Fin (pc0 (F := F)).W) : (dat0 V c).A w = V c (Proc.devRef .tc (Pipeline.arrRef spec0 w)) := by
  dsimp only [dat0]
theorem left0_0 (c : Dev nD) (t : Fin (pc0 (F := F)).N) : (dat0 V c).after 0 t = blk0 V c 0 t := by dsimp only [dat0]; try rfl
theorem left0_1 (c : Dev nD) (t : Fin (pc0 (F := F)).N) : (dat0 V c).after 1 t = blk0 V c 1 t := by dsimp only [dat0]; try rfl
theorem left0_2 (c : Dev nD) (t : Fin (pc0 (F := F)).N) : (dat0 V c).after 2 t = k0_pay1 (blk0 V c 0 t) (blk0 V c 1 t) := by
  dsimp only [dat0]; try rfl

/-- An input's staging buffer holds its block at every point. -/
theorem found0_0 (c : Dev nD) (t : Fin (pc0 (F := F)).N) (d) : (dat0 V c).before 0 t d = blk0 V c 0 t :=
  ((dat0 V c).before_in_eq_fetched 0 rfl (fun _ => rfl) (fun _ _ _ => rfl)
    (fun t => by rw [left0_0]; unfold Dat.blockOf blk0; rw [entry0]; try rfl) t d).trans
    (by unfold Dat.fetched Dat.blockOf blk0; rw [entry0]; try rfl)
theorem found0_1 (c : Dev nD) (t : Fin (pc0 (F := F)).N) (d) : (dat0 V c).before 1 t d = blk0 V c 1 t :=
  ((dat0 V c).before_in_eq_fetched 1 rfl (fun _ => rfl) (fun _ _ _ => rfl)
    (fun t => by rw [left0_1]; unfold Dat.blockOf blk0; rw [entry0]; try rfl) t d).trans
    (by unfold Dat.fetched Dat.blockOf blk0; rw [entry0]; try rfl)

/-- The body at a point, as the program spells it. -/
def at0 (t : Fin (pc0 (F := F)).N) : Prog (TpuEff nD τ sig (Elt F) Λ₀ .tc) PUnit :=
  cc0_gw_proj_sibling (F := F) (grid0.coords t) (Memref.whole main_c) (Memref.isWhole_whole _)
    (spec0_0.stage ((pc0 (F := F)).slots t 0)) (hstage0_0 (((pc0 (F := F)).slots t 0).cast nbuf0_0))
    (spec0_1.stage ((pc0 (F := F)).slots t 1)) (hstage0_1 (((pc0 (F := F)).slots t 1).cast nbuf0_1))
    (spec0_2.stage ((pc0 (F := F)).slots t 2)) (hstage0_2 (((pc0 (F := F)).slots t 2).cast nbuf0_2))

/-- One point of call 0: from the blocks found to the blocks left. -/
theorem point0 (c : Dev nD) (t : Fin (pc0 (F := F)).N) :
    iprop((dat0 V c).Φ t.castSucc ∗ (dat0 V c).owesAt () t.castSucc
      ∗ (∃ d, owns (c : Thread nD τ) (spec0_0.stage ((pc0 (F := F)).slots t 0)) fullShare ((dat0 V c).before 0 t d))
      ∗ (∃ d, owns (c : Thread nD τ) (spec0_1.stage ((pc0 (F := F)).slots t 1)) fullShare ((dat0 V c).before 1 t d))
      ∗ (∃ d, owns (c : Thread nD τ) (spec0_2.stage ((pc0 (F := F)).slots t 2)) fullShare ((dat0 V c).before 2 t d)))
    ⊢ wp frame (wpE (defs₀ (F := F)) Variants.none c none) Set.univ (at0 t) (fun _ =>
      iprop((dat0 V c).Φ t.succ ∗ (dat0 V c).owesAt () t.succ
        ∗ owns (c : Thread nD τ) (spec0_0.stage ((pc0 (F := F)).slots t 0)) fullShare ((dat0 V c).after 0 t)
        ∗ owns (c : Thread nD τ) (spec0_1.stage ((pc0 (F := F)).slots t 1)) fullShare ((dat0 V c).after 1 t)
        ∗ owns (c : Thread nD τ) (spec0_2.stage ((pc0 (F := F)).slots t 2)) fullShare ((dat0 V c).after 2 t))) := by
  unfold at0
  simp only [found0_0, found0_1]
  rw [show (dat0 V c).Φ t.succ = (dat0 V c).Φ t.castSucc from rfl,
    show (dat0 V c).owesAt () t.succ = (dat0 V c).owesAt () t.castSucc from rfl, left0_0, left0_1, left0_2]
  iintro ⟨HΦ, Ho, ⟨%d0, H0⟩, ⟨%d1, H1⟩, ⟨%d2, H2⟩⟩
  iapply (triple0 c (grid0.coords t) _ _ _ _ _ _ (blk0 V c 0 t) (blk0 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body0 (c : Dev nD) : BodyObligation (dat0 V c) (defs₀ (F := F)) Variants.none () Set.univ := fun t => by
  rw [bigSep_W0, bigSep_W0, show defs₀ (F := F) .tc (pc0 (F := F)).body ((pc0 (F := F)).bodyArgs t ((pc0 (F := F)).slots t)) = at0 t from by
    unfold defs₀; rw [Defs.onTc_tc]; rfl]
  exact triple_restated (point0 V c t) rfl .rfl fun _ => .rfl

/-- The buffers as call 0 leaves them. -/
def exit0 (c : Dev nD) : Valuation τ sig (Elt F) := Pipeline.afterRegion (dat0 V c) (V c)
theorem exit0_arr (c : Dev nD) (w : Fin 3) : exit0 V c (Proc.devRef .tc (Pipeline.arrRef spec0 w)) = (dat0 V c).arrAt w (pc0 (F := F)).N :=
  Pipeline.afterRegion_arr (dat0 V c) (V c) (launch0 (F := F)).win.arr_inj w
/-- Only the output changes. -/
theorem exit0_of (c : Dev nD) (r : Ref sig .tc) (h : r ≠ main_v0) : exit0 V c (Proc.devRef .tc r) = V c (Proc.devRef .tc r) := by
  refine Pipeline.afterRegion_keeps (dat0 V c) (V c) (launch0 (F := F)).win.arr_inj (entry0 V c) r ?_
  exact fun w hw => match w with
    | ⟨0, _⟩ => rfl
    | ⟨1, _⟩ => rfl
    | ⟨2, _⟩ => absurd hw.symm h
end

/-! ## Call 1 -/

/-- The words of call 1's table: which shards it works on. -/
def tbl1 : (pre1).Contents (Elt F) := fun k => match k with
  | ⟨0, _⟩ => fun i => lit1 (S4.rowMajor i)
/-- With these words every block lies inside its array. -/
theorem ok_tbl1 : ok1 (F := F) tbl1 := of_decide_eq_true (by sl_kernel_rfl)
abbrev adm1 : (pcfg1 (F := F)).Adm := ⟨tbl1, ok_tbl1⟩
abbrev pc1 : Cfg sig Λ₀ := cfg1 (F := F) adm1

/-- The block of window `w` at point `t`, read off the array as the call finds it. -/
def blk1 (V : Dev nD → Valuation τ sig (Elt F)) (c : Dev nD) (w : Fin (pc1 (F := F)).W) (t : Fin (pc1 (F := F)).N) :
    (((pc1 (F := F)).win w).xblock ((pc1 (F := F)).grid.coords t)).Idx → Elt F ((pc1 (F := F)).win w).elt :=
  (((pc1 (F := F)).win w).blk t).view.read (Elt F) (V c (Proc.devRef .tc (Pipeline.arrRef spec1 w)))

/-- The body of call 1 on whole staging buffers: the two inputs stay as they are, and the output ends at their product. -/
theorem triple1 (c : Dev nD) (i : grid1.Coords)
    (a0 : Memref sig .tc .vmem S4096x512 .bf16) (h0 : a0.IsWhole) (a1 : Memref sig .tc .vmem S4096x1408 .bf16) (h1 : a1.IsWhole)
    (a2 : Memref sig .tc .vmem S1x512x1408 .bf16) (h2 : a2.IsWhole) (x0 : Vec F S4096x512 .bf16) (x1 : Vec F S4096x1408 .bf16)
    (E : Set ℕ) (K : PUnit → sProp (MT nD τ sig Unit (Elt F) ℕ (UR sig nD τ) ℕ)) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k1_pay1 x0 x1)) -∗ K ⟨⟩))
      ⊢ wp frame (wpE (defs₀ (F := F)) Variants.none c none) E
          (cc1_gw_proj_own (F := F) i (Memref.whole main_c_0) (Memref.isWhole_whole _) a0 h0 a1 h1 (Memref.whole main_v0) (Memref.isWhole_whole _) a2 h2) K := by
  simp only [cc1_gw_proj_own_eq_skeleton]; unfold cc1_gw_proj_own_skel
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  refine (View.read_writes_full _ _ _ _ _).trans ?_
  rw [View.readAt_full, View.readAt_full, h0.read_unread, h1.read_unread]

/-- What call 1 does point by point: the inputs' staging buffers keep their blocks, the output's takes the product;
    beside them the buffers of the other calls, the generator's register and the table ride along untouched. -/
def dat1 (V : Dev nD → Valuation τ sig (Elt F)) (c : Dev nD) : Dat τ (Elt F) Unit ℕ (UR sig nD τ) ℕ (pc1 (F := F)) c where
  A w := V c (Proc.devRef .tc (Pipeline.arrRef spec1 w))
  after w t := match w with
    | ⟨0, _⟩ => blk1 V c 0 t
    | ⟨1, _⟩ => blk1 V c 1 t
    | ⟨2, _⟩ => k1_pay1 (blk1 V c 0 t) (blk1 V c 1 t)
  Φ _ := iprop(Pipeline.ΦA spec1 c ∗ Pipeline.prefHeld pre1 c (fun _ => fullShare) tbl1)
  q _ := fullShare
  owed _ := 0

section
variable (V : Dev nD → Valuation τ sig (Elt F))

theorem entry1 (c : Dev nD) (w : Fin (pc1 (F := F)).W) : (dat1 V c).A w = V c (Proc.devRef .tc (Pipeline.arrRef spec1 w)) := by
  dsimp only [dat1]
theorem left1_0 (c : Dev nD) (t : Fin (pc1 (F := F)).N) : (dat1 V c).after 0 t = blk1 V c 0 t := by dsimp only [dat1]; try rfl
theorem left1_1 (c : Dev nD) (t : Fin (pc1 (F := F)).N) : (dat1 V c).after 1 t = blk1 V c 1 t := by dsimp only [dat1]; try rfl
theorem left1_2 (c : Dev nD) (t : Fin (pc1 (F := F)).N) : (dat1 V c).after 2 t = k1_pay1 (blk1 V c 0 t) (blk1 V c 1 t) := by
  dsimp only [dat1]; try rfl

/-- An input's staging buffer holds its block at every point. -/
theorem found1_0 (c : Dev nD) (t : Fin (pc1 (F := F)).N) (d) : (dat1 V c).before 0 t d = blk1 V c 0 t :=
  ((dat1 V c).before_in_eq_fetched 0 rfl (fun _ => rfl) (fun _ _ _ => rfl)
    (fun t => by rw [left1_0]; unfold Dat.blockOf blk1; rw [entry1]; try rfl) t d).trans
    (by unfold Dat.fetched Dat.blockOf blk1; rw [entry1]; try rfl)
theorem found1_1 (c : Dev nD) (t : Fin (pc1 (F := F)).N) (d) : (dat1 V c).before 1 t d = blk1 V c 1 t :=
  ((dat1 V c).before_in_eq_fetched 1 rfl (fun _ => rfl) (fun _ _ _ => rfl)
    (fun t => by rw [left1_1]; unfold Dat.blockOf blk1; rw [entry1]; try rfl) t d).trans
    (by unfold Dat.fetched Dat.blockOf blk1; rw [entry1]; try rfl)

/-- The body at a point, as the program spells it. -/
def at1 (t : Fin (pc1 (F := F)).N) : Prog (TpuEff nD τ sig (Elt F) Λ₀ .tc) PUnit :=
  cc1_gw_proj_own (F := F) (grid1.coords t) (Memref.whole main_c_0) (Memref.isWhole_whole _)
    (spec1_0.stage ((pc1 (F := F)).slots t 0)) (hstage1_0 (((pc1 (F := F)).slots t 0).cast nbuf1_0))
    (spec1_1.stage ((pc1 (F := F)).slots t 1)) (hstage1_1 (((pc1 (F := F)).slots t 1).cast nbuf1_1)) (Memref.whole main_v0) (Memref.isWhole_whole _)
    (spec1_2.stage ((pc1 (F := F)).slots t 2)) (hstage1_2 (((pc1 (F := F)).slots t 2).cast nbuf1_2))

/-- One point of call 1: from the blocks found to the blocks left. -/
theorem point1 (c : Dev nD) (t : Fin (pc1 (F := F)).N) :
    iprop((dat1 V c).Φ t.castSucc ∗ (dat1 V c).owesAt () t.castSucc
      ∗ (∃ d, owns (c : Thread nD τ) (spec1_0.stage ((pc1 (F := F)).slots t 0)) fullShare ((dat1 V c).before 0 t d))
      ∗ (∃ d, owns (c : Thread nD τ) (spec1_1.stage ((pc1 (F := F)).slots t 1)) fullShare ((dat1 V c).before 1 t d))
      ∗ (∃ d, owns (c : Thread nD τ) (spec1_2.stage ((pc1 (F := F)).slots t 2)) fullShare ((dat1 V c).before 2 t d)))
    ⊢ wp frame (wpE (defs₀ (F := F)) Variants.none c none) Set.univ (at1 t) (fun _ =>
      iprop((dat1 V c).Φ t.succ ∗ (dat1 V c).owesAt () t.succ
        ∗ owns (c : Thread nD τ) (spec1_0.stage ((pc1 (F := F)).slots t 0)) fullShare ((dat1 V c).after 0 t)
        ∗ owns (c : Thread nD τ) (spec1_1.stage ((pc1 (F := F)).slots t 1)) fullShare ((dat1 V c).after 1 t)
        ∗ owns (c : Thread nD τ) (spec1_2.stage ((pc1 (F := F)).slots t 2)) fullShare ((dat1 V c).after 2 t))) := by
  unfold at1
  simp only [found1_0, found1_1]
  rw [show (dat1 V c).Φ t.succ = (dat1 V c).Φ t.castSucc from rfl,
    show (dat1 V c).owesAt () t.succ = (dat1 V c).owesAt () t.castSucc from rfl, left1_0, left1_1, left1_2]
  iintro ⟨HΦ, Ho, ⟨%d0, H0⟩, ⟨%d1, H1⟩, ⟨%d2, H2⟩⟩
  iapply (triple1 c (grid1.coords t) _ _ _ _ _ _ (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body1 (c : Dev nD) : BodyObligation (dat1 V c) (defs₀ (F := F)) Variants.none () Set.univ := fun t => by
  rw [bigSep_W1, bigSep_W1, show defs₀ (F := F) .tc (pc1 (F := F)).body ((pc1 (F := F)).bodyArgs t ((pc1 (F := F)).slots t)) = at1 t from by
    unfold defs₀; rw [Defs.onTc_tc]; rfl]
  exact triple_restated (point1 V c t) rfl .rfl fun _ => .rfl

/-- The buffers as call 1 leaves them. -/
def exit1 (c : Dev nD) : Valuation τ sig (Elt F) := Pipeline.afterRegion (dat1 V c) (V c)
theorem exit1_arr (c : Dev nD) (w : Fin 3) : exit1 V c (Proc.devRef .tc (Pipeline.arrRef spec1 w)) = (dat1 V c).arrAt w (pc1 (F := F)).N :=
  Pipeline.afterRegion_arr (dat1 V c) (V c) (launch1 (F := F)).win.arr_inj w
/-- Only the output changes. -/
theorem exit1_of (c : Dev nD) (r : Ref sig .tc) (h : r ≠ main_v1) : exit1 V c (Proc.devRef .tc r) = V c (Proc.devRef .tc r) := by
  refine Pipeline.afterRegion_keeps (dat1 V c) (V c) (launch1 (F := F)).win.arr_inj (entry1 V c) r ?_
  exact fun w hw => match w with
    | ⟨0, _⟩ => rfl
    | ⟨1, _⟩ => rfl
    | ⟨2, _⟩ => absurd hw.symm h
end

end Cert.Kernel7Ideal.GradProj
-- ==== Proof.GradProjRun.lean ====
module

public import proofs.«01_k».proof.Proof.GradProjCalls

/-! # The two calls of the projection weight gradient in a row -/

@[expose] public section

set_option maxRecDepth 16384

noncomputable section

namespace Cert.Kernel7Ideal.GradProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel7Ideal Cert.Kernel7Ideal.Gen

variable {F : FTy → Type} [FloatOps F]

variable (m : (ℓ : Loc nD τ sig) → Buf (Elt F) ℓ) (ρ : Dev nD → PrngReg)

/-! ## The buffers at each boundary -/

/-- As launched. -/
def B0 (c : Dev nD) : Valuation τ sig (Elt F) := fun b => m (c, b)
/-- Before call 0. -/
def B1 (c : Dev nD) : Valuation τ sig (Elt F) := StableHlo.after hostOps0 (B0 m c)
/-- After call 0. -/
def B2 (c : Dev nD) : Valuation τ sig (Elt F) := exit0 (B1 m) c
/-- Before call 1. -/
def B3 (c : Dev nD) : Valuation τ sig (Elt F) := StableHlo.after hostOps1 (B2 m c)
/-- After call 1. -/
def B4 (c : Dev nD) : Valuation τ sig (Elt F) := exit1 (B3 m) c

theorem B1_of (c : Dev nD) (r : Ref sig .tc) (h : r ∉ hostOps0_W) : B1 m c (Proc.devRef .tc r) = B0 m c (Proc.devRef .tc r) :=
  StableHlo.after_of_writes_sub hostOps0 _ hostOps0_writes h
theorem B2_of (c : Dev nD) (r : Ref sig .tc) (h : r ≠ main_v0) : B2 m c (Proc.devRef .tc r) = B1 m c (Proc.devRef .tc r) :=
  exit0_of (B1 m) c r h
theorem B3_of (c : Dev nD) (r : Ref sig .tc) (h : r ∉ hostOps1_W) : B3 m c (Proc.devRef .tc r) = B2 m c (Proc.devRef .tc r) :=
  StableHlo.after_of_writes_sub hostOps1 _ hostOps1_writes h
theorem B4_of (c : Dev nD) (r : Ref sig .tc) (h : r ≠ main_v1) : B4 m c (Proc.devRef .tc r) = B3 m c (Proc.devRef .tc r) :=
  exit1_of (B3 m) c r h
/-- The table of call 0 holds its words when the call starts. -/
theorem words0 (c : Dev nD) (k : Fin 1) : tbl0 k = B1 m c (Proc.devRef .tc ((pre0).ref k)) := by
  match k with
  | ⟨0, _⟩ =>
    refine Eq.symm (show B1 m c (Proc.devRef .tc main_c) = _ from ?_)
    unfold B1; rfl
/-- The table of call 1 holds its words when the call starts. -/
theorem words1 (c : Dev nD) (k : Fin 1) : tbl1 k = B3 m c (Proc.devRef .tc ((pre1).ref k)) := by
  match k with
  | ⟨0, _⟩ =>
    refine Eq.symm (show B3 m c (Proc.devRef .tc main_c_0) = _ from (B3_of m c main_c_0 (by decide)).trans <| (B2_of m c main_c_0 (by decide)).trans <| ?_)
    unfold B1; rfl
theorem B1_main_arg0 (c : Dev nD) : B1 m c (Proc.devRef .tc main_arg0) = m ((c : Thread nD τ).loc main_arg0) :=
  (B1_of m c main_arg0 (by decide)).trans rfl
theorem B2_main_arg0 (c : Dev nD) : B2 m c (Proc.devRef .tc main_arg0) = m ((c : Thread nD τ).loc main_arg0) :=
  (B2_of m c main_arg0 (by decide)).trans (B1_main_arg0 m c)
theorem B3_main_arg0 (c : Dev nD) : B3 m c (Proc.devRef .tc main_arg0) = m ((c : Thread nD τ).loc main_arg0) :=
  (B3_of m c main_arg0 (by decide)).trans (B2_main_arg0 m c)
theorem B4_main_arg0 (c : Dev nD) : B4 m c (Proc.devRef .tc main_arg0) = m ((c : Thread nD τ).loc main_arg0) :=
  (B4_of m c main_arg0 (by decide)).trans (B3_main_arg0 m c)
theorem B1_main_arg1 (c : Dev nD) : B1 m c (Proc.devRef .tc main_arg1) = m ((c : Thread nD τ).loc main_arg1) :=
  (B1_of m c main_arg1 (by decide)).trans rfl
theorem B2_main_arg1 (c : Dev nD) : B2 m c (Proc.devRef .tc main_arg1) = m ((c : Thread nD τ).loc main_arg1) :=
  (B2_of m c main_arg1 (by decide)).trans (B1_main_arg1 m c)
theorem B3_main_arg1 (c : Dev nD) : B3 m c (Proc.devRef .tc main_arg1) = m ((c : Thread nD τ).loc main_arg1) :=
  (B3_of m c main_arg1 (by decide)).trans (B2_main_arg1 m c)
theorem B4_main_arg1 (c : Dev nD) : B4 m c (Proc.devRef .tc main_arg1) = m ((c : Thread nD τ).loc main_arg1) :=
  (B4_of m c main_arg1 (by decide)).trans (B3_main_arg1 m c)

/-! ## The calls as segments -/

abbrev tables : (p : Fin 2) → (pcfgs (F := F) p).Adm
  | ⟨0, _⟩ => adm0
  | ⟨1, _⟩ => adm1
def pdats : (p : Fin 2) → (c : Dev nD) → Dat τ (Elt F) Unit ℕ (UR sig nD τ) ℕ (Pipeline.pin (pcfgs (F := F)) tables p) c
  | ⟨0, _⟩ => fun c => dat0 (B1 m) c
  | ⟨1, _⟩ => fun c => dat1 (B3 m) c
/-- Every semaphore of a core of the first kind may be waited on; nothing is ever owed. -/
abbrev lev : GSem nD τ sig → Finset Unit := fun g => if g.1.2 = .tc then {()} else ∅
abbrev rank : GSem nD τ sig → Unit → ℕ := fun _ _ => 0
/-- What rides beside the buffers: nothing owed, and the register of the generator. -/
abbrev reg (c : Dev nD) : sProp (MT nD τ sig Unit (Elt F) ℕ (UR sig nD τ) ℕ) := iprop(∃ r, prngReg c r)
abbrev rest (c : Dev nD) : sProp (MT nD τ sig Unit (Elt F) ℕ (UR sig nD τ) ℕ) :=
  iprop((∃ Wd, owes (c : Thread nD τ) (0 : CellTallies nD τ sig Unit) Wd) ∗ reg c ∗ emp)
theorem cut0 : Pipeline.LevelCut (nD := nD) (τ := τ) (pcfgs (F := F)) tables () lev rank 0 (fun _ => 0) (fun _ => 0) where
  hι _ _ _ := by simp [lev]
  hιb _ _ _ := le_rfl
  hD _ _ _ h := absurd h (lt_irrefl _)
-- the record's implicit arguments are found by unifying it with its type
set_option backward.isDefEq.respectTransparency.types false in
/-- Call 0, from the buffers before it to the buffers after it. -/
def call0 : Pipeline.RegionSeg (pcfgs (F := F)) tables (pdats m) () defs₀ Variants.none lev rank 0 :=
  Pipeline.RegionSeg.ofHeldInT (pcfgs (F := F)) tables (pdats m) () defs₀ Variants.none lev rank 0 (fun _ => 0) (Pipeline.ucRefs τ sig) reg reg
    launch0 (fun c => (body0 (B1 m) c).loose) (fun _ _ => rfl) (fun _ => rfl)
    (fun c => (dat0 (B1 m) c).share_full fun _ => rfl) (fun c => by
      rw [show (pdats m 0 c).Φ 0 = iprop(Pipeline.ΦA spec0 c ∗ Pipeline.prefHeld pre0 c (fun _ => fullShare) tbl0) from rfl]; exact .rfl)
    (fun c => by
      rw [show (pdats m 0 c).Φ (Fin.last _) = iprop(Pipeline.ΦA spec0 c ∗ Pipeline.prefHeld pre0 c (fun _ => fullShare) tbl0) from rfl]; exact .rfl)
    (fun _ => 0) cut0 (fun _ => iprop(emp)) (B1 m)
    (fun c w => entry0 (B1 m) c w) (fun c k => words0 m c k)
set_option backward.isDefEq.respectTransparency.types false in
theorem enter0 (c : Dev nD) : iprop(StableHlo.held (c : Thread nD τ) (Pipeline.ucRefs τ sig) (B1 m c) ∗ rest c) ⊢ (call0 m).pre c := by
  unfold call0
  refine BI.Entails.trans ?_ (Pipeline.RegionSeg.ofHeldInT_pre (Pipeline.arrRefs_sub_ucRefs _ (launch0 (F := F)).win.arr_unscoped) (Pipeline.tblRefs_sub_ucRefs _ (launch0 (F := F)).pre.unscoped) c)
  exact BI.Entails.refl _
set_option backward.isDefEq.respectTransparency.types false in
theorem leave0 (c : Dev nD) : (call0 m).post c ⊢ iprop(StableHlo.held (c : Thread nD τ) (Pipeline.ucRefs τ sig) (B2 m c) ∗ rest c) := by
  unfold call0
  refine BI.Entails.trans (Pipeline.RegionSeg.ofHeldInT_post (Pipeline.arrRefs_sub_ucRefs _ (launch0 (F := F)).win.arr_unscoped) (Pipeline.tblRefs_sub_ucRefs _ (launch0 (F := F)).pre.unscoped) c) ?_
  exact BI.Entails.refl _
/-- The operations before call 0. -/
def host0 : Pipeline.HostSeg (Name := ℕ) (U := UR sig nD τ) (pcfgs (F := F)) defs₀ Variants.none lev rank :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) rest
theorem cut1 : Pipeline.LevelCut (nD := nD) (τ := τ) (pcfgs (F := F)) tables () lev rank 1 (fun _ => 0) (fun _ => 0) where
  hι _ _ _ := by simp [lev]
  hιb _ _ _ := le_rfl
  hD _ _ _ h := absurd h (lt_irrefl _)
-- the record's implicit arguments are found by unifying it with its type
set_option backward.isDefEq.respectTransparency.types false in
/-- Call 1, from the buffers before it to the buffers after it. -/
def call1 : Pipeline.RegionSeg (pcfgs (F := F)) tables (pdats m) () defs₀ Variants.none lev rank 1 :=
  Pipeline.RegionSeg.ofHeldInT (pcfgs (F := F)) tables (pdats m) () defs₀ Variants.none lev rank 1 (fun _ => 0) (Pipeline.ucRefs τ sig) reg reg
    launch1 (fun c => (body1 (B3 m) c).loose) (fun _ _ => rfl) (fun _ => rfl)
    (fun c => (dat1 (B3 m) c).share_full fun _ => rfl) (fun c => by
      rw [show (pdats m 1 c).Φ 0 = iprop(Pipeline.ΦA spec1 c ∗ Pipeline.prefHeld pre1 c (fun _ => fullShare) tbl1) from rfl]; exact .rfl)
    (fun c => by
      rw [show (pdats m 1 c).Φ (Fin.last _) = iprop(Pipeline.ΦA spec1 c ∗ Pipeline.prefHeld pre1 c (fun _ => fullShare) tbl1) from rfl]; exact .rfl)
    (fun _ => 0) cut1 (fun _ => iprop(emp)) (B3 m)
    (fun c w => entry1 (B3 m) c w) (fun c k => words1 m c k)
set_option backward.isDefEq.respectTransparency.types false in
theorem enter1 (c : Dev nD) : iprop(StableHlo.held (c : Thread nD τ) (Pipeline.ucRefs τ sig) (B3 m c) ∗ rest c) ⊢ (call1 m).pre c := by
  unfold call1
  refine BI.Entails.trans ?_ (Pipeline.RegionSeg.ofHeldInT_pre (Pipeline.arrRefs_sub_ucRefs _ (launch1 (F := F)).win.arr_unscoped) (Pipeline.tblRefs_sub_ucRefs _ (launch1 (F := F)).pre.unscoped) c)
  exact BI.Entails.refl _
set_option backward.isDefEq.respectTransparency.types false in
theorem leave1 (c : Dev nD) : (call1 m).post c ⊢ iprop(StableHlo.held (c : Thread nD τ) (Pipeline.ucRefs τ sig) (B4 m c) ∗ rest c) := by
  unfold call1
  refine BI.Entails.trans (Pipeline.RegionSeg.ofHeldInT_post (Pipeline.arrRefs_sub_ucRefs _ (launch1 (F := F)).win.arr_unscoped) (Pipeline.tblRefs_sub_ucRefs _ (launch1 (F := F)).pre.unscoped) c) ?_
  exact BI.Entails.refl _
/-- The operations before call 1. -/
def host1 : Pipeline.HostSeg (Name := ℕ) (U := UR sig nD τ) (pcfgs (F := F)) defs₀ Variants.none lev rank :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B2 m) rest
/-- The program's pieces in order. -/
abbrev pieces : List (Pipeline.Seg (pcfgs (F := F)) tables (pdats m) () defs₀ Variants.none lev rank) :=
  [.host (host0 m), .region (call0 m), .host (host1 m), .region (call1 m)]
theorem main_pieces (c : Dev nD) : main (F := F) c = Pipeline.Seg.run (pieces m) :=
  main_segs tables (pdats m) () Variants.none lev rank (host0 m) (host1 m) (call0 m) (call1 m) rfl rfl c
/-- A buffer that is never freed is among those followed. -/
theorem followed (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one
set_option backward.isDefEq.respectTransparency.types false in
/-- Every run ends with every followed buffer at its last boundary's contents and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = B4 m c b) ∧ r.2.sem = fun _ => 0) :=
  Pipeline.θ_run_regions_kit_sems (pcfgs (F := F)) tables (pdats m) () (cellOf_inj tables) emb₁ defs₀ Variants.none lev rank m ρ main (pieces m)
    (fun c Q => by rw [main_pieces m c])
    (by simp only [pieces, Pipeline.Seg.pipes_host, Pipeline.Seg.pipes_region, Pipeline.Seg.pipes_nil]; decide)
    (O₀ := 0) (hL := fun _ h => if_neg h) (G := fun _ => iprop(emp))
    (u₀ := initOf (Pipeline.cells (Pipeline.pin (pcfgs (F := F)) tables) (cellOf_inj tables)) (Pipeline.launchToks (Pipeline.pin (pcfgs (F := F)) tables) (cellOf_inj tables)))
    (hu₀ := by
      iintro Hu; imodintro
      isplitl [Hu]
      · iapply (show (ownU (initOf (Pipeline.cells (Pipeline.pin (pcfgs (F := F)) tables) (cellOf_inj tables)) (Pipeline.launchToks (Pipeline.pin (pcfgs (F := F)) tables) (cellOf_inj tables))) : sProp (MT nD τ sig Unit (Elt F) ℕ (UR sig nD τ) ℕ))
            ⊢ BI.own (emb₁ (initOf (Pipeline.cells (Pipeline.pin (pcfgs (F := F)) tables) (cellOf_inj tables)) (Pipeline.launchToks (Pipeline.pin (pcfgs (F := F)) tables) (cellOf_inj tables)))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (B0 m c) ∗ rest c))
    (Tₙ := fun c => iprop(StableHlo.held (c : Thread nD τ) (Pipeline.ucRefs τ sig) (B4 m c) ∗ reg c))
    (hch := ⟨fun _ => .rfl, enter0 m, leave0 m, enter1 m, fun c => by
      refine (leave1 m c).trans ?_
      iintro ⟨Hh, HO, Hr, -⟩
      isplitl [Hh Hr]
      · isplitl [Hh]; · iexact Hh
        iexact Hr
      iexact HO⟩)
    (hinit := by
      refine Pipeline.initEach lev rank fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h hz => ⟨h, funext fun g => hz g (.inr (regions_no_unscoped g.2))⟩)

/-- The arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c _ (followed main_arg0 (by decide))).trans (B4_main_arg0 m c),
    (h.1 c _ (followed main_arg1 (by decide))).trans (B4_main_arg1 m c)⟩, h.2⟩) (run m ρ)

end Cert.Kernel7Ideal.GradProj
-- ==== Proof.GradProjFinal.lean ====
module

public import proofs.«01_k».proof.Proof.GradProjRun
public import Idealize.ShloMosaic.Lib.Pipeline.ValueKit
public import Idealize.ShloMosaic.Lib.Pipeline.ValueKit.Partial
public import Idealize.ShloMosaic.Lib.Pointwise

/-! # What the two calls leave: the whole gradient of the projection's weight -/

@[expose] public section

set_option maxRecDepth 16384

noncomputable section

namespace Cert.Kernel7Ideal.GradProj

open Idealize.ShloMosaic Idealize.ShloMosaic.TcCoe Idealize.SL.Sem
open Idealize.ShloMosaic.Pipeline (Dat)
open Cert.Kernel7Ideal Cert.Kernel7Ideal.Gen

/-- The column of the whole product that column `j` of shard `s` is. -/
def col (s : Fin 8) (j : Fin 1408) : Fin 11264 := ⟨s.val * 1408 + j.val, by omega⟩

/-- The gradient of the weight: the tokens summed over, rows of the input against columns of the cotangent. -/
def grad (h : FVec Ideal S4096x2048 .bf16) (d : FVec Ideal S4096x11264 .bf16) : FVec Ideal S8x2048x1408 .bf16 :=
  fun i => ∑ k : Fin 4096, (h (ix2 k (i 1)) * d (ix2 k (col (i 0) (i 2))) : EReal)

variable (V : Dev nD → Valuation τ sig (Elt Ideal))

/-- Which block of each array the first call's windows take at a grid point: the odd shards. -/
theorem idx0 : ∀ t : Fin (pc0 (F := Ideal)).N, ((pc0 (F := Ideal)).win 0).index t = ![0, t.val % 4]
    ∧ ((pc0 (F := Ideal)).win 1).index t = ![0, 2 * (t.val / 4) + 1] ∧ ((pc0 (F := Ideal)).win 2).index t = ![2 * (t.val / 4) + 1, t.val % 4, 0] :=
  (by decide +kernel : ∀ t : Fin grid0.N, _)

/-- The first call writes the odd shards and leaves the others. -/
theorem final0 (c : Dev nD) : (dat0 V c).arrAt 2 (pc0 (F := Ideal)).N
    = fun i => if (i 0 : ℕ) % 2 = 1 then grad (V c (Proc.devRef .tc main_arg0)) (V c (Proc.devRef .tc main_arg1)) i else V c (Proc.devRef .tc main_v0) i := by
  refine (dat0 V c).arrAt_eq_of_coversWhere 2 _ (fun β => β 0 % 2 = 1) (by decide +kernel) (fun t _ y => ?_)
    (fun j => by blk_simp [Pipeline.Window.cell_apply]; rw [Nat.div_one])
  blk_simp
  rw [left0_2]
  pointwise [k0_pay1, grad]
  blk_point [blk0, idx0 t, col]

/-- Which block of each array the second call's windows take at a grid point: the even shards. -/
theorem idx1 : ∀ t : Fin (pc1 (F := Ideal)).N, ((pc1 (F := Ideal)).win 0).index t = ![0, t.val % 4]
    ∧ ((pc1 (F := Ideal)).win 1).index t = ![0, 2 * (t.val / 4)] ∧ ((pc1 (F := Ideal)).win 2).index t = ![2 * (t.val / 4), t.val % 4, 0] :=
  (by decide +kernel : ∀ t : Fin grid1.N, _)

/-- The second call writes the even shards and leaves the others. -/
theorem final1 (c : Dev nD) : (dat1 V c).arrAt 2 (pc1 (F := Ideal)).N
    = fun i => if (i 0 : ℕ) % 2 = 0 then grad (V c (Proc.devRef .tc main_arg0)) (V c (Proc.devRef .tc main_arg1)) i else V c (Proc.devRef .tc main_v1) i := by
  refine (dat1 V c).arrAt_eq_of_coversWhere 2 _ (fun β => β 0 % 2 = 0) (by decide +kernel) (fun t _ y => ?_)
    (fun j => by blk_simp [Pipeline.Window.cell_apply]; rw [Nat.div_one])
  blk_simp
  rw [left1_2]
  pointwise [k1_pay1, grad]
  blk_point [blk1, idx1 t, col]

variable (m : (ℓ : Loc nD τ sig) → Buf (Elt Ideal) ℓ)

/-- After both calls every shard is the gradient's. -/
theorem whole (c : Dev nD) : B4 m c (Proc.devRef .tc main_v1)
    = grad (m ((c : Thread nD τ).loc main_arg0)) (m ((c : Thread nD τ).loc main_arg1)) := by
  have h2 : B2 m c (Proc.devRef .tc main_v0) = _ := (exit0_arr (B1 m) c 2).trans (final0 (B1 m) c)
  have h3 : B3 m c (Proc.devRef .tc main_v1) = B2 m c (Proc.devRef .tc main_v0) := by unfold B3; rfl
  have h4 : B4 m c (Proc.devRef .tc main_v1) = _ := (exit1_arr (B3 m) c 2).trans (final1 (B3 m) c)
  rw [h4, h3, h2, B1_main_arg0, B1_main_arg1, B3_main_arg0, B3_main_arg1]
  funext i
  show (if _ then _ else if _ then _ else _) = _
  split_ifs with a b
  · rfl
  · rfl
  · omega

end Cert.Kernel7Ideal.GradProj
-- ==== Proof.GradProjClaim.lean ====
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.GradProjFinal
public import Idealize.ShloMosaic.Lib.Quiescent

/-! # The gradient of the projection's weight: the kernel beside its reference -/

@[expose] public section

noncomputable section

namespace Cert.Proof.GradProj

open Idealize.ShloMosaic Idealize.ShloMosaic.TcCoe Idealize.SL.Sem

/-- The frame's statement over words, of the text that the run is written for. -/
abbrev Quiet : Prop := ∀ (m : (ℓ : Loc Cert.Kernel7Ideal.nD Cert.Kernel7Ideal.τ Cert.Kernel7Ideal.sig) → Buf (Elt Bits) ℓ) (ρ : Dev Cert.Kernel7Ideal.nD → PrngReg), True →
  θ_run (Cert.Kernel7Ideal.defs (F := Bits)) (onTc (τ := Cert.Kernel7Ideal.τ) (Cert.Kernel7Ideal.main (F := Bits))) ⟨m, fun _ => 0, ρ⟩
    (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

/-- The kernel and its idealization have the same text. -/
theorem same_text : Quiet = Cert.quiescent_Kernel7 (hKernel7 := Cert.Kernel7.Gen.facts) := by sl_kernel_rfl

/-- The kernel's frame over words is the one run's, at words. -/
theorem frame_kernel : Cert.quiescent_Kernel7 (hKernel7 := Cert.Kernel7.Gen.facts) :=
  same_text.mp fun m ρ _ => Cert.Kernel7Ideal.GradProj.frame (F := Bits) m ρ

/-- The reference's run: the arguments stay, every counter is zero. -/
theorem frame_ref : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run (F := Ideal) m ρ)

/-- The reference's result is the kernel's: the transposed input times the cotangent, its columns cut into shards. -/
theorem res (x : FVec Ideal Cert.Kernel7Ideal.S4096x2048 .bf16) (d : FVec Ideal Cert.Kernel7Ideal.S4096x11264 .bf16) :
    Cert.Reference7Ideal.Read.val_main_v10 (F := Ideal) x d = Cert.Kernel7Ideal.GradProj.grad x d := by
  funext i
  have h0 : (i 0 : Fin 8).val < 8 := (i 0 : Fin 8).isLt
  have h1 : (i 1 : Fin 2048).val < 2048 := (i 1 : Fin 2048).isLt
  have h2 : (i 2 : Fin 1408).val < 1408 := (i 2 : Fin 1408).isLt
  refine (Cert.Reference7Ideal.Read.val_main_v9_apply (F := Ideal) x d i).trans ?_
  rw [Cert.Reference7Ideal.Read.val_main_v8_apply, Cert.Reference7Ideal.Read.val_main_v7_apply, Cert.Reference7Ideal.Read.val_main_v6_apply]
  refine Finset.sum_congr rfl fun k _ => (EReal.mul_comm _ _).trans (congrArg₂ (· * ·) (congrArg x (funext fun a => Fin.ext ?_)) (congrArg d (funext fun a => Fin.ext ?_)))
  · match a with
    | ⟨0, _⟩ => rfl
    | ⟨1, _⟩ => show (((i 1 : Fin 2048).val * 8 + (i 0 : Fin 8).val) * 1408 + (i 2 : Fin 1408).val) / 11264 = (i 1 : Fin 2048).val; omega
  · match a with
    | ⟨0, _⟩ => rfl
    | ⟨1, _⟩ =>
      show (((i 1 : Fin 2048).val * 8 + (i 0 : Fin 8).val) * 1408 + (i 2 : Fin 1408).val) % 11264 = (i 0 : Fin 8).val * 1408 + (i 2 : Fin 1408).val
      omega

/-- The kernel's result is the reference's. -/
theorem value : Cert.algebraic_Kernel7Ideal_Reference7Ideal (hKernel7Ideal := Cert.Kernel7Ideal.Gen.facts)
    (hReference7Ideal := Cert.Reference7Ideal.Gen.facts) := by
  intro m ρ m' ρ' _ hag
  refine ⟨fun c => Cert.Kernel7Ideal.GradProj.grad (m ((c.tc : Thread _ _).loc Cert.Kernel7Ideal.main_arg0)) (m ((c.tc : Thread _ _).loc Cert.Kernel7Ideal.main_arg1)),
    (θ_run _ _ _).mono (fun r h c => ?_) (Cert.Kernel7Ideal.GradProj.run m ρ),
    (θ_run _ _ _).mono (fun r h c => ?_) (Cert.Reference7Ideal.Value.run (F := Ideal) m' ρ')⟩
  · exact ⟨(h.1 c _ (Cert.Kernel7Ideal.GradProj.followed Cert.Kernel7Ideal.main_v1 (by decide))).trans (Cert.Kernel7Ideal.GradProj.whole m c),
      (h.1 c _ (Cert.Kernel7Ideal.GradProj.followed Cert.Kernel7Ideal.main_arg0 (by decide))).trans (Cert.Kernel7Ideal.GradProj.B4_main_arg0 m c),
      (h.1 c _ (Cert.Kernel7Ideal.GradProj.followed Cert.Kernel7Ideal.main_arg1 (by decide))).trans (Cert.Kernel7Ideal.GradProj.B4_main_arg1 m c)⟩
  · obtain ⟨a0, a1⟩ := hag c
    obtain ⟨h1, hargs⟩ := h c
    rw [Cert.Reference7Ideal.Read.val_main_v10_eq, a0, a1] at h1
    exact ⟨h1.trans (res _ _), hargs⟩

end Cert.Proof.GradProj
-- ==== Proof.FwdProjCalls.lean ====
module

public import proofs.«01_k».proof.Proof.Gen.Kernel8Ideal.Regions
public import proofs.«01_k».proof.Proof.Gen.Kernel8Ideal.Skeleton
public import Idealize.ShloMosaic.Lib.Pipeline.FrameBody
public import Idealize.ShloMosaic.Lib.Pipeline.RegionArraysTS
public import Idealize.ShloMosaic.Lib.VecWindow
public import Idealize.ShloMosaic.Lib.Tactic
public import Idealize.ShloMosaic.Lib.Claim

/-! # The five calls of the projection, one by one -/

@[expose] public section

set_option maxRecDepth 16384

noncomputable section

namespace Cert.Kernel8Ideal.FwdProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel8Ideal Cert.Kernel8Ideal.Gen

variable {F : FTy → Type} [FloatOps F]

/-! ## Call 0 -/

/-- The words of call 0's table: which shards it works on. -/
def tbl0 : (pre0).Contents (Elt F) := fun k => match k with
  | ⟨0, _⟩ => fun i => lit0 (S2.rowMajor i)
/-- With these words every block lies inside its array. -/
theorem ok_tbl0 : ok0 (F := F) tbl0 := of_decide_eq_true (by sl_kernel_rfl)
abbrev adm0 : (pcfg0 (F := F)).Adm := ⟨tbl0, ok_tbl0⟩
abbrev pc0 : Cfg sig Λ₀ := cfg0 (F := F) adm0

/-- The block of window `w` at point `t`, read off the array as the call finds it. -/
def blk0 (V : Dev nD → Valuation τ sig (Elt F)) (c : Dev nD) (w : Fin (pc0 (F := F)).W) (t : Fin (pc0 (F := F)).N) :
    (((pc0 (F := F)).win w).xblock ((pc0 (F := F)).grid.coords t)).Idx → Elt F ((pc0 (F := F)).win w).elt :=
  (((pc0 (F := F)).win w).blk t).view.read (Elt F) (V c (Proc.devRef .tc (Pipeline.arrRef spec0 w)))

/-- The body of call 0 on whole staging buffers: the two inputs stay as they are, and the output ends at their product. -/
theorem triple0 (c : Dev nD) (i : grid0.Coords)
    (a0 : Memref sig .tc .vmem S1024x2048 .bf16) (h0 : a0.IsWhole) (a1 : Memref sig .tc .vmem S1x2048x1408 .bf16) (h1 : a1.IsWhole)
    (a2 : Memref sig .tc .vmem S1024x1408 .f32) (h2 : a2.IsWhole) (x0 : Vec F S1024x2048 .bf16) (x1 : Vec F S1x2048x1408 .bf16)
    (E : Set ℕ) (K : PUnit → sProp (MT nD τ sig Unit (Elt F) ℕ (UR sig nD τ) ℕ)) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k0_pay1 x0 x1)) -∗ K ⟨⟩))
      ⊢ wp frame (wpE (defs₀ (F := F)) Variants.none c none) E
          (cc0_proj_local (F := F) i (Memref.whole main_c) (Memref.isWhole_whole _) a0 h0 a1 h1 a2 h2) K := by
  simp only [cc0_proj_local_eq_skeleton]; unfold cc0_proj_local_skel
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  refine (View.read_writes_full _ _ _ _ _).trans ?_
  rw [View.readAt_full, View.readAt_full, h0.read_unread, h1.read_unread]

/-- What call 0 does point by point: the inputs' staging buffers keep their blocks, the output's takes the product;
    beside them the buffers of the other calls, the generator's register and the table ride along untouched. -/
def dat0 (V : Dev nD → Valuation τ sig (Elt F)) (c : Dev nD) : Dat τ (Elt F) Unit ℕ (UR sig nD τ) ℕ (pc0 (F := F)) c where
  A w := V c (Proc.devRef .tc (Pipeline.arrRef spec0 w))
  after w t := match w with
    | ⟨0, _⟩ => blk0 V c 0 t
    | ⟨1, _⟩ => blk0 V c 1 t
    | ⟨2, _⟩ => k0_pay1 (blk0 V c 0 t) (blk0 V c 1 t)
  Φ _ := iprop(Pipeline.ΦA spec0 c ∗ Pipeline.prefHeld pre0 c (fun _ => fullShare) tbl0)
  q _ := fullShare
  owed _ := 0

section
variable (V : Dev nD → Valuation τ sig (Elt F))

theorem entry0 (c : Dev nD) (w : Fin (pc0 (F := F)).W) : (dat0 V c).A w = V c (Proc.devRef .tc (Pipeline.arrRef spec0 w)) := by
  dsimp only [dat0]
theorem left0_0 (c : Dev nD) (t : Fin (pc0 (F := F)).N) : (dat0 V c).after 0 t = blk0 V c 0 t := by dsimp only [dat0]; try rfl
theorem left0_1 (c : Dev nD) (t : Fin (pc0 (F := F)).N) : (dat0 V c).after 1 t = blk0 V c 1 t := by dsimp only [dat0]; try rfl
theorem left0_2 (c : Dev nD) (t : Fin (pc0 (F := F)).N) : (dat0 V c).after 2 t = k0_pay1 (blk0 V c 0 t) (blk0 V c 1 t) := by
  dsimp only [dat0]; try rfl

/-- An input's staging buffer holds its block at every point. -/
theorem found0_0 (c : Dev nD) (t : Fin (pc0 (F := F)).N) (d) : (dat0 V c).before 0 t d = blk0 V c 0 t :=
  ((dat0 V c).before_in_eq_fetched 0 rfl (fun _ => rfl) (fun _ _ _ => rfl)
    (fun t => by rw [left0_0]; unfold Dat.blockOf blk0; rw [entry0]; try rfl) t d).trans
    (by unfold Dat.fetched Dat.blockOf blk0; rw [entry0]; try rfl)
theorem found0_1 (c : Dev nD) (t : Fin (pc0 (F := F)).N) (d) : (dat0 V c).before 1 t d = blk0 V c 1 t :=
  ((dat0 V c).before_in_eq_fetched 1 rfl (fun _ => rfl) (fun _ _ _ => rfl)
    (fun t => by rw [left0_1]; unfold Dat.blockOf blk0; rw [entry0]; try rfl) t d).trans
    (by unfold Dat.fetched Dat.blockOf blk0; rw [entry0]; try rfl)

/-- The body at a point, as the program spells it. -/
def at0 (t : Fin (pc0 (F := F)).N) : Prog (TpuEff nD τ sig (Elt F) Λ₀ .tc) PUnit :=
  cc0_proj_local (F := F) (grid0.coords t) (Memref.whole main_c) (Memref.isWhole_whole _)
    (spec0_0.stage ((pc0 (F := F)).slots t 0)) (hstage0_0 (((pc0 (F := F)).slots t 0).cast nbuf0_0))
    (spec0_1.stage ((pc0 (F := F)).slots t 1)) (hstage0_1 (((pc0 (F := F)).slots t 1).cast nbuf0_1))
    (spec0_2.stage ((pc0 (F := F)).slots t 2)) (hstage0_2 (((pc0 (F := F)).slots t 2).cast nbuf0_2))

/-- One point of call 0: from the blocks found to the blocks left. -/
theorem point0 (c : Dev nD) (t : Fin (pc0 (F := F)).N) :
    iprop((dat0 V c).Φ t.castSucc ∗ (dat0 V c).owesAt () t.castSucc
      ∗ (∃ d, owns (c : Thread nD τ) (spec0_0.stage ((pc0 (F := F)).slots t 0)) fullShare ((dat0 V c).before 0 t d))
      ∗ (∃ d, owns (c : Thread nD τ) (spec0_1.stage ((pc0 (F := F)).slots t 1)) fullShare ((dat0 V c).before 1 t d))
      ∗ (∃ d, owns (c : Thread nD τ) (spec0_2.stage ((pc0 (F := F)).slots t 2)) fullShare ((dat0 V c).before 2 t d)))
    ⊢ wp frame (wpE (defs₀ (F := F)) Variants.none c none) Set.univ (at0 t) (fun _ =>
      iprop((dat0 V c).Φ t.succ ∗ (dat0 V c).owesAt () t.succ
        ∗ owns (c : Thread nD τ) (spec0_0.stage ((pc0 (F := F)).slots t 0)) fullShare ((dat0 V c).after 0 t)
        ∗ owns (c : Thread nD τ) (spec0_1.stage ((pc0 (F := F)).slots t 1)) fullShare ((dat0 V c).after 1 t)
        ∗ owns (c : Thread nD τ) (spec0_2.stage ((pc0 (F := F)).slots t 2)) fullShare ((dat0 V c).after 2 t))) := by
  unfold at0
  simp only [found0_0, found0_1]
  rw [show (dat0 V c).Φ t.succ = (dat0 V c).Φ t.castSucc from rfl,
    show (dat0 V c).owesAt () t.succ = (dat0 V c).owesAt () t.castSucc from rfl, left0_0, left0_1, left0_2]
  iintro ⟨HΦ, Ho, ⟨%d0, H0⟩, ⟨%d1, H1⟩, ⟨%d2, H2⟩⟩
  iapply (triple0 c (grid0.coords t) _ _ _ _ _ _ (blk0 V c 0 t) (blk0 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body0 (c : Dev nD) : BodyObligation (dat0 V c) (defs₀ (F := F)) Variants.none () Set.univ := fun t => by
  rw [bigSep_W0, bigSep_W0, show defs₀ (F := F) .tc (pc0 (F := F)).body ((pc0 (F := F)).bodyArgs t ((pc0 (F := F)).slots t)) = at0 t from by
    unfold defs₀; rw [Defs.onTc_tc]; rfl]
  exact triple_restated (point0 V c t) rfl .rfl fun _ => .rfl

/-- The buffers as call 0 leaves them. -/
def exit0 (c : Dev nD) : Valuation τ sig (Elt F) := Pipeline.afterRegion (dat0 V c) (V c)
theorem exit0_arr (c : Dev nD) (w : Fin 3) : exit0 V c (Proc.devRef .tc (Pipeline.arrRef spec0 w)) = (dat0 V c).arrAt w (pc0 (F := F)).N :=
  Pipeline.afterRegion_arr (dat0 V c) (V c) (launch0 (F := F)).win.arr_inj w
/-- Only the output changes. -/
theorem exit0_of (c : Dev nD) (r : Ref sig .tc) (h : r ≠ main_v0) : exit0 V c (Proc.devRef .tc r) = V c (Proc.devRef .tc r) := by
  refine Pipeline.afterRegion_keeps (dat0 V c) (V c) (launch0 (F := F)).win.arr_inj (entry0 V c) r ?_
  exact fun w hw => match w with
    | ⟨0, _⟩ => rfl
    | ⟨1, _⟩ => rfl
    | ⟨2, _⟩ => absurd hw.symm h
end

/-! ## Call 1 -/

/-- The words of call 1's table: which shards it works on. -/
def tbl1 : (pre1).Contents (Elt F) := fun k => match k with
  | ⟨0, _⟩ => fun i => lit1 (S2.rowMajor i)
/-- With these words every block lies inside its array. -/
theorem ok_tbl1 : ok1 (F := F) tbl1 := of_decide_eq_true (by sl_kernel_rfl)
abbrev adm1 : (pcfg1 (F := F)).Adm := ⟨tbl1, ok_tbl1⟩
abbrev pc1 : Cfg sig Λ₀ := cfg1 (F := F) adm1

/-- The block of window `w` at point `t`, read off the array as the call finds it. -/
def blk1 (V : Dev nD → Valuation τ sig (Elt F)) (c : Dev nD) (w : Fin (pc1 (F := F)).W) (t : Fin (pc1 (F := F)).N) :
    (((pc1 (F := F)).win w).xblock ((pc1 (F := F)).grid.coords t)).Idx → Elt F ((pc1 (F := F)).win w).elt :=
  (((pc1 (F := F)).win w).blk t).view.read (Elt F) (V c (Proc.devRef .tc (Pipeline.arrRef spec1 w)))

/-- The body of call 1 on whole staging buffers: the two inputs stay as they are, and the output ends at their product. -/
theorem triple1 (c : Dev nD) (i : grid1.Coords)
    (a0 : Memref sig .tc .vmem S1024x2048 .bf16) (h0 : a0.IsWhole) (a1 : Memref sig .tc .vmem S1x2048x1408 .bf16) (h1 : a1.IsWhole)
    (a2 : Memref sig .tc .vmem S1024x1408 .f32) (h2 : a2.IsWhole) (x0 : Vec F S1024x2048 .bf16) (x1 : Vec F S1x2048x1408 .bf16)
    (E : Set ℕ) (K : PUnit → sProp (MT nD τ sig Unit (Elt F) ℕ (UR sig nD τ) ℕ)) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k1_pay1 x0 x1)) -∗ K ⟨⟩))
      ⊢ wp frame (wpE (defs₀ (F := F)) Variants.none c none) E
          (cc1_proj_near (F := F) i (Memref.whole main_c_0) (Memref.isWhole_whole _) a0 h0 a1 h1 (Memref.whole main_v0) (Memref.isWhole_whole _) a2 h2) K := by
  simp only [cc1_proj_near_eq_skeleton]; unfold cc1_proj_near_skel
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  refine (View.read_writes_full _ _ _ _ _).trans ?_
  rw [View.readAt_full, View.readAt_full, h0.read_unread, h1.read_unread]

/-- What call 1 does point by point: the inputs' staging buffers keep their blocks, the output's takes the product;
    beside them the buffers of the other calls, the generator's register and the table ride along untouched. -/
def dat1 (V : Dev nD → Valuation τ sig (Elt F)) (c : Dev nD) : Dat τ (Elt F) Unit ℕ (UR sig nD τ) ℕ (pc1 (F := F)) c where
  A w := V c (Proc.devRef .tc (Pipeline.arrRef spec1 w))
  after w t := match w with
    | ⟨0, _⟩ => blk1 V c 0 t
    | ⟨1, _⟩ => blk1 V c 1 t
    | ⟨2, _⟩ => k1_pay1 (blk1 V c 0 t) (blk1 V c 1 t)
  Φ _ := iprop(Pipeline.ΦA spec1 c ∗ Pipeline.prefHeld pre1 c (fun _ => fullShare) tbl1)
  q _ := fullShare
  owed _ := 0

section
variable (V : Dev nD → Valuation τ sig (Elt F))

theorem entry1 (c : Dev nD) (w : Fin (pc1 (F := F)).W) : (dat1 V c).A w = V c (Proc.devRef .tc (Pipeline.arrRef spec1 w)) := by
  dsimp only [dat1]
theorem left1_0 (c : Dev nD) (t : Fin (pc1 (F := F)).N) : (dat1 V c).after 0 t = blk1 V c 0 t := by dsimp only [dat1]; try rfl
theorem left1_1 (c : Dev nD) (t : Fin (pc1 (F := F)).N) : (dat1 V c).after 1 t = blk1 V c 1 t := by dsimp only [dat1]; try rfl
theorem left1_2 (c : Dev nD) (t : Fin (pc1 (F := F)).N) : (dat1 V c).after 2 t = k1_pay1 (blk1 V c 0 t) (blk1 V c 1 t) := by
  dsimp only [dat1]; try rfl

/-- An input's staging buffer holds its block at every point. -/
theorem found1_0 (c : Dev nD) (t : Fin (pc1 (F := F)).N) (d) : (dat1 V c).before 0 t d = blk1 V c 0 t :=
  ((dat1 V c).before_in_eq_fetched 0 rfl (fun _ => rfl) (fun _ _ _ => rfl)
    (fun t => by rw [left1_0]; unfold Dat.blockOf blk1; rw [entry1]; try rfl) t d).trans
    (by unfold Dat.fetched Dat.blockOf blk1; rw [entry1]; try rfl)
theorem found1_1 (c : Dev nD) (t : Fin (pc1 (F := F)).N) (d) : (dat1 V c).before 1 t d = blk1 V c 1 t :=
  ((dat1 V c).before_in_eq_fetched 1 rfl (fun _ => rfl) (fun _ _ _ => rfl)
    (fun t => by rw [left1_1]; unfold Dat.blockOf blk1; rw [entry1]; try rfl) t d).trans
    (by unfold Dat.fetched Dat.blockOf blk1; rw [entry1]; try rfl)

/-- The body at a point, as the program spells it. -/
def at1 (t : Fin (pc1 (F := F)).N) : Prog (TpuEff nD τ sig (Elt F) Λ₀ .tc) PUnit :=
  cc1_proj_near (F := F) (grid1.coords t) (Memref.whole main_c_0) (Memref.isWhole_whole _)
    (spec1_0.stage ((pc1 (F := F)).slots t 0)) (hstage1_0 (((pc1 (F := F)).slots t 0).cast nbuf1_0))
    (spec1_1.stage ((pc1 (F := F)).slots t 1)) (hstage1_1 (((pc1 (F := F)).slots t 1).cast nbuf1_1)) (Memref.whole main_v0) (Memref.isWhole_whole _)
    (spec1_2.stage ((pc1 (F := F)).slots t 2)) (hstage1_2 (((pc1 (F := F)).slots t 2).cast nbuf1_2))

/-- One point of call 1: from the blocks found to the blocks left. -/
theorem point1 (c : Dev nD) (t : Fin (pc1 (F := F)).N) :
    iprop((dat1 V c).Φ t.castSucc ∗ (dat1 V c).owesAt () t.castSucc
      ∗ (∃ d, owns (c : Thread nD τ) (spec1_0.stage ((pc1 (F := F)).slots t 0)) fullShare ((dat1 V c).before 0 t d))
      ∗ (∃ d, owns (c : Thread nD τ) (spec1_1.stage ((pc1 (F := F)).slots t 1)) fullShare ((dat1 V c).before 1 t d))
      ∗ (∃ d, owns (c : Thread nD τ) (spec1_2.stage ((pc1 (F := F)).slots t 2)) fullShare ((dat1 V c).before 2 t d)))
    ⊢ wp frame (wpE (defs₀ (F := F)) Variants.none c none) Set.univ (at1 t) (fun _ =>
      iprop((dat1 V c).Φ t.succ ∗ (dat1 V c).owesAt () t.succ
        ∗ owns (c : Thread nD τ) (spec1_0.stage ((pc1 (F := F)).slots t 0)) fullShare ((dat1 V c).after 0 t)
        ∗ owns (c : Thread nD τ) (spec1_1.stage ((pc1 (F := F)).slots t 1)) fullShare ((dat1 V c).after 1 t)
        ∗ owns (c : Thread nD τ) (spec1_2.stage ((pc1 (F := F)).slots t 2)) fullShare ((dat1 V c).after 2 t))) := by
  unfold at1
  simp only [found1_0, found1_1]
  rw [show (dat1 V c).Φ t.succ = (dat1 V c).Φ t.castSucc from rfl,
    show (dat1 V c).owesAt () t.succ = (dat1 V c).owesAt () t.castSucc from rfl, left1_0, left1_1, left1_2]
  iintro ⟨HΦ, Ho, ⟨%d0, H0⟩, ⟨%d1, H1⟩, ⟨%d2, H2⟩⟩
  iapply (triple1 c (grid1.coords t) _ _ _ _ _ _ (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body1 (c : Dev nD) : BodyObligation (dat1 V c) (defs₀ (F := F)) Variants.none () Set.univ := fun t => by
  rw [bigSep_W1, bigSep_W1, show defs₀ (F := F) .tc (pc1 (F := F)).body ((pc1 (F := F)).bodyArgs t ((pc1 (F := F)).slots t)) = at1 t from by
    unfold defs₀; rw [Defs.onTc_tc]; rfl]
  exact triple_restated (point1 V c t) rfl .rfl fun _ => .rfl

/-- The buffers as call 1 leaves them. -/
def exit1 (c : Dev nD) : Valuation τ sig (Elt F) := Pipeline.afterRegion (dat1 V c) (V c)
theorem exit1_arr (c : Dev nD) (w : Fin 3) : exit1 V c (Proc.devRef .tc (Pipeline.arrRef spec1 w)) = (dat1 V c).arrAt w (pc1 (F := F)).N :=
  Pipeline.afterRegion_arr (dat1 V c) (V c) (launch1 (F := F)).win.arr_inj w
/-- Only the output changes. -/
theorem exit1_of (c : Dev nD) (r : Ref sig .tc) (h : r ≠ main_v1) : exit1 V c (Proc.devRef .tc r) = V c (Proc.devRef .tc r) := by
  refine Pipeline.afterRegion_keeps (dat1 V c) (V c) (launch1 (F := F)).win.arr_inj (entry1 V c) r ?_
  exact fun w hw => match w with
    | ⟨0, _⟩ => rfl
    | ⟨1, _⟩ => rfl
    | ⟨2, _⟩ => absurd hw.symm h
end

/-! ## Call 2 -/

/-- The words of call 2's table: which shards it works on. -/
def tbl2 : (pre2).Contents (Elt F) := fun k => match k with
  | ⟨0, _⟩ => fun i => lit2 (S2.rowMajor i)
/-- With these words every block lies inside its array. -/
theorem ok_tbl2 : ok2 (F := F) tbl2 := of_decide_eq_true (by sl_kernel_rfl)
abbrev adm2 : (pcfg2 (F := F)).Adm := ⟨tbl2, ok_tbl2⟩
abbrev pc2 : Cfg sig Λ₀ := cfg2 (F := F) adm2

/-- The block of window `w` at point `t`, read off the array as the call finds it. -/
def blk2 (V : Dev nD → Valuation τ sig (Elt F)) (c : Dev nD) (w : Fin (pc2 (F := F)).W) (t : Fin (pc2 (F := F)).N) :
    (((pc2 (F := F)).win w).xblock ((pc2 (F := F)).grid.coords t)).Idx → Elt F ((pc2 (F := F)).win w).elt :=
  (((pc2 (F := F)).win w).blk t).view.read (Elt F) (V c (Proc.devRef .tc (Pipeline.arrRef spec2 w)))

/-- The body of call 2 on whole staging buffers: the two inputs stay as they are, and the output ends at their product. -/
theorem triple2 (c : Dev nD) (i : grid2.Coords)
    (a0 : Memref sig .tc .vmem S1024x2048 .bf16) (h0 : a0.IsWhole) (a1 : Memref sig .tc .vmem S1x2048x1408 .bf16) (h1 : a1.IsWhole)
    (a2 : Memref sig .tc .vmem S1024x1408 .f32) (h2 : a2.IsWhole) (x0 : Vec F S1024x2048 .bf16) (x1 : Vec F S1x2048x1408 .bf16)
    (E : Set ℕ) (K : PUnit → sProp (MT nD τ sig Unit (Elt F) ℕ (UR sig nD τ) ℕ)) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k2_pay1 x0 x1)) -∗ K ⟨⟩))
      ⊢ wp frame (wpE (defs₀ (F := F)) Variants.none c none) E
          (cc2_proj_fwd_near (F := F) i (Memref.whole main_c_1) (Memref.isWhole_whole _) a0 h0 a1 h1 (Memref.whole main_v1) (Memref.isWhole_whole _) a2 h2) K := by
  simp only [cc2_proj_fwd_near_eq_skeleton]; unfold cc2_proj_fwd_near_skel
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  refine (View.read_writes_full _ _ _ _ _).trans ?_
  rw [View.readAt_full, View.readAt_full, h0.read_unread, h1.read_unread]

/-- What call 2 does point by point: the inputs' staging buffers keep their blocks, the output's takes the product;
    beside them the buffers of the other calls, the generator's register and the table ride along untouched. -/
def dat2 (V : Dev nD → Valuation τ sig (Elt F)) (c : Dev nD) : Dat τ (Elt F) Unit ℕ (UR sig nD τ) ℕ (pc2 (F := F)) c where
  A w := V c (Proc.devRef .tc (Pipeline.arrRef spec2 w))
  after w t := match w with
    | ⟨0, _⟩ => blk2 V c 0 t
    | ⟨1, _⟩ => blk2 V c 1 t
    | ⟨2, _⟩ => k2_pay1 (blk2 V c 0 t) (blk2 V c 1 t)
  Φ _ := iprop(Pipeline.ΦA spec2 c ∗ Pipeline.prefHeld pre2 c (fun _ => fullShare) tbl2)
  q _ := fullShare
  owed _ := 0

section
variable (V : Dev nD → Valuation τ sig (Elt F))

theorem entry2 (c : Dev nD) (w : Fin (pc2 (F := F)).W) : (dat2 V c).A w = V c (Proc.devRef .tc (Pipeline.arrRef spec2 w)) := by
  dsimp only [dat2]
theorem left2_0 (c : Dev nD) (t : Fin (pc2 (F := F)).N) : (dat2 V c).after 0 t = blk2 V c 0 t := by dsimp only [dat2]; try rfl
theorem left2_1 (c : Dev nD) (t : Fin (pc2 (F := F)).N) : (dat2 V c).after 1 t = blk2 V c 1 t := by dsimp only [dat2]; try rfl
theorem left2_2 (c : Dev nD) (t : Fin (pc2 (F := F)).N) : (dat2 V c).after 2 t = k2_pay1 (blk2 V c 0 t) (blk2 V c 1 t) := by
  dsimp only [dat2]; try rfl

/-- An input's staging buffer holds its block at every point. -/
theorem found2_0 (c : Dev nD) (t : Fin (pc2 (F := F)).N) (d) : (dat2 V c).before 0 t d = blk2 V c 0 t :=
  ((dat2 V c).before_in_eq_fetched 0 rfl (fun _ => rfl) (fun _ _ _ => rfl)
    (fun t => by rw [left2_0]; unfold Dat.blockOf blk2; rw [entry2]; try rfl) t d).trans
    (by unfold Dat.fetched Dat.blockOf blk2; rw [entry2]; try rfl)
theorem found2_1 (c : Dev nD) (t : Fin (pc2 (F := F)).N) (d) : (dat2 V c).before 1 t d = blk2 V c 1 t :=
  ((dat2 V c).before_in_eq_fetched 1 rfl (fun _ => rfl) (fun _ _ _ => rfl)
    (fun t => by rw [left2_1]; unfold Dat.blockOf blk2; rw [entry2]; try rfl) t d).trans
    (by unfold Dat.fetched Dat.blockOf blk2; rw [entry2]; try rfl)

/-- The body at a point, as the program spells it. -/
def at2 (t : Fin (pc2 (F := F)).N) : Prog (TpuEff nD τ sig (Elt F) Λ₀ .tc) PUnit :=
  cc2_proj_fwd_near (F := F) (grid2.coords t) (Memref.whole main_c_1) (Memref.isWhole_whole _)
    (spec2_0.stage ((pc2 (F := F)).slots t 0)) (hstage2_0 (((pc2 (F := F)).slots t 0).cast nbuf2_0))
    (spec2_1.stage ((pc2 (F := F)).slots t 1)) (hstage2_1 (((pc2 (F := F)).slots t 1).cast nbuf2_1)) (Memref.whole main_v1) (Memref.isWhole_whole _)
    (spec2_2.stage ((pc2 (F := F)).slots t 2)) (hstage2_2 (((pc2 (F := F)).slots t 2).cast nbuf2_2))

/-- One point of call 2: from the blocks found to the blocks left. -/
theorem point2 (c : Dev nD) (t : Fin (pc2 (F := F)).N) :
    iprop((dat2 V c).Φ t.castSucc ∗ (dat2 V c).owesAt () t.castSucc
      ∗ (∃ d, owns (c : Thread nD τ) (spec2_0.stage ((pc2 (F := F)).slots t 0)) fullShare ((dat2 V c).before 0 t d))
      ∗ (∃ d, owns (c : Thread nD τ) (spec2_1.stage ((pc2 (F := F)).slots t 1)) fullShare ((dat2 V c).before 1 t d))
      ∗ (∃ d, owns (c : Thread nD τ) (spec2_2.stage ((pc2 (F := F)).slots t 2)) fullShare ((dat2 V c).before 2 t d)))
    ⊢ wp frame (wpE (defs₀ (F := F)) Variants.none c none) Set.univ (at2 t) (fun _ =>
      iprop((dat2 V c).Φ t.succ ∗ (dat2 V c).owesAt () t.succ
        ∗ owns (c : Thread nD τ) (spec2_0.stage ((pc2 (F := F)).slots t 0)) fullShare ((dat2 V c).after 0 t)
        ∗ owns (c : Thread nD τ) (spec2_1.stage ((pc2 (F := F)).slots t 1)) fullShare ((dat2 V c).after 1 t)
        ∗ owns (c : Thread nD τ) (spec2_2.stage ((pc2 (F := F)).slots t 2)) fullShare ((dat2 V c).after 2 t))) := by
  unfold at2
  simp only [found2_0, found2_1]
  rw [show (dat2 V c).Φ t.succ = (dat2 V c).Φ t.castSucc from rfl,
    show (dat2 V c).owesAt () t.succ = (dat2 V c).owesAt () t.castSucc from rfl, left2_0, left2_1, left2_2]
  iintro ⟨HΦ, Ho, ⟨%d0, H0⟩, ⟨%d1, H1⟩, ⟨%d2, H2⟩⟩
  iapply (triple2 c (grid2.coords t) _ _ _ _ _ _ (blk2 V c 0 t) (blk2 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body2 (c : Dev nD) : BodyObligation (dat2 V c) (defs₀ (F := F)) Variants.none () Set.univ := fun t => by
  rw [bigSep_W2, bigSep_W2, show defs₀ (F := F) .tc (pc2 (F := F)).body ((pc2 (F := F)).bodyArgs t ((pc2 (F := F)).slots t)) = at2 t from by
    unfold defs₀; rw [Defs.onTc_tc]; rfl]
  exact triple_restated (point2 V c t) rfl .rfl fun _ => .rfl

/-- The buffers as call 2 leaves them. -/
def exit2 (c : Dev nD) : Valuation τ sig (Elt F) := Pipeline.afterRegion (dat2 V c) (V c)
theorem exit2_arr (c : Dev nD) (w : Fin 3) : exit2 V c (Proc.devRef .tc (Pipeline.arrRef spec2 w)) = (dat2 V c).arrAt w (pc2 (F := F)).N :=
  Pipeline.afterRegion_arr (dat2 V c) (V c) (launch2 (F := F)).win.arr_inj w
/-- Only the output changes. -/
theorem exit2_of (c : Dev nD) (r : Ref sig .tc) (h : r ≠ main_v2) : exit2 V c (Proc.devRef .tc r) = V c (Proc.devRef .tc r) := by
  refine Pipeline.afterRegion_keeps (dat2 V c) (V c) (launch2 (F := F)).win.arr_inj (entry2 V c) r ?_
  exact fun w hw => match w with
    | ⟨0, _⟩ => rfl
    | ⟨1, _⟩ => rfl
    | ⟨2, _⟩ => absurd hw.symm h
end

/-! ## Call 3 -/

/-- The words of call 3's table: which shards it works on. -/
def tbl3 : (pre3).Contents (Elt F) := fun k => match k with
  | ⟨0, _⟩ => constantI S1 32 6#32
/-- With these words every block lies inside its array. -/
theorem ok_tbl3 : ok3 (F := F) tbl3 := of_decide_eq_true (by sl_kernel_rfl)
abbrev adm3 : (pcfg3 (F := F)).Adm := ⟨tbl3, ok_tbl3⟩
abbrev pc3 : Cfg sig Λ₀ := cfg3 (F := F) adm3

/-- The block of window `w` at point `t`, read off the array as the call finds it. -/
def blk3 (V : Dev nD → Valuation τ sig (Elt F)) (c : Dev nD) (w : Fin (pc3 (F := F)).W) (t : Fin (pc3 (F := F)).N) :
    (((pc3 (F := F)).win w).xblock ((pc3 (F := F)).grid.coords t)).Idx → Elt F ((pc3 (F := F)).win w).elt :=
  (((pc3 (F := F)).win w).blk t).view.read (Elt F) (V c (Proc.devRef .tc (Pipeline.arrRef spec3 w)))

/-- The body of call 3 on whole staging buffers: the two inputs stay as they are, and the output ends at their product. -/
theorem triple3 (c : Dev nD) (i : grid3.Coords)
    (a0 : Memref sig .tc .vmem S1024x2048 .bf16) (h0 : a0.IsWhole) (a1 : Memref sig .tc .vmem S1x2048x1408 .bf16) (h1 : a1.IsWhole)
    (a2 : Memref sig .tc .vmem S1024x1408 .f32) (h2 : a2.IsWhole) (x0 : Vec F S1024x2048 .bf16) (x1 : Vec F S1x2048x1408 .bf16)
    (E : Set ℕ) (K : PUnit → sProp (MT nD τ sig Unit (Elt F) ℕ (UR sig nD τ) ℕ)) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k3_pay1 x0 x1)) -∗ K ⟨⟩))
      ⊢ wp frame (wpE (defs₀ (F := F)) Variants.none c none) E
          (cc3_proj_far (F := F) i (Memref.whole main_c_2) (Memref.isWhole_whole _) a0 h0 a1 h1 (Memref.whole main_v2) (Memref.isWhole_whole _) a2 h2) K := by
  simp only [cc3_proj_far_eq_skeleton]; unfold cc3_proj_far_skel
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  refine (View.read_writes_full _ _ _ _ _).trans ?_
  rw [View.readAt_full, View.readAt_full, h0.read_unread, h1.read_unread]

/-- What call 3 does point by point: the inputs' staging buffers keep their blocks, the output's takes the product;
    beside them the buffers of the other calls, the generator's register and the table ride along untouched. -/
def dat3 (V : Dev nD → Valuation τ sig (Elt F)) (c : Dev nD) : Dat τ (Elt F) Unit ℕ (UR sig nD τ) ℕ (pc3 (F := F)) c where
  A w := V c (Proc.devRef .tc (Pipeline.arrRef spec3 w))
  after w t := match w with
    | ⟨0, _⟩ => blk3 V c 0 t
    | ⟨1, _⟩ => blk3 V c 1 t
    | ⟨2, _⟩ => k3_pay1 (blk3 V c 0 t) (blk3 V c 1 t)
  Φ _ := iprop(Pipeline.ΦA spec3 c ∗ Pipeline.prefHeld pre3 c (fun _ => fullShare) tbl3)
  q _ := fullShare
  owed _ := 0

section
variable (V : Dev nD → Valuation τ sig (Elt F))

theorem entry3 (c : Dev nD) (w : Fin (pc3 (F := F)).W) : (dat3 V c).A w = V c (Proc.devRef .tc (Pipeline.arrRef spec3 w)) := by
  dsimp only [dat3]
theorem left3_0 (c : Dev nD) (t : Fin (pc3 (F := F)).N) : (dat3 V c).after 0 t = blk3 V c 0 t := by dsimp only [dat3]; try rfl
theorem left3_1 (c : Dev nD) (t : Fin (pc3 (F := F)).N) : (dat3 V c).after 1 t = blk3 V c 1 t := by dsimp only [dat3]; try rfl
theorem left3_2 (c : Dev nD) (t : Fin (pc3 (F := F)).N) : (dat3 V c).after 2 t = k3_pay1 (blk3 V c 0 t) (blk3 V c 1 t) := by
  dsimp only [dat3]; try rfl

/-- An input's staging buffer holds its block at every point. -/
theorem found3_0 (c : Dev nD) (t : Fin (pc3 (F := F)).N) (d) : (dat3 V c).before 0 t d = blk3 V c 0 t :=
  ((dat3 V c).before_in_eq_fetched 0 rfl (fun _ => rfl) (fun _ _ _ => rfl)
    (fun t => by rw [left3_0]; unfold Dat.blockOf blk3; rw [entry3]; try rfl) t d).trans
    (by unfold Dat.fetched Dat.blockOf blk3; rw [entry3]; try rfl)
theorem found3_1 (c : Dev nD) (t : Fin (pc3 (F := F)).N) (d) : (dat3 V c).before 1 t d = blk3 V c 1 t :=
  ((dat3 V c).before_in_eq_fetched 1 rfl (fun _ => rfl) (fun _ _ _ => rfl)
    (fun t => by rw [left3_1]; unfold Dat.blockOf blk3; rw [entry3]; try rfl) t d).trans
    (by unfold Dat.fetched Dat.blockOf blk3; rw [entry3]; try rfl)

/-- The body at a point, as the program spells it. -/
def at3 (t : Fin (pc3 (F := F)).N) : Prog (TpuEff nD τ sig (Elt F) Λ₀ .tc) PUnit :=
  cc3_proj_far (F := F) (grid3.coords t) (Memref.whole main_c_2) (Memref.isWhole_whole _)
    (spec3_0.stage ((pc3 (F := F)).slots t 0)) (hstage3_0 (((pc3 (F := F)).slots t 0).cast nbuf3_0))
    (spec3_1.stage ((pc3 (F := F)).slots t 1)) (hstage3_1 (((pc3 (F := F)).slots t 1).cast nbuf3_1)) (Memref.whole main_v2) (Memref.isWhole_whole _)
    (spec3_2.stage ((pc3 (F := F)).slots t 2)) (hstage3_2 (((pc3 (F := F)).slots t 2).cast nbuf3_2))

/-- One point of call 3: from the blocks found to the blocks left. -/
theorem point3 (c : Dev nD) (t : Fin (pc3 (F := F)).N) :
    iprop((dat3 V c).Φ t.castSucc ∗ (dat3 V c).owesAt () t.castSucc
      ∗ (∃ d, owns (c : Thread nD τ) (spec3_0.stage ((pc3 (F := F)).slots t 0)) fullShare ((dat3 V c).before 0 t d))
      ∗ (∃ d, owns (c : Thread nD τ) (spec3_1.stage ((pc3 (F := F)).slots t 1)) fullShare ((dat3 V c).before 1 t d))
      ∗ (∃ d, owns (c : Thread nD τ) (spec3_2.stage ((pc3 (F := F)).slots t 2)) fullShare ((dat3 V c).before 2 t d)))
    ⊢ wp frame (wpE (defs₀ (F := F)) Variants.none c none) Set.univ (at3 t) (fun _ =>
      iprop((dat3 V c).Φ t.succ ∗ (dat3 V c).owesAt () t.succ
        ∗ owns (c : Thread nD τ) (spec3_0.stage ((pc3 (F := F)).slots t 0)) fullShare ((dat3 V c).after 0 t)
        ∗ owns (c : Thread nD τ) (spec3_1.stage ((pc3 (F := F)).slots t 1)) fullShare ((dat3 V c).after 1 t)
        ∗ owns (c : Thread nD τ) (spec3_2.stage ((pc3 (F := F)).slots t 2)) fullShare ((dat3 V c).after 2 t))) := by
  unfold at3
  simp only [found3_0, found3_1]
  rw [show (dat3 V c).Φ t.succ = (dat3 V c).Φ t.castSucc from rfl,
    show (dat3 V c).owesAt () t.succ = (dat3 V c).owesAt () t.castSucc from rfl, left3_0, left3_1, left3_2]
  iintro ⟨HΦ, Ho, ⟨%d0, H0⟩, ⟨%d1, H1⟩, ⟨%d2, H2⟩⟩
  iapply (triple3 c (grid3.coords t) _ _ _ _ _ _ (blk3 V c 0 t) (blk3 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body3 (c : Dev nD) : BodyObligation (dat3 V c) (defs₀ (F := F)) Variants.none () Set.univ := fun t => by
  rw [bigSep_W3, bigSep_W3, show defs₀ (F := F) .tc (pc3 (F := F)).body ((pc3 (F := F)).bodyArgs t ((pc3 (F := F)).slots t)) = at3 t from by
    unfold defs₀; rw [Defs.onTc_tc]; rfl]
  exact triple_restated (point3 V c t) rfl .rfl fun _ => .rfl

/-- The buffers as call 3 leaves them. -/
def exit3 (c : Dev nD) : Valuation τ sig (Elt F) := Pipeline.afterRegion (dat3 V c) (V c)
theorem exit3_arr (c : Dev nD) (w : Fin 3) : exit3 V c (Proc.devRef .tc (Pipeline.arrRef spec3 w)) = (dat3 V c).arrAt w (pc3 (F := F)).N :=
  Pipeline.afterRegion_arr (dat3 V c) (V c) (launch3 (F := F)).win.arr_inj w
/-- Only the output changes. -/
theorem exit3_of (c : Dev nD) (r : Ref sig .tc) (h : r ≠ main_v3) : exit3 V c (Proc.devRef .tc r) = V c (Proc.devRef .tc r) := by
  refine Pipeline.afterRegion_keeps (dat3 V c) (V c) (launch3 (F := F)).win.arr_inj (entry3 V c) r ?_
  exact fun w hw => match w with
    | ⟨0, _⟩ => rfl
    | ⟨1, _⟩ => rfl
    | ⟨2, _⟩ => absurd hw.symm h
end

/-! ## Call 4 -/

/-- The words of call 4's table: which shards it works on. -/
def tbl4 : (pre4).Contents (Elt F) := fun k => match k with
  | ⟨0, _⟩ => constantI S1 32 7#32
/-- With these words every block lies inside its array. -/
theorem ok_tbl4 : ok4 (F := F) tbl4 := of_decide_eq_true (by sl_kernel_rfl)
abbrev adm4 : (pcfg4 (F := F)).Adm := ⟨tbl4, ok_tbl4⟩
abbrev pc4 : Cfg sig Λ₀ := cfg4 (F := F) adm4

/-- The block of window `w` at point `t`, read off the array as the call finds it. -/
def blk4 (V : Dev nD → Valuation τ sig (Elt F)) (c : Dev nD) (w : Fin (pc4 (F := F)).W) (t : Fin (pc4 (F := F)).N) :
    (((pc4 (F := F)).win w).xblock ((pc4 (F := F)).grid.coords t)).Idx → Elt F ((pc4 (F := F)).win w).elt :=
  (((pc4 (F := F)).win w).blk t).view.read (Elt F) (V c (Proc.devRef .tc (Pipeline.arrRef spec4 w)))

/-- The body of call 4 on whole staging buffers: the two inputs stay as they are, and the output ends at their product. -/
theorem triple4 (c : Dev nD) (i : grid4.Coords)
    (a0 : Memref sig .tc .vmem S1024x2048 .bf16) (h0 : a0.IsWhole) (a1 : Memref sig .tc .vmem S1x2048x1408 .bf16) (h1 : a1.IsWhole)
    (a2 : Memref sig .tc .vmem S1024x1408 .f32) (h2 : a2.IsWhole) (x0 : Vec F S1024x2048 .bf16) (x1 : Vec F S1x2048x1408 .bf16)
    (E : Set ℕ) (K : PUnit → sProp (MT nD τ sig Unit (Elt F) ℕ (UR sig nD τ) ℕ)) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k4_pay1 x0 x1)) -∗ K ⟨⟩))
      ⊢ wp frame (wpE (defs₀ (F := F)) Variants.none c none) E
          (cc4_proj_fwd_far (F := F) i (Memref.whole main_c_3) (Memref.isWhole_whole _) a0 h0 a1 h1 (Memref.whole main_v3) (Memref.isWhole_whole _) a2 h2) K := by
  simp only [cc4_proj_fwd_far_eq_skeleton]; unfold cc4_proj_fwd_far_skel
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  refine (View.read_writes_full _ _ _ _ _).trans ?_
  rw [View.readAt_full, View.readAt_full, h0.read_unread, h1.read_unread]

/-- What call 4 does point by point: the inputs' staging buffers keep their blocks, the output's takes the product;
    beside them the buffers of the other calls, the generator's register and the table ride along untouched. -/
def dat4 (V : Dev nD → Valuation τ sig (Elt F)) (c : Dev nD) : Dat τ (Elt F) Unit ℕ (UR sig nD τ) ℕ (pc4 (F := F)) c where
  A w := V c (Proc.devRef .tc (Pipeline.arrRef spec4 w))
  after w t := match w with
    | ⟨0, _⟩ => blk4 V c 0 t
    | ⟨1, _⟩ => blk4 V c 1 t
    | ⟨2, _⟩ => k4_pay1 (blk4 V c 0 t) (blk4 V c 1 t)
  Φ _ := iprop(Pipeline.ΦA spec4 c ∗ Pipeline.prefHeld pre4 c (fun _ => fullShare) tbl4)
  q _ := fullShare
  owed _ := 0

section
variable (V : Dev nD → Valuation τ sig (Elt F))

theorem entry4 (c : Dev nD) (w : Fin (pc4 (F := F)).W) : (dat4 V c).A w = V c (Proc.devRef .tc (Pipeline.arrRef spec4 w)) := by
  dsimp only [dat4]
theorem left4_0 (c : Dev nD) (t : Fin (pc4 (F := F)).N) : (dat4 V c).after 0 t = blk4 V c 0 t := by dsimp only [dat4]; try rfl
theorem left4_1 (c : Dev nD) (t : Fin (pc4 (F := F)).N) : (dat4 V c).after 1 t = blk4 V c 1 t := by dsimp only [dat4]; try rfl
theorem left4_2 (c : Dev nD) (t : Fin (pc4 (F := F)).N) : (dat4 V c).after 2 t = k4_pay1 (blk4 V c 0 t) (blk4 V c 1 t) := by
  dsimp only [dat4]; try rfl

/-- An input's staging buffer holds its block at every point. -/
theorem found4_0 (c : Dev nD) (t : Fin (pc4 (F := F)).N) (d) : (dat4 V c).before 0 t d = blk4 V c 0 t :=
  ((dat4 V c).before_in_eq_fetched 0 rfl (fun _ => rfl) (fun _ _ _ => rfl)
    (fun t => by rw [left4_0]; unfold Dat.blockOf blk4; rw [entry4]; try rfl) t d).trans
    (by unfold Dat.fetched Dat.blockOf blk4; rw [entry4]; try rfl)
theorem found4_1 (c : Dev nD) (t : Fin (pc4 (F := F)).N) (d) : (dat4 V c).before 1 t d = blk4 V c 1 t :=
  ((dat4 V c).before_in_eq_fetched 1 rfl (fun _ => rfl) (fun _ _ _ => rfl)
    (fun t => by rw [left4_1]; unfold Dat.blockOf blk4; rw [entry4]; try rfl) t d).trans
    (by unfold Dat.fetched Dat.blockOf blk4; rw [entry4]; try rfl)

/-- The body at a point, as the program spells it. -/
def at4 (t : Fin (pc4 (F := F)).N) : Prog (TpuEff nD τ sig (Elt F) Λ₀ .tc) PUnit :=
  cc4_proj_fwd_far (F := F) (grid4.coords t) (Memref.whole main_c_3) (Memref.isWhole_whole _)
    (spec4_0.stage ((pc4 (F := F)).slots t 0)) (hstage4_0 (((pc4 (F := F)).slots t 0).cast nbuf4_0))
    (spec4_1.stage ((pc4 (F := F)).slots t 1)) (hstage4_1 (((pc4 (F := F)).slots t 1).cast nbuf4_1)) (Memref.whole main_v3) (Memref.isWhole_whole _)
    (spec4_2.stage ((pc4 (F := F)).slots t 2)) (hstage4_2 (((pc4 (F := F)).slots t 2).cast nbuf4_2))

/-- One point of call 4: from the blocks found to the blocks left. -/
theorem point4 (c : Dev nD) (t : Fin (pc4 (F := F)).N) :
    iprop((dat4 V c).Φ t.castSucc ∗ (dat4 V c).owesAt () t.castSucc
      ∗ (∃ d, owns (c : Thread nD τ) (spec4_0.stage ((pc4 (F := F)).slots t 0)) fullShare ((dat4 V c).before 0 t d))
      ∗ (∃ d, owns (c : Thread nD τ) (spec4_1.stage ((pc4 (F := F)).slots t 1)) fullShare ((dat4 V c).before 1 t d))
      ∗ (∃ d, owns (c : Thread nD τ) (spec4_2.stage ((pc4 (F := F)).slots t 2)) fullShare ((dat4 V c).before 2 t d)))
    ⊢ wp frame (wpE (defs₀ (F := F)) Variants.none c none) Set.univ (at4 t) (fun _ =>
      iprop((dat4 V c).Φ t.succ ∗ (dat4 V c).owesAt () t.succ
        ∗ owns (c : Thread nD τ) (spec4_0.stage ((pc4 (F := F)).slots t 0)) fullShare ((dat4 V c).after 0 t)
        ∗ owns (c : Thread nD τ) (spec4_1.stage ((pc4 (F := F)).slots t 1)) fullShare ((dat4 V c).after 1 t)
        ∗ owns (c : Thread nD τ) (spec4_2.stage ((pc4 (F := F)).slots t 2)) fullShare ((dat4 V c).after 2 t))) := by
  unfold at4
  simp only [found4_0, found4_1]
  rw [show (dat4 V c).Φ t.succ = (dat4 V c).Φ t.castSucc from rfl,
    show (dat4 V c).owesAt () t.succ = (dat4 V c).owesAt () t.castSucc from rfl, left4_0, left4_1, left4_2]
  iintro ⟨HΦ, Ho, ⟨%d0, H0⟩, ⟨%d1, H1⟩, ⟨%d2, H2⟩⟩
  iapply (triple4 c (grid4.coords t) _ _ _ _ _ _ (blk4 V c 0 t) (blk4 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body4 (c : Dev nD) : BodyObligation (dat4 V c) (defs₀ (F := F)) Variants.none () Set.univ := fun t => by
  rw [bigSep_W4, bigSep_W4, show defs₀ (F := F) .tc (pc4 (F := F)).body ((pc4 (F := F)).bodyArgs t ((pc4 (F := F)).slots t)) = at4 t from by
    unfold defs₀; rw [Defs.onTc_tc]; rfl]
  exact triple_restated (point4 V c t) rfl .rfl fun _ => .rfl

/-- The buffers as call 4 leaves them. -/
def exit4 (c : Dev nD) : Valuation τ sig (Elt F) := Pipeline.afterRegion (dat4 V c) (V c)
theorem exit4_arr (c : Dev nD) (w : Fin 3) : exit4 V c (Proc.devRef .tc (Pipeline.arrRef spec4 w)) = (dat4 V c).arrAt w (pc4 (F := F)).N :=
  Pipeline.afterRegion_arr (dat4 V c) (V c) (launch4 (F := F)).win.arr_inj w
/-- Only the output changes. -/
theorem exit4_of (c : Dev nD) (r : Ref sig .tc) (h : r ≠ main_v4) : exit4 V c (Proc.devRef .tc r) = V c (Proc.devRef .tc r) := by
  refine Pipeline.afterRegion_keeps (dat4 V c) (V c) (launch4 (F := F)).win.arr_inj (entry4 V c) r ?_
  exact fun w hw => match w with
    | ⟨0, _⟩ => rfl
    | ⟨1, _⟩ => rfl
    | ⟨2, _⟩ => absurd hw.symm h
end

end Cert.Kernel8Ideal.FwdProj
-- ==== Proof.FwdProjRun.lean ====
module

public import proofs.«01_k».proof.Proof.FwdProjCalls

/-! # The five calls of the projection in a row -/

@[expose] public section

set_option maxRecDepth 16384

noncomputable section

namespace Cert.Kernel8Ideal.FwdProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel8Ideal Cert.Kernel8Ideal.Gen

variable {F : FTy → Type} [FloatOps F]

variable (m : (ℓ : Loc nD τ sig) → Buf (Elt F) ℓ) (ρ : Dev nD → PrngReg)

/-! ## The buffers at each boundary -/

/-- As launched. -/
def B0 (c : Dev nD) : Valuation τ sig (Elt F) := fun b => m (c, b)
/-- Before call 0. -/
def B1 (c : Dev nD) : Valuation τ sig (Elt F) := StableHlo.after hostOps0 (B0 m c)
/-- After call 0. -/
def B2 (c : Dev nD) : Valuation τ sig (Elt F) := exit0 (B1 m) c
/-- Before call 1. -/
def B3 (c : Dev nD) : Valuation τ sig (Elt F) := StableHlo.after hostOps1 (B2 m c)
/-- After call 1. -/
def B4 (c : Dev nD) : Valuation τ sig (Elt F) := exit1 (B3 m) c
/-- Before call 2. -/
def B5 (c : Dev nD) : Valuation τ sig (Elt F) := StableHlo.after hostOps2 (B4 m c)
/-- After call 2. -/
def B6 (c : Dev nD) : Valuation τ sig (Elt F) := exit2 (B5 m) c
/-- Before call 3. -/
def B7 (c : Dev nD) : Valuation τ sig (Elt F) := StableHlo.after hostOps3 (B6 m c)
/-- After call 3. -/
def B8 (c : Dev nD) : Valuation τ sig (Elt F) := exit3 (B7 m) c
/-- Before call 4. -/
def B9 (c : Dev nD) : Valuation τ sig (Elt F) := StableHlo.after hostOps4 (B8 m c)
/-- After call 4. -/
def B10 (c : Dev nD) : Valuation τ sig (Elt F) := exit4 (B9 m) c

theorem B1_of (c : Dev nD) (r : Ref sig .tc) (h : r ∉ hostOps0_W) : B1 m c (Proc.devRef .tc r) = B0 m c (Proc.devRef .tc r) :=
  StableHlo.after_of_writes_sub hostOps0 _ hostOps0_writes h
theorem B2_of (c : Dev nD) (r : Ref sig .tc) (h : r ≠ main_v0) : B2 m c (Proc.devRef .tc r) = B1 m c (Proc.devRef .tc r) :=
  exit0_of (B1 m) c r h
theorem B3_of (c : Dev nD) (r : Ref sig .tc) (h : r ∉ hostOps1_W) : B3 m c (Proc.devRef .tc r) = B2 m c (Proc.devRef .tc r) :=
  StableHlo.after_of_writes_sub hostOps1 _ hostOps1_writes h
theorem B4_of (c : Dev nD) (r : Ref sig .tc) (h : r ≠ main_v1) : B4 m c (Proc.devRef .tc r) = B3 m c (Proc.devRef .tc r) :=
  exit1_of (B3 m) c r h
theorem B5_of (c : Dev nD) (r : Ref sig .tc) (h : r ∉ hostOps2_W) : B5 m c (Proc.devRef .tc r) = B4 m c (Proc.devRef .tc r) :=
  StableHlo.after_of_writes_sub hostOps2 _ hostOps2_writes h
theorem B6_of (c : Dev nD) (r : Ref sig .tc) (h : r ≠ main_v2) : B6 m c (Proc.devRef .tc r) = B5 m c (Proc.devRef .tc r) :=
  exit2_of (B5 m) c r h
theorem B7_of (c : Dev nD) (r : Ref sig .tc) (h : r ∉ hostOps3_W) : B7 m c (Proc.devRef .tc r) = B6 m c (Proc.devRef .tc r) :=
  StableHlo.after_of_writes_sub hostOps3 _ hostOps3_writes h
theorem B8_of (c : Dev nD) (r : Ref sig .tc) (h : r ≠ main_v3) : B8 m c (Proc.devRef .tc r) = B7 m c (Proc.devRef .tc r) :=
  exit3_of (B7 m) c r h
theorem B9_of (c : Dev nD) (r : Ref sig .tc) (h : r ∉ hostOps4_W) : B9 m c (Proc.devRef .tc r) = B8 m c (Proc.devRef .tc r) :=
  StableHlo.after_of_writes_sub hostOps4 _ hostOps4_writes h
theorem B10_of (c : Dev nD) (r : Ref sig .tc) (h : r ≠ main_v4) : B10 m c (Proc.devRef .tc r) = B9 m c (Proc.devRef .tc r) :=
  exit4_of (B9 m) c r h
/-- The table of call 0 holds its words when the call starts. -/
theorem words0 (c : Dev nD) (k : Fin 1) : tbl0 k = B1 m c (Proc.devRef .tc ((pre0).ref k)) := by
  match k with
  | ⟨0, _⟩ =>
    refine Eq.symm (show B1 m c (Proc.devRef .tc main_c) = _ from ?_)
    unfold B1; rfl
/-- The table of call 1 holds its words when the call starts. -/
theorem words1 (c : Dev nD) (k : Fin 1) : tbl1 k = B3 m c (Proc.devRef .tc ((pre1).ref k)) := by
  match k with
  | ⟨0, _⟩ =>
    refine Eq.symm (show B3 m c (Proc.devRef .tc main_c_0) = _ from (B3_of m c main_c_0 (by decide)).trans <| (B2_of m c main_c_0 (by decide)).trans <| ?_)
    unfold B1; rfl
/-- The table of call 2 holds its words when the call starts. -/
theorem words2 (c : Dev nD) (k : Fin 1) : tbl2 k = B5 m c (Proc.devRef .tc ((pre2).ref k)) := by
  match k with
  | ⟨0, _⟩ =>
    refine Eq.symm (show B5 m c (Proc.devRef .tc main_c_1) = _ from (B5_of m c main_c_1 (by decide)).trans <| (B4_of m c main_c_1 (by decide)).trans <| (B3_of m c main_c_1 (by decide)).trans <| (B2_of m c main_c_1 (by decide)).trans <| ?_)
    unfold B1; rfl
/-- The table of call 3 holds its words when the call starts. -/
theorem words3 (c : Dev nD) (k : Fin 1) : tbl3 k = B7 m c (Proc.devRef .tc ((pre3).ref k)) := by
  match k with
  | ⟨0, _⟩ =>
    refine Eq.symm (show B7 m c (Proc.devRef .tc main_c_2) = _ from (B7_of m c main_c_2 (by decide)).trans <| (B6_of m c main_c_2 (by decide)).trans <| (B5_of m c main_c_2 (by decide)).trans <| (B4_of m c main_c_2 (by decide)).trans <| (B3_of m c main_c_2 (by decide)).trans <| (B2_of m c main_c_2 (by decide)).trans <| ?_)
    unfold B1; rfl
/-- The table of call 4 holds its words when the call starts. -/
theorem words4 (c : Dev nD) (k : Fin 1) : tbl4 k = B9 m c (Proc.devRef .tc ((pre4).ref k)) := by
  match k with
  | ⟨0, _⟩ =>
    refine Eq.symm (show B9 m c (Proc.devRef .tc main_c_3) = _ from (B9_of m c main_c_3 (by decide)).trans <| (B8_of m c main_c_3 (by decide)).trans <| (B7_of m c main_c_3 (by decide)).trans <| (B6_of m c main_c_3 (by decide)).trans <| (B5_of m c main_c_3 (by decide)).trans <| (B4_of m c main_c_3 (by decide)).trans <| (B3_of m c main_c_3 (by decide)).trans <| (B2_of m c main_c_3 (by decide)).trans <| ?_)
    unfold B1; rfl
theorem B1_main_arg0 (c : Dev nD) : B1 m c (Proc.devRef .tc main_arg0) = m ((c : Thread nD τ).loc main_arg0) :=
  (B1_of m c main_arg0 (by decide)).trans rfl
theorem B2_main_arg0 (c : Dev nD) : B2 m c (Proc.devRef .tc main_arg0) = m ((c : Thread nD τ).loc main_arg0) :=
  (B2_of m c main_arg0 (by decide)).trans (B1_main_arg0 m c)
theorem B3_main_arg0 (c : Dev nD) : B3 m c (Proc.devRef .tc main_arg0) = m ((c : Thread nD τ).loc main_arg0) :=
  (B3_of m c main_arg0 (by decide)).trans (B2_main_arg0 m c)
theorem B4_main_arg0 (c : Dev nD) : B4 m c (Proc.devRef .tc main_arg0) = m ((c : Thread nD τ).loc main_arg0) :=
  (B4_of m c main_arg0 (by decide)).trans (B3_main_arg0 m c)
theorem B5_main_arg0 (c : Dev nD) : B5 m c (Proc.devRef .tc main_arg0) = m ((c : Thread nD τ).loc main_arg0) :=
  (B5_of m c main_arg0 (by decide)).trans (B4_main_arg0 m c)
theorem B6_main_arg0 (c : Dev nD) : B6 m c (Proc.devRef .tc main_arg0) = m ((c : Thread nD τ).loc main_arg0) :=
  (B6_of m c main_arg0 (by decide)).trans (B5_main_arg0 m c)
theorem B7_main_arg0 (c : Dev nD) : B7 m c (Proc.devRef .tc main_arg0) = m ((c : Thread nD τ).loc main_arg0) :=
  (B7_of m c main_arg0 (by decide)).trans (B6_main_arg0 m c)
theorem B8_main_arg0 (c : Dev nD) : B8 m c (Proc.devRef .tc main_arg0) = m ((c : Thread nD τ).loc main_arg0) :=
  (B8_of m c main_arg0 (by decide)).trans (B7_main_arg0 m c)
theorem B9_main_arg0 (c : Dev nD) : B9 m c (Proc.devRef .tc main_arg0) = m ((c : Thread nD τ).loc main_arg0) :=
  (B9_of m c main_arg0 (by decide)).trans (B8_main_arg0 m c)
theorem B10_main_arg0 (c : Dev nD) : B10 m c (Proc.devRef .tc main_arg0) = m ((c : Thread nD τ).loc main_arg0) :=
  (B10_of m c main_arg0 (by decide)).trans (B9_main_arg0 m c)
theorem B1_main_arg1 (c : Dev nD) : B1 m c (Proc.devRef .tc main_arg1) = m ((c : Thread nD τ).loc main_arg1) :=
  (B1_of m c main_arg1 (by decide)).trans rfl
theorem B2_main_arg1 (c : Dev nD) : B2 m c (Proc.devRef .tc main_arg1) = m ((c : Thread nD τ).loc main_arg1) :=
  (B2_of m c main_arg1 (by decide)).trans (B1_main_arg1 m c)
theorem B3_main_arg1 (c : Dev nD) : B3 m c (Proc.devRef .tc main_arg1) = m ((c : Thread nD τ).loc main_arg1) :=
  (B3_of m c main_arg1 (by decide)).trans (B2_main_arg1 m c)
theorem B4_main_arg1 (c : Dev nD) : B4 m c (Proc.devRef .tc main_arg1) = m ((c : Thread nD τ).loc main_arg1) :=
  (B4_of m c main_arg1 (by decide)).trans (B3_main_arg1 m c)
theorem B5_main_arg1 (c : Dev nD) : B5 m c (Proc.devRef .tc main_arg1) = m ((c : Thread nD τ).loc main_arg1) :=
  (B5_of m c main_arg1 (by decide)).trans (B4_main_arg1 m c)
theorem B6_main_arg1 (c : Dev nD) : B6 m c (Proc.devRef .tc main_arg1) = m ((c : Thread nD τ).loc main_arg1) :=
  (B6_of m c main_arg1 (by decide)).trans (B5_main_arg1 m c)
theorem B7_main_arg1 (c : Dev nD) : B7 m c (Proc.devRef .tc main_arg1) = m ((c : Thread nD τ).loc main_arg1) :=
  (B7_of m c main_arg1 (by decide)).trans (B6_main_arg1 m c)
theorem B8_main_arg1 (c : Dev nD) : B8 m c (Proc.devRef .tc main_arg1) = m ((c : Thread nD τ).loc main_arg1) :=
  (B8_of m c main_arg1 (by decide)).trans (B7_main_arg1 m c)
theorem B9_main_arg1 (c : Dev nD) : B9 m c (Proc.devRef .tc main_arg1) = m ((c : Thread nD τ).loc main_arg1) :=
  (B9_of m c main_arg1 (by decide)).trans (B8_main_arg1 m c)
theorem B10_main_arg1 (c : Dev nD) : B10 m c (Proc.devRef .tc main_arg1) = m ((c : Thread nD τ).loc main_arg1) :=
  (B10_of m c main_arg1 (by decide)).trans (B9_main_arg1 m c)

/-! ## The calls as segments -/

abbrev tables : (p : Fin 5) → (pcfgs (F := F) p).Adm
  | ⟨0, _⟩ => adm0
  | ⟨1, _⟩ => adm1
  | ⟨2, _⟩ => adm2
  | ⟨3, _⟩ => adm3
  | ⟨4, _⟩ => adm4
def pdats : (p : Fin 5) → (c : Dev nD) → Dat τ (Elt F) Unit ℕ (UR sig nD τ) ℕ (Pipeline.pin (pcfgs (F := F)) tables p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c
/-- Every semaphore of a core of the first kind may be waited on; nothing is ever owed. -/
abbrev lev : GSem nD τ sig → Finset Unit := fun g => if g.1.2 = .tc then {()} else ∅
abbrev rank : GSem nD τ sig → Unit → ℕ := fun _ _ => 0
/-- What rides beside the buffers: nothing owed, and the register of the generator. -/
abbrev reg (c : Dev nD) : sProp (MT nD τ sig Unit (Elt F) ℕ (UR sig nD τ) ℕ) := iprop(∃ r, prngReg c r)
abbrev rest (c : Dev nD) : sProp (MT nD τ sig Unit (Elt F) ℕ (UR sig nD τ) ℕ) :=
  iprop((∃ Wd, owes (c : Thread nD τ) (0 : CellTallies nD τ sig Unit) Wd) ∗ reg c ∗ emp)
theorem cut0 : Pipeline.LevelCut (nD := nD) (τ := τ) (pcfgs (F := F)) tables () lev rank 0 (fun _ => 0) (fun _ => 0) where
  hι _ _ _ := by simp [lev]
  hιb _ _ _ := le_rfl
  hD _ _ _ h := absurd h (lt_irrefl _)
-- the record's implicit arguments are found by unifying it with its type
set_option backward.isDefEq.respectTransparency.types false in
/-- Call 0, from the buffers before it to the buffers after it. -/
def call0 : Pipeline.RegionSeg (pcfgs (F := F)) tables (pdats m) () defs₀ Variants.none lev rank 0 :=
  Pipeline.RegionSeg.ofHeldInT (pcfgs (F := F)) tables (pdats m) () defs₀ Variants.none lev rank 0 (fun _ => 0) (Pipeline.ucRefs τ sig) reg reg
    launch0 (fun c => (body0 (B1 m) c).loose) (fun _ _ => rfl) (fun _ => rfl)
    (fun c => (dat0 (B1 m) c).share_full fun _ => rfl) (fun c => by
      rw [show (pdats m 0 c).Φ 0 = iprop(Pipeline.ΦA spec0 c ∗ Pipeline.prefHeld pre0 c (fun _ => fullShare) tbl0) from rfl]; exact .rfl)
    (fun c => by
      rw [show (pdats m 0 c).Φ (Fin.last _) = iprop(Pipeline.ΦA spec0 c ∗ Pipeline.prefHeld pre0 c (fun _ => fullShare) tbl0) from rfl]; exact .rfl)
    (fun _ => 0) cut0 (fun _ => iprop(emp)) (B1 m)
    (fun c w => entry0 (B1 m) c w) (fun c k => words0 m c k)
set_option backward.isDefEq.respectTransparency.types false in
theorem enter0 (c : Dev nD) : iprop(StableHlo.held (c : Thread nD τ) (Pipeline.ucRefs τ sig) (B1 m c) ∗ rest c) ⊢ (call0 m).pre c := by
  unfold call0
  refine BI.Entails.trans ?_ (Pipeline.RegionSeg.ofHeldInT_pre (Pipeline.arrRefs_sub_ucRefs _ (launch0 (F := F)).win.arr_unscoped) (Pipeline.tblRefs_sub_ucRefs _ (launch0 (F := F)).pre.unscoped) c)
  exact BI.Entails.refl _
set_option backward.isDefEq.respectTransparency.types false in
theorem leave0 (c : Dev nD) : (call0 m).post c ⊢ iprop(StableHlo.held (c : Thread nD τ) (Pipeline.ucRefs τ sig) (B2 m c) ∗ rest c) := by
  unfold call0
  refine BI.Entails.trans (Pipeline.RegionSeg.ofHeldInT_post (Pipeline.arrRefs_sub_ucRefs _ (launch0 (F := F)).win.arr_unscoped) (Pipeline.tblRefs_sub_ucRefs _ (launch0 (F := F)).pre.unscoped) c) ?_
  exact BI.Entails.refl _
/-- The operations before call 0. -/
def host0 : Pipeline.HostSeg (Name := ℕ) (U := UR sig nD τ) (pcfgs (F := F)) defs₀ Variants.none lev rank :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) rest
theorem cut1 : Pipeline.LevelCut (nD := nD) (τ := τ) (pcfgs (F := F)) tables () lev rank 1 (fun _ => 0) (fun _ => 0) where
  hι _ _ _ := by simp [lev]
  hιb _ _ _ := le_rfl
  hD _ _ _ h := absurd h (lt_irrefl _)
-- the record's implicit arguments are found by unifying it with its type
set_option backward.isDefEq.respectTransparency.types false in
/-- Call 1, from the buffers before it to the buffers after it. -/
def call1 : Pipeline.RegionSeg (pcfgs (F := F)) tables (pdats m) () defs₀ Variants.none lev rank 1 :=
  Pipeline.RegionSeg.ofHeldInT (pcfgs (F := F)) tables (pdats m) () defs₀ Variants.none lev rank 1 (fun _ => 0) (Pipeline.ucRefs τ sig) reg reg
    launch1 (fun c => (body1 (B3 m) c).loose) (fun _ _ => rfl) (fun _ => rfl)
    (fun c => (dat1 (B3 m) c).share_full fun _ => rfl) (fun c => by
      rw [show (pdats m 1 c).Φ 0 = iprop(Pipeline.ΦA spec1 c ∗ Pipeline.prefHeld pre1 c (fun _ => fullShare) tbl1) from rfl]; exact .rfl)
    (fun c => by
      rw [show (pdats m 1 c).Φ (Fin.last _) = iprop(Pipeline.ΦA spec1 c ∗ Pipeline.prefHeld pre1 c (fun _ => fullShare) tbl1) from rfl]; exact .rfl)
    (fun _ => 0) cut1 (fun _ => iprop(emp)) (B3 m)
    (fun c w => entry1 (B3 m) c w) (fun c k => words1 m c k)
set_option backward.isDefEq.respectTransparency.types false in
theorem enter1 (c : Dev nD) : iprop(StableHlo.held (c : Thread nD τ) (Pipeline.ucRefs τ sig) (B3 m c) ∗ rest c) ⊢ (call1 m).pre c := by
  unfold call1
  refine BI.Entails.trans ?_ (Pipeline.RegionSeg.ofHeldInT_pre (Pipeline.arrRefs_sub_ucRefs _ (launch1 (F := F)).win.arr_unscoped) (Pipeline.tblRefs_sub_ucRefs _ (launch1 (F := F)).pre.unscoped) c)
  exact BI.Entails.refl _
set_option backward.isDefEq.respectTransparency.types false in
theorem leave1 (c : Dev nD) : (call1 m).post c ⊢ iprop(StableHlo.held (c : Thread nD τ) (Pipeline.ucRefs τ sig) (B4 m c) ∗ rest c) := by
  unfold call1
  refine BI.Entails.trans (Pipeline.RegionSeg.ofHeldInT_post (Pipeline.arrRefs_sub_ucRefs _ (launch1 (F := F)).win.arr_unscoped) (Pipeline.tblRefs_sub_ucRefs _ (launch1 (F := F)).pre.unscoped) c) ?_
  exact BI.Entails.refl _
/-- The operations before call 1. -/
def host1 : Pipeline.HostSeg (Name := ℕ) (U := UR sig nD τ) (pcfgs (F := F)) defs₀ Variants.none lev rank :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B2 m) rest
theorem cut2 : Pipeline.LevelCut (nD := nD) (τ := τ) (pcfgs (F := F)) tables () lev rank 2 (fun _ => 0) (fun _ => 0) where
  hι _ _ _ := by simp [lev]
  hιb _ _ _ := le_rfl
  hD _ _ _ h := absurd h (lt_irrefl _)
-- the record's implicit arguments are found by unifying it with its type
set_option backward.isDefEq.respectTransparency.types false in
/-- Call 2, from the buffers before it to the buffers after it. -/
def call2 : Pipeline.RegionSeg (pcfgs (F := F)) tables (pdats m) () defs₀ Variants.none lev rank 2 :=
  Pipeline.RegionSeg.ofHeldInT (pcfgs (F := F)) tables (pdats m) () defs₀ Variants.none lev rank 2 (fun _ => 0) (Pipeline.ucRefs τ sig) reg reg
    launch2 (fun c => (body2 (B5 m) c).loose) (fun _ _ => rfl) (fun _ => rfl)
    (fun c => (dat2 (B5 m) c).share_full fun _ => rfl) (fun c => by
      rw [show (pdats m 2 c).Φ 0 = iprop(Pipeline.ΦA spec2 c ∗ Pipeline.prefHeld pre2 c (fun _ => fullShare) tbl2) from rfl]; exact .rfl)
    (fun c => by
      rw [show (pdats m 2 c).Φ (Fin.last _) = iprop(Pipeline.ΦA spec2 c ∗ Pipeline.prefHeld pre2 c (fun _ => fullShare) tbl2) from rfl]; exact .rfl)
    (fun _ => 0) cut2 (fun _ => iprop(emp)) (B5 m)
    (fun c w => entry2 (B5 m) c w) (fun c k => words2 m c k)
set_option backward.isDefEq.respectTransparency.types false in
theorem enter2 (c : Dev nD) : iprop(StableHlo.held (c : Thread nD τ) (Pipeline.ucRefs τ sig) (B5 m c) ∗ rest c) ⊢ (call2 m).pre c := by
  unfold call2
  refine BI.Entails.trans ?_ (Pipeline.RegionSeg.ofHeldInT_pre (Pipeline.arrRefs_sub_ucRefs _ (launch2 (F := F)).win.arr_unscoped) (Pipeline.tblRefs_sub_ucRefs _ (launch2 (F := F)).pre.unscoped) c)
  exact BI.Entails.refl _
set_option backward.isDefEq.respectTransparency.types false in
theorem leave2 (c : Dev nD) : (call2 m).post c ⊢ iprop(StableHlo.held (c : Thread nD τ) (Pipeline.ucRefs τ sig) (B6 m c) ∗ rest c) := by
  unfold call2
  refine BI.Entails.trans (Pipeline.RegionSeg.ofHeldInT_post (Pipeline.arrRefs_sub_ucRefs _ (launch2 (F := F)).win.arr_unscoped) (Pipeline.tblRefs_sub_ucRefs _ (launch2 (F := F)).pre.unscoped) c) ?_
  exact BI.Entails.refl _
/-- The operations before call 2. -/
def host2 : Pipeline.HostSeg (Name := ℕ) (U := UR sig nD τ) (pcfgs (F := F)) defs₀ Variants.none lev rank :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (B4 m) rest
theorem cut3 : Pipeline.LevelCut (nD := nD) (τ := τ) (pcfgs (F := F)) tables () lev rank 3 (fun _ => 0) (fun _ => 0) where
  hι _ _ _ := by simp [lev]
  hιb _ _ _ := le_rfl
  hD _ _ _ h := absurd h (lt_irrefl _)
-- the record's implicit arguments are found by unifying it with its type
set_option backward.isDefEq.respectTransparency.types false in
/-- Call 3, from the buffers before it to the buffers after it. -/
def call3 : Pipeline.RegionSeg (pcfgs (F := F)) tables (pdats m) () defs₀ Variants.none lev rank 3 :=
  Pipeline.RegionSeg.ofHeldInT (pcfgs (F := F)) tables (pdats m) () defs₀ Variants.none lev rank 3 (fun _ => 0) (Pipeline.ucRefs τ sig) reg reg
    launch3 (fun c => (body3 (B7 m) c).loose) (fun _ _ => rfl) (fun _ => rfl)
    (fun c => (dat3 (B7 m) c).share_full fun _ => rfl) (fun c => by
      rw [show (pdats m 3 c).Φ 0 = iprop(Pipeline.ΦA spec3 c ∗ Pipeline.prefHeld pre3 c (fun _ => fullShare) tbl3) from rfl]; exact .rfl)
    (fun c => by
      rw [show (pdats m 3 c).Φ (Fin.last _) = iprop(Pipeline.ΦA spec3 c ∗ Pipeline.prefHeld pre3 c (fun _ => fullShare) tbl3) from rfl]; exact .rfl)
    (fun _ => 0) cut3 (fun _ => iprop(emp)) (B7 m)
    (fun c w => entry3 (B7 m) c w) (fun c k => words3 m c k)
set_option backward.isDefEq.respectTransparency.types false in
theorem enter3 (c : Dev nD) : iprop(StableHlo.held (c : Thread nD τ) (Pipeline.ucRefs τ sig) (B7 m c) ∗ rest c) ⊢ (call3 m).pre c := by
  unfold call3
  refine BI.Entails.trans ?_ (Pipeline.RegionSeg.ofHeldInT_pre (Pipeline.arrRefs_sub_ucRefs _ (launch3 (F := F)).win.arr_unscoped) (Pipeline.tblRefs_sub_ucRefs _ (launch3 (F := F)).pre.unscoped) c)
  exact BI.Entails.refl _
set_option backward.isDefEq.respectTransparency.types false in
theorem leave3 (c : Dev nD) : (call3 m).post c ⊢ iprop(StableHlo.held (c : Thread nD τ) (Pipeline.ucRefs τ sig) (B8 m c) ∗ rest c) := by
  unfold call3
  refine BI.Entails.trans (Pipeline.RegionSeg.ofHeldInT_post (Pipeline.arrRefs_sub_ucRefs _ (launch3 (F := F)).win.arr_unscoped) (Pipeline.tblRefs_sub_ucRefs _ (launch3 (F := F)).pre.unscoped) c) ?_
  exact BI.Entails.refl _
/-- The operations before call 3. -/
def host3 : Pipeline.HostSeg (Name := ℕ) (U := UR sig nD τ) (pcfgs (F := F)) defs₀ Variants.none lev rank :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (B6 m) rest
theorem cut4 : Pipeline.LevelCut (nD := nD) (τ := τ) (pcfgs (F := F)) tables () lev rank 4 (fun _ => 0) (fun _ => 0) where
  hι _ _ _ := by simp [lev]
  hιb _ _ _ := le_rfl
  hD _ _ _ h := absurd h (lt_irrefl _)
-- the record's implicit arguments are found by unifying it with its type
set_option backward.isDefEq.respectTransparency.types false in
/-- Call 4, from the buffers before it to the buffers after it. -/
def call4 : Pipeline.RegionSeg (pcfgs (F := F)) tables (pdats m) () defs₀ Variants.none lev rank 4 :=
  Pipeline.RegionSeg.ofHeldInT (pcfgs (F := F)) tables (pdats m) () defs₀ Variants.none lev rank 4 (fun _ => 0) (Pipeline.ucRefs τ sig) reg reg
    launch4 (fun c => (body4 (B9 m) c).loose) (fun _ _ => rfl) (fun _ => rfl)
    (fun c => (dat4 (B9 m) c).share_full fun _ => rfl) (fun c => by
      rw [show (pdats m 4 c).Φ 0 = iprop(Pipeline.ΦA spec4 c ∗ Pipeline.prefHeld pre4 c (fun _ => fullShare) tbl4) from rfl]; exact .rfl)
    (fun c => by
      rw [show (pdats m 4 c).Φ (Fin.last _) = iprop(Pipeline.ΦA spec4 c ∗ Pipeline.prefHeld pre4 c (fun _ => fullShare) tbl4) from rfl]; exact .rfl)
    (fun _ => 0) cut4 (fun _ => iprop(emp)) (B9 m)
    (fun c w => entry4 (B9 m) c w) (fun c k => words4 m c k)
set_option backward.isDefEq.respectTransparency.types false in
theorem enter4 (c : Dev nD) : iprop(StableHlo.held (c : Thread nD τ) (Pipeline.ucRefs τ sig) (B9 m c) ∗ rest c) ⊢ (call4 m).pre c := by
  unfold call4
  refine BI.Entails.trans ?_ (Pipeline.RegionSeg.ofHeldInT_pre (Pipeline.arrRefs_sub_ucRefs _ (launch4 (F := F)).win.arr_unscoped) (Pipeline.tblRefs_sub_ucRefs _ (launch4 (F := F)).pre.unscoped) c)
  exact BI.Entails.refl _
set_option backward.isDefEq.respectTransparency.types false in
theorem leave4 (c : Dev nD) : (call4 m).post c ⊢ iprop(StableHlo.held (c : Thread nD τ) (Pipeline.ucRefs τ sig) (B10 m c) ∗ rest c) := by
  unfold call4
  refine BI.Entails.trans (Pipeline.RegionSeg.ofHeldInT_post (Pipeline.arrRefs_sub_ucRefs _ (launch4 (F := F)).win.arr_unscoped) (Pipeline.tblRefs_sub_ucRefs _ (launch4 (F := F)).pre.unscoped) c) ?_
  exact BI.Entails.refl _
/-- The operations before call 4. -/
def host4 : Pipeline.HostSeg (Name := ℕ) (U := UR sig nD τ) (pcfgs (F := F)) defs₀ Variants.none lev rank :=
  Pipeline.HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (B8 m) rest
/-- The program's pieces in order. -/
abbrev pieces : List (Pipeline.Seg (pcfgs (F := F)) tables (pdats m) () defs₀ Variants.none lev rank) :=
  [.host (host0 m), .region (call0 m), .host (host1 m), .region (call1 m), .host (host2 m), .region (call2 m), .host (host3 m), .region (call3 m), .host (host4 m), .region (call4 m)]
theorem main_pieces (c : Dev nD) : main (F := F) c = Pipeline.Seg.run (pieces m) :=
  main_segs tables (pdats m) () Variants.none lev rank (host0 m) (host1 m) (host2 m) (host3 m) (host4 m) (call0 m) (call1 m) (call2 m) (call3 m) (call4 m) rfl rfl rfl rfl rfl c
/-- A buffer that is never freed is among those followed. -/
theorem followed (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one
set_option backward.isDefEq.respectTransparency.types false in
/-- Every run ends with every followed buffer at its last boundary's contents and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = B10 m c b) ∧ r.2.sem = fun _ => 0) :=
  Pipeline.θ_run_regions_kit_sems (pcfgs (F := F)) tables (pdats m) () (cellOf_inj tables) emb₁ defs₀ Variants.none lev rank m ρ main (pieces m)
    (fun c Q => by rw [main_pieces m c])
    (by simp only [pieces, Pipeline.Seg.pipes_host, Pipeline.Seg.pipes_region, Pipeline.Seg.pipes_nil]; decide)
    (O₀ := 0) (hL := fun _ h => if_neg h) (G := fun _ => iprop(emp))
    (u₀ := initOf (Pipeline.cells (Pipeline.pin (pcfgs (F := F)) tables) (cellOf_inj tables)) (Pipeline.launchToks (Pipeline.pin (pcfgs (F := F)) tables) (cellOf_inj tables)))
    (hu₀ := by
      iintro Hu; imodintro
      isplitl [Hu]
      · iapply (show (ownU (initOf (Pipeline.cells (Pipeline.pin (pcfgs (F := F)) tables) (cellOf_inj tables)) (Pipeline.launchToks (Pipeline.pin (pcfgs (F := F)) tables) (cellOf_inj tables))) : sProp (MT nD τ sig Unit (Elt F) ℕ (UR sig nD τ) ℕ))
            ⊢ BI.own (emb₁ (initOf (Pipeline.cells (Pipeline.pin (pcfgs (F := F)) tables) (cellOf_inj tables)) (Pipeline.launchToks (Pipeline.pin (pcfgs (F := F)) tables) (cellOf_inj tables)))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (B0 m c) ∗ rest c))
    (Tₙ := fun c => iprop(StableHlo.held (c : Thread nD τ) (Pipeline.ucRefs τ sig) (B10 m c) ∗ reg c))
    (hch := ⟨fun _ => .rfl, enter0 m, leave0 m, enter1 m, leave1 m, enter2 m, leave2 m, enter3 m, leave3 m, enter4 m, fun c => by
      refine (leave4 m c).trans ?_
      iintro ⟨Hh, HO, Hr, -⟩
      isplitl [Hh Hr]
      · isplitl [Hh]; · iexact Hh
        iexact Hr
      iexact HO⟩)
    (hinit := by
      refine Pipeline.initEach lev rank fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h hz => ⟨h, funext fun g => hz g (.inr (regions_no_unscoped g.2))⟩)

/-- The arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c _ (followed main_arg0 (by decide))).trans (B10_main_arg0 m c),
    (h.1 c _ (followed main_arg1 (by decide))).trans (B10_main_arg1 m c)⟩, h.2⟩) (run m ρ)

end Cert.Kernel8Ideal.FwdProj
-- ==== Proof.FwdProjFinal.lean ====
module

public import proofs.«01_k».proof.Proof.FwdProjRun
public import Idealize.ShloMosaic.Lib.Pipeline.ValueKit
public import Idealize.ShloMosaic.Lib.Pipeline.ValueKit.Partial
public import Idealize.ShloMosaic.Lib.Pointwise

/-! # What the five calls leave: the whole projection -/

@[expose] public section

set_option maxRecDepth 16384

noncomputable section

namespace Cert.Kernel8Ideal.FwdProj

open Idealize.ShloMosaic Idealize.ShloMosaic.TcCoe Idealize.SL.Sem
open Idealize.ShloMosaic.Pipeline (Dat)
open Cert.Kernel8Ideal Cert.Kernel8Ideal.Gen

/-- The shard a column of the product lies in. -/
def shard (l : Fin 11264) : Fin 8 := ⟨l.val / 1408, by omega⟩
/-- Its column within that shard. -/
def lane (l : Fin 11264) : Fin 1408 := ⟨l.val % 1408, Nat.mod_lt _ (by decide)⟩

/-- The projection: rows of the input against columns of the weight, which lie in eight shards. -/
def prod (h : FVec Ideal S4096x2048 .bf16) (w : FVec Ideal S8x2048x1408 .bf16) : FVec Ideal S4096x11264 .f32 :=
  fun i => ∑ k : Fin 2048, (h (Idealize.ShloMosaic.ix2 (i 0) k) * w (Idealize.ShloMosaic.ix3 (shard (i 1)) k (lane (i 1))) : EReal)

variable (V : Dev nD → Valuation τ sig (Elt Ideal))

/-- Which block of each array the first call's windows take at a grid point: shards 0 and 1. -/
theorem idx0 : ∀ t : Fin (pc0 (F := Ideal)).N, ((pc0 (F := Ideal)).win 0).index t = ![t.val % 4, 0] ∧ ((pc0 (F := Ideal)).win 1).index t = ![t.val / 4, 0, 0]
    ∧ ((pc0 (F := Ideal)).win 2).index t = ![t.val % 4, t.val / 4] := (by decide +kernel : ∀ t : Fin grid0.N, _)

/-- The first call writes the columns of shards 0 and 1 and leaves the others. -/
theorem final0 (c : Dev nD) : (dat0 V c).arrAt 2 (pc0 (F := Ideal)).N = fun i => if (i 1 : ℕ) / 1408 < 2
    then prod (V c (Proc.devRef .tc main_arg0)) (V c (Proc.devRef .tc main_arg1)) i else V c (Proc.devRef .tc main_v0) i := by
  refine (dat0 V c).arrAt_eq_of_coversWhere 2 _ (fun β => β 1 < 2) (by decide +kernel) (fun t _ y => ?_)
    (fun j => by blk_simp [Pipeline.Window.cell_apply])
  blk_simp
  rw [left0_2]
  pointwise [k0_pay1, prod]
  blk_point [blk0, idx0 t, shard, lane]

/-- Which block of each array the second call's windows take at a grid point: shards 2 and 4. -/
theorem idx1 : ∀ t : Fin (pc1 (F := Ideal)).N, ((pc1 (F := Ideal)).win 0).index t = ![t.val % 4, 0] ∧ ((pc1 (F := Ideal)).win 1).index t = ![2 * (t.val / 4) + 2, 0, 0]
    ∧ ((pc1 (F := Ideal)).win 2).index t = ![t.val % 4, 2 * (t.val / 4) + 2] := (by decide +kernel : ∀ t : Fin grid1.N, _)

/-- The second call writes the columns of shards 2 and 4 and leaves the others. -/
theorem final1 (c : Dev nD) : (dat1 V c).arrAt 2 (pc1 (F := Ideal)).N = fun i => if (i 1 : ℕ) / 1408 = 2 ∨ (i 1 : ℕ) / 1408 = 4
    then prod (V c (Proc.devRef .tc main_arg0)) (V c (Proc.devRef .tc main_arg1)) i else V c (Proc.devRef .tc main_v1) i := by
  refine (dat1 V c).arrAt_eq_of_coversWhere 2 _ (fun β => β 1 = 2 ∨ β 1 = 4) (by decide +kernel) (fun t _ y => ?_)
    (fun j => by blk_simp [Pipeline.Window.cell_apply])
  blk_simp
  rw [left1_2]
  pointwise [k1_pay1, prod]
  blk_point [blk1, idx1 t, shard, lane]

/-- Which block of each array the third call's windows take at a grid point: shards 3 and 5. -/
theorem idx2 : ∀ t : Fin (pc2 (F := Ideal)).N, ((pc2 (F := Ideal)).win 0).index t = ![t.val % 4, 0] ∧ ((pc2 (F := Ideal)).win 1).index t = ![2 * (t.val / 4) + 3, 0, 0]
    ∧ ((pc2 (F := Ideal)).win 2).index t = ![t.val % 4, 2 * (t.val / 4) + 3] := (by decide +kernel : ∀ t : Fin grid2.N, _)

/-- The third call writes the columns of shards 3 and 5 and leaves the others. -/
theorem final2 (c : Dev nD) : (dat2 V c).arrAt 2 (pc2 (F := Ideal)).N = fun i => if (i 1 : ℕ) / 1408 = 3 ∨ (i 1 : ℕ) / 1408 = 5
    then prod (V c (Proc.devRef .tc main_arg0)) (V c (Proc.devRef .tc main_arg1)) i else V c (Proc.devRef .tc main_v2) i := by
  refine (dat2 V c).arrAt_eq_of_coversWhere 2 _ (fun β => β 1 = 3 ∨ β 1 = 5) (by decide +kernel) (fun t _ y => ?_)
    (fun j => by blk_simp [Pipeline.Window.cell_apply])
  blk_simp
  rw [left2_2]
  pointwise [k2_pay1, prod]
  blk_point [blk2, idx2 t, shard, lane]

/-- Which block of each array the fourth call's windows take at a grid point: shard 6. -/
theorem idx3 : ∀ t : Fin (pc3 (F := Ideal)).N, ((pc3 (F := Ideal)).win 0).index t = ![t.val % 4, 0] ∧ ((pc3 (F := Ideal)).win 1).index t = ![6, 0, 0]
    ∧ ((pc3 (F := Ideal)).win 2).index t = ![t.val % 4, 6] := (by decide +kernel : ∀ t : Fin grid3.N, _)

/-- The fourth call writes the columns of shard 6 and leaves the others. -/
theorem final3 (c : Dev nD) : (dat3 V c).arrAt 2 (pc3 (F := Ideal)).N = fun i => if (i 1 : ℕ) / 1408 = 6
    then prod (V c (Proc.devRef .tc main_arg0)) (V c (Proc.devRef .tc main_arg1)) i else V c (Proc.devRef .tc main_v3) i := by
  refine (dat3 V c).arrAt_eq_of_coversWhere 2 _ (fun β => β 1 = 6) (by decide +kernel) (fun t _ y => ?_)
    (fun j => by blk_simp [Pipeline.Window.cell_apply])
  blk_simp
  rw [left3_2]
  pointwise [k3_pay1, prod]
  blk_point [blk3, idx3 t, shard, lane]

/-- Which block of each array the fifth call's windows take at a grid point: shard 7. -/
theorem idx4 : ∀ t : Fin (pc4 (F := Ideal)).N, ((pc4 (F := Ideal)).win 0).index t = ![t.val % 4, 0] ∧ ((pc4 (F := Ideal)).win 1).index t = ![7, 0, 0]
    ∧ ((pc4 (F := Ideal)).win 2).index t = ![t.val % 4, 7] := (by decide +kernel : ∀ t : Fin grid4.N, _)

/-- The fifth call writes the columns of shard 7 and leaves the others. -/
theorem final4 (c : Dev nD) : (dat4 V c).arrAt 2 (pc4 (F := Ideal)).N = fun i => if (i 1 : ℕ) / 1408 = 7
    then prod (V c (Proc.devRef .tc main_arg0)) (V c (Proc.devRef .tc main_arg1)) i else V c (Proc.devRef .tc main_v4) i := by
  refine (dat4 V c).arrAt_eq_of_coversWhere 2 _ (fun β => β 1 = 7) (by decide +kernel) (fun t _ y => ?_)
    (fun j => by blk_simp [Pipeline.Window.cell_apply])
  blk_simp
  rw [left4_2]
  pointwise [k4_pay1, prod]
  blk_point [blk4, idx4 t, shard, lane]

variable (m : (ℓ : Loc nD τ sig) → Buf (Elt Ideal) ℓ)

/-- After the five calls every column is the projection's. -/
theorem whole (c : Dev nD) : B10 m c (Proc.devRef .tc main_v4)
    = prod (m ((c : Thread nD τ).loc main_arg0)) (m ((c : Thread nD τ).loc main_arg1)) := by
  have e0 : B2 m c (Proc.devRef .tc main_v0) = _ := (exit0_arr (B1 m) c 2).trans (final0 (B1 m) c)
  have e1 : B4 m c (Proc.devRef .tc main_v1) = _ := (exit1_arr (B3 m) c 2).trans (final1 (B3 m) c)
  have g1 : B3 m c (Proc.devRef .tc main_v1) = B2 m c (Proc.devRef .tc main_v0) := by unfold B3; rfl
  have e2 : B6 m c (Proc.devRef .tc main_v2) = _ := (exit2_arr (B5 m) c 2).trans (final2 (B5 m) c)
  have g2 : B5 m c (Proc.devRef .tc main_v2) = B4 m c (Proc.devRef .tc main_v1) := by unfold B5; rfl
  have e3 : B8 m c (Proc.devRef .tc main_v3) = _ := (exit3_arr (B7 m) c 2).trans (final3 (B7 m) c)
  have g3 : B7 m c (Proc.devRef .tc main_v3) = B6 m c (Proc.devRef .tc main_v2) := by unfold B7; rfl
  have e4 : B10 m c (Proc.devRef .tc main_v4) = _ := (exit4_arr (B9 m) c 2).trans (final4 (B9 m) c)
  have g4 : B9 m c (Proc.devRef .tc main_v4) = B8 m c (Proc.devRef .tc main_v3) := by unfold B9; rfl
  rw [e4, g4, e3, g3, e2, g2, e1, g1, e0, B1_main_arg0, B1_main_arg1, B3_main_arg0, B3_main_arg1, B5_main_arg0, B5_main_arg1, B7_main_arg0, B7_main_arg1, B9_main_arg0, B9_main_arg1]
  funext i
  have hi : (i 1 : Fin 11264).val < 11264 := (i 1 : Fin 11264).isLt
  show (if _ then _ else if _ then _ else if _ then _ else if _ then _ else if _ then _ else _) = _
  split_ifs
  · rfl
  · rfl
  · rfl
  · rfl
  · rfl
  · omega

end Cert.Kernel8Ideal.FwdProj
-- ==== Proof.FwdProjClaim.lean ====
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.FwdProjFinal
public import Idealize.ShloMosaic.Lib.Quiescent

/-! # The projection: the kernel beside its reference -/

@[expose] public section

noncomputable section

namespace Cert.Proof.FwdProj

open Idealize.ShloMosaic Idealize.ShloMosaic.TcCoe Idealize.SL.Sem

/-- The frame's statement over words, of the text that the run is written for. -/
abbrev Quiet : Prop := ∀ (m : (ℓ : Loc Cert.Kernel8Ideal.nD Cert.Kernel8Ideal.τ Cert.Kernel8Ideal.sig) → Buf (Elt Bits) ℓ) (ρ : Dev Cert.Kernel8Ideal.nD → PrngReg), True →
  θ_run (Cert.Kernel8Ideal.defs (F := Bits)) (onTc (τ := Cert.Kernel8Ideal.τ) (Cert.Kernel8Ideal.main (F := Bits))) ⟨m, fun _ => 0, ρ⟩
    (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

/-- The kernel and its idealization have the same text. -/
theorem same_text : Quiet = Cert.quiescent_Kernel8 (hKernel8 := Cert.Kernel8.Gen.facts) := by sl_kernel_rfl

/-- The kernel's frame over words is the one run's, at words. -/
theorem frame_kernel : Cert.quiescent_Kernel8 (hKernel8 := Cert.Kernel8.Gen.facts) :=
  same_text.mp fun m ρ _ => Cert.Kernel8Ideal.FwdProj.frame (F := Bits) m ρ

/-- The reference's run: the arguments stay, every counter is zero. -/
theorem frame_ref : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩) (Cert.Reference8Ideal.Value.run (F := Ideal) m ρ)

/-- The reference's result is the kernel's: the input times the weight, its shards put side by side. -/
theorem res (x : FVec Ideal Cert.Kernel8Ideal.S4096x2048 .bf16) (w : FVec Ideal Cert.Kernel8Ideal.S8x2048x1408 .bf16) :
    Cert.Reference8Ideal.Read.val_main_v4 (F := Ideal) x w = Cert.Kernel8Ideal.FwdProj.prod x w := by
  funext i
  have h1 : (i 1 : Fin 11264).val < 11264 := (i 1 : Fin 11264).isLt
  refine (Cert.Reference8Ideal.Read.val_main_v4_apply x w i).trans (Finset.sum_congr rfl fun k _ => ?_)
  have hk := k.isLt
  refine congrArg₂ (· * ·) (congrArg x (funext fun a => by fin_cases a <;> rfl)) ?_
  rw [Cert.Reference8Ideal.Read.val_main_v3_apply, Cert.Reference8Ideal.Read.val_main_v2_apply]
  refine congrArg w (funext fun a => Fin.ext ?_)
  match a with
  | ⟨0, _⟩ => show (k.val * 11264 + (i 1 : Fin 11264).val) / 1408 % 8 = (i 1 : Fin 11264).val / 1408; omega
  | ⟨1, _⟩ => show (k.val * 11264 + (i 1 : Fin 11264).val) / 11264 = k.val; omega
  | ⟨2, _⟩ => show (k.val * 11264 + (i 1 : Fin 11264).val) % 1408 = (i 1 : Fin 11264).val % 1408; omega

/-- The kernel's result is the reference's. -/
theorem value : Cert.algebraic_Kernel8Ideal_Reference8Ideal (hKernel8Ideal := Cert.Kernel8Ideal.Gen.facts)
    (hReference8Ideal := Cert.Reference8Ideal.Gen.facts) := by
  intro m ρ m' ρ' _ hag
  refine ⟨fun c => Cert.Kernel8Ideal.FwdProj.prod (m ((c.tc : Thread _ _).loc Cert.Kernel8Ideal.main_arg0)) (m ((c.tc : Thread _ _).loc Cert.Kernel8Ideal.main_arg1)),
    (θ_run _ _ _).mono (fun r h c => ?_) (Cert.Kernel8Ideal.FwdProj.run m ρ),
    (θ_run _ _ _).mono (fun r h c => ?_) (Cert.Reference8Ideal.Value.run (F := Ideal) m' ρ')⟩
  · exact ⟨(h.1 c _ (Cert.Kernel8Ideal.FwdProj.followed Cert.Kernel8Ideal.main_v4 (by decide))).trans (Cert.Kernel8Ideal.FwdProj.whole m c),
      (h.1 c _ (Cert.Kernel8Ideal.FwdProj.followed Cert.Kernel8Ideal.main_arg0 (by decide))).trans (Cert.Kernel8Ideal.FwdProj.B10_main_arg0 m c),
      (h.1 c _ (Cert.Kernel8Ideal.FwdProj.followed Cert.Kernel8Ideal.main_arg1 (by decide))).trans (Cert.Kernel8Ideal.FwdProj.B10_main_arg1 m c)⟩
  · obtain ⟨a0, a1⟩ := hag c
    obtain ⟨h1, hargs⟩ := h c
    rw [Cert.Reference8Ideal.Read.val_main_v4_eq, a0, a1] at h1
    exact ⟨h1.trans (res _ _), hargs⟩

end Cert.Proof.FwdProj
-- ==== Proof.NormMath.lean ====
module

public import Idealize.ShloMosaic.PureOps.Ideal
public import Idealize.ShloMosaic.Lib.Pipeline.ValueKit
public import Idealize.ShloMosaic.Lib.Pointwise

/-! # The gradient of a root-mean-square norm, in two forms

A row `x` of 2048 entries is normed as `x * rinv x`, the reciprocal root of its mean square. Differentiating that product
by the chain rule gives `pull`; the closed form that subtracts the mean of the products gives `back`. The two agree at
every row of extended reals, whatever the cotangent. -/

@[expose] public section

set_option maxRecDepth 16384

noncomputable section

namespace Cert.Norm

open Idealize.ShloMosaic

theorem n_word : Ideal.ofBits .f32 0x45000000#32 = ((2048 : ℝ) : EReal) := by
  simp [Ideal.ofBits, Ideal.ieee]
  norm_cast
  norm_num

theorem half_word : Ideal.ofBits .f32 0x3F000000#32 = ((1 / 2 : ℝ) : EReal) := by
  simp [Ideal.ofBits, Ideal.ieee]
  norm_cast
  norm_num

theorem neg_half_word : Ideal.ofBits .f32 0xBF000000#32 = ((-(1 / 2) : ℝ) : EReal) := by
  simp [Ideal.ofBits, Ideal.ieee]
  norm_cast
  norm_num

theorem two_word : Ideal.ofBits .f32 0x40000000#32 = ((2 : ℝ) : EReal) := by
  simp [Ideal.ofBits, Ideal.ieee]
  norm_cast
  norm_num

theorem eps_word : ∃ e : ℝ, 0 < e ∧ Ideal.ofBits .f32 0x358637BD#32 = (e : EReal) := by
  simp [Ideal.ofBits, Ideal.ieee]
  norm_cast
  exact ⟨_, by norm_num, rfl⟩

/-- The mean square of a row, with the small constant that keeps it above zero. -/
def msq (x : Fin 2048 → EReal) : EReal :=
  Ideal.div (∑ k, x k * x k) (Ideal.ofBits .f32 0x45000000#32) + Ideal.ofBits .f32 0x358637BD#32

/-- The reciprocal root of the mean square. -/
def rinv (x : Fin 2048 → EReal) : EReal := Ideal.rsqrt (msq x)

/-- The gradient at entry `j` of the row, in closed form: `u` is the cotangent of the normed row. -/
def back (x u : Fin 2048 → EReal) (j : Fin 2048) : EReal :=
  rinv x * (u j - x j * rinv x * Ideal.div (∑ k, u k * (x k * rinv x)) (Ideal.ofBits .f32 0x45000000#32))

/-- What the chain rule sends back to every square of the row. -/
def pull (x u : Fin 2048 → EReal) : EReal :=
  Ideal.div ((∑ k, x k * u k) * (Ideal.ofBits .f32 0xBF000000#32 * Ideal.div (rinv x) (msq x))) (Ideal.ofBits .f32 0x45000000#32)

/-- The cotangent of the normed row: what comes in, times one plus the modulation's scale, times the gain. -/
def cot (dh sc g : Fin 2048 → EReal) : Fin 2048 → EReal := fun k => dh k * (Ideal.ofBits .f32 0x3F800000#32 + sc k) * g k

/-- Division by 2048 is a product with a real number. -/
theorem div_n (a : EReal) : Ideal.div a (Ideal.ofBits .f32 0x45000000#32) = a * ((2048⁻¹ : ℝ) : EReal) := by
  have h : ((2048 : ℝ) : EReal) ≠ 0 := by norm_cast
  rw [n_word, Ideal.div, if_neg h, EReal.coe_inv]

/-- A real factor that is not negative goes through a sum. -/
theorem sum_mul_real {ι : Type} (s : Finset ι) (f : ι → EReal) (r : ℝ) (hr : 0 ≤ r) : (∑ k ∈ s, f k * (r : EReal)) = (∑ k ∈ s, f k) * (r : EReal) := by
  classical
  have hr' : (0 : EReal) ≤ (r : EReal) := by exact_mod_cast hr
  induction s using Finset.induction_on with
  | empty => simp
  | insert a s ha ih =>
    rw [Finset.sum_insert ha, Finset.sum_insert ha, ih, EReal.right_distrib_of_nonneg_of_ne_top hr' (EReal.coe_ne_top r)]

/-- A sum of real numbers, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real times a real number, added to itself. -/
theorem mul_add_self (a : EReal) (q : ℝ) : a * (q : EReal) + a * (q : EReal) = a * ((2 * q : ℝ) : EReal) := by
  induction a with
  | coe a => norm_cast; ring
  | top =>
    rcases lt_trichotomy q 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy q 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem sq_nonneg' (a : EReal) : 0 ≤ a * a := by
  induction a with
  | coe a => norm_cast; exact mul_self_nonneg a
  | top => simp
  | bot => simp

/-- The mean square is infinite, or the row is real and its mean square a positive real number. -/
theorem msq_cases (x : Fin 2048 → EReal) : msq x = ⊤ ∨ ∃ y : Fin 2048 → ℝ, (∀ k, x k = (y k : EReal)) ∧ ∃ m : ℝ, 0 < m ∧ msq x = (m : EReal) := by
  obtain ⟨e, he, hw⟩ := eps_word
  by_cases h : ∀ k, ∃ r : ℝ, x k = (r : EReal)
  · right
    choose y hy using h
    refine ⟨y, hy, (∑ k, y k * y k) * 2048⁻¹ + e, ?_, ?_⟩
    · have : 0 ≤ ∑ k, y k * y k := Finset.sum_nonneg fun k _ => mul_self_nonneg (y k)
      positivity
    · have hs : (∑ k, x k * x k) = ((∑ k, y k * y k : ℝ) : EReal) := by
        rw [coe_sum]
        exact Finset.sum_congr rfl fun k _ => by rw [hy k, EReal.coe_mul]
      rw [msq, div_n, hw, hs, EReal.coe_add, EReal.coe_mul]
  · left
    obtain ⟨k, hk⟩ := not_forall.mp h
    have ht : x k * x k = ⊤ := by
      generalize x k = a at hk ⊢
      induction a with
      | coe a => exact absurd ⟨a, rfl⟩ hk
      | top => simp
      | bot => simp
    have hs : (∑ k, x k * x k) = ⊤ := by
      refine top_le_iff.mp (ht ▸ ?_)
      exact Finset.single_le_sum (f := fun k => x k * x k) (fun i _ => sq_nonneg' (x i)) (Finset.mem_univ k)
    rw [msq, div_n, hw, hs, EReal.top_mul_coe_of_pos (by norm_num), EReal.top_add_coe]

/-- The chain rule's gradient is the closed form. -/
theorem chain (x u : Fin 2048 → EReal) (j : Fin 2048) : u j * rinv x + x j * pull x u + pull x u * x j = back x u j := by
  rcases msq_cases x with h | ⟨y, hy, m, hm, h⟩
  · have hi : rinv x = 0 := by rw [rinv, h]; rfl
    have hd : Ideal.div 0 (⊤ : EReal) = 0 := by simp [Ideal.div]
    simp only [back, pull, h, hi, hd, div_n, mul_zero, zero_mul, add_zero]
  · have hq : 0 < Real.sqrt m := Real.sqrt_pos.mpr hm
    set r : ℝ := (Real.sqrt m)⁻¹ with hr
    have hr0 : 0 ≤ r := inv_nonneg.mpr hq.le
    have hr0' : (0 : EReal) ≤ (r : EReal) := by exact_mod_cast hr0
    have hrm : r * r = m⁻¹ := by rw [hr, ← mul_inv, Real.mul_self_sqrt hm.le]
    have hi : rinv x = (r : EReal) := by
      rw [rinv, h]
      show (if m < 0 then (⊥ : EReal) else if m = 0 then ⊤ else ((Real.sqrt m)⁻¹ : ℝ)) = _
      rw [if_neg (not_lt.mpr hm.le), if_neg hm.ne']
    have hd : Ideal.div (r : EReal) (m : EReal) = ((r * m⁻¹ : ℝ) : EReal) := by
      have : ((m : ℝ) : EReal) ≠ 0 := by exact_mod_cast hm.ne'
      rw [Ideal.div, if_neg this, ← EReal.coe_inv, EReal.coe_mul]
    have hs : (∑ k, u k * (x k * (r : EReal))) = (∑ k, x k * u k) * (r : EReal) := by
      rw [← sum_mul_real _ _ r hr0]
      exact Finset.sum_congr rfl fun k _ => by rw [mul_comm (x k) (u k), mul_assoc]
    rw [back, pull, h, hi, hd, hs, neg_half_word, div_n, div_n, hy j]
    generalize (∑ k, x k * u k) = S
    generalize u j = v
    generalize y j = z
    have e1 : (z : EReal) * (S * ((-(1 / 2) : ℝ) * ((r * m⁻¹ : ℝ) : EReal)) * ((2048⁻¹ : ℝ) : EReal)) = S * ((-(1 / 2) * (r * m⁻¹) * 2048⁻¹ * z : ℝ) : EReal) := by
      push_cast
      ac_rfl
    have e2 : (S * ((-(1 / 2) : ℝ) * ((r * m⁻¹ : ℝ) : EReal)) * ((2048⁻¹ : ℝ) : EReal)) * (z : EReal) = S * ((-(1 / 2) * (r * m⁻¹) * 2048⁻¹ * z : ℝ) : EReal) := by
      push_cast
      ac_rfl
    have e3 : -((z : EReal) * (r : EReal) * (S * (r : EReal) * ((2048⁻¹ : ℝ) : EReal))) = S * ((-(z * r * r * 2048⁻¹) : ℝ) : EReal) := by
      rw [EReal.coe_neg, mul_neg]
      push_cast
      refine congrArg Neg.neg ?_
      ac_rfl
    rw [e1, e2, add_assoc, mul_add_self, sub_eq_add_neg, e3, EReal.left_distrib_of_nonneg_of_ne_top hr0' (EReal.coe_ne_top r)]
    refine congrArg₂ (· + ·) (mul_comm _ _) ?_
    rw [mul_left_comm (r : EReal), ← EReal.coe_mul]
    refine congrArg (fun q : ℝ => S * (q : EReal)) ?_
    linear_combination (2048⁻¹ * z * r) * hrm

/-- A carried row that the first point clears, and to which every point adds the sum of its `n` rows of `e`, is at the
last point the sum of all rows. -/
theorem gather {N w J n : ℕ} [NeZero J] (hN : N = J) (hJ : 4096 = J * n) (f : (k : ℕ) → k < N → (⟨2, ![1, w]⟩ : Shape).Idx → EReal) (e : Fin 4096 → Fin w → EReal)
    (hlt : ∀ (t : Fin N) (a : Fin n), t.val * n + a.val < 4096)
    (h0 : ∀ t : Fin N, t.val % J = 0 → ∀ j : Fin w, f t.val t.isLt (ix2 0 j) = 0 + ∑ a : Fin n, e ⟨t.val * n + a.val, hlt t a⟩ j)
    (hs : ∀ t : Fin N, ¬t.val % J = 0 → ∀ j : Fin w, f t.val t.isLt (ix2 0 j)
      = f (t.val - 1) (Nat.lt_of_le_of_lt (Nat.sub_le _ _) t.isLt) (ix2 0 j) + ∑ a : Fin n, e ⟨t.val * n + a.val, hlt t a⟩ j)
    (t : Fin N) (ht : t.val % J = J - 1) (j : Fin w) : f t.val t.isLt (ix2 0 j) = ∑ i, e i j := by
  subst hN
  refine (Pipeline.eq_sum_fin_of_reset_step_apply_of_flush (fun k h (j : Fin w) => f k h (ix2 0 j)) N (fun _ => 0)
    (fun t j => ∑ a : Fin n, e ⟨t.val * n + a.val, hlt t a⟩ j) h0 hs t ht j).trans ?_
  rw [zero_add, ← Fin.sum_mul_add_fin N n (fun i => e i j) hJ]
  refine Finset.sum_congr rfl fun s _ => Finset.sum_congr rfl fun a _ => congrArg (e · j) (Fin.ext ?_)
  show (N * (t.val / N) + s.val) * n + a.val = s.val * n + a.val
  rw [Nat.div_eq_of_lt t.isLt, mul_zero, zero_add]

end Cert.Norm
-- ==== Proof.NormFinal.lean ====
module

public import proofs.«01_k».proof.Proof.Gen.Kernel9Ideal.Value
public import proofs.«01_k».proof.Proof.NormMath
public import Idealize.ShloMosaic.Lib.Pipeline.ValueKit
public import Idealize.ShloMosaic.Lib.Pointwise

/-! # What the backward pass of the first norm leaves in its result arrays -/

@[expose] public section

set_option maxRecDepth 16384

noncomputable section

namespace Cert.Kernel9Ideal.Norm

open Idealize.ShloMosaic Idealize.ShloMosaic.TcCoe Idealize.SL.Sem
open Idealize.ShloMosaic.Pipeline (Dat)
open Cert.Kernel9Ideal Cert.Kernel9Ideal.Gen
open Cert.Norm

/-- The reciprocal root of row `i`. -/
theorem inv_apply (x : FVec Ideal S512x2048 .f32) (i : Fin 512) : k0_pay8 (F := Ideal) x (ix2 i 0) = rinv (fun k => x (ix2 i k)) := by
  pointwise [k0_pay8, rinv, msq]

theorem nrm_apply (x : FVec Ideal S512x2048 .f32) (i : Fin 512) (j : Fin 2048) : k0_pay9 (F := Ideal) x (ix2 i j) = x (ix2 i j) * rinv (fun k => x (ix2 i k)) := by
  pointwise [k0_pay9, inv_apply]

theorem scaled_apply (dh : FVec Ideal S512x2048 .f32) (sc : FVec Ideal S1x2048 .f32) (i : Fin 512) (j : Fin 2048) :
    k0_pay1 (F := Ideal) dh sc (ix2 i j) = dh (ix2 i j) * (Ideal.ofBits .f32 0x3F800000#32 + sc (ix2 0 j)) := by
  pointwise [k0_pay1]

theorem dx_apply (dh : FVec Ideal S512x2048 .bf16) (x dx1 : FVec Ideal S512x2048 .f32) (sc g : FVec Ideal S1x2048 .f32) (i : Fin 512) (j : Fin 2048) :
    k0_pay3 (F := Ideal) (k0_pay7 dh) dx1 sc g (k0_pay8 x) (k0_pay9 x) (ix2 i j)
      = dx1 (ix2 i j) + back (fun k => x (ix2 i k)) (cot (fun k => dh (ix2 i k)) (fun k => sc (ix2 0 k)) (fun k => g (ix2 0 k))) j := by
  pointwise [k0_pay3, k0_pay7, inv_apply, nrm_apply, scaled_apply, back, cot]

theorem dsh_apply (dh : FVec Ideal S512x2048 .bf16) (a : FVec Ideal S1x2048 .f32) (j : Fin 2048) :
    k0_pay10 (F := Ideal) dh a (ix2 0 j) = a (ix2 0 j) + ∑ i : Fin 512, dh (ix2 i j) := by
  pointwise [k0_pay10, k0_pay7]

theorem dsc_apply (dh : FVec Ideal S512x2048 .bf16) (x : FVec Ideal S512x2048 .f32) (g a : FVec Ideal S1x2048 .f32) (j : Fin 2048) :
    k0_pay11 (F := Ideal) dh x g a (ix2 0 j) = a (ix2 0 j) + ∑ i : Fin 512, dh (ix2 i j) * (x (ix2 i j) * rinv (fun k => x (ix2 i k)) * g (ix2 0 j)) := by
  pointwise [k0_pay11, k0_pay7, nrm_apply]

theorem dg_apply (dh : FVec Ideal S512x2048 .bf16) (x : FVec Ideal S512x2048 .f32) (sc a : FVec Ideal S1x2048 .f32) (j : Fin 2048) :
    k0_pay2 (F := Ideal) (k0_pay7 dh) sc (k0_pay9 x) a (ix2 0 j)
      = a (ix2 0 j) + ∑ i : Fin 512, dh (ix2 i j) * (Ideal.ofBits .f32 0x3F800000#32 + sc (ix2 0 j)) * (x (ix2 i j) * rinv (fun k => x (ix2 i k))) := by
  pointwise [k0_pay2, k0_pay7, nrm_apply, scaled_apply]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] := (by decide +kernel : ∀ t : Fin grid0.N, _)

/-- The entries of the blocks of a point, in the arrays. -/
theorem in0 (c : Dev nD) (t : Fin cfg0.N) (a : Fin 512) (k : Fin 2048) (i : Fin 4096) (hi : i.val = t.val * 512 + a.val) :
    iblk m c 0 t (ix2 a k) = m ((c : Thread nD τ).loc main_arg0) (ix2 i k) := by
  blk_point [iblk, V, idx t]

theorem in1 (c : Dev nD) (t : Fin cfg0.N) (a : Fin 512) (k : Fin 2048) (i : Fin 4096) (hi : i.val = t.val * 512 + a.val) :
    iblk m c 1 t (ix2 a k) = m ((c : Thread nD τ).loc main_arg1) (ix2 i k) := by
  blk_point [iblk, V, idx t]

theorem in2 (c : Dev nD) (t : Fin cfg0.N) (a : Fin 512) (k : Fin 2048) (i : Fin 4096) (hi : i.val = t.val * 512 + a.val) :
    iblk m c 2 t (ix2 a k) = m ((c : Thread nD τ).loc main_arg2) (ix2 i k) := by
  blk_point [iblk, V, idx t]

theorem in3 (c : Dev nD) (t : Fin cfg0.N) (k : Fin 2048) : iblk m c 3 t (ix2 0 k) = m ((c : Thread nD τ).loc main_arg3) (ix2 0 k) := by
  blk_point [iblk, V, idx t]

theorem in4 (c : Dev nD) (t : Fin cfg0.N) (k : Fin 2048) : iblk m c 4 t (ix2 0 k) = m ((c : Thread nD τ).loc main_arg4) (ix2 0 k) := by
  blk_point [iblk, V, idx t]

/-- The gradient at the input of the norm: what reaches it past the norm, and the norm's own. -/
def gradX (dh : FVec Ideal S4096x2048 .bf16) (x dx1 : FVec Ideal S4096x2048 .f32) (sc g : FVec Ideal S1x2048 .f32) : FVec Ideal S4096x2048 .f32 := fun i =>
  dx1 i + back (fun k => x (ix2 (i 0) k)) (cot (fun k => dh (ix2 (i 0) k)) (fun k => sc (ix2 0 k)) (fun k => g (ix2 0 k))) (i 1)

/-- A row's part of the gradient at the shift. -/
def shiftAt (dh : FVec Ideal S4096x2048 .bf16) (i : Fin 4096) (j : Fin 2048) : EReal := dh (ix2 i j)

/-- A row's part of the gradient at the modulation's scale. -/
def scaleAt (dh : FVec Ideal S4096x2048 .bf16) (x : FVec Ideal S4096x2048 .f32) (g : FVec Ideal S1x2048 .f32) (i : Fin 4096) (j : Fin 2048) : EReal :=
  dh (ix2 i j) * (x (ix2 i j) * rinv (fun k => x (ix2 i k)) * g (ix2 0 j))

/-- A row's part of the gradient at the norm's gain. -/
def gainAt (dh : FVec Ideal S4096x2048 .bf16) (x : FVec Ideal S4096x2048 .f32) (sc : FVec Ideal S1x2048 .f32) (i : Fin 4096) (j : Fin 2048) : EReal :=
  dh (ix2 i j) * (Ideal.ofBits .f32 0x3F800000#32 + sc (ix2 0 j)) * (x (ix2 i j) * rinv (fun k => x (ix2 i k)))

/-- The gradient at the shift. -/
def gradShift (dh : FVec Ideal S4096x2048 .bf16) : FVec Ideal S1x2048 .f32 := fun j => ∑ i, shiftAt dh i (j 1)

/-- The gradient at the modulation's scale. -/
def gradScale (dh : FVec Ideal S4096x2048 .bf16) (x : FVec Ideal S4096x2048 .f32) (g : FVec Ideal S1x2048 .f32) : FVec Ideal S1x2048 .f32 := fun j =>
  ∑ i, scaleAt dh x g i (j 1)

/-- The gradient at the norm's gain. -/
def gradGain (dh : FVec Ideal S4096x2048 .bf16) (x : FVec Ideal S4096x2048 .f32) (sc : FVec Ideal S1x2048 .f32) : FVec Ideal S1x2048 .f32 := fun j =>
  ∑ i, gainAt dh x sc i (j 1)

/-- What both cases of a point write to the block of the first result. -/
theorem first (c : Dev nD) (t : Fin cfg0.N) : (outsAt0 m c t.val t.isLt).1
    = k0_pay3 (F := Ideal) (k0_pay7 (iblk m c 0 t)) (iblk m c 2 t) (iblk m c 3 t) (iblk m c 4 t) (k0_pay8 (iblk m c 1 t)) (k0_pay9 (iblk m c 1 t)) := by
  by_cases h : t.val % 8 = 0
  · rw [outsAt0_A m c t h]
    frame_out
  · rw [outsAt0_B m c t h]
    frame_out

theorem final5 (c : Dev nD) : (dats m 0 c).arrAt 5 cfg0.N = gradX (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨a, j, rfl⟩ : ∃ (a : Fin 512) (j : Fin 2048), y = ix2 a j := ⟨y 0, y 1, eq_ix2 y⟩
  have ht : t.val < 8 := t.isLt
  have hi : t.val * 512 + a.val < 4096 := by omega
  have place : (win0_5.blk t).view.emb (ix2 a j) = ix2 (⟨t.val * 512 + a.val, hi⟩ : Fin 4096) j := by
    funext d; apply Fin.ext; match d with
      | 0 => blk_point [idx t]
      | 1 => blk_point [idx t]
  blk_simp
  rw [after0_5, first m c t, dx_apply]
  simp only [in0 m c t a _ ⟨_, hi⟩ rfl, in1 m c t a _ ⟨_, hi⟩ rfl, in2 m c t a _ ⟨_, hi⟩ rfl, in3, in4]
  exact (congrArg (gradX _ _ _ _ _) place).symm

theorem row_lt (t : Fin cfg0.N) (a : Fin 512) : t.val * 512 + a.val < 4096 := by
  have : t.val < 8 := t.isLt
  omega

/-- A carried row's block is the whole of its array. -/
theorem place (t : Fin cfg0.N) (j : Fin 2048) : (win0_6.blk t).view.emb (ix2 0 j) = ix2 0 j ∧ (win0_7.blk t).view.emb (ix2 0 j) = ix2 0 j
    ∧ (win0_8.blk t).view.emb (ix2 0 j) = ix2 0 j := by
  refine ⟨?_, ?_, ?_⟩ <;> (funext d; apply Fin.ext; match d with
    | 0 => blk_point [idx t]
    | 1 => blk_point [idx t])

theorem final6 (c : Dev nD) : (dats m 0 c).arrAt 6 cfg0.N = gradShift (m ((c : Thread nD τ).loc main_arg0)) := by
  refine (dats m 0 c).arrAt_eq_of_covers 6 _ (by decide +kernel) fun t hf y => ?_
  have hm := (flush0_6 t).mp hf
  obtain ⟨b, j, rfl⟩ : ∃ (b : Fin 1) (j : Fin 2048), y = ix2 b j := ⟨y 0, y 1, eq_ix2 y⟩
  obtain rfl := Subsingleton.elim b 0
  blk_simp
  rw [after0_6]
  refine Eq.trans ?_ (congrArg (gradShift (m ((c : Thread nD τ).loc main_arg0))) (place t j).1).symm
  refine gather (J := 8) (n := 512) rfl rfl (fun n h => (outsAt0 m c n h).2.1) (shiftAt (m ((c : Thread nD τ).loc main_arg0))) row_lt (fun t h j => ?_) (fun t h j => ?_) t hm j
  · rw [outsAt0_A m c t h]
    frame_out
    refine (dsh_apply _ _ _).trans (congrArg₂ (· + ·) (by pointwise [k0_pay4]) (Finset.sum_congr rfl fun a _ => ?_))
    exact in0 m c t a j _ rfl
  · rw [outsAt0_B m c t h]
    frame_out
    refine (dsh_apply _ _ _).trans (congrArg₂ (· + ·) rfl (Finset.sum_congr rfl fun a _ => ?_))
    exact in0 m c t a j _ rfl

theorem final7 (c : Dev nD) : (dats m 0 c).arrAt 7 cfg0.N = gradScale (m ((c : Thread nD τ).loc main_arg0)) (m ((c : Thread nD τ).loc main_arg1)) (m ((c : Thread nD τ).loc main_arg4)) := by
  refine (dats m 0 c).arrAt_eq_of_covers 7 _ (by decide +kernel) fun t hf y => ?_
  have hm := (flush0_7 t).mp hf
  obtain ⟨b, j, rfl⟩ : ∃ (b : Fin 1) (j : Fin 2048), y = ix2 b j := ⟨y 0, y 1, eq_ix2 y⟩
  obtain rfl := Subsingleton.elim b 0
  blk_simp
  rw [after0_7]
  refine Eq.trans ?_ (congrArg (gradScale (m ((c : Thread nD τ).loc main_arg0)) (m ((c : Thread nD τ).loc main_arg1)) (m ((c : Thread nD τ).loc main_arg4))) (place t j).2.1).symm
  refine gather (J := 8) (n := 512) rfl rfl (fun n h => (outsAt0 m c n h).2.2.1) (scaleAt (m ((c : Thread nD τ).loc main_arg0)) (m ((c : Thread nD τ).loc main_arg1)) (m ((c : Thread nD τ).loc main_arg4))) row_lt (fun t h j => ?_) (fun t h j => ?_) t hm j
  · rw [outsAt0_A m c t h]
    frame_out
    refine (dsc_apply _ _ _ _ _).trans (congrArg₂ (· + ·) (by pointwise [k0_pay5]) (Finset.sum_congr rfl fun a _ => ?_))
    simp only [in0 m c t a _ ⟨_, row_lt t a⟩ rfl, in1 m c t a _ ⟨_, row_lt t a⟩ rfl, in4 m c t j]
    rfl
  · rw [outsAt0_B m c t h]
    frame_out
    refine (dsc_apply _ _ _ _ _).trans (congrArg₂ (· + ·) rfl (Finset.sum_congr rfl fun a _ => ?_))
    simp only [in0 m c t a _ ⟨_, row_lt t a⟩ rfl, in1 m c t a _ ⟨_, row_lt t a⟩ rfl, in4 m c t j]
    rfl

theorem final8 (c : Dev nD) : (dats m 0 c).arrAt 8 cfg0.N = gradGain (m ((c : Thread nD τ).loc main_arg0)) (m ((c : Thread nD τ).loc main_arg1)) (m ((c : Thread nD τ).loc main_arg3)) := by
  refine (dats m 0 c).arrAt_eq_of_covers 8 _ (by decide +kernel) fun t hf y => ?_
  have hm := (flush0_8 t).mp hf
  obtain ⟨b, j, rfl⟩ : ∃ (b : Fin 1) (j : Fin 2048), y = ix2 b j := ⟨y 0, y 1, eq_ix2 y⟩
  obtain rfl := Subsingleton.elim b 0
  blk_simp
  rw [after0_8]
  refine Eq.trans ?_ (congrArg (gradGain (m ((c : Thread nD τ).loc main_arg0)) (m ((c : Thread nD τ).loc main_arg1)) (m ((c : Thread nD τ).loc main_arg3))) (place t j).2.2).symm
  refine gather (J := 8) (n := 512) rfl rfl (fun n h => (outsAt0 m c n h).2.2.2) (gainAt (m ((c : Thread nD τ).loc main_arg0)) (m ((c : Thread nD τ).loc main_arg1)) (m ((c : Thread nD τ).loc main_arg3))) row_lt (fun t h j => ?_) (fun t h j => ?_) t hm j
  · rw [outsAt0_A m c t h]
    frame_out
    refine (dg_apply _ _ _ _ _).trans (congrArg₂ (· + ·) (by pointwise [k0_pay6]) (Finset.sum_congr rfl fun a _ => ?_))
    simp only [in0 m c t a _ ⟨_, row_lt t a⟩ rfl, in1 m c t a _ ⟨_, row_lt t a⟩ rfl, in3 m c t j]
    rfl
  · rw [outsAt0_B m c t h]
    frame_out
    refine (dg_apply _ _ _ _ _).trans (congrArg₂ (· + ·) rfl (Finset.sum_congr rfl fun a _ => ?_))
    simp only [in0 m c t a _ ⟨_, row_lt t a⟩ rfl, in1 m c t a _ ⟨_, row_lt t a⟩ rfl, in3 m c t j]
    rfl

end Cert.Kernel9Ideal.Norm
-- ==== Proof.NormClaim.lean ====
module

public import proofs.«01_k».proof.Defs
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.NormFinal
public import Idealize.ShloMosaic.Lib.Quiescent

/-! # The backward pass of the first norm: the kernel beside its reference -/

@[expose] public section

set_option maxRecDepth 16384

noncomputable section

namespace Cert.Proof.Norm

open Idealize.ShloMosaic Idealize.SL.Sem
open Cert.Norm Cert.Kernel9Ideal.Norm
open Cert.Kernel9Ideal (S4096x2048 S1x2048)
open Cert.Reference9Ideal.Read

/-- The reference's run: the arguments stay, every counter is zero. -/
theorem frame_ref : Cert.quiescent_Reference9Ideal (hReference9Ideal := Cert.Reference9Ideal.Gen.facts) := fun m ρ _ =>
  (θ_run Cert.Reference9Ideal.defs _ _).mono
    (fun r h => ⟨fun c => (h c).2.2.2.2, sem_eq_zero_of_no_sems (by decide) r.2⟩) (Cert.Reference9Ideal.Value.run (F := Ideal) m ρ)

variable (dh : FVec Ideal S4096x2048 .bf16) (x dx1 : FVec Ideal S4096x2048 .f32) (sc g : FVec Ideal S1x2048 .f32)

theorem ref_sq (i : Cert.Reference9Ideal.S4096x1.Idx) : val_main_v7 (F := Ideal) x i = msq (fun k => x (ix2 (i 0) k)) := by
  rw [val_main_v7_apply, val_main_v5_apply, val_main_v3_apply, val_main_v2_apply]
  show Ideal.div (Ideal.ofBits .f32 0x00000000#32 + _) _ + _ = _
  rw [Ideal.ofBits_zero .f32, zero_add]
  refine congrArg₂ (· + ·) (congrArg₂ Ideal.div (Finset.sum_congr rfl fun k _ => ?_) rfl) rfl
  exact congrArg (fun z => x z * x z) (by funext a; fin_cases a <;> rfl)

theorem ref_inv (i : Cert.Reference9Ideal.S4096x1.Idx) : val_main_v8 (F := Ideal) x i = rinv (fun k => x (ix2 (i 0) k)) := by
  rw [rinv, ← ref_sq]
  rfl

theorem ref_nrm (i : S4096x2048.Idx) : val_main_v13 (F := Ideal) x i = x i * rinv (fun k => x (ix2 (i 0) k)) := by
  rw [val_main_v13_apply, val_main_v12_apply, ref_inv]
  rfl

theorem ref_scaled (i : S4096x2048.Idx) : val_main_v29 (F := Ideal) dh sc i = dh i * (Ideal.ofBits .f32 0x3F800000#32 + sc (ix2 0 (i 1))) := by
  rw [val_main_v29_apply, val_main_v28_apply, val_main_v17_apply]
  exact congrArg (fun z => dh i * (Ideal.ofBits .f32 0x3F800000#32 + sc z)) (by funext a; fin_cases a <;> rfl)

theorem ref_cot (i : Fin 4096) (j : Fin 2048) :
    val_main_v34 (F := Ideal) dh sc g (ix2 i j) = cot (fun k => dh (ix2 i k)) (fun k => sc (ix2 0 k)) (fun k => g (ix2 0 k)) j := by
  rw [val_main_v34_apply, ref_scaled, val_main_v33_apply]
  exact congrArg (fun z => dh (ix2 i j) * (Ideal.ofBits .f32 0x3F800000#32 + sc (ix2 0 j)) * g z) (by funext a; fin_cases a <;> rfl)

theorem ref_pull (i : Fin 4096) : val_main_v43 (F := Ideal) dh x sc g (ix2 i 0)
    = pull (fun k => x (ix2 i k)) (cot (fun k => dh (ix2 i k)) (fun k => sc (ix2 0 k)) (fun k => g (ix2 0 k))) := by
  rw [val_main_v43_apply, val_main_v41_apply, val_main_v37_apply, val_main_v36_apply, val_main_v11_apply, val_main_v9_apply, ref_inv, ref_sq]
  show Ideal.div ((Ideal.ofBits .f32 0x00000000#32 + _) * _) _ = _
  rw [Ideal.ofBits_zero .f32, zero_add]
  refine congrArg₂ Ideal.div (congrArg₂ (· * ·) (Finset.sum_congr rfl fun k _ => ?_) rfl) rfl
  have e : idx_main_v36 (idx_main_v37 (ix2 i 0)) k = ix2 i k := by
    funext a; apply Fin.ext; match a with
      | 0 => show i.val * 1 + 0 = i.val; omega
      | 1 => rfl
  rw [e, val_main_v35_apply, ref_cot]
  rfl

theorem ref_back (i : Fin 4096) (j : Fin 2048) : val_main_v45 (F := Ideal) dh x sc g (ix2 i j)
    = pull (fun k => x (ix2 i k)) (cot (fun k => dh (ix2 i k)) (fun k => sc (ix2 0 k)) (fun k => g (ix2 0 k))) := by
  rw [val_main_v45_apply, val_main_v44_apply]
  show Ideal.ofBits .f32 0x00000000#32 + _ = _
  rw [Ideal.ofBits_zero .f32, zero_add, Fin.sum_univ_one, ← ref_pull]
  exact congrArg (val_main_v43 (F := Ideal) dh x sc g) (by funext a; fin_cases a <;> rfl)

theorem res_x : val_main_v49 (F := Ideal) dh x dx1 sc g = gradX dh x dx1 sc g := by
  funext y
  obtain ⟨i, j, rfl⟩ : ∃ (i : Fin 4096) (j : Fin 2048), y = ix2 i j := ⟨y 0, y 1, eq_ix2 y⟩
  rw [val_main_v49_apply, val_main_v48_apply, val_main_v47_apply, val_main_v46_apply, val_main_v40_apply, val_main_v39_apply, val_main_v38_apply,
    ref_back, ref_cot, ref_inv]
  refine Eq.trans ?_ (congrArg (dx1 (ix2 i j) + ·) (chain (fun k => x (ix2 i k)) (cot (fun k => dh (ix2 i k)) (fun k => sc (ix2 0 k)) (fun k => g (ix2 0 k))) j))
  show dx1 (ix2 i j) + _ + _ + _ = dx1 (ix2 i j) + (_ + _ + _)
  rw [add_assoc, add_assoc, add_assoc]
  rfl

theorem res_shift : val_main_v24 (F := Ideal) dh = gradShift dh := by
  funext y
  obtain ⟨b, j, rfl⟩ : ∃ (b : Fin 1) (j : Fin 2048), y = ix2 b j := ⟨y 0, y 1, eq_ix2 y⟩
  obtain rfl := Subsingleton.elim b 0
  rw [val_main_v24_apply, val_main_v23_apply]
  show Ideal.ofBits .f32 0x00000000#32 + _ = _
  rw [Ideal.ofBits_zero .f32, zero_add]
  refine Finset.sum_congr rfl fun k _ => congrArg dh ?_
  funext a; apply Fin.ext; match a with
    | 0 => rfl
    | 1 => show 0 * 2048 + j.val = j.val; omega

theorem res_scale : val_main_v27 (F := Ideal) dh x g = gradScale dh x g := by
  funext y
  obtain ⟨b, j, rfl⟩ : ∃ (b : Fin 1) (j : Fin 2048), y = ix2 b j := ⟨y 0, y 1, eq_ix2 y⟩
  obtain rfl := Subsingleton.elim b 0
  rw [val_main_v27_apply, val_main_v26_apply]
  show Ideal.ofBits .f32 0x00000000#32 + _ = _
  rw [Ideal.ofBits_zero .f32, zero_add]
  refine Finset.sum_congr rfl fun i _ => ?_
  have e : idx_main_v26 (idx_main_v27 (ix2 0 j)) i = ix2 i j := by
    funext a; apply Fin.ext; match a with
      | 0 => rfl
      | 1 => show 0 * 2048 + j.val = j.val; omega
  rw [e, val_main_v25_apply, val_main_v15_apply, ref_nrm, val_main_v14_apply]
  show (x (ix2 i j) * _ * g _) * dh (ix2 i j) = dh (ix2 i j) * (x (ix2 i j) * _ * g (ix2 0 j))
  rw [mul_comm (dh _)]
  exact congrArg (fun z => x (ix2 i j) * _ * g z * dh (ix2 i j)) (by funext a; fin_cases a <;> rfl)

theorem res_gain : val_main_v32 (F := Ideal) dh x sc = gradGain dh x sc := by
  funext y
  obtain ⟨b, j, rfl⟩ : ∃ (b : Fin 1) (j : Fin 2048), y = ix2 b j := ⟨y 0, y 1, eq_ix2 y⟩
  obtain rfl := Subsingleton.elim b 0
  rw [val_main_v32_apply, val_main_v31_apply]
  show Ideal.ofBits .f32 0x00000000#32 + _ = _
  rw [Ideal.ofBits_zero .f32, zero_add]
  refine Finset.sum_congr rfl fun i _ => ?_
  have e : idx_main_v31 (idx_main_v32 (ix2 0 j)) i = ix2 i j := by
    funext a; apply Fin.ext; match a with
      | 0 => rfl
      | 1 => show 0 * 2048 + j.val = j.val; omega
  rw [e, val_main_v30_apply, ref_nrm, ref_scaled]
  exact mul_comm _ _

/-- The backward pass of the first norm: the kernel's four results are the reference's. -/
theorem value : Cert.algebraic_Kernel9Ideal_Reference9Ideal (hKernel9Ideal := Cert.Kernel9Ideal.Gen.facts)
    (hReference9Ideal := Cert.Reference9Ideal.Gen.facts) := by
  intro m ρ m' ρ' _ hag
  refine ⟨fun c => gradX (m ((c.tc : Thread _ _).loc Cert.Kernel9Ideal.main_arg0)) (m ((c.tc : Thread _ _).loc Cert.Kernel9Ideal.main_arg1))
      (m ((c.tc : Thread _ _).loc Cert.Kernel9Ideal.main_arg2)) (m ((c.tc : Thread _ _).loc Cert.Kernel9Ideal.main_arg3)) (m ((c.tc : Thread _ _).loc Cert.Kernel9Ideal.main_arg4)),
    fun c => gradShift (m ((c.tc : Thread _ _).loc Cert.Kernel9Ideal.main_arg0)),
    fun c => gradScale (m ((c.tc : Thread _ _).loc Cert.Kernel9Ideal.main_arg0)) (m ((c.tc : Thread _ _).loc Cert.Kernel9Ideal.main_arg1)) (m ((c.tc : Thread _ _).loc Cert.Kernel9Ideal.main_arg4)),
    fun c => gradGain (m ((c.tc : Thread _ _).loc Cert.Kernel9Ideal.main_arg0)) (m ((c.tc : Thread _ _).loc Cert.Kernel9Ideal.main_arg1)) (m ((c.tc : Thread _ _).loc Cert.Kernel9Ideal.main_arg3)),
    (θ_run _ _ _).mono (fun r h c => ?_) (Cert.Kernel9Ideal.Value.run_blocks m ρ),
    (θ_run _ _ _).mono (fun r h c => ?_) (Cert.Reference9Ideal.Value.run (F := Ideal) m' ρ')⟩
  · obtain ⟨h1, h2, h3, h4, hargs⟩ := h c
    exact ⟨h1.trans (final5 m c), h2.trans (final6 m c), h3.trans (final7 m c), h4.trans (final8 m c), hargs⟩
  · obtain ⟨a0, a1, a2, a3, a4⟩ := hag c
    obtain ⟨h1, h2, h3, h4, hargs⟩ := h c
    rw [val_main_v49_eq, a0, a1, a2, a3, a4] at h1
    rw [val_main_v24_eq, a0] at h2
    rw [val_main_v27_eq, a0, a1, a4] at h3
    rw [val_main_v32_eq, a0, a1, a3] at h4
    exact ⟨h1.trans (res_x _ _ _ _ _), h2.trans (res_shift _), h3.trans (res_scale _ _ _), h4.trans (res_gain _ _ _), hargs⟩

end Cert.Proof.Norm
-- ==== Proof.PreNormFinal.lean ====
module

public import proofs.«01_k».proof.Proof.Gen.Kernel10Ideal.Value
public import proofs.«01_k».proof.Proof.NormMath
public import Idealize.ShloMosaic.Lib.Pipeline.ValueKit
public import Idealize.ShloMosaic.Lib.Pointwise

/-! # What the backward pass of the second norm leaves in its result arrays -/

@[expose] public section

set_option maxRecDepth 16384

noncomputable section

namespace Cert.Kernel10Ideal.PreNorm

open Idealize.ShloMosaic Idealize.ShloMosaic.TcCoe Idealize.SL.Sem
open Idealize.ShloMosaic.Pipeline (Dat)
open Cert.Kernel10Ideal Cert.Kernel10Ideal.Gen
open Cert.Norm

variable (da db mo : FVec Ideal S256x2048 .bf16) (x dx2 : FVec Ideal S256x2048 .f32) (sc g gt acc : FVec Ideal S1x2048 .f32)

/-- The reciprocal root of row `i`. -/
theorem inv_apply (i : Fin 256) : k0_pay9 (F := Ideal) x (ix2 i 0) = rinv (fun k => x (ix2 i k)) := by
  pointwise [k0_pay9, rinv, msq]

theorem nrm_apply (i : Fin 256) (j : Fin 2048) : k0_pay10 (F := Ideal) x (ix2 i j) = x (ix2 i j) * rinv (fun k => x (ix2 i k)) := by
  pointwise [k0_pay10, inv_apply]

/-- The cotangent of the modulated norm comes in two halves. -/
theorem both_apply (i : Fin 256) (j : Fin 2048) : k0_pay8 (F := Ideal) da db (ix2 i j) = da (ix2 i j) + db (ix2 i j) := by
  pointwise [k0_pay8]

theorem scaled_apply (dh : FVec Ideal S256x2048 .f32) (i : Fin 256) (j : Fin 2048) :
    k0_pay13 (F := Ideal) sc dh (ix2 i j) = dh (ix2 i j) * (Ideal.ofBits .f32 0x3F800000#32 + sc (ix2 0 j)) := by
  pointwise [k0_pay13]

/-- The block of the gradient at the input of the norm. -/
abbrev blkX : FVec Ideal S256x2048 .f32 := k0_pay15 (F := Ideal) dx2 sc g (k0_pay8 da db) (k0_pay9 x) (k0_pay10 x)

theorem dx_apply (i : Fin 256) (j : Fin 2048) : blkX da db x dx2 sc g (ix2 i j)
    = dx2 (ix2 i j) + back (fun k => x (ix2 i k)) (cot (fun k => da (ix2 i k) + db (ix2 i k)) (fun k => sc (ix2 0 k)) (fun k => g (ix2 0 k))) j := by
  pointwise [k0_pay15, inv_apply, nrm_apply, both_apply, scaled_apply, back, cot]

theorem dmo_apply (i : Fin 256) (j : Fin 2048) : k0_pay2 (F := Ideal) gt (blkX da db x dx2 sc g) (ix2 i j)
    = blkX da db x dx2 sc g (ix2 i j) * gt (ix2 0 j) := by
  generalize blkX da db x dx2 sc g = b
  pointwise [k0_pay2]

theorem dsh_apply (j : Fin 2048) : k0_pay11 (F := Ideal) da db acc (ix2 0 j) = acc (ix2 0 j) + ∑ i : Fin 256, (da (ix2 i j) + db (ix2 i j)) := by
  pointwise [k0_pay11, both_apply]

theorem dsc_apply (j : Fin 2048) : k0_pay12 (F := Ideal) g (k0_pay8 da db) (k0_pay10 x) acc (ix2 0 j)
    = acc (ix2 0 j) + ∑ i : Fin 256, (da (ix2 i j) + db (ix2 i j)) * (x (ix2 i j) * rinv (fun k => x (ix2 i k)) * g (ix2 0 j)) := by
  pointwise [k0_pay12, both_apply, nrm_apply]

theorem dg_apply (j : Fin 2048) : k0_pay14 (F := Ideal) sc (k0_pay8 da db) (k0_pay10 x) acc (ix2 0 j)
    = acc (ix2 0 j) + ∑ i : Fin 256, (da (ix2 i j) + db (ix2 i j)) * (Ideal.ofBits .f32 0x3F800000#32 + sc (ix2 0 j)) * (x (ix2 i j) * rinv (fun k => x (ix2 i k))) := by
  pointwise [k0_pay14, both_apply, nrm_apply, scaled_apply]

theorem dgt_apply (j : Fin 2048) : k0_pay1 (F := Ideal) (k0_pay16 acc) (k0_pay17 (F := Ideal) dx2 (k0_pay7 mo) sc g (k0_pay8 da db) (k0_pay9 x) (k0_pay10 x)) (ix2 0 j)
    = acc (ix2 0 j) + ∑ i : Fin 256, blkX da db x dx2 sc g (ix2 i j) * mo (ix2 i j) := by
  unfold k0_pay17 blkX
  generalize k0_pay15 (F := Ideal) dx2 sc g (k0_pay8 da db) (k0_pay9 x) (k0_pay10 x) = b
  pointwise [k0_pay1, k0_pay16, k0_pay7]

/-- The gradient at the input of the norm: what reaches it past the norm, and the norm's own. -/
def gradX (da db : FVec Ideal S4096x2048 .bf16) (x dx2 : FVec Ideal S4096x2048 .f32) (sc g : FVec Ideal S1x2048 .f32) : FVec Ideal S4096x2048 .f32 := fun i =>
  dx2 i + back (fun k => x (ix2 (i 0) k)) (cot (fun k => da (ix2 (i 0) k) + db (ix2 (i 0) k)) (fun k => sc (ix2 0 k)) (fun k => g (ix2 0 k))) (i 1)

/-- The gradient at the mixers' output, which entered through a gate. -/
def gradMix (da db : FVec Ideal S4096x2048 .bf16) (x dx2 : FVec Ideal S4096x2048 .f32) (sc g gt : FVec Ideal S1x2048 .f32) : FVec Ideal S4096x2048 .bf16 := fun i =>
  gradX da db x dx2 sc g i * gt (ix2 0 (i 1))

/-- A row's part of the gradient at the shift. -/
def shiftAt (da db : FVec Ideal S4096x2048 .bf16) (i : Fin 4096) (j : Fin 2048) : EReal := da (ix2 i j) + db (ix2 i j)

/-- A row's part of the gradient at the modulation's scale. -/
def scaleAt (da db : FVec Ideal S4096x2048 .bf16) (x : FVec Ideal S4096x2048 .f32) (g : FVec Ideal S1x2048 .f32) (i : Fin 4096) (j : Fin 2048) : EReal :=
  (da (ix2 i j) + db (ix2 i j)) * (x (ix2 i j) * rinv (fun k => x (ix2 i k)) * g (ix2 0 j))

/-- A row's part of the gradient at the norm's gain. -/
def gainAt (da db : FVec Ideal S4096x2048 .bf16) (x : FVec Ideal S4096x2048 .f32) (sc : FVec Ideal S1x2048 .f32) (i : Fin 4096) (j : Fin 2048) : EReal :=
  (da (ix2 i j) + db (ix2 i j)) * (Ideal.ofBits .f32 0x3F800000#32 + sc (ix2 0 j)) * (x (ix2 i j) * rinv (fun k => x (ix2 i k)))

/-- A row's part of the gradient at the gate. -/
def gateAt (da db : FVec Ideal S4096x2048 .bf16) (x dx2 : FVec Ideal S4096x2048 .f32) (mo : FVec Ideal S4096x2048 .bf16) (sc g : FVec Ideal S1x2048 .f32)
    (i : Fin 4096) (j : Fin 2048) : EReal := gradX da db x dx2 sc g (ix2 i j) * mo (ix2 i j)

/-- The sum over all rows of each row's part. -/
def total (e : Fin 4096 → Fin 2048 → EReal) : FVec Ideal S1x2048 .f32 := fun j => ∑ i, e i (j 1)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0] ∧ win0_13.index t = ![0, 0] := (by decide +kernel : ∀ t : Fin grid0.N, _)

theorem row_lt (t : Fin cfg0.N) (a : Fin 256) : t.val * 256 + a.val < 4096 := by
  have : t.val < 16 := t.isLt
  omega

/-- The row of the arrays at row `a` of the blocks of point `t`. -/
abbrev row (t : Fin cfg0.N) (a : Fin 256) : Fin 4096 := ⟨t.val * 256 + a.val, row_lt t a⟩

/-- The entries of the blocks of a point, in the arrays. -/
theorem in0 (c : Dev nD) (t : Fin cfg0.N) (a : Fin 256) (k : Fin 2048) : iblk m c 0 t (ix2 a k) = m ((c : Thread nD τ).loc main_arg0) (ix2 (row t a) k) := by
  blk_point [iblk, V, idx t]

theorem in1 (c : Dev nD) (t : Fin cfg0.N) (a : Fin 256) (k : Fin 2048) : iblk m c 1 t (ix2 a k) = m ((c : Thread nD τ).loc main_arg1) (ix2 (row t a) k) := by
  blk_point [iblk, V, idx t]

theorem in2 (c : Dev nD) (t : Fin cfg0.N) (a : Fin 256) (k : Fin 2048) : iblk m c 2 t (ix2 a k) = m ((c : Thread nD τ).loc main_arg2) (ix2 (row t a) k) := by
  blk_point [iblk, V, idx t]

theorem in3 (c : Dev nD) (t : Fin cfg0.N) (a : Fin 256) (k : Fin 2048) : iblk m c 3 t (ix2 a k) = m ((c : Thread nD τ).loc main_arg3) (ix2 (row t a) k) := by
  blk_point [iblk, V, idx t]

theorem in4 (c : Dev nD) (t : Fin cfg0.N) (a : Fin 256) (k : Fin 2048) : iblk m c 4 t (ix2 a k) = m ((c : Thread nD τ).loc main_arg4) (ix2 (row t a) k) := by
  blk_point [iblk, V, idx t]

theorem in5 (c : Dev nD) (t : Fin cfg0.N) (k : Fin 2048) : iblk m c 5 t (ix2 0 k) = m ((c : Thread nD τ).loc main_arg5) (ix2 0 k) := by
  blk_point [iblk, V, idx t]

theorem in6 (c : Dev nD) (t : Fin cfg0.N) (k : Fin 2048) : iblk m c 6 t (ix2 0 k) = m ((c : Thread nD τ).loc main_arg6) (ix2 0 k) := by
  blk_point [iblk, V, idx t]

theorem in7 (c : Dev nD) (t : Fin cfg0.N) (k : Fin 2048) : iblk m c 7 t (ix2 0 k) = m ((c : Thread nD τ).loc main_arg7) (ix2 0 k) := by
  blk_point [iblk, V, idx t]

/-- The gradient's block, from the blocks of the arguments. -/
theorem blkX_in (c : Dev nD) (t : Fin cfg0.N) (a : Fin 256) (j : Fin 2048) :
    blkX (iblk m c 0 t) (iblk m c 1 t) (iblk m c 2 t) (iblk m c 3 t) (iblk m c 5 t) (iblk m c 6 t) (ix2 a j)
      = gradX (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix2 (row t a) j) := by
  rw [dx_apply]
  simp only [in0 m c t a, in1 m c t a, in2 m c t a, in3 m c t a, in5 m c t, in6 m c t]
  rfl

/-- What both cases of a point write to the blocks of the first two results. -/
theorem first (c : Dev nD) (t : Fin cfg0.N) : (outsAt0 m c t.val t.isLt).1
    = blkX (iblk m c 0 t) (iblk m c 1 t) (iblk m c 2 t) (iblk m c 3 t) (iblk m c 5 t) (iblk m c 6 t) := by
  by_cases h : t.val % 16 = 0
  · rw [outsAt0_A m c t h]
    frame_out
  · rw [outsAt0_B m c t h]
    frame_out

theorem second (c : Dev nD) (t : Fin cfg0.N) : (outsAt0 m c t.val t.isLt).2.1
    = k0_pay2 (F := Ideal) (iblk m c 7 t) (blkX (iblk m c 0 t) (iblk m c 1 t) (iblk m c 2 t) (iblk m c 3 t) (iblk m c 5 t) (iblk m c 6 t)) := by
  by_cases h : t.val % 16 = 0
  · rw [outsAt0_A m c t h]
    frame_out
  · rw [outsAt0_B m c t h]
    frame_out

/-- A row block's place in its array. -/
theorem place8 (t : Fin cfg0.N) (a : Fin 256) (j : Fin 2048) : (win0_8.blk t).view.emb (ix2 a j) = ix2 (row t a) j
    ∧ (win0_9.blk t).view.emb (ix2 a j) = ix2 (row t a) j := by
  refine ⟨?_, ?_⟩ <;> (funext d; apply Fin.ext; match d with
    | 0 => blk_point [idx t]
    | 1 => blk_point [idx t])

theorem final8 (c : Dev nD) : (dats m 0 c).arrAt 8 cfg0.N = gradX (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats m 0 c).arrAt_eq_of_covers 8 _ (by decide +kernel) fun t _ y => ?_
  obtain ⟨a, j, rfl⟩ : ∃ (a : Fin 256) (j : Fin 2048), y = ix2 a j := ⟨y 0, y 1, eq_ix2 y⟩
  blk_simp
  rw [after0_8, first m c t, blkX_in]
  exact (congrArg (gradX _ _ _ _ _ _) (place8 t a j).1).symm

theorem final9 (c : Dev nD) : (dats m 0 c).arrAt 9 cfg0.N = gradMix (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 9 _ (by decide +kernel) fun t _ y => ?_
  obtain ⟨a, j, rfl⟩ : ∃ (a : Fin 256) (j : Fin 2048), y = ix2 a j := ⟨y 0, y 1, eq_ix2 y⟩
  blk_simp
  rw [after0_9, second m c t, dmo_apply, blkX_in, in7]
  exact (congrArg (gradMix _ _ _ _ _ _ _) (place8 t a j).2).symm

/-- A carried row's block is the whole of its array. -/
theorem place (t : Fin cfg0.N) (j : Fin 2048) : (win0_10.blk t).view.emb (ix2 0 j) = ix2 0 j ∧ (win0_11.blk t).view.emb (ix2 0 j) = ix2 0 j
    ∧ (win0_12.blk t).view.emb (ix2 0 j) = ix2 0 j ∧ (win0_13.blk t).view.emb (ix2 0 j) = ix2 0 j := by
  refine ⟨?_, ?_, ?_, ?_⟩ <;> (funext d; apply Fin.ext; match d with
    | 0 => blk_point [idx t]
    | 1 => blk_point [idx t])

theorem final10 (c : Dev nD) : (dats m 0 c).arrAt 10 cfg0.N = total (shiftAt (m ((c : Thread nD τ).loc main_arg0)) (m ((c : Thread nD τ).loc main_arg1))) := by
  refine (dats m 0 c).arrAt_eq_of_covers 10 _ (by decide +kernel) fun t hf y => ?_
  have hm := (flush0_10 t).mp hf
  obtain ⟨b, j, rfl⟩ : ∃ (b : Fin 1) (j : Fin 2048), y = ix2 b j := ⟨y 0, y 1, eq_ix2 y⟩
  obtain rfl := Subsingleton.elim b 0
  blk_simp
  rw [after0_10]
  refine Eq.trans ?_ (congrArg (total (shiftAt (m ((c : Thread nD τ).loc main_arg0)) (m ((c : Thread nD τ).loc main_arg1)))) (place t j).1).symm
  refine gather (J := 16) (n := 256) rfl rfl (fun n h => (outsAt0 m c n h).2.2.1) (shiftAt (m ((c : Thread nD τ).loc main_arg0)) (m ((c : Thread nD τ).loc main_arg1))) row_lt (fun t h j => ?_) (fun t h j => ?_) t hm j
  · rw [outsAt0_A m c t h]
    frame_out
    refine (dsh_apply _ _ _ _).trans (congrArg₂ (· + ·) (by pointwise [k0_pay3]) (Finset.sum_congr rfl fun a _ => ?_))
    simp only [in0 m c t a, in1 m c t a]
    rfl
  · rw [outsAt0_B m c t h]
    frame_out
    refine (dsh_apply _ _ _ _).trans (congrArg₂ (· + ·) rfl (Finset.sum_congr rfl fun a _ => ?_))
    simp only [in0 m c t a, in1 m c t a]
    rfl

theorem final11 (c : Dev nD) : (dats m 0 c).arrAt 11 cfg0.N = total (scaleAt (m ((c : Thread nD τ).loc main_arg0)) (m ((c : Thread nD τ).loc main_arg1)) (m ((c : Thread nD τ).loc main_arg2)) (m ((c : Thread nD τ).loc main_arg6))) := by
  refine (dats m 0 c).arrAt_eq_of_covers 11 _ (by decide +kernel) fun t hf y => ?_
  have hm := (flush0_11 t).mp hf
  obtain ⟨b, j, rfl⟩ : ∃ (b : Fin 1) (j : Fin 2048), y = ix2 b j := ⟨y 0, y 1, eq_ix2 y⟩
  obtain rfl := Subsingleton.elim b 0
  blk_simp
  rw [after0_11]
  refine Eq.trans ?_ (congrArg (total (scaleAt (m ((c : Thread nD τ).loc main_arg0)) (m ((c : Thread nD τ).loc main_arg1)) (m ((c : Thread nD τ).loc main_arg2)) (m ((c : Thread nD τ).loc main_arg6)))) (place t j).2.1).symm
  refine gather (J := 16) (n := 256) rfl rfl (fun n h => (outsAt0 m c n h).2.2.2.1) (scaleAt (m ((c : Thread nD τ).loc main_arg0)) (m ((c : Thread nD τ).loc main_arg1)) (m ((c : Thread nD τ).loc main_arg2)) (m ((c : Thread nD τ).loc main_arg6))) row_lt (fun t h j => ?_) (fun t h j => ?_) t hm j
  · rw [outsAt0_A m c t h]
    frame_out
    refine (dsc_apply _ _ _ _ _ _).trans (congrArg₂ (· + ·) (by pointwise [k0_pay4]) (Finset.sum_congr rfl fun a _ => ?_))
    simp only [in0 m c t a, in1 m c t a, in2 m c t a, in6 m c t j]
    rfl
  · rw [outsAt0_B m c t h]
    frame_out
    refine (dsc_apply _ _ _ _ _ _).trans (congrArg₂ (· + ·) rfl (Finset.sum_congr rfl fun a _ => ?_))
    simp only [in0 m c t a, in1 m c t a, in2 m c t a, in6 m c t j]
    rfl

theorem final12 (c : Dev nD) : (dats m 0 c).arrAt 12 cfg0.N = total (gainAt (m ((c : Thread nD τ).loc main_arg0)) (m ((c : Thread nD τ).loc main_arg1)) (m ((c : Thread nD τ).loc main_arg2)) (m ((c : Thread nD τ).loc main_arg5))) := by
  refine (dats m 0 c).arrAt_eq_of_covers 12 _ (by decide +kernel) fun t hf y => ?_
  have hm := (flush0_12 t).mp hf
  obtain ⟨b, j, rfl⟩ : ∃ (b : Fin 1) (j : Fin 2048), y = ix2 b j := ⟨y 0, y 1, eq_ix2 y⟩
  obtain rfl := Subsingleton.elim b 0
  blk_simp
  rw [after0_12]
  refine Eq.trans ?_ (congrArg (total (gainAt (m ((c : Thread nD τ).loc main_arg0)) (m ((c : Thread nD τ).loc main_arg1)) (m ((c : Thread nD τ).loc main_arg2)) (m ((c : Thread nD τ).loc main_arg5)))) (place t j).2.2.1).symm
  refine gather (J := 16) (n := 256) rfl rfl (fun n h => (outsAt0 m c n h).2.2.2.2.1) (gainAt (m ((c : Thread nD τ).loc main_arg0)) (m ((c : Thread nD τ).loc main_arg1)) (m ((c : Thread nD τ).loc main_arg2)) (m ((c : Thread nD τ).loc main_arg5))) row_lt (fun t h j => ?_) (fun t h j => ?_) t hm j
  · rw [outsAt0_A m c t h]
    frame_out
    refine (dg_apply _ _ _ _ _ _).trans (congrArg₂ (· + ·) (by pointwise [k0_pay5]) (Finset.sum_congr rfl fun a _ => ?_))
    simp only [in0 m c t a, in1 m c t a, in2 m c t a, in5 m c t j]
    rfl
  · rw [outsAt0_B m c t h]
    frame_out
    refine (dg_apply _ _ _ _ _ _).trans (congrArg₂ (· + ·) rfl (Finset.sum_congr rfl fun a _ => ?_))
    simp only [in0 m c t a, in1 m c t a, in2 m c t a, in5 m c t j]
    rfl

theorem final13 (c : Dev nD) : (dats m 0 c).arrAt 13 cfg0.N = total (gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 13 _ (by decide +kernel) fun t hf y => ?_
  have hm := (flush0_13 t).mp hf
  obtain ⟨b, j, rfl⟩ : ∃ (b : Fin 1) (j : Fin 2048), y = ix2 b j := ⟨y 0, y 1, eq_ix2 y⟩
  obtain rfl := Subsingleton.elim b 0
  blk_simp
  rw [after0_13]
  refine Eq.trans ?_ (congrArg (total (gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))) (place t j).2.2.2).symm
  refine gather (J := 16) (n := 256) rfl rfl (fun n h => (outsAt0 m c n h).2.2.2.2.2) (gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) row_lt (fun t h j => ?_) (fun t h j => ?_) t hm j
  · rw [outsAt0_A m c t h]
    frame_out
    refine (dgt_apply _ _ _ _ _ _ _ _ _).trans (congrArg₂ (· + ·) (by pointwise [k0_pay6]) (Finset.sum_congr rfl fun a _ => ?_))
    simp only [blkX_in m c t a j, in4 m c t a j]
    rfl
  · rw [outsAt0_B m c t h]
    frame_out
    refine (dgt_apply _ _ _ _ _ _ _ _ _).trans (congrArg₂ (· + ·) rfl (Finset.sum_congr rfl fun a _ => ?_))
    simp only [blkX_in m c t a j, in4 m c t a j]
    rfl

end Cert.Kernel10Ideal.PreNorm
-- ==== Proof.PreNormClaim.lean ====
module

public import proofs.«01_k».proof.Defs
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.PreNormFinal
public import Idealize.ShloMosaic.Lib.Quiescent

/-! # The backward pass of the second norm: the kernel beside its reference -/

@[expose] public section

set_option maxRecDepth 16384

noncomputable section

namespace Cert.Proof.PreNorm

open Idealize.ShloMosaic Idealize.SL.Sem
open Cert.Norm Cert.Kernel10Ideal.PreNorm
open Cert.Kernel10Ideal (S4096x2048 S1x2048)
open Cert.Reference10Ideal.Read

/-- The reference's run: the arguments stay, every counter is zero. -/
theorem frame_ref : Cert.quiescent_Reference10Ideal (hReference10Ideal := Cert.Reference10Ideal.Gen.facts) := fun m ρ _ =>
  (θ_run Cert.Reference10Ideal.defs _ _).mono
    (fun r h => ⟨fun c => (h c).2.2.2.2.2.2, sem_eq_zero_of_no_sems (by decide) r.2⟩) (Cert.Reference10Ideal.Value.run (F := Ideal) m ρ)

variable (da db mo : FVec Ideal S4096x2048 .bf16) (x dx2 : FVec Ideal S4096x2048 .f32) (sc g gt : FVec Ideal S1x2048 .f32)

theorem ref_sq (i : Cert.Reference10Ideal.S4096x1.Idx) : val_main_v7 (F := Ideal) x i = msq (fun k => x (ix2 (i 0) k)) := by
  rw [val_main_v7_apply, val_main_v5_apply, val_main_v3_apply, val_main_v2_apply]
  show Ideal.div (Ideal.ofBits .f32 0x00000000#32 + _) _ + _ = _
  rw [Ideal.ofBits_zero .f32, zero_add]
  refine congrArg₂ (· + ·) (congrArg₂ Ideal.div (Finset.sum_congr rfl fun k _ => ?_) rfl) rfl
  exact congrArg (fun z => x z * x z) (by funext a; fin_cases a <;> rfl)

theorem ref_inv (i : Cert.Reference10Ideal.S4096x1.Idx) : val_main_v8 (F := Ideal) x i = rinv (fun k => x (ix2 (i 0) k)) := by
  rw [rinv, ← ref_sq]
  rfl

theorem ref_nrm (i : S4096x2048.Idx) : val_main_v13 (F := Ideal) x i = x i * rinv (fun k => x (ix2 (i 0) k)) := by
  rw [val_main_v13_apply, val_main_v12_apply, ref_inv]
  rfl

theorem ref_scaled (i : S4096x2048.Idx) : val_main_v31 (F := Ideal) da db sc i = (da i + db i) * (Ideal.ofBits .f32 0x3F800000#32 + sc (ix2 0 (i 1))) := by
  rw [val_main_v31_apply, val_main_v30_apply, val_main_v17_apply]
  exact congrArg (fun z => (da i + db i) * (Ideal.ofBits .f32 0x3F800000#32 + sc z)) (by funext a; fin_cases a <;> rfl)

/-- The cotangent of the normed row `i`. -/
abbrev cotAt (i : Fin 4096) : Fin 2048 → EReal := cot (fun k => da (ix2 i k) + db (ix2 i k)) (fun k => sc (ix2 0 k)) (fun k => g (ix2 0 k))

theorem ref_cot (i : Fin 4096) (j : Fin 2048) : val_main_v36 (F := Ideal) da db sc g (ix2 i j) = cotAt da db sc g i j := by
  rw [val_main_v36_apply, ref_scaled, val_main_v35_apply]
  exact congrArg (fun z => (da (ix2 i j) + db (ix2 i j)) * (Ideal.ofBits .f32 0x3F800000#32 + sc (ix2 0 j)) * g z) (by funext a; fin_cases a <;> rfl)

theorem ref_pull (i : Fin 4096) : val_main_v45 (F := Ideal) da db x sc g (ix2 i 0) = pull (fun k => x (ix2 i k)) (cotAt da db sc g i) := by
  rw [val_main_v45_apply, val_main_v43_apply, val_main_v39_apply, val_main_v38_apply, val_main_v11_apply, val_main_v9_apply, ref_inv, ref_sq]
  show Ideal.div ((Ideal.ofBits .f32 0x00000000#32 + _) * _) _ = _
  rw [Ideal.ofBits_zero .f32, zero_add]
  refine congrArg₂ Ideal.div (congrArg₂ (· * ·) (Finset.sum_congr rfl fun k _ => ?_) rfl) rfl
  have e : idx_main_v38 (idx_main_v39 (ix2 i 0)) k = ix2 i k := by
    funext a; apply Fin.ext; match a with
      | 0 => show i.val * 1 + 0 = i.val; omega
      | 1 => rfl
  rw [e, val_main_v37_apply, ref_cot]
  rfl

theorem ref_back (i : Fin 4096) (j : Fin 2048) : val_main_v47 (F := Ideal) da db x sc g (ix2 i j) = pull (fun k => x (ix2 i k)) (cotAt da db sc g i) := by
  rw [val_main_v47_apply, val_main_v46_apply]
  show Ideal.ofBits .f32 0x00000000#32 + _ = _
  rw [Ideal.ofBits_zero .f32, zero_add, Fin.sum_univ_one, ← ref_pull]
  exact congrArg (val_main_v45 (F := Ideal) da db x sc g) (by funext a; fin_cases a <;> rfl)

theorem res_x : val_main_v51 (F := Ideal) da db x dx2 sc g = gradX da db x dx2 sc g := by
  funext y
  obtain ⟨i, j, rfl⟩ : ∃ (i : Fin 4096) (j : Fin 2048), y = ix2 i j := ⟨y 0, y 1, eq_ix2 y⟩
  rw [val_main_v51_apply, val_main_v50_apply, val_main_v49_apply, val_main_v48_apply, val_main_v42_apply, val_main_v41_apply, val_main_v40_apply,
    ref_back, ref_cot, ref_inv]
  refine Eq.trans ?_ (congrArg (dx2 (ix2 i j) + ·) (chain (fun k => x (ix2 i k)) (cotAt da db sc g i) j))
  show dx2 (ix2 i j) + _ + _ + _ = dx2 (ix2 i j) + (_ + _ + _)
  rw [add_assoc, add_assoc, add_assoc]
  rfl

/-- The reference reads the gradient through a reshape to the same shape. -/
theorem ref_again (i : Fin 4096) (j : Fin 2048) : val_main_v58 (F := Ideal) da db x dx2 sc g (ix2 i j) = gradX da db x dx2 sc g (ix2 i j) := by
  rw [val_main_v58_apply, res_x]
  refine congrArg (gradX da db x dx2 sc g) ?_
  funext a; apply Fin.ext; match a with
    | 0 => show (i.val * 2048 + j.val) / 2048 = i.val; omega
    | 1 => show (i.val * 2048 + j.val) % 2048 = j.val; omega

theorem res_mix : val_main_v64 (F := Ideal) da db x dx2 sc g gt = gradMix da db x dx2 sc g gt := by
  funext y
  obtain ⟨i, j, rfl⟩ : ∃ (i : Fin 4096) (j : Fin 2048), y = ix2 i j := ⟨y 0, y 1, eq_ix2 y⟩
  rw [val_main_v64_apply, val_main_v60_apply, ref_again, val_main_v59_apply]
  refine (mul_comm _ _).trans ?_
  exact congrArg (fun z => gradX da db x dx2 sc g (ix2 i j) * gt z) (by funext a; fin_cases a <;> rfl)

/-- Row `i` and column `j`, as an index. -/
theorem col (i : Fin 4096) (j : Fin 2048) (y : S4096x2048.Idx) (h0 : (y 0).val = i.val) (h1 : (y 1).val = j.val) : y = ix2 i j := by
  funext a; apply Fin.ext; match a with
    | 0 => exact h0
    | 1 => exact h1

theorem res_shift : val_main_v26 (F := Ideal) da db = total (shiftAt da db) := by
  funext y
  obtain ⟨b, j, rfl⟩ : ∃ (b : Fin 1) (j : Fin 2048), y = ix2 b j := ⟨y 0, y 1, eq_ix2 y⟩
  obtain rfl := Subsingleton.elim b 0
  rw [val_main_v26_apply, val_main_v25_apply]
  show Ideal.ofBits .f32 0x00000000#32 + _ = _
  rw [Ideal.ofBits_zero .f32, zero_add]
  refine Finset.sum_congr rfl fun i _ => ?_
  rw [col i j (idx_main_v25 (idx_main_v26 (ix2 0 j)) i) rfl (by show 0 * 2048 + j.val = j.val; omega)]
  rfl

theorem res_scale : val_main_v29 (F := Ideal) da db x g = total (scaleAt da db x g) := by
  funext y
  obtain ⟨b, j, rfl⟩ : ∃ (b : Fin 1) (j : Fin 2048), y = ix2 b j := ⟨y 0, y 1, eq_ix2 y⟩
  obtain rfl := Subsingleton.elim b 0
  rw [val_main_v29_apply, val_main_v28_apply]
  show Ideal.ofBits .f32 0x00000000#32 + _ = _
  rw [Ideal.ofBits_zero .f32, zero_add]
  refine Finset.sum_congr rfl fun i _ => ?_
  rw [col i j (idx_main_v28 (idx_main_v29 (ix2 0 j)) i) rfl (by show 0 * 2048 + j.val = j.val; omega), val_main_v27_apply, val_main_v15_apply, ref_nrm, val_main_v14_apply]
  refine (mul_comm _ _).trans ?_
  exact congrArg (fun z => (da (ix2 i j) + db (ix2 i j)) * (x (ix2 i j) * _ * g z)) (by funext a; fin_cases a <;> rfl)

theorem res_gain : val_main_v34 (F := Ideal) da db x sc = total (gainAt da db x sc) := by
  funext y
  obtain ⟨b, j, rfl⟩ : ∃ (b : Fin 1) (j : Fin 2048), y = ix2 b j := ⟨y 0, y 1, eq_ix2 y⟩
  obtain rfl := Subsingleton.elim b 0
  rw [val_main_v34_apply, val_main_v33_apply]
  show Ideal.ofBits .f32 0x00000000#32 + _ = _
  rw [Ideal.ofBits_zero .f32, zero_add]
  refine Finset.sum_congr rfl fun i _ => ?_
  rw [col i j (idx_main_v33 (idx_main_v34 (ix2 0 j)) i) rfl (by show 0 * 2048 + j.val = j.val; omega), val_main_v32_apply, ref_nrm, ref_scaled]
  exact mul_comm _ _

theorem res_gate : val_main_v63 (F := Ideal) da db x dx2 mo sc g = total (gateAt da db x dx2 mo sc g) := by
  funext y
  obtain ⟨b, j, rfl⟩ : ∃ (b : Fin 1) (j : Fin 2048), y = ix2 b j := ⟨y 0, y 1, eq_ix2 y⟩
  obtain rfl := Subsingleton.elim b 0
  rw [val_main_v63_apply, val_main_v62_apply]
  show Ideal.ofBits .f32 0x00000000#32 + _ = _
  rw [Ideal.ofBits_zero .f32, zero_add]
  refine Finset.sum_congr rfl fun i _ => ?_
  rw [col i j (idx_main_v62 (idx_main_v63 (ix2 0 j)) i) rfl (by show 0 * 2048 + j.val = j.val; omega), val_main_v61_apply, ref_again]
  rfl

/-- The backward pass of the second norm and of the residual before it: the kernel's six results are the reference's. -/
theorem value : Cert.algebraic_Kernel10Ideal_Reference10Ideal (hKernel10Ideal := Cert.Kernel10Ideal.Gen.facts)
    (hReference10Ideal := Cert.Reference10Ideal.Gen.facts) := by
  intro m ρ m' ρ' _ hag
  refine ⟨fun c => gradX (m ((c.tc : Thread _ _).loc Cert.Kernel10Ideal.main_arg0)) (m ((c.tc : Thread _ _).loc Cert.Kernel10Ideal.main_arg1)) (m ((c.tc : Thread _ _).loc Cert.Kernel10Ideal.main_arg2)) (m ((c.tc : Thread _ _).loc Cert.Kernel10Ideal.main_arg3)) (m ((c.tc : Thread _ _).loc Cert.Kernel10Ideal.main_arg5)) (m ((c.tc : Thread _ _).loc Cert.Kernel10Ideal.main_arg6)),
    fun c => gradMix (m ((c.tc : Thread _ _).loc Cert.Kernel10Ideal.main_arg0)) (m ((c.tc : Thread _ _).loc Cert.Kernel10Ideal.main_arg1)) (m ((c.tc : Thread _ _).loc Cert.Kernel10Ideal.main_arg2)) (m ((c.tc : Thread _ _).loc Cert.Kernel10Ideal.main_arg3)) (m ((c.tc : Thread _ _).loc Cert.Kernel10Ideal.main_arg5)) (m ((c.tc : Thread _ _).loc Cert.Kernel10Ideal.main_arg6)) (m ((c.tc : Thread _ _).loc Cert.Kernel10Ideal.main_arg7)),
    fun c => total (shiftAt (m ((c.tc : Thread _ _).loc Cert.Kernel10Ideal.main_arg0)) (m ((c.tc : Thread _ _).loc Cert.Kernel10Ideal.main_arg1))),
    fun c => total (scaleAt (m ((c.tc : Thread _ _).loc Cert.Kernel10Ideal.main_arg0)) (m ((c.tc : Thread _ _).loc Cert.Kernel10Ideal.main_arg1)) (m ((c.tc : Thread _ _).loc Cert.Kernel10Ideal.main_arg2)) (m ((c.tc : Thread _ _).loc Cert.Kernel10Ideal.main_arg6))),
    fun c => total (gainAt (m ((c.tc : Thread _ _).loc Cert.Kernel10Ideal.main_arg0)) (m ((c.tc : Thread _ _).loc Cert.Kernel10Ideal.main_arg1)) (m ((c.tc : Thread _ _).loc Cert.Kernel10Ideal.main_arg2)) (m ((c.tc : Thread _ _).loc Cert.Kernel10Ideal.main_arg5))),
    fun c => total (gateAt (m ((c.tc : Thread _ _).loc Cert.Kernel10Ideal.main_arg0)) (m ((c.tc : Thread _ _).loc Cert.Kernel10Ideal.main_arg1)) (m ((c.tc : Thread _ _).loc Cert.Kernel10Ideal.main_arg2)) (m ((c.tc : Thread _ _).loc Cert.Kernel10Ideal.main_arg3)) (m ((c.tc : Thread _ _).loc Cert.Kernel10Ideal.main_arg4)) (m ((c.tc : Thread _ _).loc Cert.Kernel10Ideal.main_arg5)) (m ((c.tc : Thread _ _).loc Cert.Kernel10Ideal.main_arg6))),
    (θ_run _ _ _).mono (fun r h c => ?_) (Cert.Kernel10Ideal.Value.run_blocks m ρ),
    (θ_run _ _ _).mono (fun r h c => ?_) (Cert.Reference10Ideal.Value.run (F := Ideal) m' ρ')⟩
  · obtain ⟨h1, h2, h3, h4, h5, h6, hargs⟩ := h c
    exact ⟨h1.trans (final8 m c), h2.trans (final9 m c), h3.trans (final10 m c), h4.trans (final11 m c), h5.trans (final12 m c), h6.trans (final13 m c), hargs⟩
  · obtain ⟨a0, a1, a2, a3, a4, a5, a6, a7⟩ := hag c
    obtain ⟨h1, h2, h3, h4, h5, h6, hargs⟩ := h c
    rw [val_main_v51_eq, a0, a1, a2, a3, a5, a6] at h1
    rw [val_main_v64_eq, a0, a1, a2, a3, a5, a6, a7] at h2
    rw [val_main_v26_eq, a0, a1] at h3
    rw [val_main_v29_eq, a0, a1, a2, a6] at h4
    rw [val_main_v34_eq, a0, a1, a2, a5] at h5
    rw [val_main_v63_eq, a0, a1, a2, a3, a4, a5, a6] at h6
    exact ⟨h1.trans (res_x _ _ _ _ _ _), h2.trans (res_mix _ _ _ _ _ _ _), h3.trans (res_shift _ _), h4.trans (res_scale _ _ _ _),
      h5.trans (res_gain _ _ _ _), h6.trans (res_gate _ _ _ _ _ _ _), hargs⟩

end Cert.Proof.PreNorm
-- ==== Proof.LossHeadFinal.lean ====
module

public import proofs.«01_k».proof.Proof.Gen.Kernel11Ideal.Value
public import proofs.«01_k».proof.Proof.NormMath
public import Idealize.ShloMosaic.Lib.Pipeline.ValueKit
public import Idealize.ShloMosaic.Lib.Pointwise

/-! # What the loss head leaves in its result arrays -/

@[expose] public section

set_option maxRecDepth 16384

noncomputable section

namespace Cert.Kernel11Ideal.LossHead

open Idealize.ShloMosaic Idealize.ShloMosaic.TcCoe Idealize.SL.Sem
open Idealize.ShloMosaic.Pipeline (Dat)
open Cert.Kernel11Ideal Cert.Kernel11Ideal.Gen
open Cert.Norm

/-- A row after the last residual: the row before it, and the feed-forward layer's output times its gate. -/
def mid (x ff gt : Fin 2048 → EReal) : Fin 2048 → EReal := fun k => x k + gt k * ff k

/-- How far a normed row lies from its target. -/
def miss (y t g : Fin 2048 → EReal) : Fin 2048 → EReal := fun k => y k * rinv y * g k - t k

/-- The row's loss, before the factor one half. -/
def rowLoss (y t g : Fin 2048 → EReal) : EReal := Ideal.div (∑ k, miss y t g k * miss y t g k) (Ideal.ofBits .f32 0x45000000#32)

/-- The loss's derivative at the normed and scaled row. -/
def slope (y t g : Fin 2048 → EReal) : Fin 2048 → EReal := fun k => Ideal.div (miss y t g k) (Ideal.ofBits .f32 0x45000000#32)

variable (x t : FVec Ideal S512x2048 .f32) (ff : FVec Ideal S512x2048 .bf16) (gt g acc : FVec Ideal S1x2048 .f32) (acc' : FVec Ideal S1x128 .f32)

/-- Row `i` of the block after the residual. -/
abbrev midRow (i : Fin 512) : Fin 2048 → EReal := mid (fun k => x (ix2 i k)) (fun k => ff (ix2 i k)) (fun k => gt (ix2 0 k))

theorem mid_apply (i : Fin 512) (j : Fin 2048) : k0_pay5 (F := Ideal) x ff gt (ix2 i j) = midRow x ff gt i j := by
  pointwise [k0_pay5, k0_pay4, mid]

theorem inv_apply (i : Fin 512) : k0_pay6 (F := Ideal) x ff gt (ix2 i 0) = rinv (midRow x ff gt i) := by
  pointwise [k0_pay6, mid_apply, rinv, msq]

theorem nrm_apply (i : Fin 512) (j : Fin 2048) : k0_pay7 (F := Ideal) x ff gt (ix2 i j) = midRow x ff gt i j * rinv (midRow x ff gt i) := by
  pointwise [k0_pay7, mid_apply, inv_apply]

theorem miss_apply (i : Fin 512) (j : Fin 2048) : k0_pay8 (F := Ideal) x ff t gt g (ix2 i j)
    = miss (midRow x ff gt i) (fun k => t (ix2 i k)) (fun k => g (ix2 0 k)) j := by
  pointwise [k0_pay8, nrm_apply, miss]

theorem slope_apply (i : Fin 512) (j : Fin 2048) : k0_pay12 (F := Ideal) (k0_pay8 x ff t gt g) (ix2 i j)
    = slope (midRow x ff gt i) (fun k => t (ix2 i k)) (fun k => g (ix2 0 k)) j := by
  pointwise [k0_pay12, miss_apply, slope]

/-- The cotangent of the normed row. -/
def turn (y t g : Fin 2048 → EReal) : Fin 2048 → EReal := fun k => slope y t g k * g k

/-- The block of the gradient at the residual's sum. -/
abbrev blkX : FVec Ideal S512x2048 .f32 := k0_pay14 (F := Ideal) g (k0_pay6 x ff gt) (k0_pay7 x ff gt) (k0_pay8 x ff t gt g)

theorem dx_apply (i : Fin 512) (j : Fin 2048) : blkX x t ff gt g (ix2 i j)
    = back (midRow x ff gt i) (turn (midRow x ff gt i) (fun k => t (ix2 i k)) (fun k => g (ix2 0 k))) j := by
  pointwise [k0_pay14, inv_apply, nrm_apply, slope_apply, back, turn]

theorem dff_apply (i : Fin 512) (j : Fin 2048) : k0_pay15 (F := Ideal) gt g (k0_pay6 x ff gt) (k0_pay7 x ff gt) (k0_pay8 x ff t gt g) (ix2 i j)
    = blkX x t ff gt g (ix2 i j) * gt (ix2 0 j) := by
  unfold k0_pay15 blkX
  generalize k0_pay14 (F := Ideal) g (k0_pay6 x ff gt) (k0_pay7 x ff gt) (k0_pay8 x ff t gt g) = b
  pointwise []

theorem dg_apply (j : Fin 2048) : k0_pay13 (F := Ideal) (k0_pay7 x ff gt) (k0_pay8 x ff t gt g) acc (ix2 0 j)
    = acc (ix2 0 j) + ∑ i : Fin 512, slope (midRow x ff gt i) (fun k => t (ix2 i k)) (fun k => g (ix2 0 k)) j * (midRow x ff gt i j * rinv (midRow x ff gt i)) := by
  pointwise [k0_pay13, slope_apply, nrm_apply]

theorem dgt_apply (j : Fin 2048) : k0_pay16 (F := Ideal) (k0_pay4 ff) g (k0_pay6 x ff gt) (k0_pay7 x ff gt) (k0_pay8 x ff t gt g) acc (ix2 0 j)
    = acc (ix2 0 j) + ∑ i : Fin 512, blkX x t ff gt g (ix2 i j) * ff (ix2 i j) := by
  unfold k0_pay16 blkX
  generalize k0_pay14 (F := Ideal) g (k0_pay6 x ff gt) (k0_pay7 x ff gt) (k0_pay8 x ff t gt g) = b
  pointwise [k0_pay4]

/-- One half of every row's loss, one after the other, is one half of their sum. -/
theorem half_sum {ι : Type} (s : Finset ι) (f : ι → EReal) :
    Ideal.ofBits .f32 0x3F000000#32 * (∑ i ∈ s, f i) = ∑ i ∈ s, Ideal.ofBits .f32 0x3F000000#32 * f i := by
  rw [half_word, mul_comm, ← sum_mul_real s f (1 / 2) (by norm_num)]
  exact Finset.sum_congr rfl fun i _ => mul_comm _ _

theorem loss_apply (j : Fin 128) : k0_pay11 (F := Ideal) (k0_pay9 acc') (k0_pay10 x ff t gt g) (ix2 0 j)
    = acc' (ix2 0 j) + ∑ i : Fin 512, Ideal.ofBits .f32 0x3F000000#32 * rowLoss (midRow x ff gt i) (fun k => t (ix2 i k)) (fun k => g (ix2 0 k)) := by
  rw [← half_sum]
  pointwise [k0_pay11, k0_pay9, k0_pay10, miss_apply, rowLoss]

section whole

variable (x t : FVec Ideal S4096x2048 .f32) (ff : FVec Ideal S4096x2048 .bf16) (gt g : FVec Ideal S1x2048 .f32)

/-- Row `i` of the arrays after the residual. -/
abbrev midAt (i : Fin 4096) : Fin 2048 → EReal := mid (fun k => x (ix2 i k)) (fun k => ff (ix2 i k)) (fun k => gt (ix2 0 k))

/-- The gradient at the residual's sum. -/
def gradX : FVec Ideal S4096x2048 .f32 := fun i =>
  back (midAt x ff gt (i 0)) (turn (midAt x ff gt (i 0)) (fun k => t (ix2 (i 0) k)) (fun k => g (ix2 0 k))) (i 1)

/-- The gradient at the feed-forward layer's output. -/
def gradFfn : FVec Ideal S4096x2048 .bf16 := fun i => gradX x t ff gt g i * gt (ix2 0 (i 1))

/-- A row's part of the loss. -/
def lossAt (i : Fin 4096) (j : Fin 128) : EReal :=
  Ideal.ofBits .f32 0x3F000000#32 * rowLoss (midAt x ff gt i) (fun k => t (ix2 i k)) (fun k => g (ix2 0 k))

/-- A row's part of the gradient at the norm's gain. -/
def gainAt (i : Fin 4096) (j : Fin 2048) : EReal :=
  slope (midAt x ff gt i) (fun k => t (ix2 i k)) (fun k => g (ix2 0 k)) j * (midAt x ff gt i j * rinv (midAt x ff gt i))

/-- A row's part of the gradient at the gate. -/
def gateAt (i : Fin 4096) (j : Fin 2048) : EReal := gradX x t ff gt g (ix2 i j) * ff (ix2 i j)

end whole

/-- The sum over all rows of each row's part. -/
def total {w : ℕ} (e : Fin 4096 → Fin w → EReal) : FVec Ideal ⟨2, ![1, w]⟩ .f32 := fun j => ∑ i, e i (j 1)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] := (by decide +kernel : ∀ t : Fin grid0.N, _)

theorem row_lt (t : Fin cfg0.N) (a : Fin 512) : t.val * 512 + a.val < 4096 := by
  have : t.val < 8 := t.isLt
  omega

/-- The row of the arrays at row `a` of the blocks of point `t`. -/
abbrev row (t : Fin cfg0.N) (a : Fin 512) : Fin 4096 := ⟨t.val * 512 + a.val, row_lt t a⟩

/-- The entries of the blocks of a point, in the arrays. -/
theorem in0 (c : Dev nD) (t : Fin cfg0.N) (a : Fin 512) (k : Fin 2048) : iblk m c 0 t (ix2 a k) = m ((c : Thread nD τ).loc main_arg0) (ix2 (row t a) k) := by
  blk_point [iblk, V, idx t]

theorem in1 (c : Dev nD) (t : Fin cfg0.N) (a : Fin 512) (k : Fin 2048) : iblk m c 1 t (ix2 a k) = m ((c : Thread nD τ).loc main_arg1) (ix2 (row t a) k) := by
  blk_point [iblk, V, idx t]

theorem in2 (c : Dev nD) (t : Fin cfg0.N) (a : Fin 512) (k : Fin 2048) : iblk m c 2 t (ix2 a k) = m ((c : Thread nD τ).loc main_arg2) (ix2 (row t a) k) := by
  blk_point [iblk, V, idx t]

theorem in3 (c : Dev nD) (t : Fin cfg0.N) (k : Fin 2048) : iblk m c 3 t (ix2 0 k) = m ((c : Thread nD τ).loc main_arg3) (ix2 0 k) := by
  blk_point [iblk, V, idx t]

theorem in4 (c : Dev nD) (t : Fin cfg0.N) (k : Fin 2048) : iblk m c 4 t (ix2 0 k) = m ((c : Thread nD τ).loc main_arg4) (ix2 0 k) := by
  blk_point [iblk, V, idx t]

/-- The row after the residual and the gradient's block, from the blocks of the arguments. -/
theorem mid_in (c : Dev nD) (t : Fin cfg0.N) (a : Fin 512) : midRow (iblk m c 0 t) (iblk m c 1 t) (iblk m c 3 t) a
    = midAt (m ((c : Thread nD τ).loc main_arg0)) (m ((c : Thread nD τ).loc main_arg1)) (m ((c : Thread nD τ).loc main_arg3)) (row t a) := by
  unfold midRow
  simp only [in0 m c t a, in1 m c t a, in3 m c t]

theorem blkX_in (c : Dev nD) (t : Fin cfg0.N) (a : Fin 512) (j : Fin 2048) :
    blkX (iblk m c 0 t) (iblk m c 2 t) (iblk m c 1 t) (iblk m c 3 t) (iblk m c 4 t) (ix2 a j) = gradX (m ((c : Thread nD τ).loc main_arg0)) (m ((c : Thread nD τ).loc main_arg2)) (m ((c : Thread nD τ).loc main_arg1)) (m ((c : Thread nD τ).loc main_arg3)) (m ((c : Thread nD τ).loc main_arg4)) (ix2 (row t a) j) := by
  rw [dx_apply, mid_in m c t a]
  simp only [in2 m c t a, in4 m c t]
  rfl

/-- What both cases of a point write to the blocks of the first two results. -/
theorem first (c : Dev nD) (t : Fin cfg0.N) : (outsAt0 m c t.val t.isLt).1 = blkX (iblk m c 0 t) (iblk m c 2 t) (iblk m c 1 t) (iblk m c 3 t) (iblk m c 4 t) := by
  by_cases h : t.val % 8 = 0
  · rw [outsAt0_A m c t h]
    frame_out
  · rw [outsAt0_B m c t h]
    frame_out

theorem second (c : Dev nD) (t : Fin cfg0.N) : (outsAt0 m c t.val t.isLt).2.1
    = k0_pay15 (F := Ideal) (iblk m c 3 t) (iblk m c 4 t) (k0_pay6 (iblk m c 0 t) (iblk m c 1 t) (iblk m c 3 t)) (k0_pay7 (iblk m c 0 t) (iblk m c 1 t) (iblk m c 3 t)) (k0_pay8 (iblk m c 0 t) (iblk m c 1 t) (iblk m c 2 t) (iblk m c 3 t) (iblk m c 4 t)) := by
  by_cases h : t.val % 8 = 0
  · rw [outsAt0_A m c t h]
    frame_out
  · rw [outsAt0_B m c t h]
    frame_out

/-- A row block's place in its array. -/
theorem place5 (t : Fin cfg0.N) (a : Fin 512) (j : Fin 2048) : (win0_5.blk t).view.emb (ix2 a j) = ix2 (row t a) j
    ∧ (win0_6.blk t).view.emb (ix2 a j) = ix2 (row t a) j := by
  refine ⟨?_, ?_⟩ <;> (funext d; apply Fin.ext; match d with
    | 0 => blk_point [idx t]
    | 1 => blk_point [idx t])

theorem final5 (c : Dev nD) : (dats m 0 c).arrAt 5 cfg0.N = gradX (m ((c : Thread nD τ).loc main_arg0)) (m ((c : Thread nD τ).loc main_arg2)) (m ((c : Thread nD τ).loc main_arg1)) (m ((c : Thread nD τ).loc main_arg3)) (m ((c : Thread nD τ).loc main_arg4)) := by
  refine (dats m 0 c).arrAt_eq_of_covers 5 _ (by decide +kernel) fun t _ y => ?_
  obtain ⟨a, j, rfl⟩ : ∃ (a : Fin 512) (j : Fin 2048), y = ix2 a j := ⟨y 0, y 1, eq_ix2 y⟩
  blk_simp
  rw [after0_5, first m c t, blkX_in]
  exact (congrArg (gradX _ _ _ _ _) (place5 t a j).1).symm

theorem final6 (c : Dev nD) : (dats m 0 c).arrAt 6 cfg0.N = gradFfn (m ((c : Thread nD τ).loc main_arg0)) (m ((c : Thread nD τ).loc main_arg2)) (m ((c : Thread nD τ).loc main_arg1)) (m ((c : Thread nD τ).loc main_arg3)) (m ((c : Thread nD τ).loc main_arg4)) := by
  refine (dats m 0 c).arrAt_eq_of_covers 6 _ (by decide +kernel) fun t _ y => ?_
  obtain ⟨a, j, rfl⟩ : ∃ (a : Fin 512) (j : Fin 2048), y = ix2 a j := ⟨y 0, y 1, eq_ix2 y⟩
  blk_simp
  rw [after0_6, second m c t, dff_apply, blkX_in, in3]
  exact (congrArg (gradFfn _ _ _ _ _) (place5 t a j).2).symm

/-- A carried row's block is the whole of its array. -/
theorem place7 (t : Fin cfg0.N) (j : Fin 128) : (win0_7.blk t).view.emb (ix2 0 j) = ix2 0 j := by
  funext d; apply Fin.ext; match d with
    | 0 => blk_point [idx t]
    | 1 => blk_point [idx t]

theorem place8 (t : Fin cfg0.N) (j : Fin 2048) : (win0_8.blk t).view.emb (ix2 0 j) = ix2 0 j ∧ (win0_9.blk t).view.emb (ix2 0 j) = ix2 0 j := by
  refine ⟨?_, ?_⟩ <;> (funext d; apply Fin.ext; match d with
    | 0 => blk_point [idx t]
    | 1 => blk_point [idx t])

theorem final7 (c : Dev nD) : (dats m 0 c).arrAt 7 cfg0.N = total (lossAt (m ((c : Thread nD τ).loc main_arg0)) (m ((c : Thread nD τ).loc main_arg2)) (m ((c : Thread nD τ).loc main_arg1)) (m ((c : Thread nD τ).loc main_arg3)) (m ((c : Thread nD τ).loc main_arg4))) := by
  refine (dats m 0 c).arrAt_eq_of_covers 7 _ (by decide +kernel) fun t hf y => ?_
  have hm := (flush0_7 t).mp hf
  obtain ⟨b, j, rfl⟩ : ∃ (b : Fin 1) (j : Fin 128), y = ix2 b j := ⟨y 0, y 1, eq_ix2 y⟩
  obtain rfl := Subsingleton.elim b 0
  blk_simp
  rw [after0_7]
  refine Eq.trans ?_ (congrArg (total (lossAt (m ((c : Thread nD τ).loc main_arg0)) (m ((c : Thread nD τ).loc main_arg2)) (m ((c : Thread nD τ).loc main_arg1)) (m ((c : Thread nD τ).loc main_arg3)) (m ((c : Thread nD τ).loc main_arg4)))) (place7 t j)).symm
  refine gather (J := 8) (n := 512) rfl rfl (fun n h => (outsAt0 m c n h).2.2.1) (lossAt (m ((c : Thread nD τ).loc main_arg0)) (m ((c : Thread nD τ).loc main_arg2)) (m ((c : Thread nD τ).loc main_arg1)) (m ((c : Thread nD τ).loc main_arg3)) (m ((c : Thread nD τ).loc main_arg4))) row_lt (fun t h j => ?_) (fun t h j => ?_) t hm j
  · rw [outsAt0_A m c t h]
    frame_out
    refine (loss_apply _ _ _ _ _ _ _).trans (congrArg₂ (· + ·) (by pointwise [k0_pay1]) (Finset.sum_congr rfl fun a _ => ?_))
    simp only [mid_in m c t a, in2 m c t a, in4 m c t]
    rfl
  · rw [outsAt0_B m c t h]
    frame_out
    refine (loss_apply _ _ _ _ _ _ _).trans (congrArg₂ (· + ·) rfl (Finset.sum_congr rfl fun a _ => ?_))
    simp only [mid_in m c t a, in2 m c t a, in4 m c t]
    rfl

theorem final8 (c : Dev nD) : (dats m 0 c).arrAt 8 cfg0.N = total (gainAt (m ((c : Thread nD τ).loc main_arg0)) (m ((c : Thread nD τ).loc main_arg2)) (m ((c : Thread nD τ).loc main_arg1)) (m ((c : Thread nD τ).loc main_arg3)) (m ((c : Thread nD τ).loc main_arg4))) := by
  refine (dats m 0 c).arrAt_eq_of_covers 8 _ (by decide +kernel) fun t hf y => ?_
  have hm := (flush0_8 t).mp hf
  obtain ⟨b, j, rfl⟩ : ∃ (b : Fin 1) (j : Fin 2048), y = ix2 b j := ⟨y 0, y 1, eq_ix2 y⟩
  obtain rfl := Subsingleton.elim b 0
  blk_simp
  rw [after0_8]
  refine Eq.trans ?_ (congrArg (total (gainAt (m ((c : Thread nD τ).loc main_arg0)) (m ((c : Thread nD τ).loc main_arg2)) (m ((c : Thread nD τ).loc main_arg1)) (m ((c : Thread nD τ).loc main_arg3)) (m ((c : Thread nD τ).loc main_arg4)))) (place8 t j).1).symm
  refine gather (J := 8) (n := 512) rfl rfl (fun n h => (outsAt0 m c n h).2.2.2.1) (gainAt (m ((c : Thread nD τ).loc main_arg0)) (m ((c : Thread nD τ).loc main_arg2)) (m ((c : Thread nD τ).loc main_arg1)) (m ((c : Thread nD τ).loc main_arg3)) (m ((c : Thread nD τ).loc main_arg4))) row_lt (fun t h j => ?_) (fun t h j => ?_) t hm j
  · rw [outsAt0_A m c t h]
    frame_out
    refine (dg_apply _ _ _ _ _ _ _).trans (congrArg₂ (· + ·) (by pointwise [k0_pay2]) (Finset.sum_congr rfl fun a _ => ?_))
    simp only [mid_in m c t a, in2 m c t a, in4 m c t]
    rfl
  · rw [outsAt0_B m c t h]
    frame_out
    refine (dg_apply _ _ _ _ _ _ _).trans (congrArg₂ (· + ·) rfl (Finset.sum_congr rfl fun a _ => ?_))
    simp only [mid_in m c t a, in2 m c t a, in4 m c t]
    rfl

theorem final9 (c : Dev nD) : (dats m 0 c).arrAt 9 cfg0.N = total (gateAt (m ((c : Thread nD τ).loc main_arg0)) (m ((c : Thread nD τ).loc main_arg2)) (m ((c : Thread nD τ).loc main_arg1)) (m ((c : Thread nD τ).loc main_arg3)) (m ((c : Thread nD τ).loc main_arg4))) := by
  refine (dats m 0 c).arrAt_eq_of_covers 9 _ (by decide +kernel) fun t hf y => ?_
  have hm := (flush0_9 t).mp hf
  obtain ⟨b, j, rfl⟩ : ∃ (b : Fin 1) (j : Fin 2048), y = ix2 b j := ⟨y 0, y 1, eq_ix2 y⟩
  obtain rfl := Subsingleton.elim b 0
  blk_simp
  rw [after0_9]
  refine Eq.trans ?_ (congrArg (total (gateAt (m ((c : Thread nD τ).loc main_arg0)) (m ((c : Thread nD τ).loc main_arg2)) (m ((c : Thread nD τ).loc main_arg1)) (m ((c : Thread nD τ).loc main_arg3)) (m ((c : Thread nD τ).loc main_arg4)))) (place8 t j).2).symm
  refine gather (J := 8) (n := 512) rfl rfl (fun n h => (outsAt0 m c n h).2.2.2.2) (gateAt (m ((c : Thread nD τ).loc main_arg0)) (m ((c : Thread nD τ).loc main_arg2)) (m ((c : Thread nD τ).loc main_arg1)) (m ((c : Thread nD τ).loc main_arg3)) (m ((c : Thread nD τ).loc main_arg4))) row_lt (fun t h j => ?_) (fun t h j => ?_) t hm j
  · rw [outsAt0_A m c t h]
    frame_out
    refine (dgt_apply _ _ _ _ _ _ _).trans (congrArg₂ (· + ·) (by pointwise [k0_pay3]) (Finset.sum_congr rfl fun a _ => ?_))
    simp only [blkX_in m c t a j, in1 m c t a j]
    rfl
  · rw [outsAt0_B m c t h]
    frame_out
    refine (dgt_apply _ _ _ _ _ _ _).trans (congrArg₂ (· + ·) rfl (Finset.sum_congr rfl fun a _ => ?_))
    simp only [blkX_in m c t a j, in1 m c t a j]
    rfl

end Cert.Kernel11Ideal.LossHead
-- ==== Proof.LossHeadClaim.lean ====
module

public import proofs.«01_k».proof.Defs
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.LossHeadFinal
public import Idealize.ShloMosaic.Lib.Quiescent

/-! # The loss head: the kernel beside its reference -/

@[expose] public section

set_option maxRecDepth 16384

noncomputable section

namespace Cert.Proof.LossHead

open Idealize.ShloMosaic Idealize.SL.Sem
open Cert.Norm Cert.Kernel11Ideal.LossHead
open Cert.Kernel11Ideal (S4096x2048 S1x2048)
open Cert.Reference11Ideal.Read

/-- The reference's run: the arguments stay, every counter is zero. -/
theorem frame_ref : Cert.quiescent_Reference11Ideal (hReference11Ideal := Cert.Reference11Ideal.Gen.facts) := fun m ρ _ =>
  (θ_run Cert.Reference11Ideal.defs _ _).mono
    (fun r h => ⟨fun c => (h c).2.2.2.2.2, sem_eq_zero_of_no_sems (by decide) r.2⟩) (Cert.Reference11Ideal.Value.run (F := Ideal) m ρ)

variable (x t : FVec Ideal S4096x2048 .f32) (ff : FVec Ideal S4096x2048 .bf16) (gt g : FVec Ideal S1x2048 .f32)

/-- Row `i` and column `j`, as an index. -/
theorem col (i : Fin 4096) (j : Fin 2048) (y : S4096x2048.Idx) (h0 : (y 0).val = i.val) (h1 : (y 1).val = j.val) : y = ix2 i j := by
  funext a; apply Fin.ext; match a with
    | 0 => exact h0
    | 1 => exact h1

theorem ref_mid (i : Fin 4096) (j : Fin 2048) : val_main_v3 (F := Ideal) x ff gt (ix2 i j) = midAt x ff gt i j := by
  rw [val_main_v3_apply, val_main_v2_apply, val_main_v1_apply]
  exact congrArg (fun z => x (ix2 i j) + gt z * ff (ix2 i j)) (by funext a; fin_cases a <;> rfl)

theorem ref_sq (i : Fin 4096) : val_main_v10 (F := Ideal) x ff gt (ix2 i 0) = msq (midAt x ff gt i) := by
  rw [val_main_v10_apply, val_main_v8_apply, val_main_v6_apply, val_main_v5_apply]
  show Ideal.div (Ideal.ofBits .f32 0x00000000#32 + _) _ + _ = _
  rw [Ideal.ofBits_zero .f32, zero_add]
  refine congrArg₂ (· + ·) (congrArg₂ Ideal.div (Finset.sum_congr rfl fun k _ => ?_) rfl) rfl
  rw [col i k (idx_main_v5 (idx_main_v6 (ix2 i 0)) k) rfl rfl, val_main_v4_apply, ref_mid]
  rfl

theorem ref_inv (i : Fin 4096) : val_main_v11 (F := Ideal) x ff gt (ix2 i 0) = rinv (midAt x ff gt i) := by
  rw [rinv, ← ref_sq]
  rfl

theorem ref_nrm (i : Fin 4096) (j : Fin 2048) : val_main_v16 (F := Ideal) x ff gt (ix2 i j) = midAt x ff gt i j * rinv (midAt x ff gt i) := by
  rw [val_main_v16_apply, val_main_v15_apply, ref_mid, ← ref_inv]
  exact congrArg (fun z => midAt x ff gt i j * val_main_v11 (F := Ideal) x ff gt z) (by funext a; fin_cases a <;> rfl)

/-- The target's and the gain's rows. -/
abbrev tAt (i : Fin 4096) : Fin 2048 → EReal := fun k => t (ix2 i k)
abbrev gRow : Fin 2048 → EReal := fun k => g (ix2 0 k)

theorem ref_miss (i : Fin 4096) (j : Fin 2048) : val_main_v19 (F := Ideal) x ff t gt g (ix2 i j) = miss (midAt x ff gt i) (tAt t i) (gRow g) j := by
  rw [val_main_v19_apply, val_main_v18_apply, ref_nrm, val_main_v17_apply]
  exact congrArg (fun z => midAt x ff gt i j * rinv (midAt x ff gt i) * g z - t (ix2 i j)) (by funext a; fin_cases a <;> rfl)

theorem one_word : Ideal.ofBits .f32 0x3F800000#32 = ((1 : ℝ) : EReal) := by
  simp [Ideal.ofBits, Ideal.ieee]
  rw [← EReal.coe_mul]
  exact congrArg (fun q : ℝ => (q : EReal)) (by norm_num : (8388608 : ℝ) * (2 ^ 23)⁻¹ = 1)

/-- Twice an error, times one half over 2048, is the error over 2048. -/
theorem slope_eq (e : EReal) : Ideal.div (Ideal.ofBits .f32 0x3F000000#32 * Ideal.ofBits .f32 0x3F800000#32) (Ideal.ofBits .f32 0x45000000#32)
    * (Ideal.ofBits .f32 0x40000000#32 * e) = Ideal.div e (Ideal.ofBits .f32 0x45000000#32) := by
  rw [div_n, div_n, half_word, one_word, two_word, ← mul_assoc, ← EReal.coe_mul, ← EReal.coe_mul, ← EReal.coe_mul, mul_comm e]
  exact congrArg (fun q : ℝ => (q : EReal) * e) (by norm_num)

theorem ref_slope (i : Fin 4096) (j : Fin 2048) : val_main_v33 (F := Ideal) x ff t gt g (ix2 i j) = slope (midAt x ff gt i) (tAt t i) (gRow g) j := by
  rw [val_main_v33_apply, val_main_v22_apply, ref_miss, val_main_v32_apply]
  exact slope_eq _

theorem ref_turn (i : Fin 4096) (j : Fin 2048) : val_main_v38 (F := Ideal) x ff t gt g (ix2 i j) = turn (midAt x ff gt i) (tAt t i) (gRow g) j := by
  rw [val_main_v38_apply, ref_slope, val_main_v37_apply]
  exact congrArg (fun z => slope (midAt x ff gt i) (tAt t i) (gRow g) j * g z) (by funext a; fin_cases a <;> rfl)

theorem ref_pull (i : Fin 4096) : val_main_v46 (F := Ideal) x ff t gt g (ix2 i 0)
    = pull (midAt x ff gt i) (turn (midAt x ff gt i) (tAt t i) (gRow g)) := by
  rw [val_main_v46_apply, val_main_v44_apply, val_main_v41_apply, val_main_v40_apply, val_main_v14_apply, val_main_v12_apply, ref_inv, ref_sq]
  show Ideal.div ((Ideal.ofBits .f32 0x00000000#32 + _) * _) _ = _
  rw [Ideal.ofBits_zero .f32, zero_add]
  refine congrArg₂ Ideal.div (congrArg₂ (· * ·) (Finset.sum_congr rfl fun k _ => ?_) rfl) rfl
  rw [col i k (idx_main_v40 (idx_main_v41 (ix2 i 0)) k) (by show i.val * 1 + 0 = i.val; omega) rfl, val_main_v39_apply, ref_turn, ref_mid]
  rfl

theorem ref_back (i : Fin 4096) (j : Fin 2048) : val_main_v48 (F := Ideal) x ff t gt g (ix2 i j)
    = pull (midAt x ff gt i) (turn (midAt x ff gt i) (tAt t i) (gRow g)) := by
  rw [val_main_v48_apply, val_main_v47_apply]
  show Ideal.ofBits .f32 0x00000000#32 + _ = _
  rw [Ideal.ofBits_zero .f32, zero_add, Fin.sum_univ_one, ← ref_pull]
  exact congrArg (val_main_v46 (F := Ideal) x ff t gt g) (by funext a; fin_cases a <;> rfl)

theorem ref_inv' (i : Fin 4096) (j : Fin 2048) : val_main_v42 (F := Ideal) x ff gt (ix2 i j) = rinv (midAt x ff gt i) := by
  rw [val_main_v42_apply, ← ref_inv]
  exact congrArg (val_main_v11 (F := Ideal) x ff gt) (by funext a; fin_cases a <;> rfl)

theorem res_x : val_main_v52 (F := Ideal) x ff t gt g = gradX x t ff gt g := by
  funext y
  obtain ⟨i, j, rfl⟩ : ∃ (i : Fin 4096) (j : Fin 2048), y = ix2 i j := ⟨y 0, y 1, eq_ix2 y⟩
  rw [val_main_v52_apply, val_main_v51_apply, val_main_v50_apply, val_main_v49_apply, val_main_v43_apply, ref_back, ref_turn, ref_inv', ref_mid]
  exact chain (midAt x ff gt i) (turn (midAt x ff gt i) (tAt t i) (gRow g)) j

theorem res_ffn : val_main_v58 (F := Ideal) x ff t gt g = gradFfn x t ff gt g := by
  funext y
  obtain ⟨i, j, rfl⟩ : ∃ (i : Fin 4096) (j : Fin 2048), y = ix2 i j := ⟨y 0, y 1, eq_ix2 y⟩
  rw [val_main_v58_apply, val_main_v54_apply, res_x, val_main_v53_apply]
  refine (mul_comm _ _).trans ?_
  exact congrArg (fun z => gradX x t ff gt g (ix2 i j) * gt z) (by funext a; fin_cases a <;> rfl)

theorem res_loss : val_main_v59 (F := Ideal) x ff t gt g = total (lossAt x t ff gt g) := by
  funext y
  rw [val_main_v59_apply, val_main_v27_apply, val_main_v26_apply]
  show Ideal.ofBits .f32 0x3F000000#32 * (Ideal.ofBits .f32 0x00000000#32 + _) = _
  rw [Ideal.ofBits_zero .f32, zero_add, sum_idx1, half_sum]
  refine Finset.sum_congr rfl fun i _ => congrArg (Ideal.ofBits .f32 0x3F000000#32 * ·) ?_
  rw [val_main_v25_apply, val_main_v23_apply]
  show Ideal.div (Ideal.ofBits .f32 0x00000000#32 + _) _ = _
  rw [Ideal.ofBits_zero .f32, zero_add]
  refine congrArg₂ Ideal.div (Finset.sum_congr rfl fun k _ => ?_) rfl
  rw [col i k (idx_main_v23 (ix1 i) k) rfl rfl, val_main_v20_apply, ref_miss]
  rfl

theorem res_gain : val_main_v36 (F := Ideal) x ff t gt g = total (gainAt x t ff gt g) := by
  funext y
  obtain ⟨b, j, rfl⟩ : ∃ (b : Fin 1) (j : Fin 2048), y = ix2 b j := ⟨y 0, y 1, eq_ix2 y⟩
  obtain rfl := Subsingleton.elim b 0
  rw [val_main_v36_apply, val_main_v35_apply]
  show Ideal.ofBits .f32 0x00000000#32 + _ = _
  rw [Ideal.ofBits_zero .f32, zero_add]
  refine Finset.sum_congr rfl fun i _ => ?_
  rw [col i j (idx_main_v35 (idx_main_v36 (ix2 0 j)) i) rfl (by show 0 * 2048 + j.val = j.val; omega), val_main_v34_apply, ref_nrm, ref_slope]
  exact mul_comm _ _

theorem res_gate : val_main_v57 (F := Ideal) x ff t gt g = total (gateAt x t ff gt g) := by
  funext y
  obtain ⟨b, j, rfl⟩ : ∃ (b : Fin 1) (j : Fin 2048), y = ix2 b j := ⟨y 0, y 1, eq_ix2 y⟩
  obtain rfl := Subsingleton.elim b 0
  rw [val_main_v57_apply, val_main_v56_apply]
  show Ideal.ofBits .f32 0x00000000#32 + _ = _
  rw [Ideal.ofBits_zero .f32, zero_add]
  refine Finset.sum_congr rfl fun i _ => ?_
  rw [col i j (idx_main_v56 (idx_main_v57 (ix2 0 j)) i) rfl (by show 0 * 2048 + j.val = j.val; omega), val_main_v55_apply, res_x]
  rfl

/-- The loss, and the backward pass of the last norm and residual: the kernel's five results are the reference's. -/
theorem value : Cert.algebraic_Kernel11Ideal_Reference11Ideal (hKernel11Ideal := Cert.Kernel11Ideal.Gen.facts)
    (hReference11Ideal := Cert.Reference11Ideal.Gen.facts) := by
  intro m ρ m' ρ' _ hag
  refine ⟨fun c => gradX (m ((c.tc : Thread _ _).loc Cert.Kernel11Ideal.main_arg0)) (m ((c.tc : Thread _ _).loc Cert.Kernel11Ideal.main_arg2)) (m ((c.tc : Thread _ _).loc Cert.Kernel11Ideal.main_arg1)) (m ((c.tc : Thread _ _).loc Cert.Kernel11Ideal.main_arg3)) (m ((c.tc : Thread _ _).loc Cert.Kernel11Ideal.main_arg4)),
    fun c => gradFfn (m ((c.tc : Thread _ _).loc Cert.Kernel11Ideal.main_arg0)) (m ((c.tc : Thread _ _).loc Cert.Kernel11Ideal.main_arg2)) (m ((c.tc : Thread _ _).loc Cert.Kernel11Ideal.main_arg1)) (m ((c.tc : Thread _ _).loc Cert.Kernel11Ideal.main_arg3)) (m ((c.tc : Thread _ _).loc Cert.Kernel11Ideal.main_arg4)),
    fun c => total (lossAt (m ((c.tc : Thread _ _).loc Cert.Kernel11Ideal.main_arg0)) (m ((c.tc : Thread _ _).loc Cert.Kernel11Ideal.main_arg2)) (m ((c.tc : Thread _ _).loc Cert.Kernel11Ideal.main_arg1)) (m ((c.tc : Thread _ _).loc Cert.Kernel11Ideal.main_arg3)) (m ((c.tc : Thread _ _).loc Cert.Kernel11Ideal.main_arg4))),
    fun c => total (gainAt (m ((c.tc : Thread _ _).loc Cert.Kernel11Ideal.main_arg0)) (m ((c.tc : Thread _ _).loc Cert.Kernel11Ideal.main_arg2)) (m ((c.tc : Thread _ _).loc Cert.Kernel11Ideal.main_arg1)) (m ((c.tc : Thread _ _).loc Cert.Kernel11Ideal.main_arg3)) (m ((c.tc : Thread _ _).loc Cert.Kernel11Ideal.main_arg4))),
    fun c => total (gateAt (m ((c.tc : Thread _ _).loc Cert.Kernel11Ideal.main_arg0)) (m ((c.tc : Thread _ _).loc Cert.Kernel11Ideal.main_arg2)) (m ((c.tc : Thread _ _).loc Cert.Kernel11Ideal.main_arg1)) (m ((c.tc : Thread _ _).loc Cert.Kernel11Ideal.main_arg3)) (m ((c.tc : Thread _ _).loc Cert.Kernel11Ideal.main_arg4))),
    (θ_run _ _ _).mono (fun r h c => ?_) (Cert.Kernel11Ideal.Value.run_blocks m ρ),
    (θ_run _ _ _).mono (fun r h c => ?_) (Cert.Reference11Ideal.Value.run (F := Ideal) m' ρ')⟩
  · obtain ⟨h1, h2, h3, h4, h5, hargs⟩ := h c
    exact ⟨h1.trans (final5 m c), h2.trans (final6 m c), h3.trans (final7 m c), h4.trans (final8 m c), h5.trans (final9 m c), hargs⟩
  · obtain ⟨a0, a1, a2, a3, a4⟩ := hag c
    obtain ⟨h1, h2, h3, h4, h5, hargs⟩ := h c
    rw [val_main_v52_eq, a0, a1, a2, a3, a4] at h1
    rw [val_main_v58_eq, a0, a1, a2, a3, a4] at h2
    rw [val_main_v59_eq, a0, a1, a2, a3, a4] at h3
    rw [val_main_v36_eq, a0, a1, a2, a3, a4] at h4
    rw [val_main_v57_eq, a0, a1, a2, a3, a4] at h5
    exact ⟨h1.trans (res_x _ _ _ _ _), h2.trans (res_ffn _ _ _ _ _), h3.trans (res_loss _ _ _ _ _), h4.trans (res_gain _ _ _ _ _),
      h5.trans (res_gate _ _ _ _ _), hargs⟩

end Cert.Proof.LossHead
-- ==== Proof.ModMath.lean ====
module

public import proofs.«01_k».proof.Proof.NormMath

/-! # The modulated norm, and the activation of the condition -/

@[expose] public section

noncomputable section

namespace Cert.Norm

open Idealize.ShloMosaic

/-- Entry `j` of a row that is normed, multiplied by a gain and by one plus a scale, and shifted. -/
def modulated (x g sc sh : Fin 2048 → EReal) (j : Fin 2048) : EReal :=
  x j * rinv x * g j * (Ideal.ofBits .f32 0x3F800000#32 + sc j) + sh j

theorem unit_word : Ideal.ofBits .f32 0x3F800000#32 = 1 := by
  simp [Ideal.ofBits, Ideal.ieee]
  norm_cast
  norm_num

/-- A number times its sigmoid. -/
def silu (a : EReal) : EReal := a * Ideal.logistic a

/-- The same, with the sigmoid written out. -/
theorem silu_eq (a : EReal) : a * Ideal.div (Ideal.ofBits .f32 0x3F800000#32) (Ideal.ofBits .f32 0x3F800000#32 + Ideal.exp (-a)) = silu a := by
  rw [unit_word]
  rfl

end Cert.Norm
-- ==== Proof.MixNormClaim.lean ====
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.ModMath
public import Idealize.ShloMosaic.Lib.Pipeline.ValueKit
public import Idealize.ShloMosaic.Lib.Pointwise
public import Idealize.ShloMosaic.Lib.Quiescent

/-! # The modulated norm before the mixers: the kernel beside its reference -/

@[expose] public section

set_option maxRecDepth 16384

noncomputable section

namespace Cert.Proof.MixNorm

open Idealize.ShloMosaic Idealize.ShloMosaic.TcCoe Idealize.SL.Sem
open Idealize.ShloMosaic.Pipeline (Dat)
open Cert.Kernel12Ideal Cert.Kernel12Ideal.Gen
open Cert.Reference12Ideal.Read
open Cert.Norm

/-- The reference's run: the arguments stay, every counter is zero. -/
theorem frame_ref : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩) (Cert.Reference12Ideal.Value.run (F := Ideal) m ρ)

/-- The modulated norm of every row. -/
def normed (x : FVec Ideal S4096x2048 .f32) (g sc sh : FVec Ideal S1x2048 .f32) : FVec Ideal S4096x2048 .bf16 := fun y =>
  modulated (fun k => x (ix2 (y 0) k)) (fun k => g (ix2 0 k)) (fun k => sc (ix2 0 k)) (fun k => sh (ix2 0 k)) (y 1)

theorem pay_apply (x : FVec Ideal S256x2048 .f32) (g sc sh : FVec Ideal S1x2048 .f32) (i : Fin 256) (j : Fin 2048) :
    k0_pay1 (F := Ideal) x g sc sh (ix2 i j)
      = modulated (fun k => x (ix2 i k)) (fun k => g (ix2 0 k)) (fun k => sc (ix2 0 k)) (fun k => sh (ix2 0 k)) j := by
  pointwise [k0_pay1, modulated, rinv, msq]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] := (by decide +kernel : ∀ t : Fin grid0.N, _)

theorem row_lt (t : Fin cfg0.N) (a : Fin 256) : t.val * 256 + a.val < 4096 := by
  have : t.val < 16 := t.isLt
  omega

/-- The row of the arrays at row `a` of the blocks of point `t`. -/
abbrev row (t : Fin cfg0.N) (a : Fin 256) : Fin 4096 := ⟨t.val * 256 + a.val, row_lt t a⟩

theorem in0 (c : Dev nD) (t : Fin cfg0.N) (a : Fin 256) (k : Fin 2048) : iblk m c 0 t (ix2 a k) = m ((c : Thread nD τ).loc main_arg0) (ix2 (row t a) k) := by
  blk_point [iblk, V, idx t]

theorem in1 (c : Dev nD) (t : Fin cfg0.N) (k : Fin 2048) : iblk m c 1 t (ix2 0 k) = m ((c : Thread nD τ).loc main_arg1) (ix2 0 k) := by
  blk_point [iblk, V, idx t]

theorem in2 (c : Dev nD) (t : Fin cfg0.N) (k : Fin 2048) : iblk m c 2 t (ix2 0 k) = m ((c : Thread nD τ).loc main_arg2) (ix2 0 k) := by
  blk_point [iblk, V, idx t]

theorem in3 (c : Dev nD) (t : Fin cfg0.N) (k : Fin 2048) : iblk m c 3 t (ix2 0 k) = m ((c : Thread nD τ).loc main_arg3) (ix2 0 k) := by
  blk_point [iblk, V, idx t]

theorem place (t : Fin cfg0.N) (a : Fin 256) (j : Fin 2048) : (win0_4.blk t).view.emb (ix2 a j) = ix2 (row t a) j := by
  funext d; apply Fin.ext; match d with
    | 0 => blk_point [idx t]
    | 1 => blk_point [idx t]

theorem final (c : Dev nD) : (dats m 0 c).arrAt 4 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  obtain ⟨a, j, rfl⟩ : ∃ (a : Fin 256) (j : Fin 2048), y = ix2 a j := ⟨y 0, y 1, eq_ix2 y⟩
  blk_simp
  rw [after0_4]
  frame_out
  rw [pay_apply]
  simp only [in0 m c t a, in1 m c t, in2 m c t, in3 m c t]
  exact (congrArg (normed _ _ _ _) (place t a j)).symm

variable (x : FVec Ideal S4096x2048 .f32) (g sc sh : FVec Ideal S1x2048 .f32)

theorem ref_inv (i : Fin 4096) : val_main_v7 (F := Ideal) x (ix2 i 0) = rinv (fun k => x (ix2 i k)) := by
  rw [val_main_v7_apply, val_main_v6_apply, val_main_v4_apply, val_main_v2_apply, val_main_v1_apply]
  show Ideal.rsqrt (Ideal.div (Ideal.ofBits .f32 0x00000000#32 + _) _ + _) = _
  rw [Ideal.ofBits_zero .f32, zero_add]
  refine congrArg Ideal.rsqrt (congrArg₂ (· + ·) (congrArg₂ Ideal.div (Finset.sum_congr rfl fun k _ => ?_) rfl) rfl)
  have h : idx_main_v1 (idx_main_v2 (ix2 i 0)) k = ix2 i k := by funext a; fin_cases a <;> rfl
  rw [h]
  rfl

theorem result : val_main_v18 (F := Ideal) x g sc sh = normed x g sc sh := by
  funext y
  obtain ⟨i, j, rfl⟩ : ∃ (i : Fin 4096) (j : Fin 2048), y = ix2 i j := ⟨y 0, y 1, eq_ix2 y⟩
  have h8 : idx_main_v8 (ix2 i j) = ix2 i 0 := by funext a; fin_cases a <;> rfl
  have h10 : idx_main_v10 (ix2 i j) = ix2 0 j := by funext a; fin_cases a <;> rfl
  have h14 : idx_main_v14 (ix2 i j) = ix2 0 j := by funext a; fin_cases a <;> rfl
  have h16 : idx_main_v16 (ix2 i j) = ix2 0 j := by funext a; fin_cases a <;> rfl
  rw [val_main_v18_apply, val_main_v17_apply, val_main_v16_apply, val_main_v15_apply, val_main_v14_apply, val_main_v13_apply,
    val_main_v11_apply, val_main_v10_apply, val_main_v9_apply, val_main_v8_apply, h8, h10, h14, h16, ref_inv]
  rfl

/-- The modulated norm before the mixers: the kernel's result is the reference's. -/
theorem value : Cert.algebraic_Kernel12Ideal_Reference12Ideal (hKernel12Ideal := Cert.Kernel12Ideal.Gen.facts)
    (hReference12Ideal := Cert.Reference12Ideal.Gen.facts) := by
  intro m ρ m' ρ' _ hag
  refine ⟨fun c => normed (m ((c : Thread nD τ).loc main_arg0)) (m ((c : Thread nD τ).loc main_arg1)) (m ((c : Thread nD τ).loc main_arg2)) (m ((c : Thread nD τ).loc main_arg3)),
    (θ_run _ _ _).mono (fun r h c => ?_) (Cert.Kernel12Ideal.Value.run_blocks m ρ),
    (θ_run _ _ _).mono (fun r h c => ?_) (Cert.Reference12Ideal.Value.run (F := Ideal) m' ρ')⟩
  · obtain ⟨h0, hargs⟩ := h c
    exact ⟨h0.trans (final m c), hargs⟩
  · obtain ⟨a0, a1, a2, a3⟩ := hag c
    obtain ⟨h0, hargs⟩ := h c
    rw [val_main_v18_eq, a0, a1, a2, a3] at h0
    exact ⟨h0.trans (result _ _ _ _), hargs⟩

end Cert.Proof.MixNorm
-- ==== Proof.FfnNormClaim.lean ====
module

public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.ModMath
public import Idealize.ShloMosaic.Lib.Pipeline.ValueKit
public import Idealize.ShloMosaic.Lib.Pointwise
public import Idealize.ShloMosaic.Lib.Quiescent

/-! # The gated residual and the modulated norm before the feed-forward layer: the kernel beside its reference -/

@[expose] public section

set_option maxRecDepth 16384

noncomputable section

namespace Cert.Proof.FfnNorm

open Idealize.ShloMosaic Idealize.ShloMosaic.TcCoe Idealize.SL.Sem
open Idealize.ShloMosaic.Pipeline (Dat)
open Cert.Kernel13Ideal Cert.Kernel13Ideal.Gen
open Cert.Reference13Ideal.Read
open Cert.Norm

/-- The reference's run: the arguments stay, every counter is zero. -/
theorem frame_ref : Cert.quiescent_Reference13Ideal (hReference13Ideal := Cert.Reference13Ideal.Gen.facts) := fun m ρ _ =>
  (θ_run Cert.Reference13Ideal.defs _ _).mono
    (fun r h => ⟨fun c => (h c).2.2, sem_eq_zero_of_no_sems (by decide) r.2⟩) (Cert.Reference13Ideal.Value.run (F := Ideal) m ρ)

/-- The residual's sum: what comes in, plus the gate times the mixers' output. -/
def mid (x : FVec Ideal S4096x2048 .f32) (mo : FVec Ideal S4096x2048 .bf16) (gt : FVec Ideal S1x2048 .f32) : FVec Ideal S4096x2048 .f32 := fun y => x y + gt (ix2 0 (y 1)) * mo y

/-- The modulated norm of every row of the sum. -/
def normed (x : FVec Ideal S4096x2048 .f32) (mo : FVec Ideal S4096x2048 .bf16) (gt g sc sh : FVec Ideal S1x2048 .f32) : FVec Ideal S4096x2048 .bf16 := fun y =>
  modulated (fun k => mid x mo gt (ix2 (y 0) k)) (fun k => g (ix2 0 k)) (fun k => sc (ix2 0 k)) (fun k => sh (ix2 0 k)) (y 1)

theorem mid_apply (x : FVec Ideal S512x2048 .f32) (mo : FVec Ideal S512x2048 .bf16) (gt : FVec Ideal S1x2048 .f32) (i : Fin 512) (j : Fin 2048) :
    k0_pay1 (F := Ideal) x mo gt (ix2 i j) = x (ix2 i j) + gt (ix2 0 j) * mo (ix2 i j) := by
  pointwise [k0_pay1]

theorem pay_apply (x : FVec Ideal S512x2048 .f32) (mo : FVec Ideal S512x2048 .bf16) (gt g sc sh : FVec Ideal S1x2048 .f32) (i : Fin 512) (j : Fin 2048) :
    k0_pay2 (F := Ideal) x mo gt g sc sh (ix2 i j)
      = modulated (fun k => k0_pay1 (F := Ideal) x mo gt (ix2 i k)) (fun k => g (ix2 0 k)) (fun k => sc (ix2 0 k)) (fun k => sh (ix2 0 k)) j := by
  unfold k0_pay2
  generalize k0_pay1 (F := Ideal) x mo gt = z
  pointwise [modulated, rinv, msq]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] := (by decide +kernel : ∀ t : Fin grid0.N, _)

theorem row_lt (t : Fin cfg0.N) (a : Fin 512) : t.val * 512 + a.val < 4096 := by
  have : t.val < 8 := t.isLt
  omega

/-- The row of the arrays at row `a` of the blocks of point `t`. -/
abbrev row (t : Fin cfg0.N) (a : Fin 512) : Fin 4096 := ⟨t.val * 512 + a.val, row_lt t a⟩

theorem in0 (c : Dev nD) (t : Fin cfg0.N) (a : Fin 512) (k : Fin 2048) : iblk m c 0 t (ix2 a k) = m ((c : Thread nD τ).loc main_arg0) (ix2 (row t a) k) := by
  blk_point [iblk, V, idx t]

theorem in1 (c : Dev nD) (t : Fin cfg0.N) (a : Fin 512) (k : Fin 2048) : iblk m c 1 t (ix2 a k) = m ((c : Thread nD τ).loc main_arg1) (ix2 (row t a) k) := by
  blk_point [iblk, V, idx t]

theorem in2 (c : Dev nD) (t : Fin cfg0.N) (k : Fin 2048) : iblk m c 2 t (ix2 0 k) = m ((c : Thread nD τ).loc main_arg2) (ix2 0 k) := by
  blk_point [iblk, V, idx t]

theorem in3 (c : Dev nD) (t : Fin cfg0.N) (k : Fin 2048) : iblk m c 3 t (ix2 0 k) = m ((c : Thread nD τ).loc main_arg3) (ix2 0 k) := by
  blk_point [iblk, V, idx t]

theorem in4 (c : Dev nD) (t : Fin cfg0.N) (k : Fin 2048) : iblk m c 4 t (ix2 0 k) = m ((c : Thread nD τ).loc main_arg4) (ix2 0 k) := by
  blk_point [iblk, V, idx t]

theorem in5 (c : Dev nD) (t : Fin cfg0.N) (k : Fin 2048) : iblk m c 5 t (ix2 0 k) = m ((c : Thread nD τ).loc main_arg5) (ix2 0 k) := by
  blk_point [iblk, V, idx t]

theorem place (t : Fin cfg0.N) (a : Fin 512) (j : Fin 2048) : (win0_6.blk t).view.emb (ix2 a j) = ix2 (row t a) j
    ∧ (win0_7.blk t).view.emb (ix2 a j) = ix2 (row t a) j := by
  refine ⟨?_, ?_⟩ <;> (funext d; apply Fin.ext; match d with
    | 0 => blk_point [idx t]
    | 1 => blk_point [idx t])

theorem mid_in (c : Dev nD) (t : Fin cfg0.N) (a : Fin 512) (j : Fin 2048) : k0_pay1 (F := Ideal) (iblk m c 0 t) (iblk m c 1 t) (iblk m c 2 t) (ix2 a j)
    = mid (m ((c : Thread nD τ).loc main_arg0)) (m ((c : Thread nD τ).loc main_arg1)) (m ((c : Thread nD τ).loc main_arg2)) (ix2 (row t a) j) := by
  rw [mid_apply, in0, in1, in2]
  rfl

theorem final6 (c : Dev nD) : (dats m 0 c).arrAt 6 cfg0.N = mid (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨a, j, rfl⟩ : ∃ (a : Fin 512) (j : Fin 2048), y = ix2 a j := ⟨y 0, y 1, eq_ix2 y⟩
  blk_simp
  rw [after0_6]
  frame_out
  rw [mid_in]
  exact (congrArg (mid _ _ _) (place t a j).1).symm

theorem final7 (c : Dev nD) : (dats m 0 c).arrAt 7 cfg0.N = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  obtain ⟨a, j, rfl⟩ : ∃ (a : Fin 512) (j : Fin 2048), y = ix2 a j := ⟨y 0, y 1, eq_ix2 y⟩
  blk_simp
  rw [after0_7]
  frame_out
  rw [pay_apply]
  simp only [mid_in m c t a, in3 m c t, in4 m c t, in5 m c t]
  exact (congrArg (normed _ _ _ _ _ _) (place t a j).2).symm

variable (x : FVec Ideal S4096x2048 .f32) (mo : FVec Ideal S4096x2048 .bf16) (gt g sc sh : FVec Ideal S1x2048 .f32)

theorem res_mid : val_main_v3 (F := Ideal) x mo gt = mid x mo gt := by
  funext y
  obtain ⟨i, j, rfl⟩ : ∃ (i : Fin 4096) (j : Fin 2048), y = ix2 i j := ⟨y 0, y 1, eq_ix2 y⟩
  have h1 : idx_main_v1 (ix2 i j) = ix2 0 j := by funext a; fin_cases a <;> rfl
  rw [val_main_v3_apply, val_main_v2_apply, val_main_v1_apply, h1]
  rfl

theorem ref_inv (i : Fin 4096) : val_main_v11 (F := Ideal) x mo gt (ix2 i 0) = rinv (fun k => mid x mo gt (ix2 i k)) := by
  rw [val_main_v11_apply, val_main_v10_apply, val_main_v8_apply, val_main_v6_apply, val_main_v5_apply]
  show Ideal.rsqrt (Ideal.div (Ideal.ofBits .f32 0x00000000#32 + _) _ + _) = _
  rw [Ideal.ofBits_zero .f32, zero_add]
  refine congrArg Ideal.rsqrt (congrArg₂ (· + ·) (congrArg₂ Ideal.div (Finset.sum_congr rfl fun k _ => ?_) rfl) rfl)
  have h : idx_main_v5 (idx_main_v6 (ix2 i 0)) k = ix2 i k := by funext a; fin_cases a <;> rfl
  rw [h, val_main_v4_apply, res_mid]
  rfl

theorem res_normed : val_main_v22 (F := Ideal) x mo gt g sc sh = normed x mo gt g sc sh := by
  funext y
  obtain ⟨i, j, rfl⟩ : ∃ (i : Fin 4096) (j : Fin 2048), y = ix2 i j := ⟨y 0, y 1, eq_ix2 y⟩
  have h12 : idx_main_v12 (ix2 i j) = ix2 i 0 := by funext a; fin_cases a <;> rfl
  have h14 : idx_main_v14 (ix2 i j) = ix2 0 j := by funext a; fin_cases a <;> rfl
  have h18 : idx_main_v18 (ix2 i j) = ix2 0 j := by funext a; fin_cases a <;> rfl
  have h20 : idx_main_v20 (ix2 i j) = ix2 0 j := by funext a; fin_cases a <;> rfl
  rw [val_main_v22_apply, val_main_v21_apply, val_main_v20_apply, val_main_v19_apply, val_main_v18_apply, val_main_v17_apply,
    val_main_v15_apply, val_main_v14_apply, val_main_v13_apply, val_main_v12_apply, h12, h14, h18, h20, ref_inv, res_mid]
  rfl

/-- The gated residual and the modulated norm after it: the kernel's two results are the reference's. -/
theorem value : Cert.algebraic_Kernel13Ideal_Reference13Ideal (hKernel13Ideal := Cert.Kernel13Ideal.Gen.facts)
    (hReference13Ideal := Cert.Reference13Ideal.Gen.facts) := by
  intro m ρ m' ρ' _ hag
  refine ⟨fun c => mid (m ((c : Thread nD τ).loc main_arg0)) (m ((c : Thread nD τ).loc main_arg1)) (m ((c : Thread nD τ).loc main_arg2)), fun c => normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    (θ_run _ _ _).mono (fun r h c => ?_) (Cert.Kernel13Ideal.Value.run_blocks m ρ),
    (θ_run _ _ _).mono (fun r h c => ?_) (Cert.Reference13Ideal.Value.run (F := Ideal) m' ρ')⟩
  · obtain ⟨h0, h1, hargs⟩ := h c
    exact ⟨h0.trans (final6 m c), h1.trans (final7 m c), hargs⟩
  · obtain ⟨a0, a1, a2, a3, a4, a5⟩ := hag c
    obtain ⟨h0, h1, hargs⟩ := h c
    rw [val_main_v3_eq, a0, a1, a2] at h0
    rw [val_main_v22_eq, a0, a1, a2, a3, a4, a5] at h1
    exact ⟨h0.trans (res_mid _ _ _), h1.trans (res_normed _ _ _ _ _ _), hargs⟩

end Cert.Proof.FfnNorm
-- ==== Proof.AdaClaim.lean ====
module

public import proofs.«01_k».proof.Defs
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.ModMath
public import Idealize.ShloMosaic.Lib.Pipeline.ValueKit
public import Idealize.ShloMosaic.Lib.Pointwise
public import Idealize.ShloMosaic.Lib.Quiescent

/-! # The modulation's columns: the kernel beside its reference -/

@[expose] public section

set_option maxRecDepth 16384

noncomputable section

namespace Cert.Proof.Ada

open Idealize.ShloMosaic Idealize.ShloMosaic.TcCoe Idealize.SL.Sem
open Idealize.ShloMosaic.Pipeline (Dat)
open Cert.Kernel14Ideal Cert.Kernel14Ideal.Gen
open Cert.Reference14Ideal.Read
open Cert.Norm

/-- The reference's run: the arguments stay, every counter is zero. -/
theorem frame_ref : Cert.quiescent_Reference14Ideal (hReference14Ideal := Cert.Reference14Ideal.Gen.facts) := fun m ρ _ =>
  (θ_run Cert.Reference14Ideal.defs _ _).mono
    (fun r h => ⟨fun c => (h c).2, sem_eq_zero_of_no_sems (by decide) r.2⟩) (Cert.Reference14Ideal.Value.run (F := Ideal) m ρ)

/-- The activated conditions of all devices times the device's columns of the weight, plus the bias. -/
def columns (c : FVec Ideal S8x2048 .f32) (w : FVec Ideal S2048x1536 .f32) (b : FVec Ideal S1x1536 .f32) : FVec Ideal S8x1536 .f32 := fun y =>
  (∑ k : Fin 2048, silu (c (ix2 (y 0) k)) * w (ix2 k (y 1))) + b (ix2 0 (y 1))

theorem pay (c : FVec Ideal S8x2048 .f32) (w : FVec Ideal S2048x1536 .f32) (b : FVec Ideal S1x1536 .f32) :
    k0_pay1 (F := Ideal) c w b = columns c w b := by
  funext y
  obtain ⟨i, j, rfl⟩ : ∃ (i : Fin 8) (j : Fin 1536), y = ix2 i j := ⟨y 0, y 1, eq_ix2 y⟩
  pointwise [k0_pay1, columns, silu]

theorem result (c : FVec Ideal S8x2048 .f32) (w : FVec Ideal S2048x1536 .f32) (b : FVec Ideal S1x1536 .f32) :
    val_main_v3 (F := Ideal) c w b = columns c w b := by
  funext y
  obtain ⟨i, j, rfl⟩ : ∃ (i : Fin 8) (j : Fin 1536), y = ix2 i j := ⟨y 0, y 1, eq_ix2 y⟩
  rw [val_main_v3_apply, val_main_v2_apply, val_main_v1_apply]
  refine congrArg₂ (· + ·) (Finset.sum_congr rfl fun k _ => congrArg₂ (· * ·) ?_ (congrArg w (by funext a; fin_cases a <;> rfl)))
    (congrArg b (by funext a; fin_cases a <;> rfl))
  refine (silu_eq _).trans (congrArg (fun z => silu (c z)) (by funext a; fin_cases a <;> rfl))

/-- The modulation's columns: the kernel's result is the reference's. -/
theorem value : Cert.algebraic_Kernel14Ideal_Reference14Ideal (hKernel14Ideal := Cert.Kernel14Ideal.Gen.facts)
    (hReference14Ideal := Cert.Reference14Ideal.Gen.facts) := by
  intro m ρ m' ρ' _ hag
  refine ⟨fun c => columns (m ((c : Thread nD τ).loc main_arg0)) (m ((c : Thread nD τ).loc main_arg1)) (m ((c : Thread nD τ).loc main_arg2)),
    (θ_run _ _ _).mono (fun r h c => ?_) (Cert.Kernel14Ideal.Value.run m ρ),
    (θ_run _ _ _).mono (fun r h c => ?_) (Cert.Reference14Ideal.Value.run (F := Ideal) m' ρ')⟩
  · obtain ⟨h0, hargs⟩ := h c
    exact ⟨h0.trans (pay _ _ _), hargs⟩
  · obtain ⟨a0, a1, a2⟩ := hag c
    obtain ⟨h0, hargs⟩ := h c
    rw [val_main_v3_eq, a0, a1, a2] at h0
    exact ⟨h0.trans (result _ _ _), hargs⟩

end Cert.Proof.Ada
-- ==== Proof.AdaGradClaim.lean ====
module

public import proofs.«01_k».proof.Defs
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.ModMath
public import Idealize.ShloMosaic.Lib.Pipeline.ValueKit
public import Idealize.ShloMosaic.Lib.Pointwise
public import Idealize.ShloMosaic.Lib.Quiescent

/-! # The gradient of the modulation's weight: the kernel beside its reference -/

@[expose] public section

set_option maxRecDepth 16384

noncomputable section

namespace Cert.Proof.AdaGrad

open Idealize.ShloMosaic Idealize.ShloMosaic.TcCoe Idealize.SL.Sem
open Idealize.ShloMosaic.Pipeline (Dat)
open Cert.Kernel15Ideal Cert.Kernel15Ideal.Gen
open Cert.Reference15Ideal.Read
open Cert.Norm

/-- The reference's run: the arguments stay, every counter is zero. -/
theorem frame_ref : Cert.quiescent_Reference15Ideal (hReference15Ideal := Cert.Reference15Ideal.Gen.facts) := fun m ρ _ =>
  (θ_run Cert.Reference15Ideal.defs _ _).mono
    (fun r h => ⟨fun c => (h c).2, sem_eq_zero_of_no_sems (by decide) r.2⟩) (Cert.Reference15Ideal.Value.run (F := Ideal) m ρ)

/-- The gradient of the device's columns of the weight: a sum over the eight conditions. -/
def grad (c : FVec Ideal S8x2048 .f32) (d : FVec Ideal S8x1536 .f32) : FVec Ideal S2048x1536 .f32 := fun y =>
  ∑ k : Fin 8, silu (c (ix2 k (y 0))) * d (ix2 k (y 1))

theorem pay (c : FVec Ideal S8x2048 .f32) (d : FVec Ideal S8x1536 .f32) : k0_pay1 (F := Ideal) c d = grad c d := by
  funext y
  obtain ⟨i, j, rfl⟩ : ∃ (i : Fin 2048) (j : Fin 1536), y = ix2 i j := ⟨y 0, y 1, eq_ix2 y⟩
  pointwise [k0_pay1, grad, silu]

theorem result (c : FVec Ideal S8x2048 .f32) (d : FVec Ideal S8x1536 .f32) : val_main_v7 (F := Ideal) c d = grad c d := by
  funext y
  obtain ⟨i, j, rfl⟩ : ∃ (i : Fin 2048) (j : Fin 1536), y = ix2 i j := ⟨y 0, y 1, eq_ix2 y⟩
  rw [val_main_v7_apply, val_main_v6_apply]
  refine Finset.sum_congr rfl fun k _ => (mul_comm _ _).trans (congrArg₂ (· * ·) ?_ (congrArg d (by funext a; fin_cases a <;> rfl)))
  refine (silu_eq _).trans (congrArg (fun z => silu (c z)) (by funext a; fin_cases a <;> rfl))

/-- The gradient of the modulation's weight: the kernel's result is the reference's. -/
theorem value : Cert.algebraic_Kernel15Ideal_Reference15Ideal (hKernel15Ideal := Cert.Kernel15Ideal.Gen.facts)
    (hReference15Ideal := Cert.Reference15Ideal.Gen.facts) := by
  intro m ρ m' ρ' _ hag
  refine ⟨fun c => grad (m ((c : Thread nD τ).loc main_arg0)) (m ((c : Thread nD τ).loc main_arg1)),
    (θ_run _ _ _).mono (fun r h c => ?_) (Cert.Kernel15Ideal.Value.run m ρ),
    (θ_run _ _ _).mono (fun r h c => ?_) (Cert.Reference15Ideal.Value.run (F := Ideal) m' ρ')⟩
  · obtain ⟨h0, hargs⟩ := h c
    exact ⟨h0.trans (pay _ _), hargs⟩
  · obtain ⟨a0, a1⟩ := hag c
    obtain ⟨h0, hargs⟩ := h c
    rw [val_main_v7_eq, a0, a1] at h0
    exact ⟨h0.trans (result _ _), hargs⟩

end Cert.Proof.AdaGrad
-- ==== Proof.AdamWMath.lean ====
module

public import Idealize.ShloMosaic.Lib.Pipeline.Value
public import Idealize.ShloMosaic.Lib.Pointwise

/-! # The AdamW step of one array, of any shape

The new first moment, the new second moment and the update, as functions of the gradient, the weight and the two moments. A host
program's own spelling of each (its constants are broadcast from a scalar) is the same function. -/

@[expose] public section

noncomputable section

namespace Cert.AdamW

open Idealize.ShloMosaic Idealize.ShloMosaic.StableHlo

variable {s : Shape}

/-- `b1 * m + (1 - b1) * g`. -/
def newM (g m : FVec Ideal s .f32) : FVec Ideal s .f32 := fun i =>
  Ideal.ofBits .f32 0x3F666666#32 * m i + Ideal.ofBits .f32 0x3DCCCCCD#32 * g i

/-- `b2 * v + (1 - b2) * g^2`. -/
def newV (g v : FVec Ideal s .f32) : FVec Ideal s .f32 := fun i =>
  Ideal.ofBits .f32 0x3F7FBE77#32 * v i + Ideal.ofBits .f32 0x3A83126F#32 * (g i * g i)

/-- `-lr * ((m' / c1) / (sqrt (v' / c2) + eps) + wd * w)`, with `m'` and `v'` the new moments. -/
def delta (g w m v : FVec Ideal s .f32) : FVec Ideal s .f32 := fun i =>
  Ideal.ofBits .f32 0xBA83126F#32 *
    (FloatOps.divf (F := Ideal) (FloatOps.divf (F := Ideal) (newM g m i) (Ideal.ofBits .f32 0x3F26BD02#32))
        (FloatOps.sqrt (F := Ideal) (FloatOps.divf (F := Ideal) (newV g v i) (Ideal.ofBits .f32 0x3C231ACC#32)) + Ideal.ofBits .f32 0x322BCC77#32)
      + Ideal.ofBits .f32 0x3C23D70A#32 * w i)

/-- Each of the three is entry by entry, so that a block of it is the same function of the blocks. -/
theorem newM_at {t : Shape} {g m : FVec Ideal s .f32} {g' m' : FVec Ideal t .f32} {i : s.Idx} {j : t.Idx} (hg : g i = g' j) (hm : m i = m' j) :
    newM g m i = newM g' m' j := by rw [newM, newM, hg, hm]

theorem newV_at {t : Shape} {g v : FVec Ideal s .f32} {g' v' : FVec Ideal t .f32} {i : s.Idx} {j : t.Idx} (hg : g i = g' j) (hv : v i = v' j) :
    newV g v i = newV g' v' j := by rw [newV, newV, hg, hv]

theorem delta_at {t : Shape} {g w m v : FVec Ideal s .f32} {g' w' m' v' : FVec Ideal t .f32} {i : s.Idx} {j : t.Idx} (hg : g i = g' j)
    (hw : w i = w' j) (hm : m i = m' j) (hv : v i = v' j) : delta g w m v i = delta g' w' m' v' j := by
  rw [delta, delta, newM_at hg hm, newV_at hg hv, hw]

variable (dims : Fin 0 → Fin s.rank) (h : (⟨0, ![]⟩ : Shape).BroadcastsInDim s dims)

/-- A scalar constant broadcast to a shape. -/
def scalar (b : BitVec 32) : FVec Ideal s .f32 := broadcastInDim s dims h (constant (⟨0, ![]⟩ : Shape) .f32 b)

theorem host_newM (g m : FVec Ideal s .f32) :
    addf (mulf (scalar dims h 0x3F666666#32) m) (mulf (scalar dims h 0x3DCCCCCD#32) g) = newM g m := rfl

theorem host_newV (g v : FVec Ideal s .f32) :
    addf (mulf (scalar dims h 0x3F7FBE77#32) v) (mulf (scalar dims h 0x3A83126F#32) (mulf g g)) = newV g v := rfl

theorem host_delta (g w m v : FVec Ideal s .f32) :
    mulf (scalar dims h 0xBA83126F#32) (addf (Host.divf (Host.divf (addf (mulf (scalar dims h 0x3F666666#32) m)
      (mulf (scalar dims h 0x3DCCCCCD#32) g)) (scalar dims h 0x3F26BD02#32)) (addf (Host.sqrt (Host.divf
      (addf (mulf (scalar dims h 0x3F7FBE77#32) v) (mulf (scalar dims h 0x3A83126F#32) (mulf g g))) (scalar dims h 0x3C231ACC#32)))
      (scalar dims h 0x322BCC77#32))) (mulf (scalar dims h 0x3C23D70A#32) w)) = delta g w m v := rfl

end Cert.AdamW

end
-- ==== Proof.AdamWClaim.lean ====
module

public import proofs.«01_k».proof.Defs
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.AdamWMath
public import Idealize.ShloMosaic.Lib.Quiescent

/-! # The AdamW calls, one for each shape: the kernel beside its reference -/

@[expose] public section

set_option maxRecDepth 16384

noncomputable section

namespace Cert.Proof.AdamW

open Idealize.ShloMosaic Idealize.ShloMosaic.TcCoe Idealize.SL.Sem
open Cert.AdamW

namespace WAda

open Cert.Kernel16Ideal

/-- The reference's run: the arguments stay, every counter is zero. -/
theorem frame_ref : Cert.quiescent_Reference16Ideal (hReference16Ideal := Cert.Reference16Ideal.Gen.facts) := fun m ρ _ =>
  (θ_run Cert.Reference16Ideal.defs _ _).mono
    (fun r h => ⟨fun c => (h c).2.2.2, sem_eq_zero_of_no_sems (by decide) r.2⟩) (Cert.Reference16Ideal.Value.run (F := Ideal) m ρ)

/-- The update and the new moments of w_ada: the kernel's results are the reference's. -/
theorem value : Cert.algebraic_Kernel16Ideal_Reference16Ideal (hKernel16Ideal := Cert.Kernel16Ideal.Gen.facts)
    (hReference16Ideal := Cert.Reference16Ideal.Gen.facts) := by
  intro m ρ m' ρ' _ hag
  refine ⟨fun c => delta (m ((c : Thread nD τ).loc main_arg0)) (m ((c : Thread nD τ).loc main_arg1)) (m ((c : Thread nD τ).loc main_arg2)) (m ((c : Thread nD τ).loc main_arg3)), fun c => newM (m ((c : Thread nD τ).loc main_arg0)) (m ((c : Thread nD τ).loc main_arg2)), fun c => newV (m ((c : Thread nD τ).loc main_arg0)) (m ((c : Thread nD τ).loc main_arg3)),
    (θ_run _ _ _).mono (fun r h c => h c) (Cert.Kernel16Ideal.Value.run m ρ),
    (θ_run _ _ _).mono (fun r h c => ?_) (Cert.Reference16Ideal.Value.run (F := Ideal) m' ρ')⟩
  obtain ⟨a0, a1, a2, a3⟩ := hag c
  obtain ⟨h0, h1, h2, hargs⟩ := h c
  rw [a0, a1, a2, a3] at h0
  rw [a0, a2] at h1
  rw [a0, a3] at h2
  exact ⟨h0.trans (host_delta _ _ _ _ _ _), h1.trans (host_newM _ _ _ _), h2.trans (host_newV _ _ _ _), hargs⟩

end WAda

namespace BAda

open Cert.Kernel17Ideal

/-- The reference's run: the arguments stay, every counter is zero. -/
theorem frame_ref : Cert.quiescent_Reference17Ideal (hReference17Ideal := Cert.Reference17Ideal.Gen.facts) := fun m ρ _ =>
  (θ_run Cert.Reference17Ideal.defs _ _).mono
    (fun r h => ⟨fun c => (h c).2.2.2, sem_eq_zero_of_no_sems (by decide) r.2⟩) (Cert.Reference17Ideal.Value.run (F := Ideal) m ρ)

/-- The update and the new moments of b_ada: the kernel's results are the reference's. -/
theorem value : Cert.algebraic_Kernel17Ideal_Reference17Ideal (hKernel17Ideal := Cert.Kernel17Ideal.Gen.facts)
    (hReference17Ideal := Cert.Reference17Ideal.Gen.facts) := by
  intro m ρ m' ρ' _ hag
  refine ⟨fun c => delta (m ((c : Thread nD τ).loc main_arg0)) (m ((c : Thread nD τ).loc main_arg1)) (m ((c : Thread nD τ).loc main_arg2)) (m ((c : Thread nD τ).loc main_arg3)), fun c => newM (m ((c : Thread nD τ).loc main_arg0)) (m ((c : Thread nD τ).loc main_arg2)), fun c => newV (m ((c : Thread nD τ).loc main_arg0)) (m ((c : Thread nD τ).loc main_arg3)),
    (θ_run _ _ _).mono (fun r h c => h c) (Cert.Kernel17Ideal.Value.run m ρ),
    (θ_run _ _ _).mono (fun r h c => ?_) (Cert.Reference17Ideal.Value.run (F := Ideal) m' ρ')⟩
  obtain ⟨a0, a1, a2, a3⟩ := hag c
  obtain ⟨h0, h1, h2, hargs⟩ := h c
  rw [a0, a1, a2, a3] at h0
  rw [a0, a2] at h1
  rw [a0, a3] at h2
  exact ⟨h0.trans (host_delta _ _ _ _ _ _), h1.trans (host_newM _ _ _ _), h2.trans (host_newV _ _ _ _), hargs⟩

end BAda

namespace Norm

open Cert.Kernel18Ideal

/-- The reference's run: the arguments stay, every counter is zero. -/
theorem frame_ref : Cert.quiescent_Reference18Ideal (hReference18Ideal := Cert.Reference18Ideal.Gen.facts) := fun m ρ _ =>
  (θ_run Cert.Reference18Ideal.defs _ _).mono
    (fun r h => ⟨fun c => (h c).2.2.2, sem_eq_zero_of_no_sems (by decide) r.2⟩) (Cert.Reference18Ideal.Value.run (F := Ideal) m ρ)

/-- The update and the new moments of a norm weight: the kernel's results are the reference's. -/
theorem value : Cert.algebraic_Kernel18Ideal_Reference18Ideal (hKernel18Ideal := Cert.Kernel18Ideal.Gen.facts)
    (hReference18Ideal := Cert.Reference18Ideal.Gen.facts) := by
  intro m ρ m' ρ' _ hag
  refine ⟨fun c => delta (m ((c : Thread nD τ).loc main_arg0)) (m ((c : Thread nD τ).loc main_arg1)) (m ((c : Thread nD τ).loc main_arg2)) (m ((c : Thread nD τ).loc main_arg3)), fun c => newM (m ((c : Thread nD τ).loc main_arg0)) (m ((c : Thread nD τ).loc main_arg2)), fun c => newV (m ((c : Thread nD τ).loc main_arg0)) (m ((c : Thread nD τ).loc main_arg3)),
    (θ_run _ _ _).mono (fun r h c => h c) (Cert.Kernel18Ideal.Value.run m ρ),
    (θ_run _ _ _).mono (fun r h c => ?_) (Cert.Reference18Ideal.Value.run (F := Ideal) m' ρ')⟩
  obtain ⟨a0, a1, a2, a3⟩ := hag c
  obtain ⟨h0, h1, h2, hargs⟩ := h c
  rw [a0, a1, a2, a3] at h0
  rw [a0, a2] at h1
  rw [a0, a3] at h2
  exact ⟨h0.trans (host_delta _ _ _ _ _ _), h1.trans (host_newM _ _ _ _), h2.trans (host_newV _ _ _ _), hargs⟩

end Norm

namespace ConvW

open Cert.Kernel19Ideal

/-- The reference's run: the arguments stay, every counter is zero. -/
theorem frame_ref : Cert.quiescent_Reference19Ideal (hReference19Ideal := Cert.Reference19Ideal.Gen.facts) := fun m ρ _ =>
  (θ_run Cert.Reference19Ideal.defs _ _).mono
    (fun r h => ⟨fun c => (h c).2.2.2, sem_eq_zero_of_no_sems (by decide) r.2⟩) (Cert.Reference19Ideal.Value.run (F := Ideal) m ρ)

/-- The update and the new moments of conv_w: the kernel's results are the reference's. -/
theorem value : Cert.algebraic_Kernel19Ideal_Reference19Ideal (hKernel19Ideal := Cert.Kernel19Ideal.Gen.facts)
    (hReference19Ideal := Cert.Reference19Ideal.Gen.facts) := by
  intro m ρ m' ρ' _ hag
  refine ⟨fun c => delta (m ((c : Thread nD τ).loc main_arg0)) (m ((c : Thread nD τ).loc main_arg1)) (m ((c : Thread nD τ).loc main_arg2)) (m ((c : Thread nD τ).loc main_arg3)), fun c => newM (m ((c : Thread nD τ).loc main_arg0)) (m ((c : Thread nD τ).loc main_arg2)), fun c => newV (m ((c : Thread nD τ).loc main_arg0)) (m ((c : Thread nD τ).loc main_arg3)),
    (θ_run _ _ _).mono (fun r h c => h c) (Cert.Kernel19Ideal.Value.run m ρ),
    (θ_run _ _ _).mono (fun r h c => ?_) (Cert.Reference19Ideal.Value.run (F := Ideal) m' ρ')⟩
  obtain ⟨a0, a1, a2, a3⟩ := hag c
  obtain ⟨h0, h1, h2, hargs⟩ := h c
  rw [a0, a1, a2, a3] at h0
  rw [a0, a2] at h1
  rw [a0, a3] at h2
  exact ⟨h0.trans (host_delta _ _ _ _ _ _), h1.trans (host_newM _ _ _ _), h2.trans (host_newV _ _ _ _), hargs⟩

end ConvW

namespace LbParam

open Cert.Kernel20Ideal

/-- The reference's run: the arguments stay, every counter is zero. -/
theorem frame_ref : Cert.quiescent_Reference20Ideal (hReference20Ideal := Cert.Reference20Ideal.Gen.facts) := fun m ρ _ =>
  (θ_run Cert.Reference20Ideal.defs _ _).mono
    (fun r h => ⟨fun c => (h c).2.2.2, sem_eq_zero_of_no_sems (by decide) r.2⟩) (Cert.Reference20Ideal.Value.run (F := Ideal) m ρ)

/-- The update and the new moments of lb_param: the kernel's results are the reference's. -/
theorem value : Cert.algebraic_Kernel20Ideal_Reference20Ideal (hKernel20Ideal := Cert.Kernel20Ideal.Gen.facts)
    (hReference20Ideal := Cert.Reference20Ideal.Gen.facts) := by
  intro m ρ m' ρ' _ hag
  refine ⟨fun c => delta (m ((c : Thread nD τ).loc main_arg0)) (m ((c : Thread nD τ).loc main_arg1)) (m ((c : Thread nD τ).loc main_arg2)) (m ((c : Thread nD τ).loc main_arg3)), fun c => newM (m ((c : Thread nD τ).loc main_arg0)) (m ((c : Thread nD τ).loc main_arg2)), fun c => newV (m ((c : Thread nD τ).loc main_arg0)) (m ((c : Thread nD τ).loc main_arg3)),
    (θ_run _ _ _).mono (fun r h c => h c) (Cert.Kernel20Ideal.Value.run m ρ),
    (θ_run _ _ _).mono (fun r h c => ?_) (Cert.Reference20Ideal.Value.run (F := Ideal) m' ρ')⟩
  obtain ⟨a0, a1, a2, a3⟩ := hag c
  obtain ⟨h0, h1, h2, hargs⟩ := h c
  rw [a0, a1, a2, a3] at h0
  rw [a0, a2] at h1
  rw [a0, a3] at h2
  exact ⟨h0.trans (host_delta _ _ _ _ _ _), h1.trans (host_newM _ _ _ _), h2.trans (host_newV _ _ _ _), hargs⟩

end LbParam

namespace GnormG

open Cert.Kernel21Ideal

/-- The reference's run: the arguments stay, every counter is zero. -/
theorem frame_ref : Cert.quiescent_Reference21Ideal (hReference21Ideal := Cert.Reference21Ideal.Gen.facts) := fun m ρ _ =>
  (θ_run Cert.Reference21Ideal.defs _ _).mono
    (fun r h => ⟨fun c => (h c).2.2.2, sem_eq_zero_of_no_sems (by decide) r.2⟩) (Cert.Reference21Ideal.Value.run (F := Ideal) m ρ)

/-- The update and the new moments of gnorm_g: the kernel's results are the reference's. -/
theorem value : Cert.algebraic_Kernel21Ideal_Reference21Ideal (hKernel21Ideal := Cert.Kernel21Ideal.Gen.facts)
    (hReference21Ideal := Cert.Reference21Ideal.Gen.facts) := by
  intro m ρ m' ρ' _ hag
  refine ⟨fun c => delta (m ((c : Thread nD τ).loc main_arg0)) (m ((c : Thread nD τ).loc main_arg1)) (m ((c : Thread nD τ).loc main_arg2)) (m ((c : Thread nD τ).loc main_arg3)), fun c => newM (m ((c : Thread nD τ).loc main_arg0)) (m ((c : Thread nD τ).loc main_arg2)), fun c => newV (m ((c : Thread nD τ).loc main_arg0)) (m ((c : Thread nD τ).loc main_arg3)),
    (θ_run _ _ _).mono (fun r h c => h c) (Cert.Kernel21Ideal.Value.run m ρ),
    (θ_run _ _ _).mono (fun r h c => ?_) (Cert.Reference21Ideal.Value.run (F := Ideal) m' ρ')⟩
  obtain ⟨a0, a1, a2, a3⟩ := hag c
  obtain ⟨h0, h1, h2, hargs⟩ := h c
  rw [a0, a1, a2, a3] at h0
  rw [a0, a2] at h1
  rw [a0, a3] at h2
  exact ⟨h0.trans (host_delta _ _ _ _ _ _), h1.trans (host_newM _ _ _ _), h2.trans (host_newV _ _ _ _), hargs⟩

end GnormG

end Cert.Proof.AdamW

end
-- ==== Proof.ChipSumMath.lean ====
module

public import Idealize.ShloMosaic.Lib.Pipeline.Value
public import Idealize.ShloMosaic.Lib.Pointwise
public import Idealize.ShloMosaic.PureOps.Ideal.Laws

/-! # The sum of a weight gradient over the four pairs of devices, of any shape

The first of the four parts is the own pair's, the other three are what the other pairs sent. -/

@[expose] public section

noncomputable section

namespace Cert.ChipSum

open Idealize.ShloMosaic Idealize.ShloMosaic.StableHlo

variable {R C : Nat}

/-- The own pair's part and the three that came, added in that order. -/
def total (p r : FVec Ideal (⟨3, ![4, R, C]⟩ : Shape) .bf16) : FVec Ideal (⟨2, ![R, C]⟩ : Shape) .f32 := fun i =>
  (((p (ix3 0 (i 0) (i 1)) : EReal) + r (ix3 1 (i 0) (i 1)) + r (ix3 2 (i 0) (i 1)) + r (ix3 3 (i 0) (i 1)) : EReal))

/-- A sum over the first axis from zero, of an array whose first row is `p`'s and whose others are `r`'s. -/
theorem total_of_sum (p r x : FVec Ideal (⟨3, ![4, R, C]⟩ : Shape) .bf16) (h0 : ∀ a b, x (ix3 0 a b) = p (ix3 0 a b))
    (h1 : ∀ a b, x (ix3 1 a b) = r (ix3 1 a b)) (h2 : ∀ a b, x (ix3 2 a b) = r (ix3 2 a b)) (h3 : ∀ a b, x (ix3 3 a b) = r (ix3 3 a b))
    (i : (⟨2, ![R, C]⟩ : Shape).Idx) : Ideal.ofBits .f32 0x00000000#32 + ∑ k : Fin 4, (x (ix3 k (i 0) (i 1)) : EReal) = total p r i := by
  rw [Ideal.ofBits_zero .f32, zero_add, Fin.sum_univ_four]
  exact congrArg₂ (· + ·) (congrArg₂ (· + ·) (congrArg₂ (· + ·) (h0 _ _) (h1 _ _)) (h2 _ _)) (h3 _ _)

/-- The joined array: the first row of `p` above the last three of `r`. -/
theorem joined (p r : FVec Ideal (⟨3, ![4, R, C]⟩ : Shape) .bf16)
    (hp : (⟨3, ![4, R, C]⟩ : Shape).Slices ![0, 0, 0] ⟨3, ![1, R, C]⟩) (hr : (⟨3, ![4, R, C]⟩ : Shape).Slices ![1, 0, 0] ⟨3, ![3, R, C]⟩)
    (hc : Shape.Concatenates [⟨3, ![1, R, C]⟩, ⟨3, ![3, R, C]⟩] ⟨3, ![4, R, C]⟩ 0) (k : Fin 4) (a : Fin R) (b : Fin C) :
    concatenate (⟨3, ![4, R, C]⟩ : Shape) 0 [⟨⟨3, ![1, R, C]⟩, extractStridedSlice ⟨3, ![1, R, C]⟩ ![0, 0, 0] p hp⟩,
      ⟨⟨3, ![3, R, C]⟩, extractStridedSlice ⟨3, ![3, R, C]⟩ ![1, 0, 0] r hr⟩] hc (ix3 k a b) = if k = 0 then p (ix3 k a b) else r (ix3 k a b) := by
  by_cases hk : k = 0
  · subst hk
    rw [if_pos rfl]
    refine (concatenate_pair_apply_left 0 _ _ hc _ rfl (ix3 0 a b) fun d => ?_).trans
      (extractStridedSlice_apply ![0, 0, 0] p hp _ (ix3 0 a b) fun d => ?_)
    · match d with
      | 0 => rfl
      | 1 => rfl
      | 2 => rfl
    · match d with
      | 0 => rfl
      | 1 => exact (Nat.zero_add _).symm
      | 2 => exact (Nat.zero_add _).symm
  · rw [if_neg hk]
    have h4 := k.isLt
    have h0 : k.val ≠ 0 := fun h => hk (Fin.ext h)
    refine (concatenate_pair_apply_right 0 _ _ hc _ rfl rfl (ix3 ⟨k.val - 1, by omega⟩ a b) (fun d hd => ?_) ?_).trans
      (extractStridedSlice_apply ![1, 0, 0] r hr _ (ix3 k a b) fun d => ?_)
    · match d with
      | 0 => exact absurd rfl hd
      | 1 => rfl
      | 2 => rfl
    · show k.val - 1 + 1 = k.val
      omega
    · match d with
      | 0 => show k.val = 1 + (k.val - 1); omega
      | 1 => exact (Nat.zero_add _).symm
      | 2 => exact (Nat.zero_add _).symm

/-- A block of rows of the sum, from the blocks of the own part and of what came. -/
def chips (x : FVec Ideal (⟨3, ![1, R, C]⟩ : Shape) .bf16) (r : FVec Ideal (⟨3, ![4, R, C]⟩ : Shape) .bf16) : FVec Ideal (⟨2, ![R, C]⟩ : Shape) .f32 :=
  fun i => (((x (ix3 0 (i 0) (i 1)) : EReal) + r (ix3 1 (i 0) (i 1)) + r (ix3 2 (i 0) (i 1)) + r (ix3 3 (i 0) (i 1)) : EReal))

/-- A block's entry is the whole sum's, where the blocks' entries are the whole arrays'. -/
theorem chips_eq {r : Nat} {x : FVec Ideal (⟨3, ![1, r, C]⟩ : Shape) .bf16} {y : FVec Ideal (⟨3, ![4, r, C]⟩ : Shape) .bf16}
    {p q : FVec Ideal (⟨3, ![4, R, C]⟩ : Shape) .bf16} {a : Fin r} {a' : Fin R} {b : Fin C} (h0 : x (ix3 0 a b) = p (ix3 0 a' b))
    (h1 : ∀ k, y (ix3 k a b) = q (ix3 k a' b)) : chips x y (ix2 a b) = total p q (ix2 a' b) :=
  congrArg₂ (· + ·) (congrArg₂ (· + ·) (congrArg₂ (· + ·) h0 (h1 1)) (h1 2)) (h1 3)

/-- The host's sum over the first axis of the joined array is the sum of the four parts. -/
theorem host_sum (p r : FVec Ideal (⟨3, ![4, R, C]⟩ : Shape) .bf16)
    (hp : (⟨3, ![4, R, C]⟩ : Shape).Slices ![0, 0, 0] ⟨3, ![1, R, C]⟩) (hr : (⟨3, ![4, R, C]⟩ : Shape).Slices ![1, 0, 0] ⟨3, ![3, R, C]⟩)
    (hc : Shape.Concatenates [⟨3, ![1, R, C]⟩, ⟨3, ![3, R, C]⟩] ⟨3, ![4, R, C]⟩ 0) (i : (⟨2, ![R, C]⟩ : Shape).Idx)
    (at_ : Fin 4 → (⟨3, ![4, R, C]⟩ : Shape).Idx) (hat : ∀ k, at_ k = ix3 k (i 0) (i 1)) :
    Ideal.ofBits .f32 0x00000000#32 + ∑ k : Fin 4, (concatenate (⟨3, ![4, R, C]⟩ : Shape) 0 [⟨⟨3, ![1, R, C]⟩, extractStridedSlice ⟨3, ![1, R, C]⟩ ![0, 0, 0] p hp⟩,
      ⟨⟨3, ![3, R, C]⟩, extractStridedSlice ⟨3, ![3, R, C]⟩ ![1, 0, 0] r hr⟩] hc (at_ k) : EReal) = total p r i := by
  have h := joined p r hp hr hc
  refine Eq.trans (congrArg (Ideal.ofBits .f32 0x00000000#32 + ·) (Finset.sum_congr rfl fun k _ => congrArg _ (hat k))) ?_
  exact total_of_sum p r _ (fun a b => h 0 a b) (fun a b => h 1 a b) (fun a b => h 2 a b) (fun a b => h 3 a b) i

end Cert.ChipSum

end
-- ==== Proof.ChipSumWIn.lean ====
module

public import proofs.«01_k».proof.Defs
public import proofs.«01_k».proof.Proof.Gen.Kernel22
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.ChipSumMath
public import proofs.«01_k».proof.Proof.AdamWMath
public import Idealize.ShloMosaic.Lib.Pipeline.ValueKit
public import Idealize.ShloMosaic.Lib.Quiescent

/-! # The sum over the pairs of devices and the AdamW step, at the shape of w_in: the kernel beside its reference -/

@[expose] public section

set_option maxRecDepth 16384

noncomputable section

namespace Cert.Proof.ChipSum.WIn

open Idealize.ShloMosaic Idealize.ShloMosaic.TcCoe Idealize.SL.Sem
open Cert.Kernel22Ideal Cert.Kernel22Ideal.Gen
open Cert.ChipSum
open Cert.AdamW

section Words

variable {F : FTy → Type} [FloatOps F] (m : (ℓ : Loc nD τ sig) → Buf (Elt F) ℓ) (ρ : Dev nD → PrngReg)

/-- The table's one word: the number of the device's pair, zero. -/
def zero : (pre0).Contents (Elt F) := fun k => match k with
  | ⟨0, _⟩ => fun _ => (0#32 : BitVec 32)

theorem ok_zero : ok0 (F := F) zero := of_decide_eq_true (by sl_kernel_rfl)

/-- The table as the call finds it. -/
theorem table : tbl m = zero := by
  funext k
  obtain rfl := Subsingleton.elim k (0 : Fin 1)
  show StableHlo.after hostOps0 (fun b => m (0, b)) (Proc.devRef .tc main_v0) = _
  after_results_simp
  rfl

theorem table0 : tbl m 0 = fun _ => (0#32 : BitVec 32) := by
  rw [table m]
  rfl

theorem ok : Ok m := by
  show ok0 (F := F) (tbl m)
  rw [table m]
  exact ok_zero

/-- Which block of each array a grid point takes: the rows of its own number. -/
theorem idx (A : (pcfg0 (F := Ideal)).Adm) (h : A.1 = zero) (t : Fin grid0.N) : ((cfg0 A).win 0).index t = ![0, t.val, 0]
    ∧ ((cfg0 A).win 1).index t = ![0, t.val, 0] ∧ ((cfg0 A).win 2).index t = ![t.val, 0] ∧ ((cfg0 A).win 3).index t = ![t.val, 0]
    ∧ ((cfg0 A).win 4).index t = ![t.val, 0] ∧ ((cfg0 A).win 5).index t = ![t.val, 0] ∧ ((cfg0 A).win 6).index t = ![t.val, 0]
    ∧ ((cfg0 A).win 7).index t = ![t.val, 0] ∧ ((cfg0 A).win 8).index t = ![t.val, 0] := by
  obtain rfl : A = ⟨zero, ok_zero⟩ := Subtype.ext h
  revert t
  decide +kernel

/-- Together the blocks of a result are the whole of it. -/
theorem covers (A : (pcfg0 (F := Ideal)).Adm) (h : A.1 = zero) : ((cfg0 A).win 5).Covers ∧ ((cfg0 A).win 6).Covers
    ∧ ((cfg0 A).win 7).Covers ∧ ((cfg0 A).win 8).Covers := by
  obtain rfl : A = ⟨zero, ok_zero⟩ := Subtype.ext h
  decide +kernel

end Words

/-! What the body leaves in the four outputs' blocks, whatever the blocks it is called with: the sum, the update and the new moments. -/

section Body

variable (c : Dev nD) (i : grid0.Coords)
  {a2 : Memref sig .tc .vmem S1x256x1408 .bf16} (h2 : a2.IsWhole) {a3 : Memref sig .tc .vmem S4x256x1408 .bf16} (h3 : a3.IsWhole)
  {a4 : Memref sig .tc .vmem S256x1408 .f32} (h4 : a4.IsWhole) {a5 : Memref sig .tc .vmem S256x1408 .f32} (h5 : a5.IsWhole)
  {a6 : Memref sig .tc .vmem S256x1408 .f32} (h6 : a6.IsWhole) {a7 : Memref sig .tc .vmem S256x1408 .f32} (h7 : a7.IsWhole)
  {a8 : Memref sig .tc .vmem S256x1408 .f32} (h8 : a8.IsWhole) {a9 : Memref sig .tc .vmem S256x1408 .f32} (h9 : a9.IsWhole)
  {a10 : Memref sig .tc .vmem S256x1408 .f32} (h10 : a10.IsWhole)
  (x0 : Vec Ideal S1x256x1408 .bf16) (x1 : Vec Ideal S4x256x1408 .bf16) (x2 x3 x4 : Vec Ideal S256x1408 .f32)
  (T : TbBuf0 (F := Ideal) c tbM0_0)

/-- The body's sum of the four parts of a block. -/
theorem body_sum : k0_pay4 (0#32 : BitVec 32) x0 (View.ld x1 (Rect.unit (s := S4x256x1408) ![0, 0, 0] S1x256x1408.size inb_S4x256x1408_S1x256x1408_0_0_0))
    (View.ld x1 (Rect.unit (s := S4x256x1408) ![1, 0, 0] S1x256x1408.size inb_S4x256x1408_S1x256x1408_1_0_0))
    (View.ld x1 (Rect.unit (s := S4x256x1408) ![2, 0, 0] S1x256x1408.size inb_S4x256x1408_S1x256x1408_2_0_0))
    (View.ld x1 (Rect.unit (s := S4x256x1408) ![3, 0, 0] S1x256x1408.size inb_S4x256x1408_S1x256x1408_3_0_0)) = chips x0 x1 := by
  funext (y : S256x1408.Idx)
  obtain ⟨a, b, rfl⟩ : ∃ (a : Fin 256) (b : Fin 1408), y = ix2 a b := ⟨y 0, y 1, eq_ix2 y⟩
  pointwise [k0_pay4]
  refine congrArg₂ (· + ·) (congrArg₂ (· + ·) (congrArg (x0 (ix3 0 a b) + ·) ?_) ?_) ?_ <;> rfl

theorem out (hT : T = fun _ => (0#32 : BitVec 32)) :
    out0_A_5 c i a2 h2 a3 h3 a4 h4 a5 h5 a6 h6 a7 h7 a8 h8 a9 h9 a10 h10 x0 x1 x2 x3 x4 T = chips x0 x1
    ∧ out0_A_6 c i a2 h2 a3 h3 a4 h4 a5 h5 a6 h6 a7 h7 a8 h8 a9 h9 a10 h10 x0 x1 x2 x3 x4 T = delta (chips x0 x1) x2 x3 x4
    ∧ out0_A_7 c i a2 h2 a3 h3 a4 h4 a5 h5 a6 h6 a7 h7 a8 h8 a9 h9 a10 h10 x0 x1 x2 x3 x4 T = newM (chips x0 x1) x3
    ∧ out0_A_8 c i a2 h2 a3 h3 a4 h4 a5 h5 a6 h6 a7 h7 a8 h8 a9 h9 a10 h10 x0 x1 x2 x3 x4 T = newV (chips x0 x1) x4 := by
  subst hT
  rw [← body_sum x0 x1]
  refine ⟨?_, ?_, ?_, ?_⟩ <;> (frame_out; rfl)

end Body

/-! What the call leaves in its four results. -/

variable (m : (ℓ : Loc nD τ sig) → Buf (Elt Ideal) ℓ) (ρ : Dev nD → PrngReg)

/-- The row of the whole array that is a block's row. -/
def row (t : Fin (cfgM m (ok m)).N) (a : Fin 256) : Fin 2048 :=
  ⟨t.val * 256 + a.val, by have h : t.val < 8 := N_0 ▸ t.isLt; have := a.isLt; omega⟩

variable (c : Dev nD) (t : Fin (cfgM m (ok m)).N) (a : Fin 256) (b : Fin 1408)

/-- Where the blocks of the two arrays of parts lie. -/
theorem place3 : (((cfgM m (ok m)).win 0).blk t).view.emb (ix3 0 a b) = ix3 0 (row m t a) b
    ∧ ∀ q : Fin 4, (((cfgM m (ok m)).win 1).blk t).view.emb (ix3 q a b) = ix3 q (row m t a) b := by
  have h := idx (adm m (ok m)) (table m) t
  refine ⟨?_, fun q => ?_⟩ <;> (refine funext fun d : Fin 3 => Fin.ext ?_; match d with
    | 0 => blk_point [h]; try rfl
    | 1 => blk_point [h]; rfl
    | 2 => blk_point [h])

/-- Where the blocks of the weight, the moments and the four results lie. -/
theorem place : (((cfgM m (ok m)).win 2).blk t).view.emb (ix2 a b) = ix2 (row m t a) b
    ∧ (((cfgM m (ok m)).win 3).blk t).view.emb (ix2 a b) = ix2 (row m t a) b
    ∧ (((cfgM m (ok m)).win 4).blk t).view.emb (ix2 a b) = ix2 (row m t a) b
    ∧ (((cfgM m (ok m)).win 5).blk t).view.emb (ix2 a b) = ix2 (row m t a) b
    ∧ (((cfgM m (ok m)).win 6).blk t).view.emb (ix2 a b) = ix2 (row m t a) b
    ∧ (((cfgM m (ok m)).win 7).blk t).view.emb (ix2 a b) = ix2 (row m t a) b
    ∧ (((cfgM m (ok m)).win 8).blk t).view.emb (ix2 a b) = ix2 (row m t a) b := by
  have h := idx (adm m (ok m)) (table m) t
  refine ⟨?_, ?_, ?_, ?_, ?_, ?_, ?_⟩ <;> (refine funext fun d : Fin 2 => Fin.ext ?_; match d with
    | 0 => blk_point [h]; rfl
    | 1 => blk_point [h])

/-- The sum of the whole arrays. -/
abbrev grad : FVec Ideal S2048x1408 .f32 := total (m ((c : Thread nD τ).loc main_arg0)) (m ((c : Thread nD τ).loc main_arg1))

theorem sum_at : chips (iblk m (ok m) c 0 t) (iblk m (ok m) c 1 t) (ix2 a b) = grad m c (ix2 (row m t a) b) :=
  chips_eq ((congrArg (V m c main_arg0) (place3 m t a b).1).trans (congrFun (V_main_arg0 m c) _))
    fun k => (congrArg (V m c main_arg1) ((place3 m t a b).2 k)).trans (congrFun (V_main_arg1 m c) _)

theorem in2 : iblk m (ok m) c 2 t (ix2 a b) = m ((c : Thread nD τ).loc main_arg2) (ix2 (row m t a) b) :=
  (congrArg (V m c main_arg2) (place m t a b).1).trans (congrFun (V_main_arg2 m c) _)

theorem in3 : iblk m (ok m) c 3 t (ix2 a b) = m ((c : Thread nD τ).loc main_arg3) (ix2 (row m t a) b) :=
  (congrArg (V m c main_arg3) (place m t a b).2.1).trans (congrFun (V_main_arg3 m c) _)

theorem in4 : iblk m (ok m) c 4 t (ix2 a b) = m ((c : Thread nD τ).loc main_arg4) (ix2 (row m t a) b) :=
  (congrArg (V m c main_arg4) (place m t a b).2.2.1).trans (congrFun (V_main_arg4 m c) _)

/-- The blocks the body leaves at a grid point. -/
theorem left : (outsAt0 m (ok m) c t).1 = chips (iblk m (ok m) c 0 t) (iblk m (ok m) c 1 t)
    ∧ (outsAt0 m (ok m) c t).2.1 = delta (chips (iblk m (ok m) c 0 t) (iblk m (ok m) c 1 t)) (iblk m (ok m) c 2 t) (iblk m (ok m) c 3 t) (iblk m (ok m) c 4 t)
    ∧ (outsAt0 m (ok m) c t).2.2.1 = newM (chips (iblk m (ok m) c 0 t) (iblk m (ok m) c 1 t)) (iblk m (ok m) c 3 t)
    ∧ (outsAt0 m (ok m) c t).2.2.2 = newV (chips (iblk m (ok m) c 0 t) (iblk m (ok m) c 1 t)) (iblk m (ok m) c 4 t) := by
  dsimp only [outsAt0]
  exact out c (grid0.coords t) (hs0_0 m (ok m) t) (hs0_1 m (ok m) t) (hs0_2 m (ok m) t) (hs0_3 m (ok m) t)
    (hs0_4 m (ok m) t) (hs0_5 m (ok m) t) (hs0_6 m (ok m) t) (hs0_7 m (ok m) t) (hs0_8 m (ok m) t) (iblk m (ok m) c 0 t)
    (iblk m (ok m) c 1 t) (iblk m (ok m) c 2 t) (iblk m (ok m) c 3 t) (iblk m (ok m) c 4 t) (tbl m 0) (table0 m)

/-- The four result arrays after the last grid point. -/
theorem final : (dats m (ok m) 0 c).arrAt 5 (cfgM m (ok m)).N = grad m c
    ∧ (dats m (ok m) 0 c).arrAt 6 (cfgM m (ok m)).N = delta (grad m c) (m ((c : Thread nD τ).loc main_arg2)) (m ((c : Thread nD τ).loc main_arg3)) (m ((c : Thread nD τ).loc main_arg4))
    ∧ (dats m (ok m) 0 c).arrAt 7 (cfgM m (ok m)).N = newM (grad m c) (m ((c : Thread nD τ).loc main_arg3))
    ∧ (dats m (ok m) 0 c).arrAt 8 (cfgM m (ok m)).N = newV (grad m c) (m ((c : Thread nD τ).loc main_arg4)) := by
  obtain ⟨k5, k6, k7, k8⟩ := covers (adm m (ok m)) (table m)
  refine ⟨(dats m (ok m) 0 c).arrAt_eq_of_covers 5 _ k5 fun t _ (y : S256x1408.Idx) => ?_,
    (dats m (ok m) 0 c).arrAt_eq_of_covers 6 _ k6 fun t _ (y : S256x1408.Idx) => ?_,
    (dats m (ok m) 0 c).arrAt_eq_of_covers 7 _ k7 fun t _ (y : S256x1408.Idx) => ?_,
    (dats m (ok m) 0 c).arrAt_eq_of_covers 8 _ k8 fun t _ (y : S256x1408.Idx) => ?_⟩ <;>
    obtain ⟨a, b, rfl⟩ : ∃ (a : Fin 256) (b : Fin 1408), y = ix2 a b := ⟨y 0, y 1, eq_ix2 y⟩ <;>
    obtain ⟨l5, l6, l7, l8⟩ := left m c t <;>
    obtain ⟨_, _, _, p5, p6, p7, p8⟩ := place m t a b <;> blk_simp
  · rw [after0_5]
    exact (congrFun l5 _).trans ((sum_at m c t a b).trans (congrArg (grad m c) p5).symm)
  · rw [after0_6]
    exact (congrFun l6 _).trans ((delta_at (sum_at m c t a b) (in2 m c t a b) (in3 m c t a b) (in4 m c t a b)).trans (congrArg (delta _ _ _ _) p6).symm)
  · rw [after0_7]
    exact (congrFun l7 _).trans ((newM_at (sum_at m c t a b) (in3 m c t a b)).trans (congrArg (newM _ _) p7).symm)
  · rw [after0_8]
    exact (congrFun l8 _).trans ((newV_at (sum_at m c t a b) (in4 m c t a b)).trans (congrArg (newV _ _) p8).symm)

/-- The kernel's run: the four results, and the arguments as they were. -/
theorem run : θ_run defs (onTc (τ := τ) (main (F := Ideal))) ⟨m, fun _ => 0, ρ⟩ (fun r => ∀ c : Dev nD,
      r.2.mem ((c.tc : Thread nD τ).loc main_v1_0) = grad m c
      ∧ r.2.mem ((c.tc : Thread nD τ).loc main_v1_1) = delta (grad m c) (m ((c : Thread nD τ).loc main_arg2)) (m ((c : Thread nD τ).loc main_arg3)) (m ((c : Thread nD τ).loc main_arg4))
      ∧ r.2.mem ((c.tc : Thread nD τ).loc main_v1_2) = newM (grad m c) (m ((c : Thread nD τ).loc main_arg3))
      ∧ r.2.mem ((c.tc : Thread nD τ).loc main_v1_3) = newV (grad m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c).1, ((h c).1 6).trans (final m c).2.1,
      ((h c).1 7).trans (final m c).2.2.1, ((h c).1 8).trans (final m c).2.2.2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩) (run_main m ρ (ok m))

/-! The claims. -/

/-- The frame's statement over words, of the text that the run is written for. -/
abbrev Quiet : Prop := ∀ (m : (ℓ : Loc nD τ sig) → Buf (Elt Bits) ℓ) (ρ : Dev nD → PrngReg), True →
  θ_run (defs (F := Bits)) (onTc (τ := τ) (main (F := Bits))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel and its idealization have the same text. -/
theorem same_text : Quiet = Cert.quiescent_Kernel22 (hKernel22 := Cert.Kernel22.Gen.facts) := by sl_kernel_rfl

/-- The kernel's frame over words is the one run's, at words. -/
theorem frame_kernel : Cert.quiescent_Kernel22 (hKernel22 := Cert.Kernel22.Gen.facts) :=
  same_text.mp fun m ρ _ => Cert.Kernel22Ideal.Gen.frame (F := Bits) m ρ (ok m)

/-- The same run, over the extended reals. -/
theorem frame_ideal : Cert.quiescent_Kernel22Ideal (hKernel22Ideal := Cert.Kernel22Ideal.Gen.facts) := fun m ρ _ =>
  Cert.Kernel22Ideal.Gen.frame (F := Ideal) m ρ (ok m)

/-- The reference's run: the arguments stay, every counter is zero. -/
theorem frame_ref : Cert.quiescent_Reference22Ideal (hReference22Ideal := Cert.Reference22Ideal.Gen.facts) := fun m ρ _ =>
  (θ_run Cert.Reference22Ideal.defs _ _).mono
    (fun r h => ⟨fun c => (h c).2.2.2.2, sem_eq_zero_of_no_sems (by decide) r.2⟩) (Cert.Reference22Ideal.Value.run (F := Ideal) m ρ)

/-- The reference's sum is the kernel's. -/
theorem ref_sum (p q : FVec Ideal S4x2048x1408 .bf16) : Cert.Reference22Ideal.Read.val_main_v4 (F := Ideal) p q = total p q := by
  funext i
  exact (Cert.Reference22Ideal.Read.val_main_v4_apply p q i).trans (host_sum p q Cert.Reference22Ideal.Gen.slices_S4x2048x1408_S1x2048x1408_0_0_0
    Cert.Reference22Ideal.Gen.slices_S4x2048x1408_S3x2048x1408_1_0_0 Cert.Reference22Ideal.Gen.concatenates_S1x2048x1408_S3x2048x1408_S4x2048x1408_d0
    i _ fun k => eq_ix3 (Cert.Reference22Ideal.Read.idx_main_v4 i k))

/-- The sum, the update and the new moments of w_in: the kernel's results are the reference's. -/
theorem value : Cert.algebraic_Kernel22Ideal_Reference22Ideal (hKernel22Ideal := Cert.Kernel22Ideal.Gen.facts)
    (hReference22Ideal := Cert.Reference22Ideal.Gen.facts) := by
  intro m ρ m' ρ' _ hag
  refine ⟨_, _, _, _, run m ρ, (θ_run _ _ _).mono (fun r h c => ?_) (Cert.Reference22Ideal.Value.run (F := Ideal) m' ρ')⟩
  obtain ⟨a0, a1, a2, a3, a4⟩ := hag c
  obtain ⟨h0, h1, h2, h3, hargs⟩ := h c
  have e := (Cert.Reference22Ideal.Read.val_main_v4_eq (F := Ideal) (m ((c : Thread nD τ).loc main_arg0)) (m ((c : Thread nD τ).loc main_arg1))).trans (ref_sum _ _)
  rw [a0, a1] at h0 h1 h2 h3
  rw [e] at h0 h1 h2 h3
  rw [a2, a3, a4] at h1
  rw [a3] at h2
  rw [a4] at h3
  exact ⟨h0, h1.trans (host_delta _ _ _ _ _ _), h2.trans (host_newM _ _ _ _), h3.trans (host_newV _ _ _ _), hargs⟩

end Cert.Proof.ChipSum.WIn

end
-- ==== Proof.ChipSumWConvOut.lean ====
module

public import proofs.«01_k».proof.Defs
public import proofs.«01_k».proof.Proof.Gen.Kernel23
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.ChipSumMath
public import proofs.«01_k».proof.Proof.AdamWMath
public import Idealize.ShloMosaic.Lib.Pipeline.ValueKit
public import Idealize.ShloMosaic.Lib.Quiescent

/-! # The sum over the pairs of devices and the AdamW step, at the shape of w_conv_out and w_hgrn_out: the kernel beside its reference -/

@[expose] public section

set_option maxRecDepth 16384

noncomputable section

namespace Cert.Proof.ChipSum.WConvOut

open Idealize.ShloMosaic Idealize.ShloMosaic.TcCoe Idealize.SL.Sem
open Cert.Kernel23Ideal Cert.Kernel23Ideal.Gen
open Cert.ChipSum
open Cert.AdamW

section Words

variable {F : FTy → Type} [FloatOps F] (m : (ℓ : Loc nD τ sig) → Buf (Elt F) ℓ) (ρ : Dev nD → PrngReg)

/-- The table's one word: the number of the device's pair, zero. -/
def zero : (pre0).Contents (Elt F) := fun k => match k with
  | ⟨0, _⟩ => fun _ => (0#32 : BitVec 32)

theorem ok_zero : ok0 (F := F) zero := of_decide_eq_true (by sl_kernel_rfl)

/-- The table as the call finds it. -/
theorem table : tbl m = zero := by
  funext k
  obtain rfl := Subsingleton.elim k (0 : Fin 1)
  show StableHlo.after hostOps0 (fun b => m (0, b)) (Proc.devRef .tc main_v0) = _
  after_results_simp
  rfl

theorem table0 : tbl m 0 = fun _ => (0#32 : BitVec 32) := by
  rw [table m]
  rfl

theorem ok : Ok m := by
  show ok0 (F := F) (tbl m)
  rw [table m]
  exact ok_zero

/-- Which block of each array a grid point takes: the rows of its own number. -/
theorem idx (A : (pcfg0 (F := Ideal)).Adm) (h : A.1 = zero) (t : Fin grid0.N) : ((cfg0 A).win 0).index t = ![0, t.val, 0]
    ∧ ((cfg0 A).win 1).index t = ![0, t.val, 0] ∧ ((cfg0 A).win 2).index t = ![t.val, 0] ∧ ((cfg0 A).win 3).index t = ![t.val, 0]
    ∧ ((cfg0 A).win 4).index t = ![t.val, 0] ∧ ((cfg0 A).win 5).index t = ![t.val, 0] ∧ ((cfg0 A).win 6).index t = ![t.val, 0]
    ∧ ((cfg0 A).win 7).index t = ![t.val, 0] ∧ ((cfg0 A).win 8).index t = ![t.val, 0] := by
  obtain rfl : A = ⟨zero, ok_zero⟩ := Subtype.ext h
  revert t
  decide +kernel

/-- Together the blocks of a result are the whole of it. -/
theorem covers (A : (pcfg0 (F := Ideal)).Adm) (h : A.1 = zero) : ((cfg0 A).win 5).Covers ∧ ((cfg0 A).win 6).Covers
    ∧ ((cfg0 A).win 7).Covers ∧ ((cfg0 A).win 8).Covers := by
  obtain rfl : A = ⟨zero, ok_zero⟩ := Subtype.ext h
  decide +kernel

end Words

/-! What the body leaves in the four outputs' blocks, whatever the blocks it is called with: the sum, the update and the new moments. -/

section Body

variable (c : Dev nD) (i : grid0.Coords)
  {a2 : Memref sig .tc .vmem S1x256x256 .bf16} (h2 : a2.IsWhole) {a3 : Memref sig .tc .vmem S4x256x256 .bf16} (h3 : a3.IsWhole)
  {a4 : Memref sig .tc .vmem S256x256 .f32} (h4 : a4.IsWhole) {a5 : Memref sig .tc .vmem S256x256 .f32} (h5 : a5.IsWhole)
  {a6 : Memref sig .tc .vmem S256x256 .f32} (h6 : a6.IsWhole) {a7 : Memref sig .tc .vmem S256x256 .f32} (h7 : a7.IsWhole)
  {a8 : Memref sig .tc .vmem S256x256 .f32} (h8 : a8.IsWhole) {a9 : Memref sig .tc .vmem S256x256 .f32} (h9 : a9.IsWhole)
  {a10 : Memref sig .tc .vmem S256x256 .f32} (h10 : a10.IsWhole)
  (x0 : Vec Ideal S1x256x256 .bf16) (x1 : Vec Ideal S4x256x256 .bf16) (x2 x3 x4 : Vec Ideal S256x256 .f32)
  (T : TbBuf0 (F := Ideal) c tbM0_0)

/-- The body's sum of the four parts of a block. -/
theorem body_sum : k0_pay4 (0#32 : BitVec 32) x0 (View.ld x1 (Rect.unit (s := S4x256x256) ![0, 0, 0] S1x256x256.size inb_S4x256x256_S1x256x256_0_0_0))
    (View.ld x1 (Rect.unit (s := S4x256x256) ![1, 0, 0] S1x256x256.size inb_S4x256x256_S1x256x256_1_0_0))
    (View.ld x1 (Rect.unit (s := S4x256x256) ![2, 0, 0] S1x256x256.size inb_S4x256x256_S1x256x256_2_0_0))
    (View.ld x1 (Rect.unit (s := S4x256x256) ![3, 0, 0] S1x256x256.size inb_S4x256x256_S1x256x256_3_0_0)) = chips x0 x1 := by
  funext (y : S256x256.Idx)
  obtain ⟨a, b, rfl⟩ : ∃ (a : Fin 256) (b : Fin 256), y = ix2 a b := ⟨y 0, y 1, eq_ix2 y⟩
  pointwise [k0_pay4]
  refine congrArg₂ (· + ·) (congrArg₂ (· + ·) (congrArg (x0 (ix3 0 a b) + ·) ?_) ?_) ?_ <;> rfl

theorem out (hT : T = fun _ => (0#32 : BitVec 32)) :
    out0_A_5 c i a2 h2 a3 h3 a4 h4 a5 h5 a6 h6 a7 h7 a8 h8 a9 h9 a10 h10 x0 x1 x2 x3 x4 T = chips x0 x1
    ∧ out0_A_6 c i a2 h2 a3 h3 a4 h4 a5 h5 a6 h6 a7 h7 a8 h8 a9 h9 a10 h10 x0 x1 x2 x3 x4 T = delta (chips x0 x1) x2 x3 x4
    ∧ out0_A_7 c i a2 h2 a3 h3 a4 h4 a5 h5 a6 h6 a7 h7 a8 h8 a9 h9 a10 h10 x0 x1 x2 x3 x4 T = newM (chips x0 x1) x3
    ∧ out0_A_8 c i a2 h2 a3 h3 a4 h4 a5 h5 a6 h6 a7 h7 a8 h8 a9 h9 a10 h10 x0 x1 x2 x3 x4 T = newV (chips x0 x1) x4 := by
  subst hT
  rw [← body_sum x0 x1]
  refine ⟨?_, ?_, ?_, ?_⟩ <;> (frame_out; rfl)

end Body

/-! What the call leaves in its four results. -/

variable (m : (ℓ : Loc nD τ sig) → Buf (Elt Ideal) ℓ) (ρ : Dev nD → PrngReg)

/-- The row of the whole array that is a block's row. -/
def row (t : Fin (cfgM m (ok m)).N) (a : Fin 256) : Fin 1024 :=
  ⟨t.val * 256 + a.val, by have h : t.val < 4 := N_0 ▸ t.isLt; have := a.isLt; omega⟩

variable (c : Dev nD) (t : Fin (cfgM m (ok m)).N) (a : Fin 256) (b : Fin 256)

/-- Where the blocks of the two arrays of parts lie. -/
theorem place3 : (((cfgM m (ok m)).win 0).blk t).view.emb (ix3 0 a b) = ix3 0 (row m t a) b
    ∧ ∀ q : Fin 4, (((cfgM m (ok m)).win 1).blk t).view.emb (ix3 q a b) = ix3 q (row m t a) b := by
  have h := idx (adm m (ok m)) (table m) t
  refine ⟨?_, fun q => ?_⟩ <;> (refine funext fun d : Fin 3 => Fin.ext ?_; match d with
    | 0 => blk_point [h]; try rfl
    | 1 => blk_point [h]; rfl
    | 2 => blk_point [h])

/-- Where the blocks of the weight, the moments and the four results lie. -/
theorem place : (((cfgM m (ok m)).win 2).blk t).view.emb (ix2 a b) = ix2 (row m t a) b
    ∧ (((cfgM m (ok m)).win 3).blk t).view.emb (ix2 a b) = ix2 (row m t a) b
    ∧ (((cfgM m (ok m)).win 4).blk t).view.emb (ix2 a b) = ix2 (row m t a) b
    ∧ (((cfgM m (ok m)).win 5).blk t).view.emb (ix2 a b) = ix2 (row m t a) b
    ∧ (((cfgM m (ok m)).win 6).blk t).view.emb (ix2 a b) = ix2 (row m t a) b
    ∧ (((cfgM m (ok m)).win 7).blk t).view.emb (ix2 a b) = ix2 (row m t a) b
    ∧ (((cfgM m (ok m)).win 8).blk t).view.emb (ix2 a b) = ix2 (row m t a) b := by
  have h := idx (adm m (ok m)) (table m) t
  refine ⟨?_, ?_, ?_, ?_, ?_, ?_, ?_⟩ <;> (refine funext fun d : Fin 2 => Fin.ext ?_; match d with
    | 0 => blk_point [h]; rfl
    | 1 => blk_point [h])

/-- The sum of the whole arrays. -/
abbrev grad : FVec Ideal S1024x256 .f32 := total (m ((c : Thread nD τ).loc main_arg0)) (m ((c : Thread nD τ).loc main_arg1))

theorem sum_at : chips (iblk m (ok m) c 0 t) (iblk m (ok m) c 1 t) (ix2 a b) = grad m c (ix2 (row m t a) b) :=
  chips_eq ((congrArg (V m c main_arg0) (place3 m t a b).1).trans (congrFun (V_main_arg0 m c) _))
    fun k => (congrArg (V m c main_arg1) ((place3 m t a b).2 k)).trans (congrFun (V_main_arg1 m c) _)

theorem in2 : iblk m (ok m) c 2 t (ix2 a b) = m ((c : Thread nD τ).loc main_arg2) (ix2 (row m t a) b) :=
  (congrArg (V m c main_arg2) (place m t a b).1).trans (congrFun (V_main_arg2 m c) _)

theorem in3 : iblk m (ok m) c 3 t (ix2 a b) = m ((c : Thread nD τ).loc main_arg3) (ix2 (row m t a) b) :=
  (congrArg (V m c main_arg3) (place m t a b).2.1).trans (congrFun (V_main_arg3 m c) _)

theorem in4 : iblk m (ok m) c 4 t (ix2 a b) = m ((c : Thread nD τ).loc main_arg4) (ix2 (row m t a) b) :=
  (congrArg (V m c main_arg4) (place m t a b).2.2.1).trans (congrFun (V_main_arg4 m c) _)

/-- The blocks the body leaves at a grid point. -/
theorem left : (outsAt0 m (ok m) c t).1 = chips (iblk m (ok m) c 0 t) (iblk m (ok m) c 1 t)
    ∧ (outsAt0 m (ok m) c t).2.1 = delta (chips (iblk m (ok m) c 0 t) (iblk m (ok m) c 1 t)) (iblk m (ok m) c 2 t) (iblk m (ok m) c 3 t) (iblk m (ok m) c 4 t)
    ∧ (outsAt0 m (ok m) c t).2.2.1 = newM (chips (iblk m (ok m) c 0 t) (iblk m (ok m) c 1 t)) (iblk m (ok m) c 3 t)
    ∧ (outsAt0 m (ok m) c t).2.2.2 = newV (chips (iblk m (ok m) c 0 t) (iblk m (ok m) c 1 t)) (iblk m (ok m) c 4 t) := by
  dsimp only [outsAt0]
  exact out c (grid0.coords t) (hs0_0 m (ok m) t) (hs0_1 m (ok m) t) (hs0_2 m (ok m) t) (hs0_3 m (ok m) t)
    (hs0_4 m (ok m) t) (hs0_5 m (ok m) t) (hs0_6 m (ok m) t) (hs0_7 m (ok m) t) (hs0_8 m (ok m) t) (iblk m (ok m) c 0 t)
    (iblk m (ok m) c 1 t) (iblk m (ok m) c 2 t) (iblk m (ok m) c 3 t) (iblk m (ok m) c 4 t) (tbl m 0) (table0 m)

/-- The four result arrays after the last grid point. -/
theorem final : (dats m (ok m) 0 c).arrAt 5 (cfgM m (ok m)).N = grad m c
    ∧ (dats m (ok m) 0 c).arrAt 6 (cfgM m (ok m)).N = delta (grad m c) (m ((c : Thread nD τ).loc main_arg2)) (m ((c : Thread nD τ).loc main_arg3)) (m ((c : Thread nD τ).loc main_arg4))
    ∧ (dats m (ok m) 0 c).arrAt 7 (cfgM m (ok m)).N = newM (grad m c) (m ((c : Thread nD τ).loc main_arg3))
    ∧ (dats m (ok m) 0 c).arrAt 8 (cfgM m (ok m)).N = newV (grad m c) (m ((c : Thread nD τ).loc main_arg4)) := by
  obtain ⟨k5, k6, k7, k8⟩ := covers (adm m (ok m)) (table m)
  refine ⟨(dats m (ok m) 0 c).arrAt_eq_of_covers 5 _ k5 fun t _ (y : S256x256.Idx) => ?_,
    (dats m (ok m) 0 c).arrAt_eq_of_covers 6 _ k6 fun t _ (y : S256x256.Idx) => ?_,
    (dats m (ok m) 0 c).arrAt_eq_of_covers 7 _ k7 fun t _ (y : S256x256.Idx) => ?_,
    (dats m (ok m) 0 c).arrAt_eq_of_covers 8 _ k8 fun t _ (y : S256x256.Idx) => ?_⟩ <;>
    obtain ⟨a, b, rfl⟩ : ∃ (a : Fin 256) (b : Fin 256), y = ix2 a b := ⟨y 0, y 1, eq_ix2 y⟩ <;>
    obtain ⟨l5, l6, l7, l8⟩ := left m c t <;>
    obtain ⟨_, _, _, p5, p6, p7, p8⟩ := place m t a b <;> blk_simp
  · rw [after0_5]
    exact (congrFun l5 _).trans ((sum_at m c t a b).trans (congrArg (grad m c) p5).symm)
  · rw [after0_6]
    exact (congrFun l6 _).trans ((delta_at (sum_at m c t a b) (in2 m c t a b) (in3 m c t a b) (in4 m c t a b)).trans (congrArg (delta _ _ _ _) p6).symm)
  · rw [after0_7]
    exact (congrFun l7 _).trans ((newM_at (sum_at m c t a b) (in3 m c t a b)).trans (congrArg (newM _ _) p7).symm)
  · rw [after0_8]
    exact (congrFun l8 _).trans ((newV_at (sum_at m c t a b) (in4 m c t a b)).trans (congrArg (newV _ _) p8).symm)

/-- The kernel's run: the four results, and the arguments as they were. -/
theorem run : θ_run defs (onTc (τ := τ) (main (F := Ideal))) ⟨m, fun _ => 0, ρ⟩ (fun r => ∀ c : Dev nD,
      r.2.mem ((c.tc : Thread nD τ).loc main_v1_0) = grad m c
      ∧ r.2.mem ((c.tc : Thread nD τ).loc main_v1_1) = delta (grad m c) (m ((c : Thread nD τ).loc main_arg2)) (m ((c : Thread nD τ).loc main_arg3)) (m ((c : Thread nD τ).loc main_arg4))
      ∧ r.2.mem ((c.tc : Thread nD τ).loc main_v1_2) = newM (grad m c) (m ((c : Thread nD τ).loc main_arg3))
      ∧ r.2.mem ((c.tc : Thread nD τ).loc main_v1_3) = newV (grad m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c).1, ((h c).1 6).trans (final m c).2.1,
      ((h c).1 7).trans (final m c).2.2.1, ((h c).1 8).trans (final m c).2.2.2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩) (run_main m ρ (ok m))

/-! The claims. -/

/-- The frame's statement over words, of the text that the run is written for. -/
abbrev Quiet : Prop := ∀ (m : (ℓ : Loc nD τ sig) → Buf (Elt Bits) ℓ) (ρ : Dev nD → PrngReg), True →
  θ_run (defs (F := Bits)) (onTc (τ := τ) (main (F := Bits))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel and its idealization have the same text. -/
theorem same_text : Quiet = Cert.quiescent_Kernel23 (hKernel23 := Cert.Kernel23.Gen.facts) := by sl_kernel_rfl

/-- The kernel's frame over words is the one run's, at words. -/
theorem frame_kernel : Cert.quiescent_Kernel23 (hKernel23 := Cert.Kernel23.Gen.facts) :=
  same_text.mp fun m ρ _ => Cert.Kernel23Ideal.Gen.frame (F := Bits) m ρ (ok m)

/-- The same run, over the extended reals. -/
theorem frame_ideal : Cert.quiescent_Kernel23Ideal (hKernel23Ideal := Cert.Kernel23Ideal.Gen.facts) := fun m ρ _ =>
  Cert.Kernel23Ideal.Gen.frame (F := Ideal) m ρ (ok m)

/-- The reference's run: the arguments stay, every counter is zero. -/
theorem frame_ref : Cert.quiescent_Reference23Ideal (hReference23Ideal := Cert.Reference23Ideal.Gen.facts) := fun m ρ _ =>
  (θ_run Cert.Reference23Ideal.defs _ _).mono
    (fun r h => ⟨fun c => (h c).2.2.2.2, sem_eq_zero_of_no_sems (by decide) r.2⟩) (Cert.Reference23Ideal.Value.run (F := Ideal) m ρ)

/-- The reference's sum is the kernel's. -/
theorem ref_sum (p q : FVec Ideal S4x1024x256 .bf16) : Cert.Reference23Ideal.Read.val_main_v4 (F := Ideal) p q = total p q := by
  funext i
  exact (Cert.Reference23Ideal.Read.val_main_v4_apply p q i).trans (host_sum p q Cert.Reference23Ideal.Gen.slices_S4x1024x256_S1x1024x256_0_0_0
    Cert.Reference23Ideal.Gen.slices_S4x1024x256_S3x1024x256_1_0_0 Cert.Reference23Ideal.Gen.concatenates_S1x1024x256_S3x1024x256_S4x1024x256_d0
    i _ fun k => eq_ix3 (Cert.Reference23Ideal.Read.idx_main_v4 i k))

/-- The sum, the update and the new moments of w_conv_out and w_hgrn_out: the kernel's results are the reference's. -/
theorem value : Cert.algebraic_Kernel23Ideal_Reference23Ideal (hKernel23Ideal := Cert.Kernel23Ideal.Gen.facts)
    (hReference23Ideal := Cert.Reference23Ideal.Gen.facts) := by
  intro m ρ m' ρ' _ hag
  refine ⟨_, _, _, _, run m ρ, (θ_run _ _ _).mono (fun r h c => ?_) (Cert.Reference23Ideal.Value.run (F := Ideal) m' ρ')⟩
  obtain ⟨a0, a1, a2, a3, a4⟩ := hag c
  obtain ⟨h0, h1, h2, h3, hargs⟩ := h c
  have e := (Cert.Reference23Ideal.Read.val_main_v4_eq (F := Ideal) (m ((c : Thread nD τ).loc main_arg0)) (m ((c : Thread nD τ).loc main_arg1))).trans (ref_sum _ _)
  rw [a0, a1] at h0 h1 h2 h3
  rw [e] at h0 h1 h2 h3
  rw [a2, a3, a4] at h1
  rw [a3] at h2
  rw [a4] at h3
  exact ⟨h0, h1.trans (host_delta _ _ _ _ _ _), h2.trans (host_newM _ _ _ _), h3.trans (host_newV _ _ _ _), hargs⟩

end Cert.Proof.ChipSum.WConvOut

end
-- ==== Proof.ChipSumWO.lean ====
module

public import proofs.«01_k».proof.Defs
public import proofs.«01_k».proof.Proof.Gen.Kernel24
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.ChipSumMath
public import proofs.«01_k».proof.Proof.AdamWMath
public import Idealize.ShloMosaic.Lib.Pipeline.ValueKit
public import Idealize.ShloMosaic.Lib.Quiescent

/-! # The sum over the pairs of devices and the AdamW step, at the shape of w_o: the kernel beside its reference -/

@[expose] public section

set_option maxRecDepth 16384

noncomputable section

namespace Cert.Proof.ChipSum.WO

open Idealize.ShloMosaic Idealize.ShloMosaic.TcCoe Idealize.SL.Sem
open Cert.Kernel24Ideal Cert.Kernel24Ideal.Gen
open Cert.ChipSum
open Cert.AdamW

section Words

variable {F : FTy → Type} [FloatOps F] (m : (ℓ : Loc nD τ sig) → Buf (Elt F) ℓ) (ρ : Dev nD → PrngReg)

/-- The table's one word: the number of the device's pair, zero. -/
def zero : (pre0).Contents (Elt F) := fun k => match k with
  | ⟨0, _⟩ => fun _ => (0#32 : BitVec 32)

theorem ok_zero : ok0 (F := F) zero := of_decide_eq_true (by sl_kernel_rfl)

/-- The table as the call finds it. -/
theorem table : tbl m = zero := by
  funext k
  obtain rfl := Subsingleton.elim k (0 : Fin 1)
  show StableHlo.after hostOps0 (fun b => m (0, b)) (Proc.devRef .tc main_v0) = _
  after_results_simp
  rfl

theorem table0 : tbl m 0 = fun _ => (0#32 : BitVec 32) := by
  rw [table m]
  rfl

theorem ok : Ok m := by
  show ok0 (F := F) (tbl m)
  rw [table m]
  exact ok_zero

/-- Which block of each array a grid point takes: the rows of its own number. -/
theorem idx (A : (pcfg0 (F := Ideal)).Adm) (h : A.1 = zero) (t : Fin grid0.N) : ((cfg0 A).win 0).index t = ![0, t.val, 0]
    ∧ ((cfg0 A).win 1).index t = ![0, t.val, 0] ∧ ((cfg0 A).win 2).index t = ![t.val, 0] ∧ ((cfg0 A).win 3).index t = ![t.val, 0]
    ∧ ((cfg0 A).win 4).index t = ![t.val, 0] ∧ ((cfg0 A).win 5).index t = ![t.val, 0] ∧ ((cfg0 A).win 6).index t = ![t.val, 0]
    ∧ ((cfg0 A).win 7).index t = ![t.val, 0] ∧ ((cfg0 A).win 8).index t = ![t.val, 0] := by
  obtain rfl : A = ⟨zero, ok_zero⟩ := Subtype.ext h
  revert t
  decide +kernel

/-- Together the blocks of a result are the whole of it. -/
theorem covers (A : (pcfg0 (F := Ideal)).Adm) (h : A.1 = zero) : ((cfg0 A).win 5).Covers ∧ ((cfg0 A).win 6).Covers
    ∧ ((cfg0 A).win 7).Covers ∧ ((cfg0 A).win 8).Covers := by
  obtain rfl : A = ⟨zero, ok_zero⟩ := Subtype.ext h
  decide +kernel

end Words

/-! What the body leaves in the four outputs' blocks, whatever the blocks it is called with: the sum, the update and the new moments. -/

section Body

variable (c : Dev nD) (i : grid0.Coords)
  {a2 : Memref sig .tc .vmem S1x256x2048 .bf16} (h2 : a2.IsWhole) {a3 : Memref sig .tc .vmem S4x256x2048 .bf16} (h3 : a3.IsWhole)
  {a4 : Memref sig .tc .vmem S256x2048 .f32} (h4 : a4.IsWhole) {a5 : Memref sig .tc .vmem S256x2048 .f32} (h5 : a5.IsWhole)
  {a6 : Memref sig .tc .vmem S256x2048 .f32} (h6 : a6.IsWhole) {a7 : Memref sig .tc .vmem S256x2048 .f32} (h7 : a7.IsWhole)
  {a8 : Memref sig .tc .vmem S256x2048 .f32} (h8 : a8.IsWhole) {a9 : Memref sig .tc .vmem S256x2048 .f32} (h9 : a9.IsWhole)
  {a10 : Memref sig .tc .vmem S256x2048 .f32} (h10 : a10.IsWhole)
  (x0 : Vec Ideal S1x256x2048 .bf16) (x1 : Vec Ideal S4x256x2048 .bf16) (x2 x3 x4 : Vec Ideal S256x2048 .f32)
  (T : TbBuf0 (F := Ideal) c tbM0_0)

/-- The body's sum of the four parts of a block. -/
theorem body_sum : k0_pay4 (0#32 : BitVec 32) x0 (View.ld x1 (Rect.unit (s := S4x256x2048) ![0, 0, 0] S1x256x2048.size inb_S4x256x2048_S1x256x2048_0_0_0))
    (View.ld x1 (Rect.unit (s := S4x256x2048) ![1, 0, 0] S1x256x2048.size inb_S4x256x2048_S1x256x2048_1_0_0))
    (View.ld x1 (Rect.unit (s := S4x256x2048) ![2, 0, 0] S1x256x2048.size inb_S4x256x2048_S1x256x2048_2_0_0))
    (View.ld x1 (Rect.unit (s := S4x256x2048) ![3, 0, 0] S1x256x2048.size inb_S4x256x2048_S1x256x2048_3_0_0)) = chips x0 x1 := by
  funext (y : S256x2048.Idx)
  obtain ⟨a, b, rfl⟩ : ∃ (a : Fin 256) (b : Fin 2048), y = ix2 a b := ⟨y 0, y 1, eq_ix2 y⟩
  pointwise [k0_pay4]
  refine congrArg₂ (· + ·) (congrArg₂ (· + ·) (congrArg (x0 (ix3 0 a b) + ·) ?_) ?_) ?_ <;> rfl

theorem out (hT : T = fun _ => (0#32 : BitVec 32)) :
    out0_A_5 c i a2 h2 a3 h3 a4 h4 a5 h5 a6 h6 a7 h7 a8 h8 a9 h9 a10 h10 x0 x1 x2 x3 x4 T = chips x0 x1
    ∧ out0_A_6 c i a2 h2 a3 h3 a4 h4 a5 h5 a6 h6 a7 h7 a8 h8 a9 h9 a10 h10 x0 x1 x2 x3 x4 T = delta (chips x0 x1) x2 x3 x4
    ∧ out0_A_7 c i a2 h2 a3 h3 a4 h4 a5 h5 a6 h6 a7 h7 a8 h8 a9 h9 a10 h10 x0 x1 x2 x3 x4 T = newM (chips x0 x1) x3
    ∧ out0_A_8 c i a2 h2 a3 h3 a4 h4 a5 h5 a6 h6 a7 h7 a8 h8 a9 h9 a10 h10 x0 x1 x2 x3 x4 T = newV (chips x0 x1) x4 := by
  subst hT
  rw [← body_sum x0 x1]
  refine ⟨?_, ?_, ?_, ?_⟩ <;> (frame_out; rfl)

end Body

/-! What the call leaves in its four results. -/

variable (m : (ℓ : Loc nD τ sig) → Buf (Elt Ideal) ℓ) (ρ : Dev nD → PrngReg)

/-- The row of the whole array that is a block's row. -/
def row (t : Fin (cfgM m (ok m)).N) (a : Fin 256) : Fin 256 :=
  ⟨t.val * 256 + a.val, by have h : t.val < 1 := N_0 ▸ t.isLt; have := a.isLt; omega⟩

variable (c : Dev nD) (t : Fin (cfgM m (ok m)).N) (a : Fin 256) (b : Fin 2048)

/-- Where the blocks of the two arrays of parts lie. -/
theorem place3 : (((cfgM m (ok m)).win 0).blk t).view.emb (ix3 0 a b) = ix3 0 (row m t a) b
    ∧ ∀ q : Fin 4, (((cfgM m (ok m)).win 1).blk t).view.emb (ix3 q a b) = ix3 q (row m t a) b := by
  have h := idx (adm m (ok m)) (table m) t
  refine ⟨?_, fun q => ?_⟩ <;> (refine funext fun d : Fin 3 => Fin.ext ?_; match d with
    | 0 => blk_point [h]; try rfl
    | 1 => blk_point [h]; rfl
    | 2 => blk_point [h])

/-- Where the blocks of the weight, the moments and the four results lie. -/
theorem place : (((cfgM m (ok m)).win 2).blk t).view.emb (ix2 a b) = ix2 (row m t a) b
    ∧ (((cfgM m (ok m)).win 3).blk t).view.emb (ix2 a b) = ix2 (row m t a) b
    ∧ (((cfgM m (ok m)).win 4).blk t).view.emb (ix2 a b) = ix2 (row m t a) b
    ∧ (((cfgM m (ok m)).win 5).blk t).view.emb (ix2 a b) = ix2 (row m t a) b
    ∧ (((cfgM m (ok m)).win 6).blk t).view.emb (ix2 a b) = ix2 (row m t a) b
    ∧ (((cfgM m (ok m)).win 7).blk t).view.emb (ix2 a b) = ix2 (row m t a) b
    ∧ (((cfgM m (ok m)).win 8).blk t).view.emb (ix2 a b) = ix2 (row m t a) b := by
  have h := idx (adm m (ok m)) (table m) t
  refine ⟨?_, ?_, ?_, ?_, ?_, ?_, ?_⟩ <;> (refine funext fun d : Fin 2 => Fin.ext ?_; match d with
    | 0 => blk_point [h]; rfl
    | 1 => blk_point [h])

/-- The sum of the whole arrays. -/
abbrev grad : FVec Ideal S256x2048 .f32 := total (m ((c : Thread nD τ).loc main_arg0)) (m ((c : Thread nD τ).loc main_arg1))

theorem sum_at : chips (iblk m (ok m) c 0 t) (iblk m (ok m) c 1 t) (ix2 a b) = grad m c (ix2 (row m t a) b) :=
  chips_eq ((congrArg (V m c main_arg0) (place3 m t a b).1).trans (congrFun (V_main_arg0 m c) _))
    fun k => (congrArg (V m c main_arg1) ((place3 m t a b).2 k)).trans (congrFun (V_main_arg1 m c) _)

theorem in2 : iblk m (ok m) c 2 t (ix2 a b) = m ((c : Thread nD τ).loc main_arg2) (ix2 (row m t a) b) :=
  (congrArg (V m c main_arg2) (place m t a b).1).trans (congrFun (V_main_arg2 m c) _)

theorem in3 : iblk m (ok m) c 3 t (ix2 a b) = m ((c : Thread nD τ).loc main_arg3) (ix2 (row m t a) b) :=
  (congrArg (V m c main_arg3) (place m t a b).2.1).trans (congrFun (V_main_arg3 m c) _)

theorem in4 : iblk m (ok m) c 4 t (ix2 a b) = m ((c : Thread nD τ).loc main_arg4) (ix2 (row m t a) b) :=
  (congrArg (V m c main_arg4) (place m t a b).2.2.1).trans (congrFun (V_main_arg4 m c) _)

/-- The blocks the body leaves at a grid point. -/
theorem left : (outsAt0 m (ok m) c t).1 = chips (iblk m (ok m) c 0 t) (iblk m (ok m) c 1 t)
    ∧ (outsAt0 m (ok m) c t).2.1 = delta (chips (iblk m (ok m) c 0 t) (iblk m (ok m) c 1 t)) (iblk m (ok m) c 2 t) (iblk m (ok m) c 3 t) (iblk m (ok m) c 4 t)
    ∧ (outsAt0 m (ok m) c t).2.2.1 = newM (chips (iblk m (ok m) c 0 t) (iblk m (ok m) c 1 t)) (iblk m (ok m) c 3 t)
    ∧ (outsAt0 m (ok m) c t).2.2.2 = newV (chips (iblk m (ok m) c 0 t) (iblk m (ok m) c 1 t)) (iblk m (ok m) c 4 t) := by
  dsimp only [outsAt0]
  exact out c (grid0.coords t) (hs0_0 m (ok m) t) (hs0_1 m (ok m) t) (hs0_2 m (ok m) t) (hs0_3 m (ok m) t)
    (hs0_4 m (ok m) t) (hs0_5 m (ok m) t) (hs0_6 m (ok m) t) (hs0_7 m (ok m) t) (hs0_8 m (ok m) t) (iblk m (ok m) c 0 t)
    (iblk m (ok m) c 1 t) (iblk m (ok m) c 2 t) (iblk m (ok m) c 3 t) (iblk m (ok m) c 4 t) (tbl m 0) (table0 m)

/-- The four result arrays after the last grid point. -/
theorem final : (dats m (ok m) 0 c).arrAt 5 (cfgM m (ok m)).N = grad m c
    ∧ (dats m (ok m) 0 c).arrAt 6 (cfgM m (ok m)).N = delta (grad m c) (m ((c : Thread nD τ).loc main_arg2)) (m ((c : Thread nD τ).loc main_arg3)) (m ((c : Thread nD τ).loc main_arg4))
    ∧ (dats m (ok m) 0 c).arrAt 7 (cfgM m (ok m)).N = newM (grad m c) (m ((c : Thread nD τ).loc main_arg3))
    ∧ (dats m (ok m) 0 c).arrAt 8 (cfgM m (ok m)).N = newV (grad m c) (m ((c : Thread nD τ).loc main_arg4)) := by
  obtain ⟨k5, k6, k7, k8⟩ := covers (adm m (ok m)) (table m)
  refine ⟨(dats m (ok m) 0 c).arrAt_eq_of_covers 5 _ k5 fun t _ (y : S256x2048.Idx) => ?_,
    (dats m (ok m) 0 c).arrAt_eq_of_covers 6 _ k6 fun t _ (y : S256x2048.Idx) => ?_,
    (dats m (ok m) 0 c).arrAt_eq_of_covers 7 _ k7 fun t _ (y : S256x2048.Idx) => ?_,
    (dats m (ok m) 0 c).arrAt_eq_of_covers 8 _ k8 fun t _ (y : S256x2048.Idx) => ?_⟩ <;>
    obtain ⟨a, b, rfl⟩ : ∃ (a : Fin 256) (b : Fin 2048), y = ix2 a b := ⟨y 0, y 1, eq_ix2 y⟩ <;>
    obtain ⟨l5, l6, l7, l8⟩ := left m c t <;>
    obtain ⟨_, _, _, p5, p6, p7, p8⟩ := place m t a b <;> blk_simp
  · rw [after0_5]
    exact (congrFun l5 _).trans ((sum_at m c t a b).trans (congrArg (grad m c) p5).symm)
  · rw [after0_6]
    exact (congrFun l6 _).trans ((delta_at (sum_at m c t a b) (in2 m c t a b) (in3 m c t a b) (in4 m c t a b)).trans (congrArg (delta _ _ _ _) p6).symm)
  · rw [after0_7]
    exact (congrFun l7 _).trans ((newM_at (sum_at m c t a b) (in3 m c t a b)).trans (congrArg (newM _ _) p7).symm)
  · rw [after0_8]
    exact (congrFun l8 _).trans ((newV_at (sum_at m c t a b) (in4 m c t a b)).trans (congrArg (newV _ _) p8).symm)

/-- The kernel's run: the four results, and the arguments as they were. -/
theorem run : θ_run defs (onTc (τ := τ) (main (F := Ideal))) ⟨m, fun _ => 0, ρ⟩ (fun r => ∀ c : Dev nD,
      r.2.mem ((c.tc : Thread nD τ).loc main_v1_0) = grad m c
      ∧ r.2.mem ((c.tc : Thread nD τ).loc main_v1_1) = delta (grad m c) (m ((c : Thread nD τ).loc main_arg2)) (m ((c : Thread nD τ).loc main_arg3)) (m ((c : Thread nD τ).loc main_arg4))
      ∧ r.2.mem ((c.tc : Thread nD τ).loc main_v1_2) = newM (grad m c) (m ((c : Thread nD τ).loc main_arg3))
      ∧ r.2.mem ((c.tc : Thread nD τ).loc main_v1_3) = newV (grad m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c).1, ((h c).1 6).trans (final m c).2.1,
      ((h c).1 7).trans (final m c).2.2.1, ((h c).1 8).trans (final m c).2.2.2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩) (run_main m ρ (ok m))

/-! The claims. -/

/-- The frame's statement over words, of the text that the run is written for. -/
abbrev Quiet : Prop := ∀ (m : (ℓ : Loc nD τ sig) → Buf (Elt Bits) ℓ) (ρ : Dev nD → PrngReg), True →
  θ_run (defs (F := Bits)) (onTc (τ := τ) (main (F := Bits))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel and its idealization have the same text. -/
theorem same_text : Quiet = Cert.quiescent_Kernel24 (hKernel24 := Cert.Kernel24.Gen.facts) := by sl_kernel_rfl

/-- The kernel's frame over words is the one run's, at words. -/
theorem frame_kernel : Cert.quiescent_Kernel24 (hKernel24 := Cert.Kernel24.Gen.facts) :=
  same_text.mp fun m ρ _ => Cert.Kernel24Ideal.Gen.frame (F := Bits) m ρ (ok m)

/-- The same run, over the extended reals. -/
theorem frame_ideal : Cert.quiescent_Kernel24Ideal (hKernel24Ideal := Cert.Kernel24Ideal.Gen.facts) := fun m ρ _ =>
  Cert.Kernel24Ideal.Gen.frame (F := Ideal) m ρ (ok m)

/-- The reference's run: the arguments stay, every counter is zero. -/
theorem frame_ref : Cert.quiescent_Reference24Ideal (hReference24Ideal := Cert.Reference24Ideal.Gen.facts) := fun m ρ _ =>
  (θ_run Cert.Reference24Ideal.defs _ _).mono
    (fun r h => ⟨fun c => (h c).2.2.2.2, sem_eq_zero_of_no_sems (by decide) r.2⟩) (Cert.Reference24Ideal.Value.run (F := Ideal) m ρ)

/-- The reference's sum is the kernel's. -/
theorem ref_sum (p q : FVec Ideal S4x256x2048 .bf16) : Cert.Reference24Ideal.Read.val_main_v4 (F := Ideal) p q = total p q := by
  funext i
  exact (Cert.Reference24Ideal.Read.val_main_v4_apply p q i).trans (host_sum p q Cert.Reference24Ideal.Gen.slices_S4x256x2048_S1x256x2048_0_0_0
    Cert.Reference24Ideal.Gen.slices_S4x256x2048_S3x256x2048_1_0_0 Cert.Reference24Ideal.Gen.concatenates_S1x256x2048_S3x256x2048_S4x256x2048_d0
    i _ fun k => eq_ix3 (Cert.Reference24Ideal.Read.idx_main_v4 i k))

/-- The sum, the update and the new moments of w_o: the kernel's results are the reference's. -/
theorem value : Cert.algebraic_Kernel24Ideal_Reference24Ideal (hKernel24Ideal := Cert.Kernel24Ideal.Gen.facts)
    (hReference24Ideal := Cert.Reference24Ideal.Gen.facts) := by
  intro m ρ m' ρ' _ hag
  refine ⟨_, _, _, _, run m ρ, (θ_run _ _ _).mono (fun r h c => ?_) (Cert.Reference24Ideal.Value.run (F := Ideal) m' ρ')⟩
  obtain ⟨a0, a1, a2, a3, a4⟩ := hag c
  obtain ⟨h0, h1, h2, h3, hargs⟩ := h c
  have e := (Cert.Reference24Ideal.Read.val_main_v4_eq (F := Ideal) (m ((c : Thread nD τ).loc main_arg0)) (m ((c : Thread nD τ).loc main_arg1))).trans (ref_sum _ _)
  rw [a0, a1] at h0 h1 h2 h3
  rw [e] at h0 h1 h2 h3
  rw [a2, a3, a4] at h1
  rw [a3] at h2
  rw [a4] at h3
  exact ⟨h0, h1.trans (host_delta _ _ _ _ _ _), h2.trans (host_newM _ _ _ _), h3.trans (host_newV _ _ _ _), hargs⟩

end Cert.Proof.ChipSum.WO

end
-- ==== Proof.ChipSumFfn.lean ====
module

public import proofs.«01_k».proof.Defs
public import proofs.«01_k».proof.Proof.Gen.Kernel25
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.ChipSumMath
public import proofs.«01_k».proof.Proof.AdamWMath
public import Idealize.ShloMosaic.Lib.Pipeline.ValueKit
public import Idealize.ShloMosaic.Lib.Quiescent

/-! # The sum over the pairs of devices and the AdamW step, at the shape of the feed-forward weights: the kernel beside its reference -/

@[expose] public section

set_option maxRecDepth 16384

noncomputable section

namespace Cert.Proof.ChipSum.Ffn

open Idealize.ShloMosaic Idealize.ShloMosaic.TcCoe Idealize.SL.Sem
open Cert.Kernel25Ideal Cert.Kernel25Ideal.Gen
open Cert.ChipSum
open Cert.AdamW

section Words

variable {F : FTy → Type} [FloatOps F] (m : (ℓ : Loc nD τ sig) → Buf (Elt F) ℓ) (ρ : Dev nD → PrngReg)

/-- The table's one word: the number of the device's pair, zero. -/
def zero : (pre0).Contents (Elt F) := fun k => match k with
  | ⟨0, _⟩ => fun _ => (0#32 : BitVec 32)

theorem ok_zero : ok0 (F := F) zero := of_decide_eq_true (by sl_kernel_rfl)

/-- The table as the call finds it. -/
theorem table : tbl m = zero := by
  funext k
  obtain rfl := Subsingleton.elim k (0 : Fin 1)
  show StableHlo.after hostOps0 (fun b => m (0, b)) (Proc.devRef .tc main_v0) = _
  after_results_simp
  rfl

theorem table0 : tbl m 0 = fun _ => (0#32 : BitVec 32) := by
  rw [table m]
  rfl

theorem ok : Ok m := by
  show ok0 (F := F) (tbl m)
  rw [table m]
  exact ok_zero

/-- Which block of each array a grid point takes: the rows of its own number. -/
theorem idx (A : (pcfg0 (F := Ideal)).Adm) (h : A.1 = zero) (t : Fin grid0.N) : ((cfg0 A).win 0).index t = ![0, t.val, 0]
    ∧ ((cfg0 A).win 1).index t = ![0, t.val, 0] ∧ ((cfg0 A).win 2).index t = ![t.val, 0] ∧ ((cfg0 A).win 3).index t = ![t.val, 0]
    ∧ ((cfg0 A).win 4).index t = ![t.val, 0] ∧ ((cfg0 A).win 5).index t = ![t.val, 0] ∧ ((cfg0 A).win 6).index t = ![t.val, 0]
    ∧ ((cfg0 A).win 7).index t = ![t.val, 0] ∧ ((cfg0 A).win 8).index t = ![t.val, 0] := by
  obtain rfl : A = ⟨zero, ok_zero⟩ := Subtype.ext h
  revert t
  decide +kernel

/-- Together the blocks of a result are the whole of it. -/
theorem covers (A : (pcfg0 (F := Ideal)).Adm) (h : A.1 = zero) : ((cfg0 A).win 5).Covers ∧ ((cfg0 A).win 6).Covers
    ∧ ((cfg0 A).win 7).Covers ∧ ((cfg0 A).win 8).Covers := by
  obtain rfl : A = ⟨zero, ok_zero⟩ := Subtype.ext h
  decide +kernel

end Words

/-! What the body leaves in the four outputs' blocks, whatever the blocks it is called with: the sum, the update and the new moments. -/

section Body

variable (c : Dev nD) (i : grid0.Coords)
  {a2 : Memref sig .tc .vmem S1x176x2048 .bf16} (h2 : a2.IsWhole) {a3 : Memref sig .tc .vmem S4x176x2048 .bf16} (h3 : a3.IsWhole)
  {a4 : Memref sig .tc .vmem S176x2048 .f32} (h4 : a4.IsWhole) {a5 : Memref sig .tc .vmem S176x2048 .f32} (h5 : a5.IsWhole)
  {a6 : Memref sig .tc .vmem S176x2048 .f32} (h6 : a6.IsWhole) {a7 : Memref sig .tc .vmem S176x2048 .f32} (h7 : a7.IsWhole)
  {a8 : Memref sig .tc .vmem S176x2048 .f32} (h8 : a8.IsWhole) {a9 : Memref sig .tc .vmem S176x2048 .f32} (h9 : a9.IsWhole)
  {a10 : Memref sig .tc .vmem S176x2048 .f32} (h10 : a10.IsWhole)
  (x0 : Vec Ideal S1x176x2048 .bf16) (x1 : Vec Ideal S4x176x2048 .bf16) (x2 x3 x4 : Vec Ideal S176x2048 .f32)
  (T : TbBuf0 (F := Ideal) c tbM0_0)

/-- The body's sum of the four parts of a block. -/
theorem body_sum : k0_pay4 (0#32 : BitVec 32) x0 (View.ld x1 (Rect.unit (s := S4x176x2048) ![0, 0, 0] S1x176x2048.size inb_S4x176x2048_S1x176x2048_0_0_0))
    (View.ld x1 (Rect.unit (s := S4x176x2048) ![1, 0, 0] S1x176x2048.size inb_S4x176x2048_S1x176x2048_1_0_0))
    (View.ld x1 (Rect.unit (s := S4x176x2048) ![2, 0, 0] S1x176x2048.size inb_S4x176x2048_S1x176x2048_2_0_0))
    (View.ld x1 (Rect.unit (s := S4x176x2048) ![3, 0, 0] S1x176x2048.size inb_S4x176x2048_S1x176x2048_3_0_0)) = chips x0 x1 := by
  funext (y : S176x2048.Idx)
  obtain ⟨a, b, rfl⟩ : ∃ (a : Fin 176) (b : Fin 2048), y = ix2 a b := ⟨y 0, y 1, eq_ix2 y⟩
  pointwise [k0_pay4]
  refine congrArg₂ (· + ·) (congrArg₂ (· + ·) (congrArg (x0 (ix3 0 a b) + ·) ?_) ?_) ?_ <;> rfl

theorem out (hT : T = fun _ => (0#32 : BitVec 32)) :
    out0_A_5 c i a2 h2 a3 h3 a4 h4 a5 h5 a6 h6 a7 h7 a8 h8 a9 h9 a10 h10 x0 x1 x2 x3 x4 T = chips x0 x1
    ∧ out0_A_6 c i a2 h2 a3 h3 a4 h4 a5 h5 a6 h6 a7 h7 a8 h8 a9 h9 a10 h10 x0 x1 x2 x3 x4 T = delta (chips x0 x1) x2 x3 x4
    ∧ out0_A_7 c i a2 h2 a3 h3 a4 h4 a5 h5 a6 h6 a7 h7 a8 h8 a9 h9 a10 h10 x0 x1 x2 x3 x4 T = newM (chips x0 x1) x3
    ∧ out0_A_8 c i a2 h2 a3 h3 a4 h4 a5 h5 a6 h6 a7 h7 a8 h8 a9 h9 a10 h10 x0 x1 x2 x3 x4 T = newV (chips x0 x1) x4 := by
  subst hT
  rw [← body_sum x0 x1]
  refine ⟨?_, ?_, ?_, ?_⟩ <;> (frame_out; rfl)

end Body

/-! What the call leaves in its four results. -/

variable (m : (ℓ : Loc nD τ sig) → Buf (Elt Ideal) ℓ) (ρ : Dev nD → PrngReg)

/-- The row of the whole array that is a block's row. -/
def row (t : Fin (cfgM m (ok m)).N) (a : Fin 176) : Fin 704 :=
  ⟨t.val * 176 + a.val, by have h : t.val < 4 := N_0 ▸ t.isLt; have := a.isLt; omega⟩

variable (c : Dev nD) (t : Fin (cfgM m (ok m)).N) (a : Fin 176) (b : Fin 2048)

/-- Where the blocks of the two arrays of parts lie. -/
theorem place3 : (((cfgM m (ok m)).win 0).blk t).view.emb (ix3 0 a b) = ix3 0 (row m t a) b
    ∧ ∀ q : Fin 4, (((cfgM m (ok m)).win 1).blk t).view.emb (ix3 q a b) = ix3 q (row m t a) b := by
  have h := idx (adm m (ok m)) (table m) t
  refine ⟨?_, fun q => ?_⟩ <;> (refine funext fun d : Fin 3 => Fin.ext ?_; match d with
    | 0 => blk_point [h]; try rfl
    | 1 => blk_point [h]; rfl
    | 2 => blk_point [h])

/-- Where the blocks of the weight, the moments and the four results lie. -/
theorem place : (((cfgM m (ok m)).win 2).blk t).view.emb (ix2 a b) = ix2 (row m t a) b
    ∧ (((cfgM m (ok m)).win 3).blk t).view.emb (ix2 a b) = ix2 (row m t a) b
    ∧ (((cfgM m (ok m)).win 4).blk t).view.emb (ix2 a b) = ix2 (row m t a) b
    ∧ (((cfgM m (ok m)).win 5).blk t).view.emb (ix2 a b) = ix2 (row m t a) b
    ∧ (((cfgM m (ok m)).win 6).blk t).view.emb (ix2 a b) = ix2 (row m t a) b
    ∧ (((cfgM m (ok m)).win 7).blk t).view.emb (ix2 a b) = ix2 (row m t a) b
    ∧ (((cfgM m (ok m)).win 8).blk t).view.emb (ix2 a b) = ix2 (row m t a) b := by
  have h := idx (adm m (ok m)) (table m) t
  refine ⟨?_, ?_, ?_, ?_, ?_, ?_, ?_⟩ <;> (refine funext fun d : Fin 2 => Fin.ext ?_; match d with
    | 0 => blk_point [h]; rfl
    | 1 => blk_point [h])

/-- The sum of the whole arrays. -/
abbrev grad : FVec Ideal S704x2048 .f32 := total (m ((c : Thread nD τ).loc main_arg0)) (m ((c : Thread nD τ).loc main_arg1))

theorem sum_at : chips (iblk m (ok m) c 0 t) (iblk m (ok m) c 1 t) (ix2 a b) = grad m c (ix2 (row m t a) b) :=
  chips_eq ((congrArg (V m c main_arg0) (place3 m t a b).1).trans (congrFun (V_main_arg0 m c) _))
    fun k => (congrArg (V m c main_arg1) ((place3 m t a b).2 k)).trans (congrFun (V_main_arg1 m c) _)

theorem in2 : iblk m (ok m) c 2 t (ix2 a b) = m ((c : Thread nD τ).loc main_arg2) (ix2 (row m t a) b) :=
  (congrArg (V m c main_arg2) (place m t a b).1).trans (congrFun (V_main_arg2 m c) _)

theorem in3 : iblk m (ok m) c 3 t (ix2 a b) = m ((c : Thread nD τ).loc main_arg3) (ix2 (row m t a) b) :=
  (congrArg (V m c main_arg3) (place m t a b).2.1).trans (congrFun (V_main_arg3 m c) _)

theorem in4 : iblk m (ok m) c 4 t (ix2 a b) = m ((c : Thread nD τ).loc main_arg4) (ix2 (row m t a) b) :=
  (congrArg (V m c main_arg4) (place m t a b).2.2.1).trans (congrFun (V_main_arg4 m c) _)

/-- The blocks the body leaves at a grid point. -/
theorem left : (outsAt0 m (ok m) c t).1 = chips (iblk m (ok m) c 0 t) (iblk m (ok m) c 1 t)
    ∧ (outsAt0 m (ok m) c t).2.1 = delta (chips (iblk m (ok m) c 0 t) (iblk m (ok m) c 1 t)) (iblk m (ok m) c 2 t) (iblk m (ok m) c 3 t) (iblk m (ok m) c 4 t)
    ∧ (outsAt0 m (ok m) c t).2.2.1 = newM (chips (iblk m (ok m) c 0 t) (iblk m (ok m) c 1 t)) (iblk m (ok m) c 3 t)
    ∧ (outsAt0 m (ok m) c t).2.2.2 = newV (chips (iblk m (ok m) c 0 t) (iblk m (ok m) c 1 t)) (iblk m (ok m) c 4 t) := by
  dsimp only [outsAt0]
  exact out c (grid0.coords t) (hs0_0 m (ok m) t) (hs0_1 m (ok m) t) (hs0_2 m (ok m) t) (hs0_3 m (ok m) t)
    (hs0_4 m (ok m) t) (hs0_5 m (ok m) t) (hs0_6 m (ok m) t) (hs0_7 m (ok m) t) (hs0_8 m (ok m) t) (iblk m (ok m) c 0 t)
    (iblk m (ok m) c 1 t) (iblk m (ok m) c 2 t) (iblk m (ok m) c 3 t) (iblk m (ok m) c 4 t) (tbl m 0) (table0 m)

/-- The four result arrays after the last grid point. -/
theorem final : (dats m (ok m) 0 c).arrAt 5 (cfgM m (ok m)).N = grad m c
    ∧ (dats m (ok m) 0 c).arrAt 6 (cfgM m (ok m)).N = delta (grad m c) (m ((c : Thread nD τ).loc main_arg2)) (m ((c : Thread nD τ).loc main_arg3)) (m ((c : Thread nD τ).loc main_arg4))
    ∧ (dats m (ok m) 0 c).arrAt 7 (cfgM m (ok m)).N = newM (grad m c) (m ((c : Thread nD τ).loc main_arg3))
    ∧ (dats m (ok m) 0 c).arrAt 8 (cfgM m (ok m)).N = newV (grad m c) (m ((c : Thread nD τ).loc main_arg4)) := by
  obtain ⟨k5, k6, k7, k8⟩ := covers (adm m (ok m)) (table m)
  refine ⟨(dats m (ok m) 0 c).arrAt_eq_of_covers 5 _ k5 fun t _ (y : S176x2048.Idx) => ?_,
    (dats m (ok m) 0 c).arrAt_eq_of_covers 6 _ k6 fun t _ (y : S176x2048.Idx) => ?_,
    (dats m (ok m) 0 c).arrAt_eq_of_covers 7 _ k7 fun t _ (y : S176x2048.Idx) => ?_,
    (dats m (ok m) 0 c).arrAt_eq_of_covers 8 _ k8 fun t _ (y : S176x2048.Idx) => ?_⟩ <;>
    obtain ⟨a, b, rfl⟩ : ∃ (a : Fin 176) (b : Fin 2048), y = ix2 a b := ⟨y 0, y 1, eq_ix2 y⟩ <;>
    obtain ⟨l5, l6, l7, l8⟩ := left m c t <;>
    obtain ⟨_, _, _, p5, p6, p7, p8⟩ := place m t a b <;> blk_simp
  · rw [after0_5]
    exact (congrFun l5 _).trans ((sum_at m c t a b).trans (congrArg (grad m c) p5).symm)
  · rw [after0_6]
    exact (congrFun l6 _).trans ((delta_at (sum_at m c t a b) (in2 m c t a b) (in3 m c t a b) (in4 m c t a b)).trans (congrArg (delta _ _ _ _) p6).symm)
  · rw [after0_7]
    exact (congrFun l7 _).trans ((newM_at (sum_at m c t a b) (in3 m c t a b)).trans (congrArg (newM _ _) p7).symm)
  · rw [after0_8]
    exact (congrFun l8 _).trans ((newV_at (sum_at m c t a b) (in4 m c t a b)).trans (congrArg (newV _ _) p8).symm)

/-- The kernel's run: the four results, and the arguments as they were. -/
theorem run : θ_run defs (onTc (τ := τ) (main (F := Ideal))) ⟨m, fun _ => 0, ρ⟩ (fun r => ∀ c : Dev nD,
      r.2.mem ((c.tc : Thread nD τ).loc main_v1_0) = grad m c
      ∧ r.2.mem ((c.tc : Thread nD τ).loc main_v1_1) = delta (grad m c) (m ((c : Thread nD τ).loc main_arg2)) (m ((c : Thread nD τ).loc main_arg3)) (m ((c : Thread nD τ).loc main_arg4))
      ∧ r.2.mem ((c.tc : Thread nD τ).loc main_v1_2) = newM (grad m c) (m ((c : Thread nD τ).loc main_arg3))
      ∧ r.2.mem ((c.tc : Thread nD τ).loc main_v1_3) = newV (grad m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c).1, ((h c).1 6).trans (final m c).2.1,
      ((h c).1 7).trans (final m c).2.2.1, ((h c).1 8).trans (final m c).2.2.2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩) (run_main m ρ (ok m))

/-! The claims. -/

/-- The frame's statement over words, of the text that the run is written for. -/
abbrev Quiet : Prop := ∀ (m : (ℓ : Loc nD τ sig) → Buf (Elt Bits) ℓ) (ρ : Dev nD → PrngReg), True →
  θ_run (defs (F := Bits)) (onTc (τ := τ) (main (F := Bits))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel and its idealization have the same text. -/
theorem same_text : Quiet = Cert.quiescent_Kernel25 (hKernel25 := Cert.Kernel25.Gen.facts) := by sl_kernel_rfl

/-- The kernel's frame over words is the one run's, at words. -/
theorem frame_kernel : Cert.quiescent_Kernel25 (hKernel25 := Cert.Kernel25.Gen.facts) :=
  same_text.mp fun m ρ _ => Cert.Kernel25Ideal.Gen.frame (F := Bits) m ρ (ok m)

/-- The same run, over the extended reals. -/
theorem frame_ideal : Cert.quiescent_Kernel25Ideal (hKernel25Ideal := Cert.Kernel25Ideal.Gen.facts) := fun m ρ _ =>
  Cert.Kernel25Ideal.Gen.frame (F := Ideal) m ρ (ok m)

/-- The reference's run: the arguments stay, every counter is zero. -/
theorem frame_ref : Cert.quiescent_Reference25Ideal (hReference25Ideal := Cert.Reference25Ideal.Gen.facts) := fun m ρ _ =>
  (θ_run Cert.Reference25Ideal.defs _ _).mono
    (fun r h => ⟨fun c => (h c).2.2.2.2, sem_eq_zero_of_no_sems (by decide) r.2⟩) (Cert.Reference25Ideal.Value.run (F := Ideal) m ρ)

/-- The reference's sum is the kernel's. -/
theorem ref_sum (p q : FVec Ideal S4x704x2048 .bf16) : Cert.Reference25Ideal.Read.val_main_v4 (F := Ideal) p q = total p q := by
  funext i
  exact (Cert.Reference25Ideal.Read.val_main_v4_apply p q i).trans (host_sum p q Cert.Reference25Ideal.Gen.slices_S4x704x2048_S1x704x2048_0_0_0
    Cert.Reference25Ideal.Gen.slices_S4x704x2048_S3x704x2048_1_0_0 Cert.Reference25Ideal.Gen.concatenates_S1x704x2048_S3x704x2048_S4x704x2048_d0
    i _ fun k => eq_ix3 (Cert.Reference25Ideal.Read.idx_main_v4 i k))

/-- The sum, the update and the new moments of the feed-forward weights: the kernel's results are the reference's. -/
theorem value : Cert.algebraic_Kernel25Ideal_Reference25Ideal (hKernel25Ideal := Cert.Kernel25Ideal.Gen.facts)
    (hReference25Ideal := Cert.Reference25Ideal.Gen.facts) := by
  intro m ρ m' ρ' _ hag
  refine ⟨_, _, _, _, run m ρ, (θ_run _ _ _).mono (fun r h c => ?_) (Cert.Reference25Ideal.Value.run (F := Ideal) m' ρ')⟩
  obtain ⟨a0, a1, a2, a3, a4⟩ := hag c
  obtain ⟨h0, h1, h2, h3, hargs⟩ := h c
  have e := (Cert.Reference25Ideal.Read.val_main_v4_eq (F := Ideal) (m ((c : Thread nD τ).loc main_arg0)) (m ((c : Thread nD τ).loc main_arg1))).trans (ref_sum _ _)
  rw [a0, a1] at h0 h1 h2 h3
  rw [e] at h0 h1 h2 h3
  rw [a2, a3, a4] at h1
  rw [a3] at h2
  rw [a4] at h3
  exact ⟨h0, h1.trans (host_delta _ _ _ _ _ _), h2.trans (host_newM _ _ _ _), h3.trans (host_newV _ _ _ _), hargs⟩

end Cert.Proof.ChipSum.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Regions
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Regions
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Regions
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Regions
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Pre_finite
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Kernel9Ideal.Value
public import proofs.«01_k».proof.Proof.Gen.Reference10Ideal.Run
public import proofs.«01_k».proof.Proof.Gen.Reference10Ideal.Read
public import proofs.«01_k».proof.Proof.Gen.Kernel10Ideal.Value
public import proofs.«01_k».proof.Proof.Gen.Reference11Ideal.Run
public import proofs.«01_k».proof.Proof.Gen.Reference11Ideal.Read
public import proofs.«01_k».proof.Proof.Gen.Kernel11Ideal.Value
public import proofs.«01_k».proof.Proof.Gen.Reference12Ideal.Run
public import proofs.«01_k».proof.Proof.Gen.Reference12Ideal.Read
public import proofs.«01_k».proof.Proof.Gen.Kernel12Ideal.Value
public import proofs.«01_k».proof.Proof.Gen.Reference13Ideal.Run
public import proofs.«01_k».proof.Proof.Gen.Reference13Ideal.Read
public import proofs.«01_k».proof.Proof.Gen.Kernel13Ideal.Value
public import proofs.«01_k».proof.Proof.Gen.Reference14Ideal.Run
public import proofs.«01_k».proof.Proof.Gen.Reference14Ideal.Read
public import proofs.«01_k».proof.Proof.Gen.Kernel14Ideal.Value
public import proofs.«01_k».proof.Proof.Gen.Reference15Ideal.Run
public import proofs.«01_k».proof.Proof.Gen.Reference15Ideal.Read
public import proofs.«01_k».proof.Proof.Gen.Kernel15Ideal.Value
public import proofs.«01_k».proof.Proof.Gen.Reference16Ideal.Run
public import proofs.«01_k».proof.Proof.Gen.Reference16Ideal.Read
public import proofs.«01_k».proof.Proof.Gen.Kernel16Ideal.Value
public import proofs.«01_k».proof.Proof.Gen.Reference17Ideal.Run
public import proofs.«01_k».proof.Proof.Gen.Reference17Ideal.Read
public import proofs.«01_k».proof.Proof.Gen.Kernel17Ideal.Value
public import proofs.«01_k».proof.Proof.Gen.Reference18Ideal.Run
public import proofs.«01_k».proof.Proof.Gen.Reference18Ideal.Read
public import proofs.«01_k».proof.Proof.Gen.Kernel18Ideal.Value
public import proofs.«01_k».proof.Proof.Gen.Reference19Ideal.Run
public import proofs.«01_k».proof.Proof.Gen.Reference19Ideal.Read
public import proofs.«01_k».proof.Proof.Gen.Kernel19Ideal.Value
public import proofs.«01_k».proof.Proof.Gen.Reference20Ideal.Run
public import proofs.«01_k».proof.Proof.Gen.Reference20Ideal.Read
public import proofs.«01_k».proof.Proof.Gen.Kernel20Ideal.Value
public import proofs.«01_k».proof.Proof.Gen.Reference21Ideal.Run
public import proofs.«01_k».proof.Proof.Gen.Reference21Ideal.Read
public import proofs.«01_k».proof.Proof.Gen.Kernel21Ideal.Value
public import proofs.«01_k».proof.Proof.Gen.Reference22Ideal.Run
public import proofs.«01_k».proof.Proof.Gen.Reference22Ideal.Read
public import proofs.«01_k».proof.Proof.Gen.Reference23Ideal.Run
public import proofs.«01_k».proof.Proof.Gen.Reference23Ideal.Read
public import proofs.«01_k».proof.Proof.Gen.Reference24Ideal.Run
public import proofs.«01_k».proof.Proof.Gen.Reference24Ideal.Read
public import proofs.«01_k».proof.Proof.Gen.Reference25Ideal.Run
public import proofs.«01_k».proof.Proof.Gen.Reference25Ideal.Read
public import proofs.«01_k».proof.Proof.FfnClaim
public import proofs.«01_k».proof.Proof.DProjClaim
public import proofs.«01_k».proof.Proof.MixClaim
public import proofs.«01_k».proof.Proof.OutBwdClaim
public import proofs.«01_k».proof.Proof.ConvClaim
public import proofs.«01_k».proof.Proof.GradProjClaim
public import proofs.«01_k».proof.Proof.FwdProjClaim
public import proofs.«01_k».proof.Proof.NormClaim
public import proofs.«01_k».proof.Proof.PreNormClaim
public import proofs.«01_k».proof.Proof.LossHeadClaim
public import proofs.«01_k».proof.Proof.MixNormClaim
public import proofs.«01_k».proof.Proof.FfnNormClaim
public import proofs.«01_k».proof.Proof.AdaClaim
public import proofs.«01_k».proof.Proof.AdaGradClaim
public import proofs.«01_k».proof.Proof.AdamWClaim
public import proofs.«01_k».proof.Proof.ChipSumWIn
public import proofs.«01_k».proof.Proof.ChipSumWConvOut
public import proofs.«01_k».proof.Proof.ChipSumWO
public import proofs.«01_k».proof.Proof.ChipSumFfn
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite.Gen.facts,
   fun m ρ _ => Cert.Kernel.Gen.frame m ρ,
   fun m ρ _ => Cert.KernelIdeal.Gen.frame m ρ,
   fun m ρ _ => Cert.KernelIdeal.Gen.frame m ρ,
   Cert.Proof.Ffn.frame_ref,
   fun m ρ _ => Cert.Proof.Ffn.frame_ref m ρ trivial,
   fun m ρ _ => Cert.Kernel2.Gen.frame m ρ,
   fun m ρ _ => Cert.Kernel2Ideal.Gen.frame m ρ,
   Cert.Proof.DProj.frame_ref,
   fun m ρ _ => Cert.Kernel3.Gen.frame m ρ,
   fun m ρ _ => Cert.Kernel3Ideal.Gen.frame m ρ,
   Cert.Proof.Mixer.frame_ref,
   fun m ρ _ => Cert.Kernel4.Gen.frame m ρ,
   fun m ρ _ => Cert.Kernel4Ideal.Gen.frame m ρ,
   Cert.Proof.OutBwd.frame_ref,
   fun m ρ _ => Cert.Kernel6.Gen.frame m ρ,
   fun m ρ _ => Cert.Kernel6Ideal.Gen.frame m ρ,
   Cert.Proof.Conv.frame_ref,
   Cert.Proof.GradProj.frame_kernel,
   fun m ρ _ => Cert.Kernel7Ideal.GradProj.frame m ρ,
   Cert.Proof.GradProj.frame_ref,
   Cert.Proof.FwdProj.frame_kernel,
   fun m ρ _ => Cert.Kernel8Ideal.FwdProj.frame m ρ,
   Cert.Proof.FwdProj.frame_ref,
   fun m ρ _ => Cert.Kernel9.Gen.frame m ρ,
   fun m ρ _ => Cert.Kernel9Ideal.Gen.frame m ρ,
   Cert.Proof.Norm.frame_ref,
   fun m ρ _ => Cert.Kernel10.Gen.frame m ρ,
   fun m ρ _ => Cert.Kernel10Ideal.Gen.frame m ρ,
   Cert.Proof.PreNorm.frame_ref,
   fun m ρ _ => Cert.Kernel11.Gen.frame m ρ,
   fun m ρ _ => Cert.Kernel11Ideal.Gen.frame m ρ,
   Cert.Proof.LossHead.frame_ref,
   fun m ρ _ => Cert.Kernel12.Gen.frame m ρ,
   fun m ρ _ => Cert.Kernel12Ideal.Gen.frame m ρ,
   Cert.Proof.MixNorm.frame_ref,
   fun m ρ _ => Cert.Kernel13.Gen.frame m ρ,
   fun m ρ _ => Cert.Kernel13Ideal.Gen.frame m ρ,
   Cert.Proof.FfnNorm.frame_ref,
   fun m ρ _ => Cert.Kernel14.Gen.frame m ρ,
   fun m ρ _ => Cert.Kernel14Ideal.Gen.frame m ρ,
   Cert.Proof.Ada.frame_ref,
   fun m ρ _ => Cert.Kernel15.Gen.frame m ρ,
   fun m ρ _ => Cert.Kernel15Ideal.Gen.frame m ρ,
   Cert.Proof.AdaGrad.frame_ref,
   fun m ρ _ => Cert.Kernel16.Gen.frame m ρ,
   fun m ρ _ => Cert.Kernel16Ideal.Gen.frame m ρ,
   Cert.Proof.AdamW.WAda.frame_ref,
   fun m ρ _ => Cert.Kernel17.Gen.frame m ρ,
   fun m ρ _ => Cert.Kernel17Ideal.Gen.frame m ρ,
   Cert.Proof.AdamW.BAda.frame_ref,
   fun m ρ _ => Cert.Kernel18.Gen.frame m ρ,
   fun m ρ _ => Cert.Kernel18Ideal.Gen.frame m ρ,
   Cert.Proof.AdamW.Norm.frame_ref,
   fun m ρ _ => Cert.Kernel19.Gen.frame m ρ,
   fun m ρ _ => Cert.Kernel19Ideal.Gen.frame m ρ,
   Cert.Proof.AdamW.ConvW.frame_ref,
   fun m ρ _ => Cert.Kernel20.Gen.frame m ρ,
   fun m ρ _ => Cert.Kernel20Ideal.Gen.frame m ρ,
   Cert.Proof.AdamW.LbParam.frame_ref,
   fun m ρ _ => Cert.Kernel21.Gen.frame m ρ,
   fun m ρ _ => Cert.Kernel21Ideal.Gen.frame m ρ,
   Cert.Proof.AdamW.GnormG.frame_ref,
   Cert.Proof.ChipSum.WIn.frame_kernel,
   Cert.Proof.ChipSum.WIn.frame_ideal,
   Cert.Proof.ChipSum.WIn.frame_ref,
   Cert.Proof.ChipSum.WConvOut.frame_kernel,
   Cert.Proof.ChipSum.WConvOut.frame_ideal,
   Cert.Proof.ChipSum.WConvOut.frame_ref,
   Cert.Proof.ChipSum.WO.frame_kernel,
   Cert.Proof.ChipSum.WO.frame_ideal,
   Cert.Proof.ChipSum.WO.frame_ref,
   Cert.Proof.ChipSum.Ffn.frame_kernel,
   Cert.Proof.ChipSum.Ffn.frame_ideal,
   Cert.Proof.ChipSum.Ffn.frame_ref,
   trivial,
   Cert.Proof.Ffn.value,
   trivial,
   Cert.Proof.DProj.value,
   trivial,
   Cert.Proof.Mixer.value,
   trivial,
   Cert.Proof.OutBwd.value,
   trivial,
   Cert.Proof.Conv.value,
   trivial,
   Cert.Proof.GradProj.value,
   trivial,
   Cert.Proof.FwdProj.value,
   trivial,
   Cert.Proof.Norm.value,
   trivial,
   Cert.Proof.PreNorm.value,
   trivial,
   Cert.Proof.LossHead.value,
   trivial,
   Cert.Proof.MixNorm.value,
   trivial,
   Cert.Proof.FfnNorm.value,
   trivial,
   Cert.Proof.Ada.value,
   trivial,
   Cert.Proof.AdaGrad.value,
   trivial,
   Cert.Proof.AdamW.WAda.value,
   trivial,
   Cert.Proof.AdamW.BAda.value,
   trivial,
   Cert.Proof.AdamW.Norm.value,
   trivial,
   Cert.Proof.AdamW.ConvW.value,
   trivial,
   Cert.Proof.AdamW.LbParam.value,
   trivial,
   Cert.Proof.AdamW.GnormG.value,
   trivial,
   Cert.Proof.ChipSum.WIn.value,
   trivial,
   Cert.Proof.ChipSum.WConvOut.value,
   trivial,
   Cert.Proof.ChipSum.WO.value,
   trivial,
   Cert.Proof.ChipSum.Ffn.value⟩

end Cert.Proof

end
